-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite3 [hPre_finite3 : Cert.Pre_finite3.Facts] (m : (ℓ : Loc Cert.KernelIdeal.nD Cert.KernelIdeal.τ Cert.KernelIdeal.sig) → Buf (Elt Ideal) ℓ) : Prop :=
  ∀ c : Dev Cert.KernelIdeal.nD,
    (Cert.Pre_finite3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite3 [hPre_finite3 : Cert.Pre_finite3.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite3.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite3.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite3.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite3.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_finite1 [hPre_finite1 : Cert.Pre_finite1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4))).1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4))).2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4))).2.2 = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_finite1 [hPre_finite1 : Cert.Pre_finite1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4))).1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4))).2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_inside6 [hPre_inside6 : Cert.Pre_inside6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_inside6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_inside6 [hPre_inside6 : Cert.Pre_inside6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_inside6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_inside7 [hPre_inside7 : Cert.Pre_inside7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_inside7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_inside7 [hPre_inside7 : Cert.Pre_inside7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_inside7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite3 [hKernelIdeal : Cert.KernelIdeal.Facts] [hPre_finite3 : Cert.Pre_finite3.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite3 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite3 [hReferenceIdeal : Cert.ReferenceIdeal.Facts] [hPre_finite3 : Cert.Pre_finite3.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite3 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4))
      ∧ r.2.sem = fun _ => 0)

def quiescent_Kernel1Ideal_pre_finite1 [hKernel1Ideal : Cert.Kernel1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_finite1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4))
      ∧ r.2.sem = fun _ => 0)

def quiescent_Reference1Ideal_pre_finite1 [hReference1Ideal : Cert.Reference1Ideal.Facts] [hPre_finite1 : Cert.Pre_finite1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_finite1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_inside6 [hKernel6Ideal : Cert.Kernel6Ideal.Facts] [hPre_inside6 : Cert.Pre_inside6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_inside6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_inside6 [hReference6Ideal : Cert.Reference6Ideal.Facts] [hPre_inside6 : Cert.Pre_inside6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_inside6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_inside7 [hKernel7Ideal : Cert.Kernel7Ideal.Facts] [hPre_inside7 : Cert.Pre_inside7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_inside7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_inside7 [hReference7Ideal : Cert.Reference7Ideal.Facts] [hPre_inside7 : Cert.Pre_inside7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_inside7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite3 [hKernelIdeal : Cert.KernelIdeal.Facts] [hReferenceIdeal : Cert.ReferenceIdeal.Facts] [hPre_finite3 : Cert.Pre_finite3.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite3 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel1_Kernel1Ideal : Prop :=
  True

def algebraic_Kernel1Ideal_Reference1Ideal_pre_finite1 [hKernel1Ideal : Cert.Kernel1Ideal.Facts] [hReference1Ideal : Cert.Reference1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_finite1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)) →
    ∃ (v0 : (c : Dev Cert.Kernel1Ideal.nD) → Buf (Elt Ideal) ((c.tc : Thread Cert.Kernel1Ideal.nD Cert.Kernel1Ideal.τ).loc Cert.Kernel1Ideal.main_v4)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v4) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v39) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal_pre_inside6 [hKernel6Ideal : Cert.Kernel6Ideal.Facts] [hReference6Ideal : Cert.Reference6Ideal.Facts] [hPre_inside6 : Cert.Pre_inside6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_inside6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_inside7 [hKernel7Ideal : Cert.Kernel7Ideal.Facts] [hReference7Ideal : Cert.Reference7Ideal.Facts] [hPre_inside7 : Cert.Pre_inside7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_inside7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_v16) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite3 : Cert.Pre_finite3.Facts) (hPre_finite1 : Cert.Pre_finite1.Facts) (hPre_finite2 : Cert.Pre_finite2.Facts) (hPre_inside6 : Cert.Pre_inside6.Facts) (hPre_inside7 : Cert.Pre_inside7.Facts),
    quiescent_Kernel (hKernel := hKernel)
    ∧ quiescent_KernelIdeal (hKernelIdeal := hKernelIdeal)
    ∧ quiescent_KernelIdeal_pre_finite3 (hKernelIdeal := hKernelIdeal) (hPre_finite3 := hPre_finite3)
    ∧ quiescent_ReferenceIdeal (hReferenceIdeal := hReferenceIdeal)
    ∧ quiescent_ReferenceIdeal_pre_finite3 (hReferenceIdeal := hReferenceIdeal) (hPre_finite3 := hPre_finite3)
    ∧ quiescent_Kernel1 (hKernel1 := hKernel1)
    ∧ quiescent_Kernel1Ideal (hKernel1Ideal := hKernel1Ideal)
    ∧ quiescent_Kernel1Ideal_pre_finite1 (hKernel1Ideal := hKernel1Ideal) (hPre_finite1 := hPre_finite1)
    ∧ quiescent_Reference1Ideal (hReference1Ideal := hReference1Ideal)
    ∧ quiescent_Reference1Ideal_pre_finite1 (hReference1Ideal := hReference1Ideal) (hPre_finite1 := hPre_finite1)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_inside6 (hKernel6Ideal := hKernel6Ideal) (hPre_inside6 := hPre_inside6)
    ∧ quiescent_Reference6Ideal (hReference6Ideal := hReference6Ideal)
    ∧ quiescent_Reference6Ideal_pre_inside6 (hReference6Ideal := hReference6Ideal) (hPre_inside6 := hPre_inside6)
    ∧ quiescent_Kernel7 (hKernel7 := hKernel7)
    ∧ quiescent_Kernel7Ideal (hKernel7Ideal := hKernel7Ideal)
    ∧ quiescent_Kernel7Ideal_pre_inside7 (hKernel7Ideal := hKernel7Ideal) (hPre_inside7 := hPre_inside7)
    ∧ quiescent_Reference7Ideal (hReference7Ideal := hReference7Ideal)
    ∧ quiescent_Reference7Ideal_pre_inside7 (hReference7Ideal := hReference7Ideal) (hPre_inside7 := hPre_inside7)
    ∧ preserves_Kernel_KernelIdeal
    ∧ algebraic_KernelIdeal_ReferenceIdeal_pre_finite3 (hKernelIdeal := hKernelIdeal) (hReferenceIdeal := hReferenceIdeal) (hPre_finite3 := hPre_finite3)
    ∧ preserves_Kernel1_Kernel1Ideal
    ∧ algebraic_Kernel1Ideal_Reference1Ideal_pre_finite1 (hKernel1Ideal := hKernel1Ideal) (hReference1Ideal := hReference1Ideal) (hPre_finite1 := hPre_finite1)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_inside6 (hKernel6Ideal := hKernel6Ideal) (hReference6Ideal := hReference6Ideal) (hPre_inside6 := hPre_inside6)
    ∧ preserves_Kernel7_Kernel7Ideal
    ∧ algebraic_Kernel7Ideal_Reference7Ideal_pre_inside7 (hKernel7Ideal := hKernel7Ideal) (hReference7Ideal := hReference7Ideal) (hPre_inside7 := hPre_inside7)
-- ==== Pre_finite1.lean ====
abbrev S32768x3 : Shape := ⟨2, ![32768, 3]⟩
abbrev S3x64 : Shape := ⟨2, ![3, 64]⟩
abbrev S64 : Shape := ⟨1, ![64]⟩
abbrev S64x64 : Shape := ⟨2, ![64, 64]⟩
abbrev S_ : Shape := ⟨0, ![]⟩

class Facts : Prop where
  bcast_S_S32768x3 : S_.BroadcastsInDim S32768x3 (![] : Fin 0 → Fin S32768x3.rank)
  bcast_S_S3x64 : S_.BroadcastsInDim S3x64 (![] : Fin 0 → Fin S3x64.rank)
  bcast_S_S64 : S_.BroadcastsInDim S64 (![] : Fin 0 → Fin S64.rank)

variable [Facts]

def fn {F : FTy → Type} [FloatOps F] (main_arg0 : FVec F S32768x3 .f32) (main_arg1 : FVec F S3x64 .f32) (main_arg2 : FVec F S64 .f32) (main_arg3 : FVec F S64x64 .f32) (main_arg4 : FVec F S64 .f32) : IVec S32768x3 1 × IVec S3x64 1 × IVec S64 1 :=
  let main_v0 : FVec F S32768x3 .f32 := Host.absf main_arg0
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_v3 : FVec F S3x64 .f32 := Host.absf main_arg1
  let main_cst_0 : FVec F S_ .f32 := constant S_ .f32 0x7F800000#32
  let main_v4 : FVec F S3x64 .f32 := broadcastInDim S3x64 ![] bcast_S_S3x64 main_cst_0
  let main_v5 : IVec S3x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Pre_finite2.lean ====
abbrev S16x1024x3 : Shape := ⟨3, ![16, 1024, 3]⟩
abbrev S16x1024x64 : Shape := ⟨3, ![16, 1024, 64]⟩
abbrev S67x128 : Shape := ⟨2, ![67, 128]⟩
abbrev S128 : Shape := ⟨1, ![128]⟩
abbrev S128x128 : Shape := ⟨2, ![128, 128]⟩
abbrev S_ : Shape := ⟨0, ![]⟩

class Facts : Prop where
  bcast_S_S16x1024x3 : S_.BroadcastsInDim S16x1024x3 (![] : Fin 0 → Fin S16x1024x3.rank)
  bcast_S_S16x1024x64 : S_.BroadcastsInDim S16x1024x64 (![] : Fin 0 → Fin S16x1024x64.rank)
  bcast_S_S67x128 : S_.BroadcastsInDim S67x128 (![] : Fin 0 → Fin S67x128.rank)
  bcast_S_S128 : S_.BroadcastsInDim S128 (![] : Fin 0 → Fin S128.rank)

variable [Facts]

def fn {F : FTy → Type} [FloatOps F] (main_arg0 : FVec F S16x1024x3 .f32) (main_arg1 : FVec F S16x1024x64 .f32) (main_arg2 : FVec F S67x128 .f32) (main_arg3 : FVec F S128 .f32) (main_arg4 : FVec F S128x128 .f32) (main_arg5 : FVec F S128 .f32) : IVec S16x1024x3 1 × IVec S16x1024x64 1 × IVec S67x128 1 × IVec S128 1 :=
  let main_v0 : FVec F S16x1024x3 .f32 := Host.absf main_arg0
  let main_cst : FVec F S_ .f32 := constant S_ .f32 0x7F800000#32
  let main_v1 : FVec F S16x1024x3 .f32 := broadcastInDim S16x1024x3 ![] bcast_S_S16x1024x3 main_cst
  let main_v2 : IVec S16x1024x3 1 := cmpf .olt main_v0 main_v1
  let main_v3 : FVec F S16x1024x64 .f32 := Host.absf main_arg1
  let main_cst_0 : FVec F S_ .f32 := constant S_ .f32 0x7F800000#32
  let main_v4 : FVec F S16x1024x64 .f32 := broadcastInDim S16x1024x64 ![] bcast_S_S16x1024x64 main_cst_0
  let main_v5 : IVec S16x1024x64 1 := cmpf .olt main_v3 main_v4
  let main_v6 : FVec F S67x128 .f32 := Host.absf main_arg2
  let main_cst_1 : FVec F S_ .f32 := constant S_ .f32 0x7F800000#32
  let main_v7 : FVec F S67x128 .f32 := broadcastInDim S67x128 ![] bcast_S_S67x128 main_cst_1
  let main_v8 : IVec S67x128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  (main_v2, main_v5, main_v8, main_v11)
-- ==== Pre_finite3.lean ====
abbrev S16x256x3 : Shape := ⟨3, ![16, 256, 3]⟩
abbrev S16x256x128 : Shape := ⟨3, ![16, 256, 128]⟩
abbrev S131x256 : Shape := ⟨2, ![131, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S16x256x3 : S_.BroadcastsInDim S16x256x3 (![] : Fin 0 → Fin S16x256x3.rank)
  bcast_S_S16x256x128 : S_.BroadcastsInDim S16x256x128 (![] : Fin 0 → Fin S16x256x128.rank)
  bcast_S_S131x256 : S_.BroadcastsInDim S131x256 (![] : Fin 0 → Fin S131x256.rank)
  bcast_S_S256 : S_.BroadcastsInDim S256 (![] : Fin 0 → Fin S256.rank)

variable [Facts]

def fn {F : FTy → Type} [FloatOps F] (main_arg0 : FVec F S16x256x3 .f32) (main_arg1 : FVec F S16x256x128 .f32) (main_arg2 : FVec F S131x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x40 .f32) (main_arg11 : FVec F S40 .f32) : IVec S16x256x3 1 × IVec S16x256x128 1 × IVec S131x256 1 × IVec S256 1 :=
  let main_v0 : FVec F S16x256x3 .f32 := Host.absf main_arg0
  let main_cst : FVec F S_ .f32 := constant S_ .f32 0x7F800000#32
  let main_v1 : FVec F S16x256x3 .f32 := broadcastInDim S16x256x3 ![] bcast_S_S16x256x3 main_cst
  let main_v2 : IVec S16x256x3 1 := cmpf .olt main_v0 main_v1
  let main_v3 : FVec F S16x256x128 .f32 := Host.absf main_arg1
  let main_cst_0 : FVec F S_ .f32 := constant S_ .f32 0x7F800000#32
  let main_v4 : FVec F S16x256x128 .f32 := broadcastInDim S16x256x128 ![] bcast_S_S16x256x128 main_cst_0
  let main_v5 : IVec S16x256x128 1 := cmpf .olt main_v3 main_v4
  let main_v6 : FVec F S131x256 .f32 := Host.absf main_arg2
  let main_cst_1 : FVec F S_ .f32 := constant S_ .f32 0x7F800000#32
  let main_v7 : FVec F S131x256 .f32 := broadcastInDim S131x256 ![] bcast_S_S131x256 main_cst_1
  let main_v8 : IVec S131x256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  (main_v2, main_v5, main_v8, main_v11)
-- ==== Pre_inside6.lean ====
abbrev S16x1x1024 : Shape := ⟨3, ![16, 1, 1024]⟩
abbrev S16x2048x64 : Shape := ⟨3, ![16, 2048, 64]⟩
abbrev S16x2048x3 : Shape := ⟨3, ![16, 2048, 3]⟩
abbrev S_ : Shape := ⟨0, ![]⟩

class Facts : Prop where
  bcast_S_S16x1x1024 : S_.BroadcastsInDim S16x1x1024 (![] : Fin 0 → Fin S16x1x1024.rank)

variable [Facts]

def fn {F : FTy → Type} [FloatOps F] (main_arg0 : IVec S16x1x1024 32) (main_arg1 : FVec F S16x2048x64 .f32) (main_arg2 : FVec F S16x2048x3 .f32) : IVec S16x1x1024 1 :=
  let main_c : IVec S_ 32 := constantI S_ 32 0#32
  let main_v0 : IVec S16x1x1024 32 := broadcastInDim S16x1x1024 ![] bcast_S_S16x1x1024 main_c
  let main_v1 : IVec S16x1x1024 1 := cmpi .sge main_arg0 main_v0
  let main_c_0 : IVec S_ 32 := constantI S_ 32 2048#32
  let main_v2 : IVec S16x1x1024 32 := broadcastInDim S16x1x1024 ![] bcast_S_S16x1x1024 main_c_0
  let main_v3 : IVec S16x1x1024 1 := cmpi .slt main_arg0 main_v2
  let main_v4 : IVec S16x1x1024 1 := andi main_v1 main_v3
  main_v4
-- ==== Pre_inside7.lean ====
abbrev S16x1x256 : Shape := ⟨3, ![16, 1, 256]⟩
abbrev S16x1024x128 : Shape := ⟨3, ![16, 1024, 128]⟩
abbrev S16x1024x3 : Shape := ⟨3, ![16, 1024, 3]⟩
abbrev S_ : Shape := ⟨0, ![]⟩

class Facts : Prop where
  bcast_S_S16x1x256 : S_.BroadcastsInDim S16x1x256 (![] : Fin 0 → Fin S16x1x256.rank)

variable [Facts]

def fn {F : FTy → Type} [FloatOps F] (main_arg0 : IVec S16x1x256 32) (main_arg1 : FVec F S16x1024x128 .f32) (main_arg2 : FVec F S16x1024x3 .f32) : IVec S16x1x256 1 :=
  let main_c : IVec S_ 32 := constantI S_ 32 0#32
  let main_v0 : IVec S16x1x256 32 := broadcastInDim S16x1x256 ![] bcast_S_S16x1x256 main_c
  let main_v1 : IVec S16x1x256 1 := cmpi .sge main_arg0 main_v0
  let main_c_0 : IVec S_ 32 := constantI S_ 32 1024#32
  let main_v2 : IVec S16x1x256 32 := broadcastInDim S16x1x256 ![] bcast_S_S16x1x256 main_c_0
  let main_v3 : IVec S16x1x256 1 := cmpi .slt main_arg0 main_v2
  let main_v4 : IVec S16x1x256 1 := andi main_v1 main_v3
  main_v4
-- ==== Kernel.lean ====
abbrev S16x256x3 : Shape := ⟨3, ![16, 256, 3]⟩
abbrev S16x256x128 : Shape := ⟨3, ![16, 256, 128]⟩
abbrev S131x256 : Shape := ⟨2, ![131, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S16x3x256 : Shape := ⟨3, ![16, 3, 256]⟩
abbrev S128x256 : Shape := ⟨2, ![128, 256]⟩
abbrev S3x256 : Shape := ⟨2, ![3, 256]⟩
abbrev S1x256 : Shape := ⟨2, ![1, 256]⟩
abbrev S16x256x256 : Shape := ⟨3, ![16, 256, 256]⟩
abbrev S1x256x3 : Shape := ⟨3, ![1, 256, 3]⟩
abbrev S1x3x256 : Shape := ⟨3, ![1, 3, 256]⟩
abbrev S1x256x128 : Shape := ⟨3, ![1, 256, 128]⟩
abbrev S1x256x256 : Shape := ⟨3, ![1, 256, 256]⟩
abbrev S256x3 : Shape := ⟨2, ![256, 3]⟩
abbrev S256x128 : Shape := ⟨2, ![256, 128]⟩
abbrev S1x256x1 : Shape := ⟨3, ![1, 256, 1]⟩
abbrev S256x1 : Shape := ⟨2, ![256, 1]⟩
abbrev S1x1x256 : Shape := ⟨3, ![1, 1, 256]⟩
abbrev S256x512 : Shape := ⟨2, ![256, 512]⟩
abbrev S64x256 : Shape := ⟨2, ![64, 256]⟩
abbrev S64 : Shape := ⟨1, ![64]⟩
abbrev S64x1 : Shape := ⟨2, ![64, 1]⟩
abbrev S1x40 : Shape := ⟨2, ![1, 40]⟩
abbrev S16x40 : Shape := ⟨2, ![16, 40]⟩
abbrev S16x256 : Shape := ⟨2, ![16, 256]⟩
abbrev S16 : Shape := ⟨1, ![16]⟩
abbrev S16x1 : Shape := ⟨2, ![16, 1]⟩

abbrev nBuf : Space → Nat
  | .hbm => 22
  | .vmem => 21
  | .smem => 0
  | _ => 0

abbrev bufTy : (tb : Table) → Fin (tcTables nBuf tb) → BufTy
  | .hbm, ⟨0, _⟩ => ⟨S16x256x3, .f32⟩
  | .hbm, ⟨1, _⟩ => ⟨S16x256x128, .f32⟩
  | .hbm, ⟨2, _⟩ => ⟨S131x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x40, .f32⟩
  | .hbm, ⟨11, _⟩ => ⟨S40, .f32⟩
  | .hbm, ⟨12, _⟩ => ⟨S16x3x256, .f32⟩
  | .hbm, ⟨13, _⟩ => ⟨S128x256, .f32⟩
  | .hbm, ⟨14, _⟩ => ⟨S3x256, .f32⟩
  | .hbm, ⟨15, _⟩ => ⟨S1x256, .f32⟩
  | .hbm, ⟨16, _⟩ => ⟨S1x256, .f32⟩
  | .hbm, ⟨17, _⟩ => ⟨S16x256x256, .f32⟩
  | .hbm, ⟨18, _⟩ => ⟨S1x256, .f32⟩
  | .hbm, ⟨19, _⟩ => ⟨S1x256, .f32⟩
  | .hbm, ⟨20, _⟩ => ⟨S1x40, .f32⟩
  | .hbm, ⟨21, _⟩ => ⟨S16x40, .f32⟩
  | .local _ .vmem, ⟨0, _⟩ => ⟨S1x256x3, .f32⟩
  | .local _ .vmem, ⟨1, _⟩ => ⟨S1x256x3, .f32⟩
  | .local _ .vmem, ⟨2, _⟩ => ⟨S1x3x256, .f32⟩
  | .local _ .vmem, ⟨3, _⟩ => ⟨S1x3x256, .f32⟩
  | .local _ .vmem, ⟨4, _⟩ => ⟨S1x256x128, .f32⟩
  | .local _ .vmem, ⟨5, _⟩ => ⟨S1x256x128, .f32⟩
  | .local _ .vmem, ⟨6, _⟩ => ⟨S128x256, .f32⟩
  | .local _ .vmem, ⟨7, _⟩ => ⟨S3x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S1x256x256, .f32⟩
  | .local _ .vmem, ⟨12, _⟩ => ⟨S1x256x256, .f32⟩
  | .local _ .vmem, ⟨13, _⟩ => ⟨S16x256x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x40, .f32⟩
  | .local _ .vmem, ⟨19, _⟩ => ⟨S1x40, .f32⟩
  | .local _ .vmem, ⟨20, _⟩ => ⟨S16x40, .f32⟩
  | _, _ => ⟨S16x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20

abbrev nD : Nat := 1
abbrev τ : Topo := Topo.v7x

variable {F : FTy → Type} [FloatOps F]

abbrev grid0 : Pipeline.Grid := ⟨2, ![16, 1], ![false, false]⟩

def k0_off1 (i : grid0.Coords) : Fin 3 → Nat :=
  let c0_12 : Index := 0#32
  let arg1 : BitVec 32 := BitVec.ofNat 32 (i 1).val
  let c256_i32 : BitVec 32 := 256#32
  let v0 : BitVec 32 := Scalar.muli arg1 c256_i32
  let v16 : Index := Scalar.indexCast v0
  let c0_13 : Index := 0#32
  ![0, v16.toNat, 0]
def k0_off2 (i : grid0.Coords) : Fin 3 → Nat :=
  let c0_17 : Index := 0#32
  let arg1 : BitVec 32 := BitVec.ofNat 32 (i 1).val
  let c256_i32 : BitVec 32 := 256#32
  let v0 : BitVec 32 := Scalar.muli arg1 c256_i32
  let v22 : Index := Scalar.indexCast v0
  let c0_18 : Index := 0#32
  ![0, v22.toNat, 0]
def k0_off3 (i : grid0.Coords) : Fin 3 → Nat :=
  let c0_22 : Index := 0#32
  let arg1 : BitVec 32 := BitVec.ofNat 32 (i 1).val
  let c256_i32 : BitVec 32 := 256#32
  let v0 : BitVec 32 := Scalar.muli arg1 c256_i32
  let v30 : Index := Scalar.indexCast v0
  let c1 : Index := 1#32
  ![0, v30.toNat, 1]
def k0_off4 (i : grid0.Coords) : Fin 3 → Nat :=
  let c0_26 : Index := 0#32
  let arg1 : BitVec 32 := BitVec.ofNat 32 (i 1).val
  let c256_i32 : BitVec 32 := 256#32
  let v0 : BitVec 32 := Scalar.muli arg1 c256_i32
  let v38 : Index := Scalar.indexCast v0
  let c2 : Index := 2#32
  ![0, v38.toNat, 2]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := .none

abbrev stage1_0 : Fin 1 → Memref sig .tc .vmem S16x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S16x256x3 : Shape := ⟨3, ![16, 256, 3]⟩
abbrev S16x256x128 : Shape := ⟨3, ![16, 256, 128]⟩
abbrev S131x256 : Shape := ⟨2, ![131, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S16x256x1x3 : Shape := ⟨4, ![16, 256, 1, 3]⟩
abbrev S16x1x256x3 : Shape := ⟨4, ![16, 1, 256, 3]⟩
abbrev S16x256x256x3 : Shape := ⟨4, ![16, 256, 256, 3]⟩
abbrev S_ : Shape := ⟨0, ![]⟩
abbrev S16x256x256 : Shape := ⟨3, ![16, 256, 256]⟩
abbrev S16x256x32 : Shape := ⟨3, ![16, 256, 32]⟩
abbrev S16x256x32x1 : Shape := ⟨4, ![16, 256, 32, 1]⟩
abbrev S16x256x32x3 : Shape := ⟨4, ![16, 256, 32, 3]⟩
abbrev S16x256x32x128 : Shape := ⟨4, ![16, 256, 32, 128]⟩
abbrev S16x256x32x131 : Shape := ⟨4, ![16, 256, 32, 131]⟩
abbrev S16x256x32x256 : Shape := ⟨4, ![16, 256, 32, 256]⟩
abbrev S1x1x256 : Shape := ⟨3, ![1, 1, 256]⟩
abbrev S1x1x1x256 : Shape := ⟨4, ![1, 1, 1, 256]⟩
abbrev S256x32x256 : Shape := ⟨3, ![256, 32, 256]⟩
abbrev S16x256 : Shape := ⟨2, ![16, 256]⟩
abbrev S1x256 : Shape := ⟨2, ![1, 256]⟩
abbrev S16x40 : Shape := ⟨2, ![16, 40]⟩
abbrev S1x40 : Shape := ⟨2, ![1, 40]⟩
abbrev S16 : Shape := ⟨1, ![16]⟩
abbrev S16x1 : Shape := ⟨2, ![16, 1]⟩

abbrev nBuf : Space → Nat
  | .hbm => 117
  | .vmem => 0
  | .smem => 0
  | _ => 0

abbrev bufTy : (tb : Table) → Fin (tcTables nBuf tb) → BufTy
  | .hbm, ⟨0, _⟩ => ⟨S16x256x3, .f32⟩
  | .hbm, ⟨1, _⟩ => ⟨S16x256x128, .f32⟩
  | .hbm, ⟨2, _⟩ => ⟨S131x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x40, .f32⟩
  | .hbm, ⟨11, _⟩ => ⟨S40, .f32⟩
  | .hbm, ⟨12, _⟩ => ⟨S16x256x1x3, .f32⟩
  | .hbm, ⟨13, _⟩ => ⟨S16x1x256x3, .f32⟩
  | .hbm, ⟨14, _⟩ => ⟨S16x256x256x3, .f32⟩
  | .hbm, ⟨15, _⟩ => ⟨S16x256x256x3, .f32⟩
  | .hbm, ⟨16, _⟩ => ⟨S16x256x256x3, .f32⟩
  | .hbm, ⟨17, _⟩ => ⟨S16x256x256x3, .f32⟩
  | .hbm, ⟨18, _⟩ => ⟨S_, .f32⟩
  | .hbm, ⟨19, _⟩ => ⟨S16x256x256, .f32⟩
  | .hbm, ⟨20, _⟩ => ⟨S_, .f32⟩
  | .hbm, ⟨21, _⟩ => ⟨S16x256x256, .f32⟩
  | .hbm, ⟨22, _⟩ => ⟨S16x256x256, .i1⟩
  | .hbm, ⟨23, _⟩ => ⟨S_, .f32⟩
  | .hbm, ⟨24, _⟩ => ⟨S_, .f32⟩
  | .hbm, ⟨25, _⟩ => ⟨S256x256, .f32⟩
  | .hbm, ⟨26, _⟩ => ⟨S16x256x256, .f32⟩
  | .hbm, ⟨27, _⟩ => ⟨S16x256x256, .f32⟩
  | .hbm, ⟨28, _⟩ => ⟨S16x256x256, .f32⟩
  | .hbm, ⟨29, _⟩ => ⟨S16x256x32, .f32⟩
  | .hbm, ⟨30, _⟩ => ⟨S16x256x32, .i32⟩
  | .hbm, ⟨31, _⟩ => ⟨S16x256x32, .f32⟩
  | .hbm, ⟨32, _⟩ => ⟨S_, .f32⟩
  | .hbm, ⟨33, _⟩ => ⟨S16x256x32, .f32⟩
  | .hbm, ⟨34, _⟩ => ⟨S16x256x32, .i1⟩
  | .hbm, ⟨35, _⟩ => ⟨S_, .i32⟩
  | .hbm, ⟨36, _⟩ => ⟨S16x256x32, .i32⟩
  | .hbm, ⟨37, _⟩ => ⟨S16x256x32, .i1⟩
  | .hbm, ⟨38, _⟩ => ⟨S_, .i32⟩
  | .hbm, ⟨39, _⟩ => ⟨S16x256x32, .i32⟩
  | .hbm, ⟨40, _⟩ => ⟨S16x256x32, .i32⟩
  | .hbm, ⟨41, _⟩ => ⟨S16x256x32, .i32⟩
  | .hbm, ⟨42, _⟩ => ⟨S16x256x32x1, .i32⟩
  | .hbm, ⟨43, _⟩ => ⟨S16x256x32x3, .f32⟩
  | .hbm, ⟨44, _⟩ => ⟨S16x256x1x3, .f32⟩
  | .hbm, ⟨45, _⟩ => ⟨S16x256x32x3, .f32⟩
  | .hbm, ⟨46, _⟩ => ⟨S16x256x32x3, .f32⟩
  | .hbm, ⟨47, _⟩ => ⟨S_, .i32⟩
  | .hbm, ⟨48, _⟩ => ⟨S16x256x32, .i32⟩
  | .hbm, ⟨49, _⟩ => ⟨S16x256x32, .i1⟩
  | .hbm, ⟨50, _⟩ => ⟨S_, .i32⟩
  | .hbm, ⟨51, _⟩ => ⟨S16x256x32, .i32⟩
  | .hbm, ⟨52, _⟩ => ⟨S16x256x32, .i32⟩
  | .hbm, ⟨53, _⟩ => ⟨S16x256x32, .i32⟩
  | .hbm, ⟨54, _⟩ => ⟨S16x256x32x1, .i32⟩
  | .hbm, ⟨55, _⟩ => ⟨S16x256x32x128, .f32⟩
  | .hbm, ⟨56, _⟩ => ⟨S16x256x32x131, .f32⟩
  | .hbm, ⟨57, _⟩ => ⟨S16x256x32x256, .f32⟩
  | .hbm, ⟨58, _⟩ => ⟨S1x1x256, .f32⟩
  | .hbm, ⟨59, _⟩ => ⟨S1x1x1x256, .f32⟩
  | .hbm, ⟨60, _⟩ => ⟨S16x256x32x256, .f32⟩
  | .hbm, ⟨61, _⟩ => ⟨S16x256x32x256, .f32⟩
  | .hbm, ⟨62, _⟩ => ⟨S_, .f32⟩
  | .hbm, ⟨63, _⟩ => ⟨S16x256x32x256, .f32⟩
  | .hbm, ⟨64, _⟩ => ⟨S16x256x32x256, .f32⟩
  | .hbm, ⟨65, _⟩ => ⟨S16x256x32x256, .f32⟩
  | .hbm, ⟨66, _⟩ => ⟨S1x1x256, .f32⟩
  | .hbm, ⟨67, _⟩ => ⟨S1x1x1x256, .f32⟩
  | .hbm, ⟨68, _⟩ => ⟨S16x256x32x256, .f32⟩
  | .hbm, ⟨69, _⟩ => ⟨S16x256x32x256, .f32⟩
  | .hbm, ⟨70, _⟩ => ⟨S16x256x32x1, .i1⟩
  | .hbm, ⟨71, _⟩ => ⟨S_, .f32⟩
  | .hbm, ⟨72, _⟩ => ⟨S_, .f32⟩
  | .hbm, ⟨73, _⟩ => ⟨S16x256x32x256, .i1⟩
  | .hbm, ⟨74, _⟩ => ⟨S256x32x256, .f32⟩
  | .hbm, ⟨75, _⟩ => ⟨S16x256x32x256, .f32⟩
  | .hbm, ⟨76, _⟩ => ⟨S16x256x32x256, .f32⟩
  | .hbm, ⟨77, _⟩ => ⟨S_, .f32⟩
  | .hbm, ⟨78, _⟩ => ⟨S16x256x256, .f32⟩
  | .hbm, ⟨79, _⟩ => ⟨S_, .f32⟩
  | .hbm, ⟨80, _⟩ => ⟨S16x256x256, .f32⟩
  | .hbm, ⟨81, _⟩ => ⟨S16x256x256, .f32⟩
  | .hbm, ⟨82, _⟩ => ⟨S_, .f32⟩
  | .hbm, ⟨83, _⟩ => ⟨S16x256, .f32⟩
  | .hbm, ⟨84, _⟩ => ⟨S16x256, .f32⟩
  | .hbm, ⟨85, _⟩ => ⟨S1x256, .f32⟩
  | .hbm, ⟨86, _⟩ => ⟨S16x256, .f32⟩
  | .hbm, ⟨87, _⟩ => ⟨S16x256, .f32⟩
  | .hbm, ⟨88, _⟩ => ⟨S_, .f32⟩
  | .hbm, ⟨89, _⟩ => ⟨S16x256, .f32⟩
  | .hbm, ⟨90, _⟩ => ⟨S16x256, .f32⟩
  | .hbm, ⟨91, _⟩ => ⟨S16x256, .f32⟩
  | .hbm, ⟨92, _⟩ => ⟨S1x256, .f32⟩
  | .hbm, ⟨93, _⟩ => ⟨S16x256, .f32⟩
  | .hbm, ⟨94, _⟩ => ⟨S16x256, .f32⟩
  | .hbm, ⟨95, _⟩ => ⟨S_, .f32⟩
  | .hbm, ⟨96, _⟩ => ⟨S16x256, .f32⟩
  | .hbm, ⟨97, _⟩ => ⟨S16x256, .f32⟩
  | .hbm, ⟨98, _⟩ => ⟨S16x40, .f32⟩
  | .hbm, ⟨99, _⟩ => ⟨S1x40, .f32⟩
  | .hbm, ⟨100, _⟩ => ⟨S16x40, .f32⟩
  | .hbm, ⟨101, _⟩ => ⟨S16x40, .f32⟩
  | .hbm, ⟨102, _⟩ => ⟨S_, .f32⟩
  | .hbm, ⟨103, _⟩ => ⟨S16, .f32⟩
  | .hbm, ⟨104, _⟩ => ⟨S_, .f32⟩
  | .hbm, ⟨105, _⟩ => ⟨S16, .f32⟩
  | .hbm, ⟨106, _⟩ => ⟨S16, .f32⟩
  | .hbm, ⟨107, _⟩ => ⟨S16x1, .f32⟩
  | .hbm, ⟨108, _⟩ => ⟨S16x40, .f32⟩
  | .hbm, ⟨109, _⟩ => ⟨S16x40, .f32⟩
  | .hbm, ⟨110, _⟩ => ⟨S16x40, .f32⟩
  | .hbm, ⟨111, _⟩ => ⟨S_, .f32⟩
  | .hbm, ⟨112, _⟩ => ⟨S16, .f32⟩
  | .hbm, ⟨113, _⟩ => ⟨S16x1, .f32⟩
  | .hbm, ⟨114, _⟩ => ⟨S16x1, .f32⟩
  | .hbm, ⟨115, _⟩ => ⟨S16x40, .f32⟩
  | .hbm, ⟨116, _⟩ => ⟨S16x40, .f32⟩
  | _, _ => ⟨S16x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v9 : Ref sig .tc := ⟨.hbm, 27, rfl⟩
abbrev main_v10 : Ref sig .tc := ⟨.hbm, 28, rfl⟩
abbrev main_values : Ref sig .tc := ⟨.hbm, 29, rfl⟩
abbrev main_indices : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_cst : Ref sig .tc := ⟨.hbm, 62, rfl⟩
abbrev main_call1_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_call3_cst : Ref sig .tc := ⟨.hbm, 79, rfl⟩
abbrev main_call3_v0 : Ref sig .tc := ⟨.hbm, 80, rfl⟩
abbrev main_v46 : Ref sig .tc := ⟨.hbm, 81, rfl⟩
abbrev main_cst_8 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call4_cst : Ref sig .tc := ⟨.hbm, 88, rfl⟩
abbrev main_call4_v0 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call5_cst : Ref sig .tc := ⟨.hbm, 95, rfl⟩
abbrev main_call5_v0 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call6_cst : Ref sig .tc := ⟨.hbm, 102, rfl⟩
abbrev main_call6_v0 : Ref sig .tc := ⟨.hbm, 103, rfl⟩
abbrev main_call6_cst_0 : Ref sig .tc := ⟨.hbm, 104, rfl⟩
abbrev main_call6_v1 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_call6_v5 : Ref sig .tc := ⟨.hbm, 109, rfl⟩
abbrev main_call6_v6 : Ref sig .tc := ⟨.hbm, 110, rfl⟩
abbrev main_call6_cst_1 : Ref sig .tc := ⟨.hbm, 111, rfl⟩
abbrev main_call6_v7 : Ref sig .tc := ⟨.hbm, 112, rfl⟩
abbrev main_call6_v8 : Ref sig .tc := ⟨.hbm, 113, rfl⟩
abbrev main_call6_v9 : Ref sig .tc := ⟨.hbm, 114, rfl⟩
abbrev main_call6_v10 : Ref sig .tc := ⟨.hbm, 115, rfl⟩
abbrev main_v62 : Ref sig .tc := ⟨.hbm, 116, rfl⟩

abbrev nD : Nat := 1
abbrev τ : Topo := Topo.v7x

variable {F : FTy → Type} [FloatOps F]
-- ==== Kernel1.lean ====
abbrev S32768x3 : Shape := ⟨2, ![32768, 3]⟩
abbrev S3x64 : Shape := ⟨2, ![3, 64]⟩
abbrev S64 : Shape := ⟨1, ![64]⟩
abbrev S64x64 : Shape := ⟨2, ![64, 64]⟩
abbrev S16x2048x3 : Shape := ⟨3, ![16, 2048, 3]⟩
abbrev S16x3x2048 : Shape := ⟨3, ![16, 3, 2048]⟩
abbrev S1x64 : Shape := ⟨2, ![1, 64]⟩
abbrev S16x2048x64 : Shape := ⟨3, ![16, 2048, 64]⟩
abbrev S1x2048x3 : Shape := ⟨3, ![1, 2048, 3]⟩
abbrev S1x3x2048 : Shape := ⟨3, ![1, 3, 2048]⟩
abbrev S1x256x64 : Shape := ⟨3, ![1, 256, 64]⟩
abbrev S2048x3 : Shape := ⟨2, ![2048, 3]⟩
abbrev S2048x64 : Shape := ⟨2, ![2048, 64]⟩
abbrev S1x256x3 : Shape := ⟨3, ![1, 256, 3]⟩
abbrev S256x3 : Shape := ⟨2, ![256, 3]⟩
abbrev S256x64 : Shape := ⟨2, ![256, 64]⟩
abbrev S1x256x1 : Shape := ⟨3, ![1, 256, 1]⟩
abbrev S256x1 : Shape := ⟨2, ![256, 1]⟩
abbrev S1x1x2048 : Shape := ⟨3, ![1, 1, 2048]⟩
abbrev S1x2048 : Shape := ⟨2, ![1, 2048]⟩
abbrev S256x2048 : Shape := ⟨2, ![256, 2048]⟩
abbrev S2048x128 : Shape := ⟨2, ![2048, 128]⟩
abbrev S64x2048 : Shape := ⟨2, ![64, 2048]⟩
abbrev S64x1 : Shape := ⟨2, ![64, 1]⟩
abbrev S256x128 : Shape := ⟨2, ![256, 128]⟩

abbrev nBuf : Space → Nat
  | .hbm => 10
  | .vmem => 10
  | .smem => 0
  | _ => 0

abbrev bufTy : (tb : Table) → Fin (tcTables nBuf tb) → BufTy
  | .hbm, ⟨0, _⟩ => ⟨S32768x3, .f32⟩
  | .hbm, ⟨1, _⟩ => ⟨S3x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S16x2048x3, .f32⟩
  | .hbm, ⟨6, _⟩ => ⟨S16x3x2048, .f32⟩
  | .hbm, ⟨7, _⟩ => ⟨S1x64, .f32⟩
  | .hbm, ⟨8, _⟩ => ⟨S1x64, .f32⟩
  | .hbm, ⟨9, _⟩ => ⟨S16x2048x64, .f32⟩
  | .local _ .vmem, ⟨0, _⟩ => ⟨S1x2048x3, .f32⟩
  | .local _ .vmem, ⟨1, _⟩ => ⟨S1x2048x3, .f32⟩
  | .local _ .vmem, ⟨2, _⟩ => ⟨S1x3x2048, .f32⟩
  | .local _ .vmem, ⟨3, _⟩ => ⟨S1x3x2048, .f32⟩
  | .local _ .vmem, ⟨4, _⟩ => ⟨S3x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x256x64, .f32⟩
  | .local _ .vmem, ⟨9, _⟩ => ⟨S1x256x64, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let c0_6 : Index := 0#32
  let arg1 : BitVec 32 := BitVec.ofNat 32 (i 1).val
  let c256_i32 : BitVec 32 := 256#32
  let v0 : BitVec 32 := Scalar.muli arg1 c256_i32
  let v9 : Index := Scalar.indexCast v0
  let c0_7 : Index := 0#32
  ![0, v9.toNat, 0]
def k0_off2 (i : grid0.Coords) : Fin 3 → Nat :=
  let c0_11 : Index := 0#32
  let arg1 : BitVec 32 := BitVec.ofNat 32 (i 1).val
  let c256_i32 : BitVec 32 := 256#32
  let v0 : BitVec 32 := Scalar.muli arg1 c256_i32
  let v14 : Index := Scalar.indexCast v0
  let c0_12 : Index := 0#32
  ![0, v14.toNat, 0]
def k0_off3 (i : grid0.Coords) : Fin 3 → Nat :=
  let c0_16 : Index := 0#32
  let arg1 : BitVec 32 := BitVec.ofNat 32 (i 1).val
  let c256_i32 : BitVec 32 := 256#32
  let v0 : BitVec 32 := Scalar.muli arg1 c256_i32
  let v22 : Index := Scalar.indexCast v0
  let c1 : Index := 1#32
  ![0, v22.toNat, 1]
def k0_off4 (i : grid0.Coords) : Fin 3 → Nat :=
  let c0_20 : Index := 0#32
  let arg1 : BitVec 32 := BitVec.ofNat 32 (i 1).val
  let c256_i32 : BitVec 32 := 256#32
  let v0 : BitVec 32 := Scalar.muli arg1 c256_i32
  let v30 : Index := Scalar.indexCast v0
  let c2 : Index := 2#32
  ![0, v30.toNat, 2]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference1Ideal.lean ====
abbrev S32768x3 : Shape := ⟨2, ![32768, 3]⟩
abbrev S3x64 : Shape := ⟨2, ![3, 64]⟩
abbrev S64 : Shape := ⟨1, ![64]⟩
abbrev S64x64 : Shape := ⟨2, ![64, 64]⟩
abbrev S16x2048x3 : Shape := ⟨3, ![16, 2048, 3]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S2048x2048 : Shape := ⟨2, ![2048, 2048]⟩
abbrev S16x2048x32 : Shape := ⟨3, ![16, 2048, 32]⟩
abbrev S16x2048x32x1 : Shape := ⟨4, ![16, 2048, 32, 1]⟩
abbrev S16x2048x32x3 : Shape := ⟨4, ![16, 2048, 32, 3]⟩
abbrev S16x2048x32x64 : Shape := ⟨4, ![16, 2048, 32, 64]⟩
abbrev S1x1x64 : Shape := ⟨3, ![1, 1, 64]⟩
abbrev S1x1x1x64 : Shape := ⟨4, ![1, 1, 1, 64]⟩
abbrev S2048x32x64 : Shape := ⟨3, ![2048, 32, 64]⟩
abbrev S16x2048x64 : Shape := ⟨3, ![16, 2048, 64]⟩

abbrev nBuf : Space → Nat
  | .hbm => 66
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S3x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S16x2048x3, .f32⟩
  | .hbm, ⟨6, _⟩ => ⟨S16x2048x1x3, .f32⟩
  | .hbm, ⟨7, _⟩ => ⟨S16x1x2048x3, .f32⟩
  | .hbm, ⟨8, _⟩ => ⟨S16x2048x2048x3, .f32⟩
  | .hbm, ⟨9, _⟩ => ⟨S16x2048x2048x3, .f32⟩
  | .hbm, ⟨10, _⟩ => ⟨S16x2048x2048x3, .f32⟩
  | .hbm, ⟨11, _⟩ => ⟨S16x2048x2048x3, .f32⟩
  | .hbm, ⟨12, _⟩ => ⟨S_, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .i1⟩
  | .hbm, ⟨17, _⟩ => ⟨S_, .f32⟩
  | .hbm, ⟨18, _⟩ => ⟨S_, .f32⟩
  | .hbm, ⟨19, _⟩ => ⟨S2048x2048, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S16x2048x32, .f32⟩
  | .hbm, ⟨24, _⟩ => ⟨S16x2048x32, .i32⟩
  | .hbm, ⟨25, _⟩ => ⟨S16x2048x32, .f32⟩
  | .hbm, ⟨26, _⟩ => ⟨S_, .f32⟩
  | .hbm, ⟨27, _⟩ => ⟨S16x2048x32, .f32⟩
  | .hbm, ⟨28, _⟩ => ⟨S16x2048x32, .i1⟩
  | .hbm, ⟨29, _⟩ => ⟨S_, .i32⟩
  | .hbm, ⟨30, _⟩ => ⟨S16x2048x32, .i32⟩
  | .hbm, ⟨31, _⟩ => ⟨S16x2048x32, .i1⟩
  | .hbm, ⟨32, _⟩ => ⟨S_, .i32⟩
  | .hbm, ⟨33, _⟩ => ⟨S16x2048x32, .i32⟩
  | .hbm, ⟨34, _⟩ => ⟨S16x2048x32, .i32⟩
  | .hbm, ⟨35, _⟩ => ⟨S16x2048x32, .i32⟩
  | .hbm, ⟨36, _⟩ => ⟨S16x2048x32x1, .i32⟩
  | .hbm, ⟨37, _⟩ => ⟨S16x2048x32x3, .f32⟩
  | .hbm, ⟨38, _⟩ => ⟨S16x2048x1x3, .f32⟩
  | .hbm, ⟨39, _⟩ => ⟨S16x2048x32x3, .f32⟩
  | .hbm, ⟨40, _⟩ => ⟨S16x2048x32x3, .f32⟩
  | .hbm, ⟨41, _⟩ => ⟨S16x2048x32x64, .f32⟩
  | .hbm, ⟨42, _⟩ => ⟨S1x1x64, .f32⟩
  | .hbm, ⟨43, _⟩ => ⟨S1x1x1x64, .f32⟩
  | .hbm, ⟨44, _⟩ => ⟨S16x2048x32x64, .f32⟩
  | .hbm, ⟨45, _⟩ => ⟨S16x2048x32x64, .f32⟩
  | .hbm, ⟨46, _⟩ => ⟨S_, .f32⟩
  | .hbm, ⟨47, _⟩ => ⟨S16x2048x32x64, .f32⟩
  | .hbm, ⟨48, _⟩ => ⟨S16x2048x32x64, .f32⟩
  | .hbm, ⟨49, _⟩ => ⟨S16x2048x32x64, .f32⟩
  | .hbm, ⟨50, _⟩ => ⟨S1x1x64, .f32⟩
  | .hbm, ⟨51, _⟩ => ⟨S1x1x1x64, .f32⟩
  | .hbm, ⟨52, _⟩ => ⟨S16x2048x32x64, .f32⟩
  | .hbm, ⟨53, _⟩ => ⟨S16x2048x32x64, .f32⟩
  | .hbm, ⟨54, _⟩ => ⟨S16x2048x32x1, .i1⟩
  | .hbm, ⟨55, _⟩ => ⟨S_, .f32⟩
  | .hbm, ⟨56, _⟩ => ⟨S_, .f32⟩
  | .hbm, ⟨57, _⟩ => ⟨S16x2048x32x64, .i1⟩
  | .hbm, ⟨58, _⟩ => ⟨S2048x32x64, .f32⟩
  | .hbm, ⟨59, _⟩ => ⟨S16x2048x32x64, .f32⟩
  | .hbm, ⟨60, _⟩ => ⟨S16x2048x32x64, .f32⟩
  | .hbm, ⟨61, _⟩ => ⟨S_, .f32⟩
  | .hbm, ⟨62, _⟩ => ⟨S16x2048x64, .f32⟩
  | .hbm, ⟨63, _⟩ => ⟨S_, .f32⟩
  | .hbm, ⟨64, _⟩ => ⟨S16x2048x64, .f32⟩
  | .hbm, ⟨65, _⟩ => ⟨S16x2048x64, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_v11 : Ref sig .tc := ⟨.hbm, 22, rfl⟩
abbrev main_values : Ref sig .tc := ⟨.hbm, 23, rfl⟩
abbrev main_indices : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_call3_cst : Ref sig .tc := ⟨.hbm, 63, rfl⟩
abbrev main_call3_v0 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel2.lean ====
abbrev S16x1024x3 : Shape := ⟨3, ![16, 1024, 3]⟩
abbrev S16x1024x64 : Shape := ⟨3, ![16, 1024, 64]⟩
abbrev S67x128 : Shape := ⟨2, ![67, 128]⟩
abbrev S128 : Shape := ⟨1, ![128]⟩
abbrev S128x128 : Shape := ⟨2, ![128, 128]⟩
abbrev S16x3x1024 : Shape := ⟨3, ![16, 3, 1024]⟩
abbrev S64x128 : Shape := ⟨2, ![64, 128]⟩
abbrev S3x128 : Shape := ⟨2, ![3, 128]⟩
abbrev S1x128 : Shape := ⟨2, ![1, 128]⟩
abbrev S16x1024x128 : Shape := ⟨3, ![16, 1024, 128]⟩
abbrev S1x1024x3 : Shape := ⟨3, ![1, 1024, 3]⟩
abbrev S1x3x1024 : Shape := ⟨3, ![1, 3, 1024]⟩
abbrev S1x1024x64 : Shape := ⟨3, ![1, 1024, 64]⟩
abbrev S1x256x128 : Shape := ⟨3, ![1, 256, 128]⟩
abbrev S1024x3 : Shape := ⟨2, ![1024, 3]⟩
abbrev S1024x128 : Shape := ⟨2, ![1024, 128]⟩
abbrev S1024x64 : Shape := ⟨2, ![1024, 64]⟩
abbrev S1x256x3 : Shape := ⟨3, ![1, 256, 3]⟩
abbrev S256x3 : Shape := ⟨2, ![256, 3]⟩
abbrev S256x128 : Shape := ⟨2, ![256, 128]⟩
abbrev S1x256x1 : Shape := ⟨3, ![1, 256, 1]⟩
abbrev S256x1 : Shape := ⟨2, ![256, 1]⟩
abbrev S1x1x1024 : Shape := ⟨3, ![1, 1, 1024]⟩
abbrev S1x1024 : Shape := ⟨2, ![1, 1024]⟩
abbrev S256x1024 : Shape := ⟨2, ![256, 1024]⟩
abbrev S1024x256 : Shape := ⟨2, ![1024, 256]⟩
abbrev S64x1024 : Shape := ⟨2, ![64, 1024]⟩
abbrev S64 : Shape := ⟨1, ![64]⟩
abbrev S64x1 : Shape := ⟨2, ![64, 1]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S16x1024x3, .f32⟩
  | .hbm, ⟨1, _⟩ => ⟨S16x1024x64, .f32⟩
  | .hbm, ⟨2, _⟩ => ⟨S67x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S16x3x1024, .f32⟩
  | .hbm, ⟨7, _⟩ => ⟨S64x128, .f32⟩
  | .hbm, ⟨8, _⟩ => ⟨S3x128, .f32⟩
  | .hbm, ⟨9, _⟩ => ⟨S1x128, .f32⟩
  | .hbm, ⟨10, _⟩ => ⟨S1x128, .f32⟩
  | .hbm, ⟨11, _⟩ => ⟨S16x1024x128, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x64, .f32⟩
  | .local _ .vmem, ⟨5, _⟩ => ⟨S1x1024x64, .f32⟩
  | .local _ .vmem, ⟨6, _⟩ => ⟨S64x128, .f32⟩
  | .local _ .vmem, ⟨7, _⟩ => ⟨S3x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x256x128, .f32⟩
  | .local _ .vmem, ⟨12, _⟩ => ⟨S1x256x128, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let c0_12 : Index := 0#32
  let arg1 : BitVec 32 := BitVec.ofNat 32 (i 1).val
  let c256_i32 : BitVec 32 := 256#32
  let v0 : BitVec 32 := Scalar.muli arg1 c256_i32
  let v16 : Index := Scalar.indexCast v0
  let c0_13 : Index := 0#32
  ![0, v16.toNat, 0]
def k0_off2 (i : grid0.Coords) : Fin 3 → Nat :=
  let c0_17 : Index := 0#32
  let arg1 : BitVec 32 := BitVec.ofNat 32 (i 1).val
  let c256_i32 : BitVec 32 := 256#32
  let v0 : BitVec 32 := Scalar.muli arg1 c256_i32
  let v22 : Index := Scalar.indexCast v0
  let c0_18 : Index := 0#32
  ![0, v22.toNat, 0]
def k0_off3 (i : grid0.Coords) : Fin 3 → Nat :=
  let c0_22 : Index := 0#32
  let arg1 : BitVec 32 := BitVec.ofNat 32 (i 1).val
  let c256_i32 : BitVec 32 := 256#32
  let v0 : BitVec 32 := Scalar.muli arg1 c256_i32
  let v30 : Index := Scalar.indexCast v0
  let c1 : Index := 1#32
  ![0, v30.toNat, 1]
def k0_off4 (i : grid0.Coords) : Fin 3 → Nat :=
  let c0_26 : Index := 0#32
  let arg1 : BitVec 32 := BitVec.ofNat 32 (i 1).val
  let c256_i32 : BitVec 32 := 256#32
  let v0 : BitVec 32 := Scalar.muli arg1 c256_i32
  let v38 : Index := Scalar.indexCast v0
  let c2 : Index := 2#32
  ![0, v38.toNat, 2]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16x1024x3 : Shape := ⟨3, ![16, 1024, 3]⟩
abbrev S16x1024x64 : Shape := ⟨3, ![16, 1024, 64]⟩
abbrev S67x128 : Shape := ⟨2, ![67, 128]⟩
abbrev S128 : Shape := ⟨1, ![128]⟩
abbrev S128x128 : Shape := ⟨2, ![128, 128]⟩
abbrev S16x1024x1x3 : Shape := ⟨4, ![16, 1024, 1, 3]⟩
abbrev S16x1x1024x3 : Shape := ⟨4, ![16, 1, 1024, 3]⟩
abbrev S16x1024x1024x3 : Shape := ⟨4, ![16, 1024, 1024, 3]⟩
abbrev S_ : Shape := ⟨0, ![]⟩
abbrev S16x1024x1024 : Shape := ⟨3, ![16, 1024, 1024]⟩
abbrev S1024x1024 : Shape := ⟨2, ![1024, 1024]⟩
abbrev S16x1024x32 : Shape := ⟨3, ![16, 1024, 32]⟩
abbrev S16x1024x32x1 : Shape := ⟨4, ![16, 1024, 32, 1]⟩
abbrev S16x1024x32x3 : Shape := ⟨4, ![16, 1024, 32, 3]⟩
abbrev S16x1024x32x64 : Shape := ⟨4, ![16, 1024, 32, 64]⟩
abbrev S16x1024x32x67 : Shape := ⟨4, ![16, 1024, 32, 67]⟩
abbrev S16x1024x32x128 : Shape := ⟨4, ![16, 1024, 32, 128]⟩
abbrev S1x1x128 : Shape := ⟨3, ![1, 1, 128]⟩
abbrev S1x1x1x128 : Shape := ⟨4, ![1, 1, 1, 128]⟩
abbrev S1024x32x128 : Shape := ⟨3, ![1024, 32, 128]⟩
abbrev S16x1024x128 : Shape := ⟨3, ![16, 1024, 128]⟩

abbrev nBuf : Space → Nat
  | .hbm => 76
  | .vmem => 0
  | .smem => 0
  | _ => 0

abbrev bufTy : (tb : Table) → Fin (tcTables nBuf tb) → BufTy
  | .hbm, ⟨0, _⟩ => ⟨S16x1024x3, .f32⟩
  | .hbm, ⟨1, _⟩ => ⟨S16x1024x64, .f32⟩
  | .hbm, ⟨2, _⟩ => ⟨S67x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S16x1024x1x3, .f32⟩
  | .hbm, ⟨7, _⟩ => ⟨S16x1x1024x3, .f32⟩
  | .hbm, ⟨8, _⟩ => ⟨S16x1024x1024x3, .f32⟩
  | .hbm, ⟨9, _⟩ => ⟨S16x1024x1024x3, .f32⟩
  | .hbm, ⟨10, _⟩ => ⟨S16x1024x1024x3, .f32⟩
  | .hbm, ⟨11, _⟩ => ⟨S16x1024x1024x3, .f32⟩
  | .hbm, ⟨12, _⟩ => ⟨S_, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .i1⟩
  | .hbm, ⟨17, _⟩ => ⟨S_, .f32⟩
  | .hbm, ⟨18, _⟩ => ⟨S_, .f32⟩
  | .hbm, ⟨19, _⟩ => ⟨S1024x1024, .f32⟩
  | .hbm, ⟨20, _⟩ => ⟨S16x1024x1024, .f32⟩
  | .hbm, ⟨21, _⟩ => ⟨S16x1024x1024, .f32⟩
  | .hbm, ⟨22, _⟩ => ⟨S16x1024x1024, .f32⟩
  | .hbm, ⟨23, _⟩ => ⟨S16x1024x32, .f32⟩
  | .hbm, ⟨24, _⟩ => ⟨S16x1024x32, .i32⟩
  | .hbm, ⟨25, _⟩ => ⟨S16x1024x32, .f32⟩
  | .hbm, ⟨26, _⟩ => ⟨S_, .f32⟩
  | .hbm, ⟨27, _⟩ => ⟨S16x1024x32, .f32⟩
  | .hbm, ⟨28, _⟩ => ⟨S16x1024x32, .i1⟩
  | .hbm, ⟨29, _⟩ => ⟨S_, .i32⟩
  | .hbm, ⟨30, _⟩ => ⟨S16x1024x32, .i32⟩
  | .hbm, ⟨31, _⟩ => ⟨S16x1024x32, .i1⟩
  | .hbm, ⟨32, _⟩ => ⟨S_, .i32⟩
  | .hbm, ⟨33, _⟩ => ⟨S16x1024x32, .i32⟩
  | .hbm, ⟨34, _⟩ => ⟨S16x1024x32, .i32⟩
  | .hbm, ⟨35, _⟩ => ⟨S16x1024x32, .i32⟩
  | .hbm, ⟨36, _⟩ => ⟨S16x1024x32x1, .i32⟩
  | .hbm, ⟨37, _⟩ => ⟨S16x1024x32x3, .f32⟩
  | .hbm, ⟨38, _⟩ => ⟨S16x1024x1x3, .f32⟩
  | .hbm, ⟨39, _⟩ => ⟨S16x1024x32x3, .f32⟩
  | .hbm, ⟨40, _⟩ => ⟨S16x1024x32x3, .f32⟩
  | .hbm, ⟨41, _⟩ => ⟨S_, .i32⟩
  | .hbm, ⟨42, _⟩ => ⟨S16x1024x32, .i32⟩
  | .hbm, ⟨43, _⟩ => ⟨S16x1024x32, .i1⟩
  | .hbm, ⟨44, _⟩ => ⟨S_, .i32⟩
  | .hbm, ⟨45, _⟩ => ⟨S16x1024x32, .i32⟩
  | .hbm, ⟨46, _⟩ => ⟨S16x1024x32, .i32⟩
  | .hbm, ⟨47, _⟩ => ⟨S16x1024x32, .i32⟩
  | .hbm, ⟨48, _⟩ => ⟨S16x1024x32x1, .i32⟩
  | .hbm, ⟨49, _⟩ => ⟨S16x1024x32x64, .f32⟩
  | .hbm, ⟨50, _⟩ => ⟨S16x1024x32x67, .f32⟩
  | .hbm, ⟨51, _⟩ => ⟨S16x1024x32x128, .f32⟩
  | .hbm, ⟨52, _⟩ => ⟨S1x1x128, .f32⟩
  | .hbm, ⟨53, _⟩ => ⟨S1x1x1x128, .f32⟩
  | .hbm, ⟨54, _⟩ => ⟨S16x1024x32x128, .f32⟩
  | .hbm, ⟨55, _⟩ => ⟨S16x1024x32x128, .f32⟩
  | .hbm, ⟨56, _⟩ => ⟨S_, .f32⟩
  | .hbm, ⟨57, _⟩ => ⟨S16x1024x32x128, .f32⟩
  | .hbm, ⟨58, _⟩ => ⟨S16x1024x32x128, .f32⟩
  | .hbm, ⟨59, _⟩ => ⟨S16x1024x32x128, .f32⟩
  | .hbm, ⟨60, _⟩ => ⟨S1x1x128, .f32⟩
  | .hbm, ⟨61, _⟩ => ⟨S1x1x1x128, .f32⟩
  | .hbm, ⟨62, _⟩ => ⟨S16x1024x32x128, .f32⟩
  | .hbm, ⟨63, _⟩ => ⟨S16x1024x32x128, .f32⟩
  | .hbm, ⟨64, _⟩ => ⟨S16x1024x32x1, .i1⟩
  | .hbm, ⟨65, _⟩ => ⟨S_, .f32⟩
  | .hbm, ⟨66, _⟩ => ⟨S_, .f32⟩
  | .hbm, ⟨67, _⟩ => ⟨S16x1024x32x128, .i1⟩
  | .hbm, ⟨68, _⟩ => ⟨S1024x32x128, .f32⟩
  | .hbm, ⟨69, _⟩ => ⟨S16x1024x32x128, .f32⟩
  | .hbm, ⟨70, _⟩ => ⟨S16x1024x32x128, .f32⟩
  | .hbm, ⟨71, _⟩ => ⟨S_, .f32⟩
  | .hbm, ⟨72, _⟩ => ⟨S16x1024x128, .f32⟩
  | .hbm, ⟨73, _⟩ => ⟨S_, .f32⟩
  | .hbm, ⟨74, _⟩ => ⟨S16x1024x128, .f32⟩
  | .hbm, ⟨75, _⟩ => ⟨S16x1024x128, .f32⟩
  | _, _ => ⟨S16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_v10 : Ref sig .tc := ⟨.hbm, 22, rfl⟩
abbrev main_values : Ref sig .tc := ⟨.hbm, 23, rfl⟩
abbrev main_indices : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_call3_cst : Ref sig .tc := ⟨.hbm, 73, rfl⟩
abbrev main_call3_v0 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== Kernel4.lean ====
abbrev S32768x3 : Shape := ⟨2, ![32768, 3]⟩
abbrev S16x2048x3 : Shape := ⟨3, ![16, 2048, 3]⟩
abbrev S16x3x2048 : Shape := ⟨3, ![16, 3, 2048]⟩
abbrev S16x1x1024 : Shape := ⟨3, ![16, 1, 1024]⟩
abbrev S16x1x2048 : Shape := ⟨3, ![16, 1, 2048]⟩
abbrev S16x2048 : Shape := ⟨2, ![16, 2048]⟩
abbrev S16x1024 : Shape := ⟨2, ![16, 1024]⟩
abbrev S16x1 : Shape := ⟨2, ![16, 1]⟩
abbrev S16 : Shape := ⟨1, ![16]⟩

abbrev nBuf : Space → Nat
  | .hbm => 4
  | .vmem => 2
  | .smem => 0
  | _ => 0

abbrev bufTy : (tb : Table) → Fin (tcTables nBuf tb) → BufTy
  | .hbm, ⟨0, _⟩ => ⟨S32768x3, .f32⟩
  | .hbm, ⟨1, _⟩ => ⟨S16x2048x3, .f32⟩
  | .hbm, ⟨2, _⟩ => ⟨S16x3x2048, .f32⟩
  | .hbm, ⟨3, _⟩ => ⟨S16x1x1024, .i32⟩
  | .local _ .vmem, ⟨0, _⟩ => ⟨S16x3x2048, .f32⟩
  | .local _ .vmem, ⟨1, _⟩ => ⟨S16x1x1024, .i32⟩
  | _, _ => ⟨S32768x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c1023_i32 : BitVec 32 := 1023#32
  let v11 : BitVec 32 := Scalar.addi c1_i32 c1023_i32
  let c1_i32_7 : BitVec 32 := 1#32
  ⟨c1_i32, v11, c1_i32_7⟩
abbrev stage0_0 : Fin 1 → Memref sig .tc .vmem S16x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference4Ideal.lean ====
abbrev S32768x3 : Shape := ⟨2, ![32768, 3]⟩
abbrev S16x2048x3 : Shape := ⟨3, ![16, 2048, 3]⟩
abbrev S16 : Shape := ⟨1, ![16]⟩
abbrev S16x1x3 : Shape := ⟨3, ![16, 1, 3]⟩
abbrev S_ : Shape := ⟨0, ![]⟩
abbrev S16x2048 : Shape := ⟨2, ![16, 2048]⟩
abbrev S16x1024 : Shape := ⟨2, ![16, 1024]⟩
abbrev S16x1 : Shape := ⟨2, ![16, 1]⟩
abbrev S16x2 : Shape := ⟨2, ![16, 2]⟩
abbrev S16x3 : Shape := ⟨2, ![16, 3]⟩
abbrev S1 : Shape := ⟨1, ![1]⟩
abbrev S16x1x1024 : Shape := ⟨3, ![16, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S16x2048x3, .f32⟩
  | .hbm, ⟨2, _⟩ => ⟨S16, .i32⟩
  | .hbm, ⟨3, _⟩ => ⟨S16x1x3, .f32⟩
  | .hbm, ⟨4, _⟩ => ⟨S16x2048x3, .f32⟩
  | .hbm, ⟨5, _⟩ => ⟨S16x2048x3, .f32⟩
  | .hbm, ⟨6, _⟩ => ⟨S16x2048x3, .f32⟩
  | .hbm, ⟨7, _⟩ => ⟨S_, .f32⟩
  | .hbm, ⟨8, _⟩ => ⟨S16x2048, .f32⟩
  | .hbm, ⟨9, _⟩ => ⟨S_, .i32⟩
  | .hbm, ⟨10, _⟩ => ⟨S16x1024, .i32⟩
  | .hbm, ⟨11, _⟩ => ⟨S_, .i32⟩
  | .hbm, ⟨12, _⟩ => ⟨S_, .i32⟩
  | .hbm, ⟨13, _⟩ => ⟨S16, .i32⟩
  | .hbm, ⟨14, _⟩ => ⟨S16x2048x3, .f32⟩
  | .hbm, ⟨15, _⟩ => ⟨S_, .i32⟩
  | .hbm, ⟨16, _⟩ => ⟨S_, .i32⟩
  | .hbm, ⟨17, _⟩ => ⟨S16x1024, .i32⟩
  | .hbm, ⟨18, _⟩ => ⟨S16x2048, .f32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S16x1, .i32⟩
  | .hbm, ⟨40, _⟩ => ⟨S16, .i32⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S_, .i32⟩
  | .hbm, ⟨49, _⟩ => ⟨S16, .i32⟩
  | .hbm, ⟨50, _⟩ => ⟨S16, .i1⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S16, .i32⟩
  | .hbm, ⟨55, _⟩ => ⟨S16x1, .i32⟩
  | .hbm, ⟨56, _⟩ => ⟨S16x1, .i32⟩
  | .hbm, ⟨57, _⟩ => ⟨S16x2, .i32⟩
  | .hbm, ⟨58, _⟩ => ⟨S16x3, .f32⟩
  | .hbm, ⟨59, _⟩ => ⟨S16x1x3, .f32⟩
  | .hbm, ⟨60, _⟩ => ⟨S16x2048x3, .f32⟩
  | .hbm, ⟨61, _⟩ => ⟨S16x2048x3, .f32⟩
  | .hbm, ⟨62, _⟩ => ⟨S16x2048x3, .f32⟩
  | .hbm, ⟨63, _⟩ => ⟨S_, .f32⟩
  | .hbm, ⟨64, _⟩ => ⟨S16x2048, .f32⟩
  | .hbm, ⟨65, _⟩ => ⟨S16x2048, .f32⟩
  | .hbm, ⟨66, _⟩ => ⟨S16x2048, .i32⟩
  | .hbm, ⟨67, _⟩ => ⟨S_, .f32⟩
  | .hbm, ⟨68, _⟩ => ⟨S_, .i32⟩
  | .hbm, ⟨69, _⟩ => ⟨S16, .f32⟩
  | .hbm, ⟨70, _⟩ => ⟨S16, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1, .i32⟩
  | .hbm, ⟨78, _⟩ => ⟨S16x1024, .i32⟩
  | .hbm, ⟨79, _⟩ => ⟨S_, .i32⟩
  | .hbm, ⟨80, _⟩ => ⟨S_, .i32⟩
  | .hbm, ⟨81, _⟩ => ⟨S16x1x1024, .i32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_c_0 : Ref sig .tc := ⟨.hbm, 11, rfl⟩
abbrev main_c_1 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_while0c_c_7 : Ref sig .tc := ⟨.hbm, 19, rfl⟩
abbrev main_while0c_v10 : Ref sig .tc := ⟨.hbm, 20, rfl⟩
abbrev main_while0b_c_7 : Ref sig .tc := ⟨.hbm, 21, rfl⟩
abbrev main_while0b_v10 : Ref sig .tc := ⟨.hbm, 22, rfl⟩
abbrev main_while0b_c_8 : Ref sig .tc := ⟨.hbm, 23, rfl⟩
abbrev main_while0b_v11 : Ref sig .tc := ⟨.hbm, 24, rfl⟩
abbrev main_while0b_v12 : Ref sig .tc := ⟨.hbm, 25, rfl⟩
abbrev main_while0b_c_9 : Ref sig .tc := ⟨.hbm, 26, rfl⟩
abbrev main_while0b_c_10 : Ref sig .tc := ⟨.hbm, 27, rfl⟩
abbrev main_while0b_v13 : Ref sig .tc := ⟨.hbm, 28, rfl⟩
abbrev main_while0b_c_11 : Ref sig .tc := ⟨.hbm, 29, rfl⟩
abbrev main_while0b_c_12 : Ref sig .tc := ⟨.hbm, 30, rfl⟩
abbrev main_while0b_v14 : Ref sig .tc := ⟨.hbm, 31, rfl⟩
abbrev main_while0b_c_13 : Ref sig .tc := ⟨.hbm, 32, rfl⟩
abbrev main_while0b_v15 : Ref sig .tc := ⟨.hbm, 33, rfl⟩
abbrev main_while0b_c_14 : Ref sig .tc := ⟨.hbm, 34, rfl⟩
abbrev main_while0b_v16 : Ref sig .tc := ⟨.hbm, 35, rfl⟩
abbrev main_while0b_c_15 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_c_16 : Ref sig .tc := ⟨.hbm, 41, rfl⟩
abbrev main_while0b_v21 : Ref sig .tc := ⟨.hbm, 42, rfl⟩
abbrev main_while0b_v22 : Ref sig .tc := ⟨.hbm, 43, rfl⟩
abbrev main_while0b_c_17 : Ref sig .tc := ⟨.hbm, 44, rfl⟩
abbrev main_while0b_v23 : Ref sig .tc := ⟨.hbm, 45, rfl⟩
abbrev main_while0b_v24 : Ref sig .tc := ⟨.hbm, 46, rfl⟩
abbrev main_while0b_v25 : Ref sig .tc := ⟨.hbm, 47, rfl⟩
abbrev main_while0b_c_18 : Ref sig .tc := ⟨.hbm, 48, rfl⟩
abbrev main_while0b_v26 : Ref sig .tc := ⟨.hbm, 49, rfl⟩
abbrev main_while0b_v27 : Ref sig .tc := ⟨.hbm, 50, rfl⟩
abbrev main_while0b_c_19 : Ref sig .tc := ⟨.hbm, 51, rfl⟩
abbrev main_while0b_v28 : Ref sig .tc := ⟨.hbm, 52, rfl⟩
abbrev main_while0b_v29 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_v35 : Ref sig .tc := ⟨.hbm, 59, rfl⟩
abbrev main_while0b_v36 : Ref sig .tc := ⟨.hbm, 60, rfl⟩
abbrev main_while0b_v37 : Ref sig .tc := ⟨.hbm, 61, rfl⟩
abbrev main_while0b_v38 : Ref sig .tc := ⟨.hbm, 62, rfl⟩
abbrev main_while0b_cst_20 : Ref sig .tc := ⟨.hbm, 63, rfl⟩
abbrev main_while0b_v39 : Ref sig .tc := ⟨.hbm, 64, rfl⟩
abbrev main_while0b_v40 : Ref sig .tc := ⟨.hbm, 65, rfl⟩
abbrev main_while0b_call0_v0 : Ref sig .tc := ⟨.hbm, 66, rfl⟩
abbrev main_while0b_call0_cst : Ref sig .tc := ⟨.hbm, 67, rfl⟩
abbrev main_while0b_call0_c : Ref sig .tc := ⟨.hbm, 68, rfl⟩
abbrev main_while0b_call0_v1_0 : Ref sig .tc := ⟨.hbm, 69, rfl⟩
abbrev main_while0b_v41 : Ref sig .tc := ⟨.hbm, 70, rfl⟩
abbrev main_while0b_c_21 : Ref sig .tc := ⟨.hbm, 71, rfl⟩
abbrev main_while0b_v42 : Ref sig .tc := ⟨.hbm, 72, rfl⟩
abbrev main_while0b_c_22 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_v47 : Ref sig .tc := ⟨.hbm, 78, rfl⟩
abbrev main_while0b_c_23 : Ref sig .tc := ⟨.hbm, 79, rfl⟩
abbrev main_while0b_v48 : Ref sig .tc := ⟨.hbm, 80, rfl⟩
abbrev main_v9 : Ref sig .tc := ⟨.hbm, 81, rfl⟩

abbrev nD : Nat := 1
abbrev τ : Topo := Topo.v7x

variable {F : FTy → Type} [FloatOps F]

abbrev main_while0_count : Scf.Loop 32 := ⟨0#32, 1023#32, 1#32⟩
-- ==== Kernel5.lean ====
abbrev S16x1024x3 : Shape := ⟨3, ![16, 1024, 3]⟩
abbrev S16x3x1024 : Shape := ⟨3, ![16, 3, 1024]⟩
abbrev S16x1x256 : Shape := ⟨3, ![16, 1, 256]⟩
abbrev S16x1x1024 : Shape := ⟨3, ![16, 1, 1024]⟩
abbrev S16x1024 : Shape := ⟨2, ![16, 1024]⟩
abbrev S16x256 : Shape := ⟨2, ![16, 256]⟩
abbrev S16x1 : Shape := ⟨2, ![16, 1]⟩
abbrev S16 : Shape := ⟨1, ![16]⟩

abbrev nBuf : Space → Nat
  | .hbm => 3
  | .vmem => 2
  | .smem => 0
  | _ => 0

abbrev bufTy : (tb : Table) → Fin (tcTables nBuf tb) → BufTy
  | .hbm, ⟨0, _⟩ => ⟨S16x1024x3, .f32⟩
  | .hbm, ⟨1, _⟩ => ⟨S16x3x1024, .f32⟩
  | .hbm, ⟨2, _⟩ => ⟨S16x1x256, .i32⟩
  | .local _ .vmem, ⟨0, _⟩ => ⟨S16x3x1024, .f32⟩
  | .local _ .vmem, ⟨1, _⟩ => ⟨S16x1x256, .i32⟩
  | _, _ => ⟨S16x1024x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c255_i32 : BitVec 32 := 255#32
  let v11 : BitVec 32 := Scalar.addi c1_i32 c255_i32
  let c1_i32_7 : BitVec 32 := 1#32
  ⟨c1_i32, v11, c1_i32_7⟩
abbrev stage0_0 : Fin 1 → Memref sig .tc .vmem S16x3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference5Ideal.lean ====
abbrev S16x1024x3 : Shape := ⟨3, ![16, 1024, 3]⟩
abbrev S16 : Shape := ⟨1, ![16]⟩
abbrev S16x1x3 : Shape := ⟨3, ![16, 1, 3]⟩
abbrev S_ : Shape := ⟨0, ![]⟩
abbrev S16x1024 : Shape := ⟨2, ![16, 1024]⟩
abbrev S16x256 : Shape := ⟨2, ![16, 256]⟩
abbrev S16x1 : Shape := ⟨2, ![16, 1]⟩
abbrev S16x2 : Shape := ⟨2, ![16, 2]⟩
abbrev S16x3 : Shape := ⟨2, ![16, 3]⟩
abbrev S1 : Shape := ⟨1, ![1]⟩
abbrev S16x1x256 : Shape := ⟨3, ![16, 1, 256]⟩

abbrev nBuf : Space → Nat
  | .hbm => 81
  | .vmem => 0
  | .smem => 0
  | _ => 0

abbrev bufTy : (tb : Table) → Fin (tcTables nBuf tb) → BufTy
  | .hbm, ⟨0, _⟩ => ⟨S16x1024x3, .f32⟩
  | .hbm, ⟨1, _⟩ => ⟨S16, .i32⟩
  | .hbm, ⟨2, _⟩ => ⟨S16x1x3, .f32⟩
  | .hbm, ⟨3, _⟩ => ⟨S16x1024x3, .f32⟩
  | .hbm, ⟨4, _⟩ => ⟨S16x1024x3, .f32⟩
  | .hbm, ⟨5, _⟩ => ⟨S16x1024x3, .f32⟩
  | .hbm, ⟨6, _⟩ => ⟨S_, .f32⟩
  | .hbm, ⟨7, _⟩ => ⟨S16x1024, .f32⟩
  | .hbm, ⟨8, _⟩ => ⟨S_, .i32⟩
  | .hbm, ⟨9, _⟩ => ⟨S16x256, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16x1024x3, .f32⟩
  | .hbm, ⟨14, _⟩ => ⟨S_, .i32⟩
  | .hbm, ⟨15, _⟩ => ⟨S_, .i32⟩
  | .hbm, ⟨16, _⟩ => ⟨S16x256, .i32⟩
  | .hbm, ⟨17, _⟩ => ⟨S16x1024, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S16x1, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S_, .i32⟩
  | .hbm, ⟨44, _⟩ => ⟨S16, .i32⟩
  | .hbm, ⟨45, _⟩ => ⟨S16, .i32⟩
  | .hbm, ⟨46, _⟩ => ⟨S16, .i32⟩
  | .hbm, ⟨47, _⟩ => ⟨S_, .i32⟩
  | .hbm, ⟨48, _⟩ => ⟨S16, .i32⟩
  | .hbm, ⟨49, _⟩ => ⟨S16, .i1⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S16, .i32⟩
  | .hbm, ⟨54, _⟩ => ⟨S16x1, .i32⟩
  | .hbm, ⟨55, _⟩ => ⟨S16x1, .i32⟩
  | .hbm, ⟨56, _⟩ => ⟨S16x2, .i32⟩
  | .hbm, ⟨57, _⟩ => ⟨S16x3, .f32⟩
  | .hbm, ⟨58, _⟩ => ⟨S16x1x3, .f32⟩
  | .hbm, ⟨59, _⟩ => ⟨S16x1024x3, .f32⟩
  | .hbm, ⟨60, _⟩ => ⟨S16x1024x3, .f32⟩
  | .hbm, ⟨61, _⟩ => ⟨S16x1024x3, .f32⟩
  | .hbm, ⟨62, _⟩ => ⟨S_, .f32⟩
  | .hbm, ⟨63, _⟩ => ⟨S16x1024, .f32⟩
  | .hbm, ⟨64, _⟩ => ⟨S16x1024, .f32⟩
  | .hbm, ⟨65, _⟩ => ⟨S16x1024, .i32⟩
  | .hbm, ⟨66, _⟩ => ⟨S_, .f32⟩
  | .hbm, ⟨67, _⟩ => ⟨S_, .i32⟩
  | .hbm, ⟨68, _⟩ => ⟨S16, .f32⟩
  | .hbm, ⟨69, _⟩ => ⟨S16, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1, .i32⟩
  | .hbm, ⟨77, _⟩ => ⟨S16x256, .i32⟩
  | .hbm, ⟨78, _⟩ => ⟨S_, .i32⟩
  | .hbm, ⟨79, _⟩ => ⟨S_, .i32⟩
  | .hbm, ⟨80, _⟩ => ⟨S16x1x256, .i32⟩
  | _, _ => ⟨S16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_c_0 : Ref sig .tc := ⟨.hbm, 10, rfl⟩
abbrev main_c_1 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev main_while0c_c_7 : Ref sig .tc := ⟨.hbm, 18, rfl⟩
abbrev main_while0c_v9 : Ref sig .tc := ⟨.hbm, 19, rfl⟩
abbrev main_while0b_c_7 : Ref sig .tc := ⟨.hbm, 20, rfl⟩
abbrev main_while0b_v9 : Ref sig .tc := ⟨.hbm, 21, rfl⟩
abbrev main_while0b_c_8 : Ref sig .tc := ⟨.hbm, 22, rfl⟩
abbrev main_while0b_v10 : Ref sig .tc := ⟨.hbm, 23, rfl⟩
abbrev main_while0b_v11 : Ref sig .tc := ⟨.hbm, 24, rfl⟩
abbrev main_while0b_c_9 : Ref sig .tc := ⟨.hbm, 25, rfl⟩
abbrev main_while0b_c_10 : Ref sig .tc := ⟨.hbm, 26, rfl⟩
abbrev main_while0b_v12 : Ref sig .tc := ⟨.hbm, 27, rfl⟩
abbrev main_while0b_c_11 : Ref sig .tc := ⟨.hbm, 28, rfl⟩
abbrev main_while0b_c_12 : Ref sig .tc := ⟨.hbm, 29, rfl⟩
abbrev main_while0b_v13 : Ref sig .tc := ⟨.hbm, 30, rfl⟩
abbrev main_while0b_c_13 : Ref sig .tc := ⟨.hbm, 31, rfl⟩
abbrev main_while0b_v14 : Ref sig .tc := ⟨.hbm, 32, rfl⟩
abbrev main_while0b_c_14 : Ref sig .tc := ⟨.hbm, 33, rfl⟩
abbrev main_while0b_v15 : Ref sig .tc := ⟨.hbm, 34, rfl⟩
abbrev main_while0b_c_15 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_c_16 : Ref sig .tc := ⟨.hbm, 40, rfl⟩
abbrev main_while0b_v20 : Ref sig .tc := ⟨.hbm, 41, rfl⟩
abbrev main_while0b_v21 : Ref sig .tc := ⟨.hbm, 42, rfl⟩
abbrev main_while0b_c_17 : Ref sig .tc := ⟨.hbm, 43, rfl⟩
abbrev main_while0b_v22 : Ref sig .tc := ⟨.hbm, 44, rfl⟩
abbrev main_while0b_v23 : Ref sig .tc := ⟨.hbm, 45, rfl⟩
abbrev main_while0b_v24 : Ref sig .tc := ⟨.hbm, 46, rfl⟩
abbrev main_while0b_c_18 : Ref sig .tc := ⟨.hbm, 47, rfl⟩
abbrev main_while0b_v25 : Ref sig .tc := ⟨.hbm, 48, rfl⟩
abbrev main_while0b_v26 : Ref sig .tc := ⟨.hbm, 49, rfl⟩
abbrev main_while0b_c_19 : Ref sig .tc := ⟨.hbm, 50, rfl⟩
abbrev main_while0b_v27 : Ref sig .tc := ⟨.hbm, 51, rfl⟩
abbrev main_while0b_v28 : Ref sig .tc := ⟨.hbm, 52, rfl⟩
abbrev main_while0b_v29 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_v35 : Ref sig .tc := ⟨.hbm, 59, rfl⟩
abbrev main_while0b_v36 : Ref sig .tc := ⟨.hbm, 60, rfl⟩
abbrev main_while0b_v37 : Ref sig .tc := ⟨.hbm, 61, rfl⟩
abbrev main_while0b_cst_20 : Ref sig .tc := ⟨.hbm, 62, rfl⟩
abbrev main_while0b_v38 : Ref sig .tc := ⟨.hbm, 63, rfl⟩
abbrev main_while0b_v39 : Ref sig .tc := ⟨.hbm, 64, rfl⟩
abbrev main_while0b_call0_v0 : Ref sig .tc := ⟨.hbm, 65, rfl⟩
abbrev main_while0b_call0_cst : Ref sig .tc := ⟨.hbm, 66, rfl⟩
abbrev main_while0b_call0_c : Ref sig .tc := ⟨.hbm, 67, rfl⟩
abbrev main_while0b_call0_v1_0 : Ref sig .tc := ⟨.hbm, 68, rfl⟩
abbrev main_while0b_v40 : Ref sig .tc := ⟨.hbm, 69, rfl⟩
abbrev main_while0b_c_21 : Ref sig .tc := ⟨.hbm, 70, rfl⟩
abbrev main_while0b_v41 : Ref sig .tc := ⟨.hbm, 71, rfl⟩
abbrev main_while0b_c_22 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_c_23 : Ref sig .tc := ⟨.hbm, 78, rfl⟩
abbrev main_while0b_v47 : Ref sig .tc := ⟨.hbm, 79, rfl⟩
abbrev main_v8 : Ref sig .tc := ⟨.hbm, 80, rfl⟩

abbrev nD : Nat := 1
abbrev τ : Topo := Topo.v7x

variable {F : FTy → Type} [FloatOps F]

abbrev main_while0_count : Scf.Loop 32 := ⟨0#32, 255#32, 1#32⟩
-- ==== Kernel6.lean ====
abbrev S16x1x1024 : Shape := ⟨3, ![16, 1, 1024]⟩
abbrev S16x2048x64 : Shape := ⟨3, ![16, 2048, 64]⟩
abbrev S16x2048x3 : Shape := ⟨3, ![16, 2048, 3]⟩
abbrev S16x3x2048 : Shape := ⟨3, ![16, 3, 2048]⟩
abbrev S16x1024x64 : Shape := ⟨3, ![16, 1024, 64]⟩
abbrev S16x1024x3 : Shape := ⟨3, ![16, 1024, 3]⟩
abbrev S16x3x1024 : Shape := ⟨3, ![16, 3, 1024]⟩
abbrev S1x1x1024 : Shape := ⟨3, ![1, 1, 1024]⟩
abbrev S1x2048x64 : Shape := ⟨3, ![1, 2048, 64]⟩
abbrev S1x2048x3 : Shape := ⟨3, ![1, 2048, 3]⟩
abbrev S1x3x2048 : Shape := ⟨3, ![1, 3, 2048]⟩
abbrev S1x1024x64 : Shape := ⟨3, ![1, 1024, 64]⟩
abbrev S1x1024x3 : Shape := ⟨3, ![1, 1024, 3]⟩
abbrev S1x3x1024 : Shape := ⟨3, ![1, 3, 1024]⟩
abbrev S1x1024 : Shape := ⟨2, ![1, 1024]⟩
abbrev S2048x1024 : Shape := ⟨2, ![2048, 1024]⟩
abbrev S2048x64 : Shape := ⟨2, ![2048, 64]⟩
abbrev S1024x64 : Shape := ⟨2, ![1024, 64]⟩
abbrev S2048x3 : Shape := ⟨2, ![2048, 3]⟩
abbrev S1024x3 : Shape := ⟨2, ![1024, 3]⟩
abbrev S3x2048 : Shape := ⟨2, ![3, 2048]⟩
abbrev S3x1024 : Shape := ⟨2, ![3, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16x1x1024, .i32⟩
  | .hbm, ⟨1, _⟩ => ⟨S16x2048x64, .f32⟩
  | .hbm, ⟨2, _⟩ => ⟨S16x2048x3, .f32⟩
  | .hbm, ⟨3, _⟩ => ⟨S16x3x2048, .f32⟩
  | .hbm, ⟨4, _⟩ => ⟨S16x1024x64, .f32⟩
  | .hbm, ⟨5, _⟩ => ⟨S16x1024x3, .f32⟩
  | .hbm, ⟨6, _⟩ => ⟨S16x3x1024, .f32⟩
  | .local _ .vmem, ⟨0, _⟩ => ⟨S1x1x1024, .i32⟩
  | .local _ .vmem, ⟨1, _⟩ => ⟨S1x1x1024, .i32⟩
  | .local _ .vmem, ⟨2, _⟩ => ⟨S1x2048x64, .f32⟩
  | .local _ .vmem, ⟨3, _⟩ => ⟨S1x2048x64, .f32⟩
  | .local _ .vmem, ⟨4, _⟩ => ⟨S1x2048x3, .f32⟩
  | .local _ .vmem, ⟨5, _⟩ => ⟨S1x2048x3, .f32⟩
  | .local _ .vmem, ⟨6, _⟩ => ⟨S1x3x2048, .f32⟩
  | .local _ .vmem, ⟨7, _⟩ => ⟨S1x3x2048, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x3, .f32⟩
  | .local _ .vmem, ⟨11, _⟩ => ⟨S1x1024x3, .f32⟩
  | .local _ .vmem, ⟨12, _⟩ => ⟨S1x3x1024, .f32⟩
  | .local _ .vmem, ⟨13, _⟩ => ⟨S1x3x1024, .f32⟩
  | _, _ => ⟨S16x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
abbrev S16x1x1024 : Shape := ⟨3, ![16, 1, 1024]⟩
abbrev S16x2048x64 : Shape := ⟨3, ![16, 2048, 64]⟩
abbrev S16x2048x3 : Shape := ⟨3, ![16, 2048, 3]⟩
abbrev S16x3x2048 : Shape := ⟨3, ![16, 3, 2048]⟩
abbrev S16x1024x64 : Shape := ⟨3, ![16, 1024, 64]⟩
abbrev S16x1024x3 : Shape := ⟨3, ![16, 1024, 3]⟩
abbrev S16x3x1024 : Shape := ⟨3, ![16, 3, 1024]⟩
abbrev S1x1x1024 : Shape := ⟨3, ![1, 1, 1024]⟩
abbrev S1x2048x64 : Shape := ⟨3, ![1, 2048, 64]⟩
abbrev S1x2048x3 : Shape := ⟨3, ![1, 2048, 3]⟩
abbrev S1x3x2048 : Shape := ⟨3, ![1, 3, 2048]⟩
abbrev S1x1024x64 : Shape := ⟨3, ![1, 1024, 64]⟩
abbrev S1x1024x3 : Shape := ⟨3, ![1, 1024, 3]⟩
abbrev S1x3x1024 : Shape := ⟨3, ![1, 3, 1024]⟩
abbrev S1x1024 : Shape := ⟨2, ![1, 1024]⟩
abbrev S2048x1024 : Shape := ⟨2, ![2048, 1024]⟩
abbrev S2048x64 : Shape := ⟨2, ![2048, 64]⟩
abbrev S1024x64 : Shape := ⟨2, ![1024, 64]⟩
abbrev S2048x3 : Shape := ⟨2, ![2048, 3]⟩
abbrev S1024x3 : Shape := ⟨2, ![1024, 3]⟩
abbrev S3x2048 : Shape := ⟨2, ![3, 2048]⟩
abbrev S3x1024 : Shape := ⟨2, ![3, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16x1x1024, .i32⟩
  | .hbm, ⟨1, _⟩ => ⟨S16x2048x64, .f32⟩
  | .hbm, ⟨2, _⟩ => ⟨S16x2048x3, .f32⟩
  | .hbm, ⟨3, _⟩ => ⟨S16x3x2048, .f32⟩
  | .hbm, ⟨4, _⟩ => ⟨S16x1024x64, .f32⟩
  | .hbm, ⟨5, _⟩ => ⟨S16x1024x3, .f32⟩
  | .hbm, ⟨6, _⟩ => ⟨S16x3x1024, .f32⟩
  | .local _ .vmem, ⟨0, _⟩ => ⟨S1x1x1024, .i32⟩
  | .local _ .vmem, ⟨1, _⟩ => ⟨S1x1x1024, .i32⟩
  | .local _ .vmem, ⟨2, _⟩ => ⟨S1x2048x64, .f32⟩
  | .local _ .vmem, ⟨3, _⟩ => ⟨S1x2048x64, .f32⟩
  | .local _ .vmem, ⟨4, _⟩ => ⟨S1x2048x3, .f32⟩
  | .local _ .vmem, ⟨5, _⟩ => ⟨S1x2048x3, .f32⟩
  | .local _ .vmem, ⟨6, _⟩ => ⟨S1x3x2048, .f32⟩
  | .local _ .vmem, ⟨7, _⟩ => ⟨S1x3x2048, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x3, .f32⟩
  | .local _ .vmem, ⟨11, _⟩ => ⟨S1x1024x3, .f32⟩
  | .local _ .vmem, ⟨12, _⟩ => ⟨S1x3x1024, .f32⟩
  | .local _ .vmem, ⟨13, _⟩ => ⟨S1x3x1024, .f32⟩
  | _, _ => ⟨S16x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16x1x1024 : Shape := ⟨3, ![16, 1, 1024]⟩
abbrev S16x2048x64 : Shape := ⟨3, ![16, 2048, 64]⟩
abbrev S16x2048x3 : Shape := ⟨3, ![16, 2048, 3]⟩
abbrev S16x1024 : Shape := ⟨2, ![16, 1024]⟩
abbrev S_ : Shape := ⟨0, ![]⟩
abbrev S16x1024x1 : Shape := ⟨3, ![16, 1024, 1]⟩
abbrev S16x1024x3 : Shape := ⟨3, ![16, 1024, 3]⟩
abbrev S16x1024x64 : Shape := ⟨3, ![16, 1024, 64]⟩
abbrev S16x3x1024 : Shape := ⟨3, ![16, 3, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x1x1024, .i32⟩
  | .hbm, ⟨1, _⟩ => ⟨S16x2048x64, .f32⟩
  | .hbm, ⟨2, _⟩ => ⟨S16x2048x3, .f32⟩
  | .hbm, ⟨3, _⟩ => ⟨S16x1024, .i32⟩
  | .hbm, ⟨4, _⟩ => ⟨S_, .i32⟩
  | .hbm, ⟨5, _⟩ => ⟨S16x1024, .i32⟩
  | .hbm, ⟨6, _⟩ => ⟨S16x1024, .i1⟩
  | .hbm, ⟨7, _⟩ => ⟨S_, .i32⟩
  | .hbm, ⟨8, _⟩ => ⟨S16x1024, .i32⟩
  | .hbm, ⟨9, _⟩ => ⟨S16x1024, .i32⟩
  | .hbm, ⟨10, _⟩ => ⟨S16x1024, .i32⟩
  | .hbm, ⟨11, _⟩ => ⟨S16x1024x1, .i32⟩
  | .hbm, ⟨12, _⟩ => ⟨S16x1024x3, .f32⟩
  | .hbm, ⟨13, _⟩ => ⟨S16x1024, .i32⟩
  | .hbm, ⟨14, _⟩ => ⟨S_, .i32⟩
  | .hbm, ⟨15, _⟩ => ⟨S16x1024, .i32⟩
  | .hbm, ⟨16, _⟩ => ⟨S16x1024, .i1⟩
  | .hbm, ⟨17, _⟩ => ⟨S_, .i32⟩
  | .hbm, ⟨18, _⟩ => ⟨S16x1024, .i32⟩
  | .hbm, ⟨19, _⟩ => ⟨S16x1024, .i32⟩
  | .hbm, ⟨20, _⟩ => ⟨S16x1024, .i32⟩
  | .hbm, ⟨21, _⟩ => ⟨S16x1024x1, .i32⟩
  | .hbm, ⟨22, _⟩ => ⟨S16x1024x64, .f32⟩
  | .hbm, ⟨23, _⟩ => ⟨S16x3x1024, .f32⟩
  | _, _ => ⟨S16x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S16x1x256 : Shape := ⟨3, ![16, 1, 256]⟩
abbrev S16x1024x128 : Shape := ⟨3, ![16, 1024, 128]⟩
abbrev S16x1024x3 : Shape := ⟨3, ![16, 1024, 3]⟩
abbrev S16x3x1024 : Shape := ⟨3, ![16, 3, 1024]⟩
abbrev S16x256x128 : Shape := ⟨3, ![16, 256, 128]⟩
abbrev S16x256x3 : Shape := ⟨3, ![16, 256, 3]⟩
abbrev S16x3x256 : Shape := ⟨3, ![16, 3, 256]⟩
abbrev S1x1x256 : Shape := ⟨3, ![1, 1, 256]⟩
abbrev S1x1024x128 : Shape := ⟨3, ![1, 1024, 128]⟩
abbrev S1x1024x3 : Shape := ⟨3, ![1, 1024, 3]⟩
abbrev S1x3x1024 : Shape := ⟨3, ![1, 3, 1024]⟩
abbrev S1x256x128 : Shape := ⟨3, ![1, 256, 128]⟩
abbrev S1x256x3 : Shape := ⟨3, ![1, 256, 3]⟩
abbrev S1x3x256 : Shape := ⟨3, ![1, 3, 256]⟩
abbrev S1x256 : Shape := ⟨2, ![1, 256]⟩
abbrev S1024x256 : Shape := ⟨2, ![1024, 256]⟩
abbrev S1024x128 : Shape := ⟨2, ![1024, 128]⟩
abbrev S256x128 : Shape := ⟨2, ![256, 128]⟩
abbrev S1024x3 : Shape := ⟨2, ![1024, 3]⟩
abbrev S256x3 : Shape := ⟨2, ![256, 3]⟩
abbrev S3x1024 : Shape := ⟨2, ![3, 1024]⟩
abbrev S3x256 : Shape := ⟨2, ![3, 256]⟩

abbrev nBuf : Space → Nat
  | .hbm => 7
  | .vmem => 14
  | .smem => 0
  | _ => 0

abbrev bufTy : (tb : Table) → Fin (tcTables nBuf tb) → BufTy
  | .hbm, ⟨0, _⟩ => ⟨S16x1x256, .i32⟩
  | .hbm, ⟨1, _⟩ => ⟨S16x1024x128, .f32⟩
  | .hbm, ⟨2, _⟩ => ⟨S16x1024x3, .f32⟩
  | .hbm, ⟨3, _⟩ => ⟨S16x3x1024, .f32⟩
  | .hbm, ⟨4, _⟩ => ⟨S16x256x128, .f32⟩
  | .hbm, ⟨5, _⟩ => ⟨S16x256x3, .f32⟩
  | .hbm, ⟨6, _⟩ => ⟨S16x3x256, .f32⟩
  | .local _ .vmem, ⟨0, _⟩ => ⟨S1x1x256, .i32⟩
  | .local _ .vmem, ⟨1, _⟩ => ⟨S1x1x256, .i32⟩
  | .local _ .vmem, ⟨2, _⟩ => ⟨S1x1024x128, .f32⟩
  | .local _ .vmem, ⟨3, _⟩ => ⟨S1x1024x128, .f32⟩
  | .local _ .vmem, ⟨4, _⟩ => ⟨S1x1024x3, .f32⟩
  | .local _ .vmem, ⟨5, _⟩ => ⟨S1x1024x3, .f32⟩
  | .local _ .vmem, ⟨6, _⟩ => ⟨S1x3x1024, .f32⟩
  | .local _ .vmem, ⟨7, _⟩ => ⟨S1x3x1024, .f32⟩
  | .local _ .vmem, ⟨8, _⟩ => ⟨S1x256x128, .f32⟩
  | .local _ .vmem, ⟨9, _⟩ => ⟨S1x256x128, .f32⟩
  | .local _ .vmem, ⟨10, _⟩ => ⟨S1x256x3, .f32⟩
  | .local _ .vmem, ⟨11, _⟩ => ⟨S1x256x3, .f32⟩
  | .local _ .vmem, ⟨12, _⟩ => ⟨S1x3x256, .f32⟩
  | .local _ .vmem, ⟨13, _⟩ => ⟨S1x3x256, .f32⟩
  | _, _ => ⟨S16x1x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16x1x256 : Shape := ⟨3, ![16, 1, 256]⟩
abbrev S16x1024x128 : Shape := ⟨3, ![16, 1024, 128]⟩
abbrev S16x1024x3 : Shape := ⟨3, ![16, 1024, 3]⟩
abbrev S16x256 : Shape := ⟨2, ![16, 256]⟩
abbrev S_ : Shape := ⟨0, ![]⟩
abbrev S16x256x1 : Shape := ⟨3, ![16, 256, 1]⟩
abbrev S16x256x3 : Shape := ⟨3, ![16, 256, 3]⟩
abbrev S16x256x128 : Shape := ⟨3, ![16, 256, 128]⟩
abbrev S16x3x256 : Shape := ⟨3, ![16, 3, 256]⟩

abbrev nBuf : Space → Nat
  | .hbm => 24
  | .vmem => 0
  | .smem => 0
  | _ => 0

abbrev bufTy : (tb : Table) → Fin (tcTables nBuf tb) → BufTy
  | .hbm, ⟨0, _⟩ => ⟨S16x1x256, .i32⟩
  | .hbm, ⟨1, _⟩ => ⟨S16x1024x128, .f32⟩
  | .hbm, ⟨2, _⟩ => ⟨S16x1024x3, .f32⟩
  | .hbm, ⟨3, _⟩ => ⟨S16x256, .i32⟩
  | .hbm, ⟨4, _⟩ => ⟨S_, .i32⟩
  | .hbm, ⟨5, _⟩ => ⟨S16x256, .i32⟩
  | .hbm, ⟨6, _⟩ => ⟨S16x256, .i1⟩
  | .hbm, ⟨7, _⟩ => ⟨S_, .i32⟩
  | .hbm, ⟨8, _⟩ => ⟨S16x256, .i32⟩
  | .hbm, ⟨9, _⟩ => ⟨S16x256, .i32⟩
  | .hbm, ⟨10, _⟩ => ⟨S16x256, .i32⟩
  | .hbm, ⟨11, _⟩ => ⟨S16x256x1, .i32⟩
  | .hbm, ⟨12, _⟩ => ⟨S16x256x3, .f32⟩
  | .hbm, ⟨13, _⟩ => ⟨S16x256, .i32⟩
  | .hbm, ⟨14, _⟩ => ⟨S_, .i32⟩
  | .hbm, ⟨15, _⟩ => ⟨S16x256, .i32⟩
  | .hbm, ⟨16, _⟩ => ⟨S16x256, .i1⟩
  | .hbm, ⟨17, _⟩ => ⟨S_, .i32⟩
  | .hbm, ⟨18, _⟩ => ⟨S16x256, .i32⟩
  | .hbm, ⟨19, _⟩ => ⟨S16x256, .i32⟩
  | .hbm, ⟨20, _⟩ => ⟨S16x256, .i32⟩
  | .hbm, ⟨21, _⟩ => ⟨S16x256x1, .i32⟩
  | .hbm, ⟨22, _⟩ => ⟨S16x256x128, .f32⟩
  | .hbm, ⟨23, _⟩ => ⟨S16x3x256, .f32⟩
  | _, _ => ⟨S16x1x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.RefDef3.lean ====
/-
  The reference of layer 3 as a function of its arguments, stage by stage.
-/
module

public import proofs.«01_k».proof.Proof.Gen.ReferenceIdeal
public import Idealize.ShloMosaic.PureOps.Ideal

@[expose] public section

noncomputable section

namespace Cert.ReferenceIdeal.Gen

open Idealize.ShloMosaic Idealize.ShloMosaic.TcCoe

/-- The difference of the points `i` and `j`. -/
def diff (p : FVec Ideal S16x256x3 .f32) : FVec Ideal S16x256x256x3 .f32 :=
  subf (broadcastInDim S16x256x256x3 ![0, 1, 2, 3] bcast_S16x256x1x3_S16x256x256x3_0_1_2_3 (broadcastInDim S16x256x1x3 ![0, 1, 3] bcast_S16x256x3_S16x256x1x3_0_1_3 p))
    (broadcastInDim S16x256x256x3 ![0, 1, 2, 3] bcast_S16x1x256x3_S16x256x256x3_0_1_2_3 (broadcastInDim S16x1x256x3 ![0, 2, 3] bcast_S16x256x3_S16x1x256x3_0_2_3 p))

/-- The squared distance of the points `i` and `j`. -/
def dist (p : FVec Ideal S16x256x3 .f32) : FVec Ideal S16x256x256 .f32 :=
  Host.reduceAdd (mulf (diff p) (diff p)) (constant S_ .f32 0x00000000#32) reducesTo_S16x256x256x3_S16x256x256_d3 h_S_

/-- The negated distance, `-∞` outside the radius. -/
def neg (p : FVec Ideal S16x256x3 .f32) : FVec Ideal S16x256x256 .f32 :=
  Host.negf (select (cmpf .ole (dist p) (broadcastInDim S16x256x256 ![] bcast_S_S16x256x256 (constant S_ .f32 0x3F800000#32))) (dist p)
    (broadcastInDim S16x256x256 ![1, 2] bcast_S256x256_S16x256x256_1_2 (broadcastInDim S256x256 ![] bcast_S_S256x256 (constant S_ .f32 0x7F800000#32))))

/-- The 32 greatest of them. -/
def topV (p : FVec Ideal S16x256x3 .f32) : FVec Ideal S16x256x32 .f32 :=
  (Host.topK S16x256x32 2 (FloatOps.cmpfTotal .gt) (neg p) sliceFits_S16x256x256_S16x256x32).1

/-- Their places. -/
def topI (p : FVec Ideal S16x256x3 .f32) : IVec S16x256x32 32 :=
  (Host.topK S16x256x32 2 (FloatOps.cmpfTotal .gt) (neg p) sliceFits_S16x256x256_S16x256x32).2

/-- Which of them lie within the radius. -/
def valid (p : FVec Ideal S16x256x3 .f32) : IVec S16x256x32 1 :=
  cmpf .olt (Host.absf (topV p)) (broadcastInDim S16x256x32 ![] bcast_S_S16x256x32 (constant S_ .f32 0x7F800000#32))

/-- The places as an index array; a negative one would count from the end. -/
def place (p : FVec Ideal S16x256x3 .f32) : IVec S16x256x32x1 32 :=
  broadcastInDim S16x256x32x1 ![0, 1, 2] bcast_S16x256x32_S16x256x32x1_0_1_2
    (select (cmpi .slt (topI p) (broadcastInDim S16x256x32 ![] bcast_S_S16x256x32 (constantI S_ 32 0#32)))
      (addi (topI p) (broadcastInDim S16x256x32 ![] bcast_S_S16x256x32 (constantI S_ 32 256#32))) (topI p))

/-- The positions of the neighbours relative to the centre. -/
def rel (p : FVec Ideal S16x256x3 .f32) : FVec Ideal S16x256x32x3 .f32 :=
  subf (Host.gather gather_S16x256x3_S16x256x32x1_S16x256x32x3_3_1_0_0_1_3_113 p (place p))
    (broadcastInDim S16x256x32x3 ![0, 1, 2, 3] bcast_S16x256x1x3_S16x256x32x3_0_1_2_3 (broadcastInDim S16x256x1x3 ![0, 1, 3] bcast_S16x256x3_S16x256x1x3_0_1_3 p))

/-- The features of the neighbours. -/
def feat (p : FVec Ideal S16x256x3 .f32) (x : FVec Ideal S16x256x128 .f32) : FVec Ideal S16x256x32x128 .f32 :=
  Host.gather gather_S16x256x128_S16x256x32x1_S16x256x32x128_3_1_0_0_1_3_11128 x (place p)

/-- Features and positions side by side. -/
def cat (p : FVec Ideal S16x256x3 .f32) (x : FVec Ideal S16x256x128 .f32) : FVec Ideal S16x256x32x131 .f32 :=
  concatenate S16x256x32x131 3 [⟨S16x256x32x128, feat p x⟩, ⟨S16x256x32x3, rel p⟩] concatenates_S16x256x32x128_S16x256x32x3_S16x256x32x131_d3

/-- The hidden layer. -/
def hid (p : FVec Ideal S16x256x3 .f32) (x : FVec Ideal S16x256x128 .f32) (wa : FVec Ideal S131x256 .f32) (ba : FVec Ideal S256 .f32) : FVec Ideal S16x256x32x256 .f32 :=
  maximumf (addf (Host.dotGeneral dot_S16x256x32x131_S131x256_S16x256x32x256_3_0_012_1_n_n none (cat p x) wa)
      (broadcastInDim S16x256x32x256 ![0, 1, 2, 3] bcast_S1x1x1x256_S16x256x32x256_0_1_2_3 (broadcastInDim S1x1x1x256 ![1, 2, 3] bcast_S1x1x256_S1x1x1x256_1_2_3 (broadcastInDim S1x1x256 ![2] bcast_S256_S1x1x256_2 ba))))
    (broadcastInDim S16x256x32x256 ![] bcast_S_S16x256x32x256 (constant S_ .f32 0x00000000#32))

/-- The messages. -/
def msg (p : FVec Ideal S16x256x3 .f32) (x : FVec Ideal S16x256x128 .f32) (wa : FVec Ideal S131x256 .f32) (ba : FVec Ideal S256 .f32) (wb : FVec Ideal S256x256 .f32) (bb : FVec Ideal S256 .f32) : FVec Ideal S16x256x32x256 .f32 :=
  addf (Host.dotGeneral dot_S16x256x32x256_S256x256_S16x256x32x256_3_0_012_1_n_n none (hid p x wa ba) wb)
    (broadcastInDim S16x256x32x256 ![0, 1, 2, 3] bcast_S1x1x1x256_S16x256x32x256_0_1_2_3 (broadcastInDim S1x1x1x256 ![1, 2, 3] bcast_S1x1x256_S1x1x1x256_1_2_3 (broadcastInDim S1x1x256 ![2] bcast_S256_S1x1x256_2 bb)))

/-- The messages, `-∞` outside the radius. -/
def masked (p : FVec Ideal S16x256x3 .f32) (x : FVec Ideal S16x256x128 .f32) (wa : FVec Ideal S131x256 .f32) (ba : FVec Ideal S256 .f32) (wb : FVec Ideal S256x256 .f32) (bb : FVec Ideal S256 .f32) : FVec Ideal S16x256x32x256 .f32 :=
  select (broadcastInDim S16x256x32x256 ![0, 1, 2, 3] bcast_S16x256x32x1_S16x256x32x256_0_1_2_3 (broadcastInDim S16x256x32x1 ![0, 1, 2] bcast_S16x256x32_S16x256x32x1_0_1_2 (valid p)))
    (msg p x wa ba wb bb)
    (broadcastInDim S16x256x32x256 ![1, 2, 3] bcast_S256x32x256_S16x256x32x256_1_2_3 (broadcastInDim S256x32x256 ![] bcast_S_S256x32x256 (constant S_ .f32 0xFF800000#32)))

/-- The greatest message, at least zero. -/
def layer (p : FVec Ideal S16x256x3 .f32) (x : FVec Ideal S16x256x128 .f32) (wa : FVec Ideal S131x256 .f32) (ba : FVec Ideal S256 .f32) (wb : FVec Ideal S256x256 .f32) (bb : FVec Ideal S256 .f32) : FVec Ideal S16x256x256 .f32 :=
  maximumf (Host.reduce FloatOps.maximumf (masked p x wa ba wb bb) (constant S_ .f32 0xFF800000#32) reducesTo_S16x256x32x256_S16x256x256_d2 h_S_)
    (broadcastInDim S16x256x256 ![] bcast_S_S16x256x256 (constant S_ .f32 0x00000000#32))

end Cert.ReferenceIdeal.Gen
-- ==== Proof.RefHead.lean ====
/-
  The reference of the head as a function of layer 3's result and the weights, stage by stage.
-/
module

public import proofs.«01_k».proof.Proof.RefDef3

@[expose] public section

noncomputable section

namespace Cert.ReferenceIdeal.Gen

open Idealize.ShloMosaic Idealize.ShloMosaic.TcCoe

/-- The greatest feature over all points. -/
def pool (h : FVec Ideal S16x256x256 .f32) : FVec Ideal S16x256 .f32 :=
  Host.reduce FloatOps.maximumf h (constant S_ .f32 0xFF800000#32) reducesTo_S16x256x256_S16x256_d1 h_S_

/-- A dense layer cut at zero. -/
def dense (g : FVec Ideal S16x256 .f32) (w : FVec Ideal S256x256 .f32) (b : FVec Ideal S256 .f32) : FVec Ideal S16x256 .f32 :=
  maximumf (addf (Host.dotGeneral dot_S16x256_S256x256_S16x256_1_0_0_1_n_n none g w)
      (broadcastInDim S16x256 ![0, 1] bcast_S1x256_S16x256_0_1 (broadcastInDim S1x256 ![1] bcast_S256_S1x256_1 b)))
    (broadcastInDim S16x256 ![] bcast_S_S16x256 (constant S_ .f32 0x00000000#32))

/-- The scores of the classes. -/
def score (g : FVec Ideal S16x256 .f32) (w : FVec Ideal S256x40 .f32) (b : FVec Ideal S40 .f32) : FVec Ideal S16x40 .f32 :=
  addf (Host.dotGeneral dot_S16x256_S256x40_S16x40_1_0_0_1_n_n none g w)
    (broadcastInDim S16x40 ![0, 1] bcast_S1x40_S16x40_0_1 (broadcastInDim S1x40 ![1] bcast_S40_S1x40_1 b))

/-- The greatest score of each batch. -/
def top (z : FVec Ideal S16x40 .f32) : FVec Ideal S16 .f32 :=
  maximumf (broadcastInDim S16 ![] bcast_S_S16 (constant S_ .f32 0xFF800000#32))
    (Host.reduce FloatOps.maximumf z (constant S_ .f32 0xFF800000#32) reducesTo_S16x40_S16_d1 h_S_)

/-- The scores less the greatest. -/
def shifted (z : FVec Ideal S16x40 .f32) : FVec Ideal S16x40 .f32 :=
  subf z (broadcastInDim S16x40 ![0, 1] bcast_S16x1_S16x40_0_1 (broadcastInDim S16x1 ![0] bcast_S16_S16x1_0 (top z)))

/-- The sum of their exponentials. -/
def total (z : FVec Ideal S16x40 .f32) : FVec Ideal S16 .f32 :=
  Host.reduceAdd (Host.exp (shifted z)) (constant S_ .f32 0x00000000#32) reducesTo_S16x40_S16_d1 h_S_

/-- The logarithm of the softmax. -/
def logSoftmax (z : FVec Ideal S16x40 .f32) : FVec Ideal S16x40 .f32 :=
  subf (shifted z) (broadcastInDim S16x40 ![0, 1] bcast_S16x1_S16x40_0_1 (Host.log (broadcastInDim S16x1 ![0] bcast_S16_S16x1_0 (total z))))

/-- The head. -/
def head (h : FVec Ideal S16x256x256 .f32) (w1 : FVec Ideal S256x256 .f32) (b1 : FVec Ideal S256 .f32) (w2 : FVec Ideal S256x256 .f32)
    (b2 : FVec Ideal S256 .f32) (w3 : FVec Ideal S256x40 .f32) (b3 : FVec Ideal S40 .f32) : FVec Ideal S16x40 .f32 :=
  logSoftmax (score (dense (dense (pool h) w1 b1) w2 b2) w3 b3)

end Cert.ReferenceIdeal.Gen

end
-- ==== Proof.RefRun3.lean ====
/-
  The run of layer 3's reference: its result is the composed function of its arguments, which stay as they were.
-/
module

public import proofs.«01_k».proof.Proof.RefHead
public import Idealize.ShloMosaic.Lib.StableHlo.RunHlo
public import Idealize.ShloMosaic.Lib.StableHlo.RunRead
public import Idealize.ShloMosaic.Lib.Claim

@[expose] public section

set_option maxRecDepth 16384

noncomputable section

namespace Cert.ReferenceIdeal.Gen

open Idealize.ShloMosaic Idealize.ShloMosaic.TcCoe Idealize.ShloMosaic.Tactic

variable (m : (ℓ : Loc nD τ sig) → Buf (Elt Ideal) ℓ)

set_option maxHeartbeats 4000000 in
/-- The run: the result and the arguments. -/
theorem run (ρ : Dev nD → PrngReg) : θ_run defs (onTc (τ := τ) (main (F := Ideal))) ⟨m, fun _ => 0, ρ⟩ (fun r => ∀ c : Dev nD,
    r.2.mem ((c.tc : Thread nD τ).loc main_v62) = head (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  hlo_run
  simp only [StableHlo.TRef.ofBuf_toBuf]
  simp -implicitDefEqProofs only [StableHlo.TRef.ofBuf, StableHlo.TRef.toBuf, cast_eq]
  unfold head logSoftmax total shifted top score dense pool layer masked msg hid cat feat rel place valid topV topI neg dist diff
  with_reducible rfl

/-- The run leaves the arguments and the semaphores as they were. -/
theorem frame (ρ : Dev nD → PrngReg) : θ_run defs (onTc (τ := τ) (main (F := Ideal))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => (h c).2, sem_eq_zero_of_no_sems (by decide) r.2⟩) (run m ρ)

end Cert.ReferenceIdeal.Gen
-- ==== Proof.Spec.lean ====
/-
  The mathematics of one point convolution, with no arrays: squared distances, the cut at the radius, and the
  equality of the two ways to compute a neighbour's hidden features when all numbers are finite.
-/
module

public import Mathlib.Data.EReal.Operations
public import Mathlib.Algebra.BigOperators.Fin

@[expose] public section

noncomputable section

namespace Cert.Spec

open scoped BigOperators

/-- The squared distance of two points. -/
def sqd {N : ℕ} (p : Fin N → Fin 3 → EReal) (i j : Fin N) : EReal :=
  ((p i 0 - p j 0) * (p i 0 - p j 0) + (p i 1 - p j 1) * (p i 1 - p j 1)) + (p i 2 - p j 2) * (p i 2 - p j 2)

/-- The squared distance where it is within reach, and infinity beyond. -/
def near {N : ℕ} (r2 : EReal) (p : Fin N → Fin 3 → EReal) (i j : Fin N) : EReal :=
  if sqd p i j ≤ r2 then sqd p i j else ⊤

/-- The number is finite. -/
def Real (v : EReal) : Prop := ∃ r : ℝ, v = r

theorem Real.of_abs_lt {v : EReal} (h : max v (-v) < ⊤) : Real v := by
  induction v using EReal.rec with
  | bot => simp at h
  | top => simp at h
  | coe r => exact ⟨r, rfl⟩

theorem coe_sum {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

theorem coe_sum_mul {ι : Type} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

/-- A neighbour's features less the centre's share, with the rounding's remainder added back, are the features of the
    neighbour's position relative to the centre. -/
theorem hidden_eq {C : ℕ} (x wx : Fin C → EReal) (pj pi w : Fin 3 → EReal) (b : EReal)
    (hx : ∀ c, Real (x c)) (hwx : ∀ c, Real (wx c)) (hpj : ∀ c, Real (pj c)) (hpi : ∀ c, Real (pi c))
    (hw : ∀ c, Real (w c)) (hb : Real b) :
    (((∑ c, pj c * w c + b) + ∑ c, x c * wx c)
        + (((∑ c, pj c * w c + b) + ∑ c, x c * wx c) - ((∑ c, pj c * w c + b) + ∑ c, x c * wx c)))
        - ∑ c, pi c * w c
      = (∑ c, x c * wx c + ∑ c, (pj c - pi c) * w c) + b := by
  choose x' hx' using hx
  choose wx' hwx' using hwx
  choose pj' hpj' using hpj
  choose pi' hpi' using hpi
  choose w' hw' using hw
  obtain ⟨b', rfl⟩ := hb
  simp only [hx', hwx', hpj', hpi', hw', ← EReal.coe_sub, coe_sum_mul, ← EReal.coe_add]
  norm_cast
  simp only [sub_mul, Finset.sum_sub_distrib]
  ring

/-- The same with no features beside the position. -/
theorem hidden_eq0 (pj pi w : Fin 3 → EReal) (b : EReal)
    (hpj : ∀ c, Real (pj c)) (hpi : ∀ c, Real (pi c)) (hw : ∀ c, Real (w c)) (hb : Real b) :
    ((∑ c, pj c * w c + b) + ((∑ c, pj c * w c + b) - (∑ c, pj c * w c + b))) - ∑ c, pi c * w c
      = ∑ c, (pj c - pi c) * w c + b := by
  choose pj' hpj' using hpj
  choose pi' hpi' using hpi
  choose w' hw' using hw
  obtain ⟨b', rfl⟩ := hb
  simp only [hpj', hpi', hw', ← EReal.coe_sub, coe_sum_mul, ← EReal.coe_add]
  norm_cast
  simp only [sub_mul, Finset.sum_sub_distrib]
  ring

/-- A distance is never minus infinity when the points are finite. -/
theorem near_ne_bot {N : ℕ} (r2 : EReal) (p : Fin N → Fin 3 → EReal) (hp : ∀ i c, Real (p i c)) (i j : Fin N) :
    near r2 p i j ≠ ⊥ := by
  unfold near
  split
  · choose p' hp' using hp
    unfold sqd
    simp only [hp', ← EReal.coe_sub, ← EReal.coe_mul, ← EReal.coe_add]
    exact EReal.coe_ne_bot _
  · exact top_ne_bot

end Cert.Spec

end
-- ==== Proof.ConvDefs.lean ====
/-
  One point-convolution block in closed form: the 32 selection rounds over four chunks of 64 rows, written with the
  same vector operations as the kernel's body, at any number `N` of points, `H` of hidden and `K` of output features.
-/
module

public import Idealize.ShloMosaic.Lib.MatmulPlain
public import Idealize.ShloMosaic.PureOps.Contract

@[expose] public section

noncomputable section

namespace Cert.Conv

open Idealize.ShloMosaic

variable {F : FTy → Type} [FloatOps F]

abbrev M1 (a : ℕ) : Shape := ⟨1, ![a]⟩
abbrev M2 (a b : ℕ) : Shape := ⟨2, ![a, b]⟩
abbrev M3 (a b c : ℕ) : Shape := ⟨3, ![a, b, c]⟩

/-- The shape relations the block's operations need. -/
structure Facts (N H K : ℕ) : Prop where
  red : (M2 64 N).Reduces [1] (M1 64)
  cast1 : (M1 64).ShapeCasts (M2 64 1)
  bc : (M2 64 1).Broadcasts (M2 64 N)
  io : (M2 64 N).Iotas .tc 32 [1]
  catO : Shape.Concatenates [M2 64 N, M2 64 N, M2 64 N, M2 64 N] (M2 256 N) 0
  catM : Shape.Concatenates [M2 64 1, M2 64 1, M2 64 1, M2 64 1] (M2 256 1) 0
  catA : Shape.Concatenates [M2 N H, M2 N H] (M2 N (H + H)) 1
  slL : (M2 256 (H + H)).Slices ![0, 0] (M2 256 H)
  slR : (M2 256 (H + H)).Slices ![0, H] (M2 256 H)
  castB : (M2 1 K).ShapeCasts (M2 1 K)
  bcB : (M2 1 K).Broadcasts (M2 256 K)
  castV : (M2 256 1).ShapeCasts (M2 256 1)
  bcV : (M2 256 1).Broadcasts (M2 256 K)
  castF : (M2 256 K).ShapeCasts (M3 1 256 K)
  sl0 : (M2 256 N).Slices ![0, 0] (M2 64 N)
  sl1 : (M2 256 N).Slices ![64, 0] (M2 64 N)
  sl2 : (M2 256 N).Slices ![128, 0] (M2 64 N)
  sl3 : (M2 256 N).Slices ![192, 0] (M2 64 N)
  lt1 : 1 < 32
  ltb : FTy.bits .bf16 < FTy.bits .f32

variable {N H K : ℕ} (fc : Facts N H K)

/-- The least distance of each row of a chunk. -/
def minOf (d : FVec F (M2 64 N) .f32) : FVec F (M2 64 1) .f32 :=
  shapeCast (M2 64 1) (multiReduction .minimumf [1] (M1 64) d 0x7F800000#32 fc.red (.inl rfl) rfl) fc.cast1

/-- The lane numbers of a chunk. -/
def lanes : IVec (M2 64 N) 32 := iota .tc (M2 64 N) 32 [1] fc.io

/-- Marks, in each row of a chunk, the first lane that attains the row's least distance. -/
def cmpOf (d : FVec F (M2 64 N) .f32) : IVec (M2 64 N) 1 :=
  cmpi .eq (lanes fc)
    (broadcastTo (M2 64 N)
      (shapeCast (M2 64 1)
        (multiReductionI .minsi [1] (M1 64)
          (select (cmpf .oeq d (broadcastTo (M2 64 N) (minOf fc d) fc.bc)) (lanes fc) (broadcast (M2 64 N) (BitVec.ofNat 32 N)))
          2147483647#32 fc.red rfl) fc.cast1) fc.bc)

/-- The chunk with its marked lanes put out of reach. -/
def next (d : FVec F (M2 64 N) .f32) : FVec F (M2 64 N) .f32 :=
  select (cmpOf fc d) (broadcast (M2 64 N) (Scalar.ofBits .f32 0x7F800000#32)) d

/-- The marks as zeros and ones. -/
def oneHot (d : FVec F (M2 64 N) .f32) : FVec F (M2 64 N) .bf16 :=
  truncf .bf16 (sitofp .f32 (extui 32 (cmpOf fc d) fc.lt1)) fc.ltb

/-- A chunk after `t` rounds. -/
def chain (d : FVec F (M2 64 N) .f32) (t : ℕ) : FVec F (M2 64 N) .f32 := Nat.rec d (fun _ x => next fc x) t

/-- The two halves of the point features side by side: the rounded part and what the rounding left. -/
def catA (a : FVec F (M2 N H) .f32) : FVec F (M2 N (H + H)) .bf16 :=
  concatenate (M2 N (H + H)) 1
    [⟨M2 N H, truncf .bf16 a fc.ltb⟩,
     ⟨M2 N H, truncf .bf16 (subf a (extf .f32 (truncf .bf16 a fc.ltb) fc.ltb)) fc.ltb⟩] fc.catA

/-- The rows of `ac` the four chunks select. -/
def picked (d0 d1 d2 d3 : FVec F (M2 64 N) .f32) (ac : FVec F (M2 N (H + H)) .bf16) : FVec F (M2 256 (H + H)) .f32 :=
  matmul (DotDims.plain 256 N (H + H)) none
    (concatenate (M2 256 N) 0 [⟨M2 64 N, oneHot fc d0⟩, ⟨M2 64 N, oneHot fc d1⟩, ⟨M2 64 N, oneHot fc d2⟩, ⟨M2 64 N, oneHot fc d3⟩] fc.catO)
    ac (constant (M2 256 (H + H)) .f32 0x00000000#32)

/-- The least distances of the four chunks. -/
def mins (d0 d1 d2 d3 : FVec F (M2 64 N) .f32) : FVec F (M2 256 1) .f32 :=
  concatenate (M2 256 1) 0 [⟨M2 64 1, minOf fc d0⟩, ⟨M2 64 1, minOf fc d1⟩, ⟨M2 64 1, minOf fc d2⟩, ⟨M2 64 1, minOf fc d3⟩] fc.catM

/-- The features of the points the four chunks select, less the centre's share, cut at zero. -/
def hidden (d0 d1 d2 d3 : FVec F (M2 64 N) .f32) (ac : FVec F (M2 N (H + H)) .bf16) (c : FVec F (M2 256 H) .f32) :
    FVec F (M2 256 H) .f32 :=
  maximumf
    (subf
      (addf
        (extractStridedSlice (M2 256 H) ![0, 0]
          (picked fc d0 d1 d2 d3 ac) fc.slL)
        (extractStridedSlice (M2 256 H) ![0, H]
          (picked fc d0 d1 d2 d3 ac) fc.slR)) c)
    (broadcast (M2 256 H) (Scalar.ofBits .f32 0x00000000#32))

/-- One round: the selected points' outputs, where there was a point in reach, taken into the running maximum. -/
def round (d0 d1 d2 d3 : FVec F (M2 64 N) .f32) (ac : FVec F (M2 N (H + H)) .bf16) (c : FVec F (M2 256 H) .f32)
    (wb : FVec F (M2 H K) .f32) (bb : FVec F (M2 1 K) .f32) (o : FVec F (M2 256 K) .f32) : FVec F (M2 256 K) .f32 :=
  maximumf o
    (select
      (broadcastTo (M2 256 K)
        (shapeCast (M2 256 1)
          (cmpf .olt
            (mins fc d0 d1 d2 d3)
            (broadcast (M2 256 1) (Scalar.ofBits .f32 0x7F800000#32))) fc.castV) fc.bcV)
      (addf (matmul (DotDims.plain 256 H K) none (hidden fc d0 d1 d2 d3 ac c) wb (constant (M2 256 K) .f32 0x00000000#32))
        (broadcastTo (M2 256 K) (shapeCast (M2 1 K) bb fc.castB) fc.bcB))
      (broadcast (M2 256 K) (Scalar.ofBits .f32 0xFF800000#32)))

/-- The running maximum after `t` rounds, from the masked distances `d`. -/
def rounds (d : FVec F (M2 256 N) .f32) (a : FVec F (M2 N H) .f32) (c : FVec F (M2 256 H) .f32)
    (wb : FVec F (M2 H K) .f32) (bb : FVec F (M2 1 K) .f32) (t : ℕ) : FVec F (M2 256 K) .f32 :=
  Nat.rec (broadcast (M2 256 K) (Scalar.ofBits .f32 0xFF800000#32))
    (fun t o => round fc
      (chain fc (extractStridedSlice (M2 64 N) ![0, 0] d fc.sl0) t) (chain fc (extractStridedSlice (M2 64 N) ![64, 0] d fc.sl1) t)
      (chain fc (extractStridedSlice (M2 64 N) ![128, 0] d fc.sl2) t) (chain fc (extractStridedSlice (M2 64 N) ![192, 0] d fc.sl3) t)
      (catA fc a) c wb bb o) t

/-- The block: 32 rounds, then the cut at zero. -/
def block (d : FVec F (M2 256 N) .f32) (a : FVec F (M2 N H) .f32) (c : FVec F (M2 256 H) .f32)
    (wb : FVec F (M2 H K) .f32) (bb : FVec F (M2 1 K) .f32) : FVec F (M3 1 256 K) .f32 :=
  shapeCast (M3 1 256 K)
    (maximumf (rounds fc d a c wb bb 32) (broadcast (M2 256 K) (Scalar.ofBits .f32 0x00000000#32))) fc.castF

end Cert.Conv

end
-- ==== Proof.First.lean ====
/-
  The first index at which a finite family is least, removing it by putting ⊤ there, and the maximum over the
  indices picked in turn.
-/
module

public import Idealize.ShloMosaic.PureOps.Ideal.Laws
public import Idealize.ShloMosaic.PureOps.Reduce

@[expose] public section

noncomputable section

namespace Cert.First

open Idealize.ShloMosaic

variable {N : ℕ}

/-- `k` is the first index at which `x` is least. -/
def IsFirst (x : Fin N → EReal) (k : Fin N) : Prop := (∀ l, x k ≤ x l) ∧ ∀ l, l < k → x k < x l

theorem exists_first [NeZero N] (x : Fin N → EReal) : ∃ k, IsFirst x k := by
  obtain ⟨m, hm⟩ := Finite.exists_min x
  have hne : (Finset.univ.filter fun k => x k = x m).Nonempty := ⟨m, by simp⟩
  refine ⟨(Finset.univ.filter fun k => x k = x m).min' hne, ?_, ?_⟩
  · intro l
    have h := Finset.min'_mem _ hne
    rw [Finset.mem_filter] at h
    rw [h.2]; exact hm l
  · intro l hl
    have h := Finset.min'_mem _ hne
    rw [Finset.mem_filter] at h
    rw [h.2]
    refine lt_of_le_of_ne (hm l) fun e => absurd (Finset.min'_le (Finset.univ.filter fun k => x k = x m) l (by simp [e])) (not_le.2 hl)

theorem IsFirst.unique {x : Fin N → EReal} {k l : Fin N} (hk : IsFirst x k) (hl : IsFirst x l) : k = l := by
  rcases lt_trichotomy k l with h | h | h
  · exact absurd (hl.2 k h) (not_lt.2 (hk.1 l))
  · exact h
  · exact absurd (hk.2 l h) (not_lt.2 (hl.1 k))

/-- The first index at which `x` is least. -/
def am [NeZero N] (x : Fin N → EReal) : Fin N := (exists_first x).choose

theorem am_spec [NeZero N] (x : Fin N → EReal) : IsFirst x (am x) := (exists_first x).choose_spec

theorem am_eq [NeZero N] {x : Fin N → EReal} {k : Fin N} (h : IsFirst x k) : am x = k := (am_spec x).unique h

/-- The least value, as a fold from ⊤. -/
theorem fold_min_eq [NeZero N] (x : Fin N → EReal) : (Finset.univ : Finset (Fin N)).fold min ⊤ x = x (am x) :=
  le_antisymm ((Finset.fold_min_le _).2 (Or.inr ⟨am x, Finset.mem_univ _, le_rfl⟩))
    ((Finset.le_fold_min _).2 ⟨le_top, fun l _ => (am_spec x).1 l⟩)

/-- `x` with its first least entry put out of reach. -/
def step [NeZero N] (x : Fin N → EReal) : Fin N → EReal := Function.update x (am x) ⊤

/-- The value `g` has at the picked index, `⊥` when nothing is in reach. -/
def cand [NeZero N] (x g : Fin N → EReal) : EReal := if x (am x) < ⊤ then g (am x) else ⊥

/-- The maximum over the first `t` picks. -/
def best [NeZero N] (x g : Fin N → EReal) (t : ℕ) : EReal := Nat.rec ⊥ (fun t o => max o (cand (step^[t] x) g)) t

@[simp] theorem best_zero [NeZero N] (x g : Fin N → EReal) : best x g 0 = ⊥ := rfl
theorem best_succ [NeZero N] (x g : Fin N → EReal) (t : ℕ) : best x g (t + 1) = max (best x g t) (cand (step^[t] x) g) := rfl

/-! ### Picking in turn is going through the indices in the order of their values -/

/-- `σ` lists the indices by value, ties by index. -/
def Sorts (x : Fin N → EReal) (σ : Equiv.Perm (Fin N)) : Prop :=
  ∀ a b : Fin N, a < b → x (σ a) < x (σ b) ∨ (x (σ a) = x (σ b) ∧ σ a < σ b)

theorem Sorts.mono {x : Fin N → EReal} {σ : Equiv.Perm (Fin N)} (h : Sorts x σ) {a b : Fin N} (hab : a ≤ b) :
    x (σ a) ≤ x (σ b) := by
  rcases hab.lt_or_eq with hl | rfl
  · rcases h a b hl with h | h
    · exact h.le
    · exact h.1.le
  · exact le_rfl

/-- After `t` picks the first `t` of the order are out of reach and the rest are as before. -/
theorem step_iterate [NeZero N] {x : Fin N → EReal} {σ : Equiv.Perm (Fin N)} (h : Sorts x σ) (t : ℕ) (ht : t ≤ N) (a : Fin N) :
    (step^[t] x) (σ a) = if a.val < t then ⊤ else x (σ a) := by
  induction t generalizing a with
  | zero => simp
  | succ t ih =>
    have ih := ih (by omega)
    rw [Function.iterate_succ_apply']
    generalize step^[t] x = y at ih
    by_cases htop : x (σ ⟨t, by omega⟩) = ⊤
    · -- everything from here on is out of reach already
      have hy : ∀ b, y b = ⊤ := fun b => by
        obtain ⟨c, rfl⟩ := σ.surjective b
        rw [ih c]
        split
        · rfl
        · next hc => exact top_le_iff.1 (htop ▸ h.mono (show (⟨t, by omega⟩ : Fin N) ≤ c from not_lt.1 hc))
      unfold step
      by_cases he : σ a = am y
      · rw [he, Function.update_self]
        split
        · rfl
        · next hc =>
          rw [← he]
          exact (top_le_iff.1 (htop ▸ h.mono (show (⟨t, by omega⟩ : Fin N) ≤ a by rw [Fin.le_def]; simp only; omega))).symm
      · rw [Function.update_of_ne he, hy]
        split
        · rfl
        · next hc =>
          exact (top_le_iff.1 (htop ▸ h.mono (show (⟨t, by omega⟩ : Fin N) ≤ a by rw [Fin.le_def]; simp only; omega))).symm
    · have hF : am y = σ ⟨t, by omega⟩ := by
        apply am_eq
        constructor
        · intro b
          obtain ⟨c, rfl⟩ := σ.surjective b
          rw [ih, ih, if_neg (by simp)]
          split
          · exact le_top
          · next hc => exact h.mono (not_lt.1 hc)
        · intro b hb
          obtain ⟨c, rfl⟩ := σ.surjective b
          rw [ih, ih, if_neg (by simp)]
          split
          · exact lt_top_iff_ne_top.2 htop
          · next hc =>
            have hne : c ≠ ⟨t, by omega⟩ := fun e => by rw [e] at hb; exact lt_irrefl _ hb
            have hlt : (⟨t, by omega⟩ : Fin N) < c := lt_of_le_of_ne (not_lt.1 hc) (Ne.symm hne)
            rcases h _ _ hlt with hh | hh
            · exact hh
            · exact absurd hh.2 (not_lt.2 hb.le)
      unfold step
      rw [hF]
      by_cases he : a = ⟨t, by omega⟩
      · rw [he, Function.update_self, if_pos (by simp)]
      · rw [Function.update_of_ne (fun e => he (σ.injective e)), ih]
        have : a.val ≠ t := fun e => he (Fin.ext e)
        by_cases hc : a.val < t
        · rw [if_pos hc, if_pos (by omega)]
        · rw [if_neg hc, if_neg (by omega)]

/-- The value at the `t`-th pick is the value at the `t`-th index of the order. -/
theorem cand_eq [NeZero N] {x : Fin N → EReal} {σ : Equiv.Perm (Fin N)} (h : Sorts x σ) (g : Fin N → EReal) (t : Fin N) :
    cand (step^[t.val] x) g = if x (σ t) < ⊤ then g (σ t) else ⊥ := by
  have ih := step_iterate h t.val t.isLt.le
  unfold cand
  generalize step^[t.val] x = y at ih
  have hm : y (am y) = x (σ t) := by
    apply le_antisymm
    · refine ((am_spec y).1 (σ t)).trans ?_
      rw [ih, if_neg (by simp)]
    · obtain ⟨c, hc⟩ := σ.surjective (am y)
      rw [← hc, ih]
      split
      · exact le_top
      · next hc => exact h.mono (not_lt.1 hc)
  rw [hm]
  split
  · next hlt =>
    congr 1
    apply am_eq
    constructor
    · intro b; rw [← (by rw [ih, if_neg (by simp)] : y (σ t) = x (σ t))] at hm; rw [← hm]; exact (am_spec y).1 b
    · intro b hb
      obtain ⟨c, rfl⟩ := σ.surjective b
      rw [ih, ih, if_neg (by simp)]
      split
      · exact hlt
      · next hc =>
        have hne : c ≠ t := fun e => by rw [e] at hb; exact lt_irrefl _ hb
        have hl : t < c := lt_of_le_of_ne (not_lt.1 hc) (Ne.symm hne)
        rcases h _ _ hl with hh | hh
        · exact hh
        · exact absurd hh.2 (not_lt.2 hb.le)
  · rfl

/-- The maximum over the first `T` picks is the maximum over the first `T` indices of the order. -/
theorem best_eq_sup [NeZero N] {x : Fin N → EReal} {σ : Equiv.Perm (Fin N)} (h : Sorts x σ) (g : Fin N → EReal) (T : ℕ) (hT : T ≤ N) :
    best x g T = (Finset.univ : Finset (Fin T)).fold max ⊥
      (fun t => if x (σ (t.castLE hT)) < ⊤ then g (σ (t.castLE hT)) else ⊥) := by
  apply eq_of_forall_ge_iff
  intro c
  rw [Finset.fold_max_le]
  simp only [bot_le, Finset.mem_univ, true_and, forall_true_left]
  induction T with
  | zero => simp
  | succ T ih =>
    rw [best_succ, max_le_iff, ih (by omega), Fin.forall_fin_succ', cand_eq h g ⟨T, by omega⟩]
    rfl

end Cert.First

end
-- ==== Proof.ConvRead.lean ====
/-
  The point-convolution block read at an index, in exact arithmetic: at row `R` and output feature `f` it is the cut
  at zero of the maximum over 32 picks of nearest points.
-/
module

public import proofs.«01_k».proof.Proof.ConvDefs
public import proofs.«01_k».proof.Proof.First
public import Idealize.ShloMosaic.Lib.ValueLayout
public import Idealize.ShloMosaic.Lib.ValueLayoutCasts
public import Idealize.ShloMosaic.Lib.Pipeline.Value

@[expose] public section

noncomputable section

namespace Cert.Conv

open Idealize.ShloMosaic Idealize.ShloMosaic.ValueIdx Cert.First
open scoped BigOperators

variable {N H K : ℕ} (fc : Facts N H K)

/-- One row of a matrix. -/
def row {n m : ℕ} {α : Type} (d : (M2 n m).Idx → α) (r : Fin n) : Fin m → α := fun k => d (ix2 r k)

theorem lift_ix1 {n m : ℕ} (h : (M2 n m).Reduces [1] (M1 n)) (r : Fin n) (k : Fin m) : h.lift (ix1 r) k = ix2 r k := by
  funext a
  apply Fin.ext
  refine (h.lift_val (ix1 r) k a).trans ?_
  match a with
  | ⟨0, _⟩ => rfl
  | ⟨1, _⟩ => rfl

/-- A reduction along the rows of a matrix is a fold over the row. -/
theorem reduceFold_row {n m : ℕ} {α : Type} (h : (M2 n m).Reduces [1] (M1 n)) (op : α → α → α) [Std.Commutative op] [Std.Associative op]
    (b : α) (x : (M2 n m).Idx → α) (r : Fin n) :
    reduceFold h op b x (ix1 r) = (Finset.univ : Finset (Fin m)).fold op b (row x r) := by
  refine (reduceFold_eq_fold h op b x (ix1 r)).trans ?_
  refine (h.fold_filter_drop_single op b x (ix1 r)).trans ?_
  exact Finset.fold_congr fun k _ => congrArg x (lift_ix1 h r k)

theorem ofBits_inf : Ideal.ofBits .f32 0x7F800000#32 = ⊤ := by simp [Ideal.ofBits, Ideal.ieee]
theorem ofBits_ninf : Ideal.ofBits .f32 0xFF800000#32 = ⊥ := by simp [Ideal.ofBits, Ideal.ieee]

theorem minOf_apply [NeZero N] (d : FVec Ideal (M2 64 N) .f32) (r : Fin 64) (u : Fin 1) :
    minOf fc d (ix2 r u) = row d r (am (row d r)) := by
  unfold minOf
  rw [shapeCast_a_a1_apply, ← fold_min_eq (row d r), ← ofBits_inf]
  exact reduceFold_row fc.red (fun a b : EReal => min a b) _ d r

theorem broadcastTo_a1_ab_apply {α : Type} {a b : ℕ} (v : (M2 a 1).Idx → α) (h : (M2 a 1).Broadcasts (M2 a b)) (i : Fin a) (j : Fin b) :
    broadcastTo (M2 a b) v h (ix2 i j) = v (ix2 i (0 : Fin 1)) :=
  broadcastTo_apply v h _ _ fun c => by
    match c with
    | ⟨0, _⟩ =>
      show i.val = if a = 1 then 0 else i.val
      split
      · next e => have := i.isLt; omega
      · rfl
    | ⟨1, _⟩ => rfl

theorem lanes_apply (r : Fin 64) (k : Fin N) : lanes fc (ix2 r k) = BitVec.ofNat 32 k.val := iota_single_apply _ _ _ _ _ _

/-- The least of a family of words, signed, read as an integer. -/
theorem fold_minsi_toInt {ι : Type} (s : Finset ι) (b : BitVec 32) (f : ι → BitVec 32) :
    (s.fold IntOp.minsi b f).toInt = s.fold min b.toInt fun i => (f i).toInt := by
  refine (Finset.fold_hom (op := IntOp.minsi) (op' := (min : ℤ → ℤ → ℤ)) (m := BitVec.toInt) fun x y => ?_).symm
  unfold IntOp.minsi
  rw [BitVec.slt_eq_decide]
  by_cases h : x.toInt < y.toInt
  · simp [h, min_eq_left h.le]
  · simp [h, min_eq_right (not_lt.1 h)]

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

theorem ofBool_eq_one {p : Prop} [Decidable p] : BitVec.ofBool (decide p) = 1#1 ↔ p := by
  by_cases h : p <;> simp [h]

theorem cmpOf_apply [NeZero N] (hN : N < 2 ^ 31) (d : FVec Ideal (M2 64 N) .f32) (r : Fin 64) (k : Fin N) :
    cmpOf fc d (ix2 r k) = if k = am (row d r) then 1#1 else 0#1 := by
  have hm : (multiReductionI .minsi [1] (M1 64)
          (select (cmpf .oeq d (broadcastTo (M2 64 N) (minOf fc d) fc.bc)) (lanes fc) (broadcast (M2 64 N) (BitVec.ofNat 32 N)))
          2147483647#32 fc.red rfl) (ix1 r) = BitVec.ofNat 32 (am (row d r)).val := by
    have hv : ∀ l : Fin N, (row (select (cmpf .oeq d (broadcastTo (M2 64 N) (minOf fc d) fc.bc)) (lanes fc)
        (broadcast (M2 64 N) (BitVec.ofNat 32 N))) r l).toInt
          = if row d r l = row d r (am (row d r)) then (l.val : ℤ) else N := fun l => by
      show (if (BitVec.ofBool (decide (d (ix2 r l) = broadcastTo (M2 64 N) (minOf fc d) fc.bc (ix2 r l)))) = 1#1 then lanes fc (ix2 r l) else BitVec.ofNat 32 N).toInt = _
      rw [broadcastTo_a1_ab_apply, minOf_apply, lanes_apply, show (d (ix2 r l) : EReal) = row d r l from rfl]
      by_cases h : row d r l = row d r (am (row d r))
      · rw [if_pos h, if_pos (ofBool_eq_one.2 h), toInt_ofNat (by omega)]
      · rw [if_neg h, if_neg (fun e => h (ofBool_eq_one.1 e)), toInt_ofNat hN]
    apply BitVec.toInt_inj.1
    refine (congrArg BitVec.toInt (reduceFold_row fc.red IntOp.minsi _ _ r)).trans ?_
    rw [fold_minsi_toInt]
    refine Eq.trans ?_ (toInt_ofNat (n := (am (row d r)).val) (by have := (am (row d r)).isLt; omega)).symm
    have hfirst := am_spec (row d r)
    apply le_antisymm
    · refine (Finset.fold_min_le _).2 (Or.inr ⟨am (row d r), Finset.mem_univ _, ?_⟩)
      rw [hv, if_pos rfl]
    · refine (Finset.le_fold_min _).2 ⟨?_, fun (l : Fin N) _ => ?_⟩
      · have := (am (row d r)).isLt
        rw [show (2147483647#32 : BitVec 32).toInt = 2147483647 from by decide]
        omega
      · rw [hv]
        split
        · next h =>
          by_contra hlt
          have hl : l < am (row d r) := by rw [Fin.lt_def]; omega
          exact absurd h (hfirst.2 l hl).ne'
        · have := (am (row d r)).isLt; omega
  unfold cmpOf
  show BitVec.ofBool (lanes fc (ix2 r k) == broadcastTo (M2 64 N) _ fc.bc (ix2 r k)) = _
  rw [broadcastTo_a1_ab_apply, shapeCast_a_a1_apply, hm, lanes_apply]
  by_cases h : k = am (row d r)
  · rw [if_pos h, h]; simp
  · rw [if_neg h]
    have : BitVec.ofNat 32 k.val ≠ BitVec.ofNat 32 (am (row d r)).val := fun e => h (by
      have e := congrArg BitVec.toNat e
      rw [BitVec.toNat_ofNat, BitVec.toNat_ofNat, Nat.mod_eq_of_lt (by omega), Nat.mod_eq_of_lt (by have := (am (row d r)).isLt; omega)] at e
      exact Fin.ext e)
    rw [beq_eq_false_iff_ne.2 this]; rfl

theorem row_next [NeZero N] (hN : N < 2 ^ 31) (d : FVec Ideal (M2 64 N) .f32) (r : Fin 64) : row (next fc d) r = step (row d r) := by
  funext k
  unfold row next step
  show (if cmpOf fc d (ix2 r k) = 1#1 then Ideal.ofBits .f32 0x7F800000#32 else d (ix2 r k)) = _
  rw [cmpOf_apply fc hN, ofBits_inf]
  by_cases h : k = am (row d r)
  · rw [if_pos h]; simp only [if_true]
    rw [h]; exact (Function.update_self (am (row d r)) (⊤ : EReal) (row d r)).symm
  · rw [if_neg h, if_neg (by decide)]; exact (Function.update_of_ne h (⊤ : EReal) (row d r)).symm

theorem row_chain [NeZero N] (hN : N < 2 ^ 31) (d : FVec Ideal (M2 64 N) .f32) (t : ℕ) (r : Fin 64) :
    row (chain fc d t) r = step^[t] (row d r) := by
  induction t with
  | zero => rfl
  | succ t ih => rw [Function.iterate_succ_apply', ← ih, ← row_next fc hN]; rfl

theorem oneHot_apply [NeZero N] (hN : N < 2 ^ 31) (d : FVec Ideal (M2 64 N) .f32) (r : Fin 64) (k : Fin N) :
    (oneHot fc d (ix2 r k) : EReal) = if k = am (row d r) then 1 else 0 := by
  unfold oneHot
  show (((((cmpOf fc d (ix2 r k)).setWidth 32).toInt : ℝ)) : EReal) = _
  rw [cmpOf_apply fc hN]
  split <;> simp

/-! ### Four chunks of rows side by side -/

theorem row_slice {n : ℕ} {α : Type} (d : (M2 256 n).Idx → α) (o : ℕ) (h : (M2 256 n).Slices ![o, 0] (M2 64 n)) (r : Fin 64) (R : Fin 256)
    (hR : R.val = o + r.val) : row (extractStridedSlice (M2 64 n) ![o, 0] d h) r = row d R := by
  funext k
  exact extractStridedSlice_apply _ _ _ _ (ix2 R k) fun a => by
    match a with
    | ⟨0, _⟩ => exact hR
    | ⟨1, _⟩ => exact (Nat.zero_add _).symm

/-- A concatenation of four chunks read at a row is one property of the chunk's row. -/
theorem concat4_apply {n : ℕ} {α : Type} (x0 x1 x2 x3 : (M2 64 n).Idx → α)
    (h : Shape.Concatenates [M2 64 n, M2 64 n, M2 64 n, M2 64 n] (M2 256 n) 0) (R : Fin 256) (k : Fin n) :
    concatenate (M2 256 n) 0 [⟨M2 64 n, x0⟩, ⟨M2 64 n, x1⟩, ⟨M2 64 n, x2⟩, ⟨M2 64 n, x3⟩] h (ix2 R k)
      = if h0 : R.val < 64 then x0 (ix2 ⟨R.val, h0⟩ k)
        else if h1 : R.val < 128 then x1 (ix2 ⟨R.val - 64, by omega⟩ k)
        else if h2 : R.val < 192 then x2 (ix2 ⟨R.val - 128, by omega⟩ k)
        else x3 (ix2 ⟨R.val - 192, by omega⟩ k) := by
  have key : ∀ (q : ℕ) (hq : q < 4) (x : (M2 64 n).Idx → α) (p : Fin 64)
      (hx : ([⟨M2 64 n, x0⟩, ⟨M2 64 n, x1⟩, ⟨M2 64 n, x2⟩, ⟨M2 64 n, x3⟩] : List ((s : Shape) × (s.Idx → α)))[q]'(by simpa using hq) = ⟨M2 64 n, x⟩)
      (hp : R.val = 64 * q + p.val),
      concatenate (M2 256 n) 0 [⟨M2 64 n, x0⟩, ⟨M2 64 n, x1⟩, ⟨M2 64 n, x2⟩, ⟨M2 64 n, x3⟩] h (ix2 R k) = x (ix2 p k) := by
    intro q hq x p hx hp
    refine concatenate_apply_piece (t := M2 256 n) (0 : Fin 2) [⟨M2 64 n, x0⟩, ⟨M2 64 n, x1⟩, ⟨M2 64 n, x2⟩, ⟨M2 64 n, x3⟩] h (ix2 R k) q (by simpa using hq) (M2 64 n) x hx rfl (64 * q) ?_ (ix2 p k) ?_ ?_
    · interval_cases q <;> simp <;> rfl
    · intro b hb
      match b with
      | ⟨0, _⟩ => exact absurd rfl hb
      | ⟨1, _⟩ => rfl
    · exact hp.symm
  split
  · next h0 => exact key 0 (by omega) x0 _ rfl (by simp)
  · split
    · exact key 1 (by omega) x1 _ rfl (by simp only; omega)
    · split
      · exact key 2 (by omega) x2 _ rfl (by simp only; omega)
      · exact key 3 (by omega) x3 _ rfl (by simp only; omega)

/-- What a concatenation of the four chunks' values is at a row, when a chunk's value is a function of the chunk's row. -/
theorem concat4_rows {n m : ℕ} {α β : Type} (G : (Fin m → β) → Fin n → α) (X : ((M2 64 m).Idx → β) → (M2 64 n).Idx → α)
    (hG : ∀ d r k, X d (ix2 r k) = G (row d r) k) (d : (M2 256 m).Idx → β)
    (h0 : (M2 256 m).Slices ![0, 0] (M2 64 m)) (h1 : (M2 256 m).Slices ![64, 0] (M2 64 m))
    (h2 : (M2 256 m).Slices ![128, 0] (M2 64 m)) (h3 : (M2 256 m).Slices ![192, 0] (M2 64 m))
    (h : Shape.Concatenates [M2 64 n, M2 64 n, M2 64 n, M2 64 n] (M2 256 n) 0) (R : Fin 256) (k : Fin n) :
    concatenate (M2 256 n) 0
      [⟨M2 64 n, X (extractStridedSlice (M2 64 m) ![0, 0] d h0)⟩, ⟨M2 64 n, X (extractStridedSlice (M2 64 m) ![64, 0] d h1)⟩,
       ⟨M2 64 n, X (extractStridedSlice (M2 64 m) ![128, 0] d h2)⟩, ⟨M2 64 n, X (extractStridedSlice (M2 64 m) ![192, 0] d h3)⟩] h (ix2 R k)
      = G (row d R) k := by
  rw [concat4_apply]
  split
  · rw [hG, row_slice d 0 h0 _ R (by simp)]
  · split
    · rw [hG, row_slice d 64 h1 _ R (by simp only; omega)]
    · split
      · rw [hG, row_slice d 128 h2 _ R (by simp only; omega)]
      · rw [hG, row_slice d 192 h3 _ R (by simp only; omega)]

/-! ### One round -/

theorem catA_left (a : FVec Ideal (M2 N H) .f32) (j : Fin N) (k : Fin H) :
    (catA fc a (ix2 j ⟨k.val, by omega⟩) : EReal) = a (ix2 j k) := by
  unfold catA
  exact concatenate_pair_apply_left 1 _ _ fc.catA _ rfl (ix2 j k) fun b => by
    match b with
    | ⟨0, _⟩ => rfl
    | ⟨1, _⟩ => rfl

theorem catA_right (a : FVec Ideal (M2 N H) .f32) (j : Fin N) (k : Fin H) :
    (catA fc a (ix2 j ⟨H + k.val, by omega⟩) : EReal) = (a (ix2 j k) : EReal) - a (ix2 j k) := by
  unfold catA
  exact concatenate_pair_apply_right 1 _ _ fc.catA _ rfl rfl (ix2 j k) (fun b hb => by
    match b with
    | ⟨0, _⟩ => rfl
    | ⟨1, _⟩ => exact absurd rfl hb) (Nat.add_comm _ _)

/-- A row of zeros with a single one picks one row. -/
theorem pick_sum {n : ℕ} (k : Fin n) (g : Fin n → EReal) : ∑ l : Fin n, (if l = k then (1 : EReal) else 0) * g l = g k := by
  rw [Finset.sum_eq_single k]
  · simp
  · intro l _ hl; simp [hl]
  · intro h; exact absurd (Finset.mem_univ _) h

/-- The hidden features of the picked point, less the centre's share, cut at zero. -/
def hid (a : FVec Ideal (M2 N H) .f32) (c : FVec Ideal (M2 256 H) .f32) (R : Fin 256) (j : Fin N) (k : Fin H) : EReal :=
  max (((a (ix2 j k) : EReal) + (a (ix2 j k) - a (ix2 j k))) - c (ix2 R k)) 0

section
variable (d : FVec Ideal (M2 256 N) .f32) (t : ℕ)

theorem picked_apply [NeZero N] (hN : N < 2 ^ 31) (ac : FVec Ideal (M2 N (H + H)) .bf16) (R : Fin 256) (c : Fin (H + H)) :
    (picked fc (chain fc (extractStridedSlice (M2 64 N) ![0, 0] d fc.sl0) t) (chain fc (extractStridedSlice (M2 64 N) ![64, 0] d fc.sl1) t) (chain fc (extractStridedSlice (M2 64 N) ![128, 0] d fc.sl2) t) (chain fc (extractStridedSlice (M2 64 N) ![192, 0] d fc.sl3) t) ac (ix2 R c) : EReal) = ac (ix2 (am (step^[t] (row d R))) c) := by
  unfold picked
  refine (Ideal.matmul_plain_apply none _ _ _ R c).trans ?_
  rw [← pick_sum (am (step^[t] (row d R))) fun l => (ac (ix2 l c) : EReal)]
  refine (congrArg₂ (· + ·) (show Ideal.ofBits .f32 0x00000000#32 = 0 from by simp [Ideal.ofBits, Ideal.ieee])
    (Finset.sum_congr rfl fun l _ => ?_)).trans (zero_add _)
  exact congrArg (· * (ac (ix2 l c) : EReal))
    (concat4_rows (G := fun x l => if l = am (step^[t] x) then (1 : EReal) else 0) (X := fun d => oneHot (F := Ideal) fc (chain fc d t))
      (fun d r l => by rw [oneHot_apply fc hN, row_chain fc hN]) d _ _ _ _ fc.catO R l)

theorem mins_apply [NeZero N] (hN : N < 2 ^ 31) (R : Fin 256) (u : Fin 1) :
    (mins fc (chain fc (extractStridedSlice (M2 64 N) ![0, 0] d fc.sl0) t) (chain fc (extractStridedSlice (M2 64 N) ![64, 0] d fc.sl1) t) (chain fc (extractStridedSlice (M2 64 N) ![128, 0] d fc.sl2) t) (chain fc (extractStridedSlice (M2 64 N) ![192, 0] d fc.sl3) t) (ix2 R u) : EReal) = (step^[t] (row d R)) (am (step^[t] (row d R))) :=
  concat4_rows (G := fun x (_ : Fin 1) => (step^[t] x) (am (step^[t] x))) (X := fun d => minOf (F := Ideal) fc (chain fc d t))
    (fun d r l => by rw [minOf_apply fc, row_chain fc hN]) d _ _ _ _ fc.catM R u

theorem hidden_apply [NeZero N] (hN : N < 2 ^ 31) (a : FVec Ideal (M2 N H) .f32) (c : FVec Ideal (M2 256 H) .f32)
    (R : Fin 256) (k : Fin H) :
    (hidden fc (chain fc (extractStridedSlice (M2 64 N) ![0, 0] d fc.sl0) t) (chain fc (extractStridedSlice (M2 64 N) ![64, 0] d fc.sl1) t) (chain fc (extractStridedSlice (M2 64 N) ![128, 0] d fc.sl2) t) (chain fc (extractStridedSlice (M2 64 N) ![192, 0] d fc.sl3) t) (catA fc a) c (ix2 R k) : EReal) = hid a c R (am (step^[t] (row d R))) k := by
  have hp := picked_apply fc d t hN (catA fc a) R
  unfold hidden hid
  generalize picked fc (chain fc (extractStridedSlice (M2 64 N) ![0, 0] d fc.sl0) t) (chain fc (extractStridedSlice (M2 64 N) ![64, 0] d fc.sl1) t) (chain fc (extractStridedSlice (M2 64 N) ![128, 0] d fc.sl2) t) (chain fc (extractStridedSlice (M2 64 N) ![192, 0] d fc.sl3) t) (catA fc a) = P at hp
  have hl := extractStridedSlice_apply ![0, 0] P fc.slL (ix2 R k) (ix2 R ⟨k.val, by omega⟩) (fun a => by
      match a with
      | ⟨0, _⟩ => exact (Nat.zero_add _).symm
      | ⟨1, _⟩ => exact (Nat.zero_add _).symm)
  have hr := extractStridedSlice_apply ![0, H] P fc.slR (ix2 R k) (ix2 R ⟨H + k.val, by omega⟩) (fun a => by
      match a with
      | ⟨0, _⟩ => exact (Nat.zero_add _).symm
      | ⟨1, _⟩ => rfl)
  rw [hp, catA_left] at hl
  rw [hp, catA_right] at hr
  have h0 : Ideal.ofBits .f32 0x00000000#32 = 0 := by simp [Ideal.ofBits, Ideal.ieee]
  refine (?_ : _ = max (((extractStridedSlice (M2 256 H) ![0, 0] P fc.slL (ix2 R k) : EReal) + extractStridedSlice (M2 256 H) ![0, H] P fc.slR (ix2 R k)) - c (ix2 R k))
    (Ideal.ofBits .f32 0x00000000#32)).trans ?_
  · rfl
  · rw [h0, show extractStridedSlice (M2 256 H) ![0, 0] P fc.slL (ix2 R k) = _ from hl, show extractStridedSlice (M2 256 H) ![0, H] P fc.slR (ix2 R k) = _ from hr]

end

/-- What a picked point contributes at an output feature. -/
def contrib (a : FVec Ideal (M2 N H) .f32) (c : FVec Ideal (M2 256 H) .f32) (wb : FVec Ideal (M2 H K) .f32) (bb : FVec Ideal (M2 1 K) .f32)
    (R : Fin 256) (f : Fin K) (j : Fin N) : EReal :=
  (∑ k : Fin H, hid a c R j k * wb (ix2 k f)) + bb (ix2 (0 : Fin 1) f)

theorem rounds_apply [NeZero N] (hN : N < 2 ^ 31) (d : FVec Ideal (M2 256 N) .f32) (a : FVec Ideal (M2 N H) .f32) (c : FVec Ideal (M2 256 H) .f32)
    (wb : FVec Ideal (M2 H K) .f32) (bb : FVec Ideal (M2 1 K) .f32) (t : ℕ) (R : Fin 256) (f : Fin K) :
    (rounds fc d a c wb bb t (ix2 R f) : EReal) = best (row d R) (contrib a c wb bb R f) t := by
  induction t with
  | zero => exact ofBits_ninf
  | succ t ih =>
    rw [best_succ, ← ih]
    have hh := hidden_apply fc d t hN a c R
    have hm := mins_apply fc d t hN R 0
    show round (F := Ideal) fc (chain fc (extractStridedSlice (M2 64 N) ![0, 0] d fc.sl0) t) (chain fc (extractStridedSlice (M2 64 N) ![64, 0] d fc.sl1) t)
      (chain fc (extractStridedSlice (M2 64 N) ![128, 0] d fc.sl2) t) (chain fc (extractStridedSlice (M2 64 N) ![192, 0] d fc.sl3) t)
      (catA fc a) c wb bb (rounds fc d a c wb bb t) (ix2 R f) = _
    unfold round
    generalize rounds fc d a c wb bb t = o
    generalize hidden (F := Ideal) fc _ _ _ _ _ c = hd at hh
    generalize mins (F := Ideal) fc _ _ _ _ = mn at hm
    refine congrArg (max (o (ix2 R f) : EReal)) ?_
    have h0 : Ideal.ofBits .f32 0x00000000#32 = 0 := by simp [Ideal.ofBits, Ideal.ieee]
    have hb : broadcastTo (M2 256 K) (shapeCast (M2 1 K) bb fc.castB) fc.bcB (ix2 R f) = bb (ix2 (0 : Fin 1) f) := by
      rw [broadcastTo_1b_ab_apply, shapeCast_self]
    have hw : (matmul (F := Ideal) (DotDims.plain 256 H K) none hd wb (constant (M2 256 K) .f32 0x00000000#32) (ix2 R f) : EReal)
        = ∑ k : Fin H, hid a c R (am (step^[t] (row d R))) k * wb (ix2 k f) := by
      refine (Ideal.matmul_plain_apply none _ _ _ R f).trans ?_
      refine (congrArg₂ (· + ·) h0 (Finset.sum_congr rfl fun k _ => ?_)).trans (zero_add _)
      exact congrArg (· * (wb (ix2 k f) : EReal)) (hh k)
    have hc : broadcastTo (M2 256 K) (shapeCast (M2 256 1) (cmpf .olt mn (broadcast (M2 256 1) (Scalar.ofBits (F := Ideal) .f32 0x7F800000#32))) fc.castV) fc.bcV (ix2 R f)
        = BitVec.ofBool (decide ((step^[t] (row d R)) (am (step^[t] (row d R))) < ⊤)) := by
      rw [broadcastTo_a1_ab_apply, shapeCast_self, ← hm, ← ofBits_inf]; rfl
    refine (show _ = if _ = 1#1 then (_ + _ : EReal) else _ from rfl : select _ _ _ (ix2 R f) = _).trans ?_
    rw [hc]
    unfold cand contrib
    by_cases h : (step^[t] (row d R)) (am (step^[t] (row d R))) < ⊤
    · rw [if_pos h, if_pos (ofBool_eq_one.2 h)]
      exact congrArg₂ (· + ·) hw hb
    · rw [if_neg h, if_neg fun e => h (ofBool_eq_one.1 e)]
      exact ofBits_ninf

/-- The block at row `R` and output feature `f`. -/
theorem block_apply [NeZero N] (hN : N < 2 ^ 31) (d : FVec Ideal (M2 256 N) .f32) (a : FVec Ideal (M2 N H) .f32) (c : FVec Ideal (M2 256 H) .f32)
    (wb : FVec Ideal (M2 H K) .f32) (bb : FVec Ideal (M2 1 K) .f32) (u : Fin 1) (R : Fin 256) (f : Fin K) :
    (block fc d a c wb bb (ix3 u R f) : EReal) = max (best (row d R) (contrib a c wb bb R f) 32) 0 := by
  unfold block
  rw [shapeCast_ab_1ab_apply]
  show max (rounds fc d a c wb bb 32 (ix2 R f) : EReal) (Ideal.ofBits .f32 0x00000000#32) = _
  rw [rounds_apply fc hN, show Ideal.ofBits .f32 0x00000000#32 = 0 from by simp [Ideal.ofBits, Ideal.ieee]]

end Cert.Conv

end
-- ==== Proof.Finite.lean ====
/-
  An array whose absolute values lie below infinity is finite.
-/
module

public import proofs.«01_k».proof.Proof.Spec
public import proofs.«01_k».proof.Proof.ConvRead
public import Idealize.ShloMosaic.Lib.Pointwise

@[expose] public section

noncomputable section

namespace Cert.Spec

open Idealize.ShloMosaic Idealize.ShloMosaic.Tactic

theorem real_of_finite {S : Shape} (hb : Shape.BroadcastsInDim ⟨0, ![]⟩ S (![] : Fin 0 → Fin S.rank)) (x : FVec Ideal S .f32)
    (h : cmpf .olt (Host.absf x) (broadcastInDim S ![] hb (constant ⟨0, ![]⟩ .f32 0x7F800000#32)) = fun _ => 1#1) (y : S.Idx) :
    Real (x y) := by
  have e := congrFun h y
  pointwise at e
  simp only [Conv.ofBits_inf, Conv.ofBool_eq_one] at e
  exact Real.of_abs_lt e

end Cert.Spec

end
-- ==== Proof.ConvRun1.lean ====
/-
  What layer 1's convolution stores, as the shape-generic block of `ConvDefs` over what the body's loads read.
-/
module

public import proofs.«01_k».proof.Proof.Gen.Kernel1Ideal.Frame
public import proofs.«01_k».proof.Proof.ConvDefs

@[expose] public section

set_option maxRecDepth 65536

noncomputable section

namespace Cert.Kernel1Ideal.Gen

open Idealize.ShloMosaic Idealize.ShloMosaic.TcCoe Idealize.ShloMosaic.Tactic

variable {F : FTy → Type} [FloatOps F]

theorem facts0 : Conv.Facts 2048 64 64 where
  red := reduces_S64x2048_S64
  cast1 := shapeCasts_S64_S64x1
  bc := broadcasts_S64x1_S64x2048
  io := iota_S64x2048_d1_w32
  catO := concatenates_S64x2048_S64x2048_S64x2048_S64x2048_S256x2048_d0
  catM := concatenates_S64x1_S64x1_S64x1_S64x1_S256x1_d0
  catA := concatenates_S2048x64_S2048x64_S2048x128_d1
  slL := slices_S256x128_o0_0_S256x64
  slR := slices_S256x128_o0_64_S256x64
  castB := shapeCasts_S1x64_S1x64
  bcB := broadcasts_S1x64_S256x64
  castV := shapeCasts_S256x1_S256x1
  bcV := broadcasts_S256x1_S256x64
  castF := shapeCasts_S256x64_S1x256x64
  sl0 := slices_S256x2048_o0_0_S64x2048
  sl1 := slices_S256x2048_o64_0_S64x2048
  sl2 := slices_S256x2048_o128_0_S64x2048
  sl3 := slices_S256x2048_o192_0_S64x2048
  lt1 := natLt_1_32
  ltb := bitsLt_bf16_f32

/-- The stored block of the convolution from what its loads read. -/
def blk0 (p : Vec F S1x2048x3 .f32) (wap : Vec F S3x64 .f32) (ba : Vec F S1x64 .f32) (pr : Vec F S1x256x3 .f32) (q0 : Vec F S1x256x1 .f32) (t0 : Vec F S1x1x2048 .f32) (q1 : Vec F S1x256x1 .f32) (t1 : Vec F S1x1x2048 .f32) (q2 : Vec F S1x256x1 .f32) (t2 : Vec F S1x1x2048 .f32) (wb : Vec F S64x64 .f32) (bb : Vec F S1x64 .f32) : FVec F S1x256x64 .f32 :=
  Conv.block facts0 (k0_pay6 (k0_pay4 q0 t0) (k0_pay5 q1 t1) q2 t2) (k0_pay2 p wap ba) (k0_pay3 pr wap) wb bb

theorem run0_eq (c : Dev nD) (i : grid0.Coords) (arg2 : Memref sig .tc .vmem S1x2048x3 .f32) (harg2 : arg2.IsWhole) (arg3 : Memref sig .tc .vmem S1x3x2048 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x256x64 .f32) (harg8 : arg8.IsWhole)
    (x0 : Vec F S1x2048x3 .f32) (x1 : Vec F S1x3x2048 .f32) (x2 : Vec F S3x64 .f32) (x3 : Vec F S1x64 .f32) (x4 : Vec F S64x64 .f32) (x5 : Vec F S1x64 .f32) :
    (kernelRun0_A c i arg2 harg2 arg3 harg3 arg4 harg4 arg5 harg5 arg6 harg6 arg7 harg7 arg8 harg8 x0 x1 x2 x3 x4 x5).1
      = [⟨Rect.unit (s := S1x256x64) ![0, 0, 0] S1x256x64.size inb_S1x256x64_S1x256x64_0_0_0,
          blk0 (arg2.view.readAt (Elt F) (Rect.unit (s := S1x2048x3) ![0, 0, 0] S1x2048x3.size inb_S1x2048x3_S1x2048x3_0_0_0).toLoadRect (harg2.unread x0))
            (arg4.view.readAt (Elt F) (Rect.unit (s := S3x64) ![0, 0] S3x64.size inb_S3x64_S3x64_0_0).toLoadRect (harg4.unread x2))
            (arg5.view.readAt (Elt F) (Rect.unit (s := S1x64) ![0, 0] S1x64.size inb_S1x64_S1x64_0_0).toLoadRect (harg5.unread x3))
            (arg2.view.readAt (Elt F) (Rect.unit (s := S1x2048x3) (k0_off1 i) S1x256x3.size (k0_off1_inb i)).toLoadRect (harg2.unread x0))
            (arg2.view.readAt (Elt F) (Rect.unit (s := S1x2048x3) (k0_off2 i) S1x256x1.size (k0_off2_inb i)).toLoadRect (harg2.unread x0))
            (arg3.view.readAt (Elt F) (Rect.unit (s := S1x3x2048) ![0, 0, 0] S1x1x2048.size inb_S1x3x2048_S1x1x2048_0_0_0).toLoadRect (harg3.unread x1))
            (arg2.view.readAt (Elt F) (Rect.unit (s := S1x2048x3) (k0_off3 i) S1x256x1.size (k0_off3_inb i)).toLoadRect (harg2.unread x0))
            (arg3.view.readAt (Elt F) (Rect.unit (s := S1x3x2048) ![0, 1, 0] S1x1x2048.size inb_S1x3x2048_S1x1x2048_0_1_0).toLoadRect (harg3.unread x1))
            (arg2.view.readAt (Elt F) (Rect.unit (s := S1x2048x3) (k0_off4 i) S1x256x1.size (k0_off4_inb i)).toLoadRect (harg2.unread x0))
            (arg3.view.readAt (Elt F) (Rect.unit (s := S1x3x2048) ![0, 2, 0] S1x1x2048.size inb_S1x3x2048_S1x1x2048_0_2_0).toLoadRect (harg3.unread x1))
            (arg6.view.readAt (Elt F) (Rect.unit (s := S64x64) ![0, 0] S64x64.size inb_S64x64_S64x64_0_0).toLoadRect (harg6.unread x4))
            (arg7.view.readAt (Elt F) (Rect.unit (s := S1x64) ![0, 0] S1x64.size inb_S1x64_S1x64_0_0).toLoadRect (harg7.unread x5))⟩] := by
  sl_kernel_rfl

end Cert.Kernel1Ideal.Gen
end
-- ==== Proof.SortOrder.lean ====
/-
  The stable sort by the greater negated value, ties in order: it takes positions to least values first, the first of
  equal ones first, as repeated picking of the first least value does.
-/
module

public import proofs.«01_k».proof.Proof.First
public import Idealize.ShloMosaic.Lib.SortFacts
public import Idealize.ShloMosaic.PureOps.Ideal

@[expose] public section

noncomputable section

namespace Cert.First

open Idealize.ShloMosaic

/-- Earlier in the order of values, ties by position. -/
def Before {N : ℕ} (x : Fin N → EReal) (a b : Fin N) : Prop := x a < x b ∨ (x a = x b ∧ a < b)

theorem pairwise_insert {N : ℕ} (x : Fin N → EReal) (B : Fin N → Fin N → Bool) (hB : ∀ a b, B a b = true ↔ x a < x b)
    (a : Fin N) (l : List (Fin N)) (hl : l.Pairwise (Before x)) (ha : ∀ b ∈ l, a < b) :
    (insertBefore B a l).Pairwise (Before x) := by
  induction l with
  | nil => exact List.pairwise_singleton _ _
  | cons b l ih =>
    rw [List.pairwise_cons] at hl
    unfold insertBefore
    by_cases h : B b a = true
    · rw [if_pos h]
      refine List.pairwise_cons.2 ⟨fun c hc => ?_, ih hl.2 fun c hc => ha c (List.mem_cons_of_mem _ hc)⟩
      rcases List.mem_cons.1 ((perm_insertBefore B a l).mem_iff.1 hc) with rfl | hc'
      · exact Or.inl ((hB _ _).1 h)
      · exact hl.1 c hc'
    · rw [if_neg h]
      have hab : x a ≤ x b := not_lt.1 fun h' => h ((hB _ _).2 h')
      refine List.pairwise_cons.2 ⟨fun c hc => ?_, List.pairwise_cons.2 hl⟩
      have hac : a < c := ha c hc
      have hxc : x b ≤ x c := by
        rcases List.mem_cons.1 hc with rfl | hc'
        · exact le_refl _
        · rcases hl.1 c hc' with h1 | h1
          · exact h1.le
          · exact h1.1.le
      rcases lt_or_eq_of_le (hab.trans hxc) with h1 | h1
      · exact Or.inl h1
      · exact Or.inr ⟨h1, hac⟩

theorem pairwise_sort {N : ℕ} (x : Fin N → EReal) (B : Fin N → Fin N → Bool) (hB : ∀ a b, B a b = true ↔ x a < x b)
    (l : List (Fin N)) (hl : l.Pairwise (· < ·)) : (stableSort B l).Pairwise (Before x) := by
  induction l with
  | nil => exact List.Pairwise.nil
  | cons a l ih =>
    rw [List.pairwise_cons] at hl
    unfold stableSort
    exact pairwise_insert x B hB a _ (ih hl.2) fun b hb => hl.1 b ((perm_stableSort B l).mem_iff.1 hb)

/-- The sorted positions as a permutation. -/
def perm {N : ℕ} (B : Fin N → Fin N → Bool) : Equiv.Perm (Fin N) :=
  Equiv.ofBijective (sortedFrom B) ⟨sortedFrom_injective B, sortedFrom_surjective B⟩

theorem sorts_of {N : ℕ} (x : Fin N → EReal) (B : Fin N → Fin N → Bool) (hB : ∀ a b, B a b = true ↔ x a < x b) :
    Sorts x (perm B) := by
  intro a b hab
  have hp : ∀ a b : Fin (sortPositions N B).length, a < b →
      Before x ((sortPositions N B).get a) ((sortPositions N B).get b) :=
    List.pairwise_iff_get.mp (pairwise_sort x B hB (List.finRange N) (List.pairwise_lt_finRange N))
  show Before x (sortedFrom B a) (sortedFrom B b)
  unfold sortedFrom
  exact hp _ _ (by simp only [Fin.lt_def, Fin.val_cast]; exact hab)

/-- The order that the greatest-first selection of the negated values uses. -/
theorem gt_neg_iff (a b : EReal) : (FloatOps.cmpfTotal (F := Ideal) (φ := .f32) .gt (-a) (-b) == 1#1) = true ↔ a < b := by
  show (Ideal.cmpTotal .gt (-a) (-b) == 1#1) = true ↔ _
  have e : Ideal.cmpTotal .gt (-a) (-b) = BitVec.ofBool (decide (-b < -a)) := rfl
  rw [e]
  by_cases h : a < b
  · have : -b < -a := EReal.neg_lt_neg_iff.2 h
    simp [h]
  · have : ¬ -b < -a := fun h' => h (EReal.neg_lt_neg_iff.1 h')
    simp [h]

/-- The positions that the greatest-first selection of `-x` takes. -/
def order {N : ℕ} (x : Fin N → EReal) : Equiv.Perm (Fin N) :=
  perm fun k k' => FloatOps.cmpfTotal (F := Ideal) (φ := .f32) .gt (-(x k)) (-(x k')) == 1#1

theorem order_coe {N : ℕ} (x : Fin N → EReal) :
    (order x : Fin N → Fin N) = sortedFrom fun k k' => FloatOps.cmpfTotal (F := Ideal) (φ := .f32) .gt (-(x k)) (-(x k')) == 1#1 := rfl

theorem sorts_order {N : ℕ} (x : Fin N → EReal) : Sorts x (order x) := sorts_of x _ fun a b => gt_neg_iff (x a) (x b)

end Cert.First

end
-- ==== Proof.Layer.lean ====
/-
  One point convolution as a function of plain families: the kernel's form (picks in rounds) and the reference's form
  (a maximum over the sorted neighbours) agree when the hidden features do.
-/
module

public import proofs.«01_k».proof.Proof.Spec
public import proofs.«01_k».proof.Proof.SortOrder

@[expose] public section

noncomputable section

namespace Cert.Spec

open Cert.First
open scoped BigOperators

/-- The convolution's result at one centre and one feature, by rounds: `x` the distances, `h` the hidden features. -/
def out {N H : ℕ} [NeZero N] (x : Fin N → EReal) (h : Fin N → Fin H → EReal) (w : Fin H → EReal) (b : EReal) : EReal :=
  max (best x (fun j => ∑ k, h j k * w k + b) 32) 0

/-- The same over the first 32 places of the order of the distances. -/
def outSorted {N H : ℕ} (hN : 32 ≤ N) (x : Fin N → EReal) (h : Fin N → Fin H → EReal) (w : Fin H → EReal) (b : EReal) : EReal :=
  max ((Finset.univ : Finset (Fin 32)).fold max ⊥ fun t =>
    if x (order x (t.castLE hN)) < ⊤ then ∑ k, h (order x (t.castLE hN)) k * w k + b else ⊥) 0

theorem out_eq_outSorted {N H : ℕ} [NeZero N] (hN : 32 ≤ N) (x : Fin N → EReal) (h : Fin N → Fin H → EReal) (w : Fin H → EReal)
    (b : EReal) : out x h w b = outSorted hN x h w b := by
  unfold out outSorted
  rw [best_eq_sup (sorts_order x) _ 32 hN]

/-- The kernel's hidden features: the neighbour's share twice, less itself, less the centre's share. -/
def hidK {N H : ℕ} (A : Fin N → Fin H → EReal) (c : Fin H → EReal) (j : Fin N) (k : Fin H) : EReal :=
  max ((A j k + (A j k - A j k)) - c k) 0

/-- A finite distance's absolute value is below infinity exactly when the distance is. -/
theorem abs_neg_lt {v : EReal} (hv : v ≠ ⊥) : max (-v) (-(-v)) < ⊤ ↔ v < ⊤ := by
  induction v using EReal.rec with
  | bot => exact absurd rfl hv
  | top => simp
  | coe r => simp [← EReal.coe_neg]

/-- The squared distance as a sum over the three coordinates. -/
theorem sqd_eq_sum {N : ℕ} (p : Fin N → Fin 3 → EReal) (i j : Fin N) :
    sqd p i j = ∑ c, (p i c - p j c) * (p i c - p j c) := by
  rw [Fin.sum_univ_three]; rfl

/-- One convolution at centre `i` and output `f`: the points `p`, the part `A` of the hidden layer that depends on the
    neighbour alone, and the weights of the positions. -/
def conv {N H K : ℕ} [NeZero N] (r2 : EReal) (p : Fin N → Fin 3 → EReal) (A : Fin N → Fin H → EReal) (wp : Fin 3 → Fin H → EReal)
    (wb : Fin H → Fin K → EReal) (bb : Fin K → EReal) (i : Fin N) (f : Fin K) : EReal :=
  out (near r2 p i) (hidK A fun k => ∑ c, p i c * wp c k) (fun k => wb k f) (bb f)

/-- The convolution from its parts: the neighbours `n` in the order of the distances, which of them count, and their hidden
    features. -/
theorem conv_of {N H K : ℕ} [NeZero N] (hN : 32 ≤ N) (r2 : EReal) (p : Fin N → Fin 3 → EReal) (A : Fin N → Fin H → EReal)
    (wp : Fin 3 → Fin H → EReal) (wb : Fin H → Fin K → EReal) (bb : Fin K → EReal) (i : Fin N) (f : Fin K)
    (n : Fin 32 → Fin N) (hn : ∀ t, n t = order (near r2 p i) (t.castLE hN)) (v : Fin 32 → BitVec 1)
    (hv : ∀ t, v t = 1#1 ↔ near r2 p i (n t) < ⊤) (hd : Fin 32 → Fin H → EReal)
    (hh : ∀ t k, hd t k = hidK A (fun k => ∑ c, p i c * wp c k) (n t) k) :
    max ((Finset.univ : Finset (Fin 32)).fold max ⊥ fun t => if v t = 1#1 then (∑ k, hd t k * wb k f) + bb f else ⊥) 0
      = conv r2 p A wp wb bb i f := by
  unfold conv
  rw [out_eq_outSorted hN]
  unfold outSorted
  refine congrArg (fun g : Fin 32 → EReal => max ((Finset.univ : Finset (Fin 32)).fold max ⊥ g) 0) (funext fun t => ?_)
  simp only [hv, hh, hn]

end Cert.Spec

end
-- ==== Proof.ConvVal1.lean ====
/-
  Layer 1's convolution read at an index of its block: the convolution of `Layer` over the loaded blocks.
-/
module

public import proofs.«01_k».proof.Proof.ConvRun1
public import proofs.«01_k».proof.Proof.ConvRead
public import proofs.«01_k».proof.Proof.Layer
public import Idealize.ShloMosaic.Lib.Pointwise
public import Idealize.ShloMosaic.Lib.Pointwise.IndexBridge
public import Idealize.ShloMosaic.Lib.WholeRead
public import Idealize.ShloMosaic.Lib.VecWindow

@[expose] public section

set_option maxRecDepth 16384

noncomputable section

namespace Cert.Kernel1Ideal.Gen

open Idealize.ShloMosaic Idealize.ShloMosaic.TcCoe Idealize.ShloMosaic.Tactic
open scoped BigOperators

theorem share_apply (p : Vec Ideal S1x2048x3 .f32) (wap : Vec Ideal S3x64 .f32) (ba : Vec Ideal S1x64 .f32) (j : Fin 2048) (k : Fin 64) :
    (k0_pay2 p wap ba (ix2 j k) : EReal) = (∑ c : Fin 3, p (ix3 0 j c) * wap (ix2 c k)) + ba (ix2 0 k) := by
  pointwise [k0_pay2]

theorem centre_apply (pr : Vec Ideal S1x256x3 .f32) (wap : Vec Ideal S3x64 .f32) (R : Fin 256) (k : Fin 64) :
    (k0_pay3 pr wap (ix2 R k) : EReal) = ∑ c : Fin 3, pr (ix3 0 R c) * wap (ix2 c k) := by
  pointwise [k0_pay3]

/-- The radius squared. -/
def r2 : EReal := Ideal.ofBits .f32 0x3D23D70A#32

theorem dist_apply (q0 : Vec Ideal S1x256x1 .f32) (t0 : Vec Ideal S1x1x2048 .f32) (q1 : Vec Ideal S1x256x1 .f32) (t1 : Vec Ideal S1x1x2048 .f32) (q2 : Vec Ideal S1x256x1 .f32) (t2 : Vec Ideal S1x1x2048 .f32) (R : Fin 256) (j : Fin 2048) :
    (k0_pay6 (k0_pay4 q0 t0) (k0_pay5 q1 t1) q2 t2 (ix2 R j) : EReal)
      = if ((q0 (ix3 0 R 0) - t0 (ix3 0 0 j) : EReal) * (q0 (ix3 0 R 0) - t0 (ix3 0 0 j) : EReal)
          + (q1 (ix3 0 R 0) - t1 (ix3 0 0 j) : EReal) * (q1 (ix3 0 R 0) - t1 (ix3 0 0 j) : EReal))
          + (q2 (ix3 0 R 0) - t2 (ix3 0 0 j) : EReal) * (q2 (ix3 0 R 0) - t2 (ix3 0 0 j) : EReal) ≤ r2
        then ((q0 (ix3 0 R 0) - t0 (ix3 0 0 j) : EReal) * (q0 (ix3 0 R 0) - t0 (ix3 0 0 j) : EReal)
          + (q1 (ix3 0 R 0) - t1 (ix3 0 0 j) : EReal) * (q1 (ix3 0 R 0) - t1 (ix3 0 0 j) : EReal))
          + (q2 (ix3 0 R 0) - t2 (ix3 0 0 j) : EReal) * (q2 (ix3 0 R 0) - t2 (ix3 0 0 j) : EReal)
        else ⊤ := by
  pointwise [k0_pay6, k0_pay5, k0_pay4]
  unfold r2
  simp only [Conv.ofBits_inf, Ideal.ofBits_one_f32]

/-- The block at a row and a feature, the loaded rows and columns of points being those of the family `X`. -/
theorem blk0_apply (p : Vec Ideal S1x2048x3 .f32) (wap : Vec Ideal S3x64 .f32) (ba : Vec Ideal S1x64 .f32) (pr : Vec Ideal S1x256x3 .f32) (q0 : Vec Ideal S1x256x1 .f32) (t0 : Vec Ideal S1x1x2048 .f32) (q1 : Vec Ideal S1x256x1 .f32) (t1 : Vec Ideal S1x1x2048 .f32) (q2 : Vec Ideal S1x256x1 .f32) (t2 : Vec Ideal S1x1x2048 .f32) (wb : Vec Ideal S64x64 .f32) (bb : Vec Ideal S1x64 .f32) (X : Fin 2048 → Fin 3 → EReal) (u : Fin 1) (R : Fin 256) (f : Fin 64) (row : Fin 2048)
    (hp : ∀ j c, (p (ix3 0 j c) : EReal) = X j c) (hpr : ∀ c, (pr (ix3 0 R c) : EReal) = X row c)
    (hq0 : (q0 (ix3 0 R 0) : EReal) = X row 0) (hq1 : (q1 (ix3 0 R 0) : EReal) = X row 1) (hq2 : (q2 (ix3 0 R 0) : EReal) = X row 2)
    (ht0 : ∀ j, (t0 (ix3 0 0 j) : EReal) = X j 0) (ht1 : ∀ j, (t1 (ix3 0 0 j) : EReal) = X j 1)
    (ht2 : ∀ j, (t2 (ix3 0 0 j) : EReal) = X j 2) :
    (blk0 p wap ba pr q0 t0 q1 t1 q2 t2 wb bb (ix3 u R f) : EReal)
      = Spec.out (Spec.near r2 X row)
          (Spec.hidK (fun j k => (∑ c : Fin 3, X j c * wap (ix2 c k)) + ba (ix2 0 k)) (fun k => ∑ c : Fin 3, X row c * wap (ix2 c k)))
          (fun k => wb (ix2 k f)) (bb (ix2 0 f)) := by
  unfold blk0
  rw [ix3_eq_valueIdx]
  refine (Conv.block_apply facts0 (by norm_num) _ _ _ _ _ u R f).trans ?_
  unfold Spec.out
  have e1 : Conv.row (k0_pay6 (k0_pay4 q0 t0) (k0_pay5 q1 t1) q2 t2) R = Spec.near r2 X row := by
    funext j
    show (k0_pay6 (k0_pay4 q0 t0) (k0_pay5 q1 t1) q2 t2) (ValueIdx.ix2 R j) = _
    rw [← ix2_eq_valueIdx, dist_apply, hq0, hq1, hq2, ht0, ht1, ht2]
    rfl
  have e2 : Conv.contrib (k0_pay2 p wap ba) (k0_pay3 pr wap) wb bb R f = fun j => ∑ k,
      Spec.hidK (fun j k => (∑ c : Fin 3, X j c * wap (ix2 c k)) + ba (ix2 0 k)) (fun k => ∑ c : Fin 3, X row c * wap (ix2 c k)) j k
        * wb (ix2 k f) + bb (ix2 0 f) := by
    funext j
    unfold Conv.contrib Conv.hid Spec.hidK
    simp only [← ix2_eq_valueIdx, share_apply, centre_apply, hp, hpr]
  rw [e1, e2]

theorem off1 (i : grid0.Coords) : k0_off1 i = ![0, 256 * (i 1).val, 0] := by
  have h : (i 1).val < 8 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 0] = _
  rw [e]

theorem off2 (i : grid0.Coords) : k0_off2 i = ![0, 256 * (i 1).val, 0] := by
  have h : (i 1).val < 8 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 0] = _
  rw [e]

theorem off3 (i : grid0.Coords) : k0_off3 i = ![0, 256 * (i 1).val, 1] := by
  have h : (i 1).val < 8 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 1] = _
  rw [e]

theorem off4 (i : grid0.Coords) : k0_off4 i = ![0, 256 * (i 1).val, 2] := by
  have h : (i 1).val < 8 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 2] = _
  rw [e]

theorem ext3 {a b c : ℕ} (x y : (⟨3, ![a, b, c]⟩ : Shape).Idx) (h0 : (x 0).val = (y 0).val) (h1 : (x 1).val = (y 1).val)
    (h2 : (x 2).val = (y 2).val) : x = y := by
  funext k
  match k with
  | ⟨0, _⟩ => exact Fin.ext h0
  | ⟨1, _⟩ => exact Fin.ext h1
  | ⟨2, _⟩ => exact Fin.ext h2

/-- What a point of the grid leaves in the output's staging buffer, at an index. -/
theorem out0_apply (c : Dev nD) (i : grid0.Coords) (arg2 : Memref sig .tc .vmem S1x2048x3 .f32) (harg2 : arg2.IsWhole) (arg3 : Memref sig .tc .vmem S1x3x2048 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x256x64 .f32) (harg8 : arg8.IsWhole)
    (x0 : Vec Ideal S1x2048x3 .f32) (x1 : Vec Ideal S1x3x2048 .f32) (x2 : Vec Ideal S3x64 .f32) (x3 : Vec Ideal S1x64 .f32) (x4 : Vec Ideal S64x64 .f32) (x5 : Vec Ideal S1x64 .f32)
    (u : Fin 1) (R : Fin 256) (f : Fin 64) (row : Fin 2048) (hrow : row.val = 256 * (i 1).val + R.val)
    (hT : ∀ c j, (x1 (ix3 0 c j) : EReal) = x0 (ix3 0 j c)) :
    (out0_A_6 c i arg2 harg2 arg3 harg3 arg4 harg4 arg5 harg5 arg6 harg6 arg7 harg7 arg8 harg8 x0 x1 x2 x3 x4 x5 (ix3 u R f) : EReal)
      = Spec.out (Spec.near r2 (fun j c => x0 (ix3 0 j c)) row)
          (Spec.hidK (fun j k => (∑ c : Fin 3, x0 (ix3 0 j c) * x2 (ix2 c k)) + x3 (ix2 0 k)) (fun k => ∑ c : Fin 3, x0 (ix3 0 row c) * x2 (ix2 c k)))
          (fun k => x4 (ix2 k f)) (x5 (ix2 0 f)) := by
  have e : out0_A_6 c i arg2 harg2 arg3 harg3 arg4 harg4 arg5 harg5 arg6 harg6 arg7 harg7 arg8 harg8 x0 x1 x2 x3 x4 x5 = blk0 (arg2.view.readAt (Elt Ideal) (Rect.unit (s := S1x2048x3) ![0, 0, 0] S1x2048x3.size inb_S1x2048x3_S1x2048x3_0_0_0).toLoadRect (harg2.unread x0))
            (arg4.view.readAt (Elt Ideal) (Rect.unit (s := S3x64) ![0, 0] S3x64.size inb_S3x64_S3x64_0_0).toLoadRect (harg4.unread x2))
            (arg5.view.readAt (Elt Ideal) (Rect.unit (s := S1x64) ![0, 0] S1x64.size inb_S1x64_S1x64_0_0).toLoadRect (harg5.unread x3))
            (arg2.view.readAt (Elt Ideal) (Rect.unit (s := S1x2048x3) (k0_off1 i) S1x256x3.size (k0_off1_inb i)).toLoadRect (harg2.unread x0))
            (arg2.view.readAt (Elt Ideal) (Rect.unit (s := S1x2048x3) (k0_off2 i) S1x256x1.size (k0_off2_inb i)).toLoadRect (harg2.unread x0))
            (arg3.view.readAt (Elt Ideal) (Rect.unit (s := S1x3x2048) ![0, 0, 0] S1x1x2048.size inb_S1x3x2048_S1x1x2048_0_0_0).toLoadRect (harg3.unread x1))
            (arg2.view.readAt (Elt Ideal) (Rect.unit (s := S1x2048x3) (k0_off3 i) S1x256x1.size (k0_off3_inb i)).toLoadRect (harg2.unread x0))
            (arg3.view.readAt (Elt Ideal) (Rect.unit (s := S1x3x2048) ![0, 1, 0] S1x1x2048.size inb_S1x3x2048_S1x1x2048_0_1_0).toLoadRect (harg3.unread x1))
            (arg2.view.readAt (Elt Ideal) (Rect.unit (s := S1x2048x3) (k0_off4 i) S1x256x1.size (k0_off4_inb i)).toLoadRect (harg2.unread x0))
            (arg3.view.readAt (Elt Ideal) (Rect.unit (s := S1x3x2048) ![0, 2, 0] S1x1x2048.size inb_S1x3x2048_S1x1x2048_0_2_0).toLoadRect (harg3.unread x1))
            (arg6.view.readAt (Elt Ideal) (Rect.unit (s := S64x64) ![0, 0] S64x64.size inb_S64x64_S64x64_0_0).toLoadRect (harg6.unread x4))
            (arg7.view.readAt (Elt Ideal) (Rect.unit (s := S1x64) ![0, 0] S1x64.size inb_S1x64_S1x64_0_0).toLoadRect (harg7.unread x5)) := by
    unfold out0_A_6
    refine (View.read_writes_eq_canon VO0_6 _ _ (cover0_A_6 c i arg2 harg2 arg3 harg3 arg4 harg4 arg5 harg5 arg6 harg6 arg7 harg7 arg8 harg8 x0 x1 x2 x3 x4 x5)).trans ?_
    rw [run0_eq]
    exact View.canon_unit_zero (by funext a; match a with | ⟨0, _⟩ => rfl | ⟨1, _⟩ => rfl | ⟨2, _⟩ => rfl) _ _
  have l0 : (arg2.view.readAt (Elt Ideal) (Rect.unit (s := S1x2048x3) ![0, 0, 0] S1x2048x3.size inb_S1x2048x3_S1x2048x3_0_0_0).toLoadRect (harg2.unread x0)) = x0 := (View.readAt_full _ _ _).trans (harg2.read_unread _)
  have l2 : (arg4.view.readAt (Elt Ideal) (Rect.unit (s := S3x64) ![0, 0] S3x64.size inb_S3x64_S3x64_0_0).toLoadRect (harg4.unread x2)) = x2 := (View.readAt_full _ _ _).trans (harg4.read_unread _)
  have l3 : (arg5.view.readAt (Elt Ideal) (Rect.unit (s := S1x64) ![0, 0] S1x64.size inb_S1x64_S1x64_0_0).toLoadRect (harg5.unread x3)) = x3 := (View.readAt_full _ _ _).trans (harg5.read_unread _)
  have l4 : (arg6.view.readAt (Elt Ideal) (Rect.unit (s := S64x64) ![0, 0] S64x64.size inb_S64x64_S64x64_0_0).toLoadRect (harg6.unread x4)) = x4 := (View.readAt_full _ _ _).trans (harg6.read_unread _)
  have l5 : (arg7.view.readAt (Elt Ideal) (Rect.unit (s := S1x64) ![0, 0] S1x64.size inb_S1x64_S1x64_0_0).toLoadRect (harg7.unread x5)) = x5 := (View.readAt_full _ _ _).trans (harg7.read_unread _)
  rw [e, l0, l2, l3, l4, l5]
  refine (blk0_apply _ _ _ _ _ _ _ _ _ _ _ _ (fun j c => x0 (ix3 0 j c)) u R f row ?_ ?_ ?_ ?_ ?_ ?_ ?_ ?_).trans ?_
  · intro j c
    rfl
  · intro c
    rw [harg2.readAt_unread]
    exact congrArg x0 (ext3 _ _ (by show k0_off1 i 0 + 1 * 0 = 0; rw [off1]; rfl)
      (by show k0_off1 i 1 + 1 * R.val = row.val; rw [off1, hrow]; show 256 * (i 1).val + 1 * R.val = _; omega)
      (by show k0_off1 i 2 + 1 * c.val = c.val; rw [off1]; show 0 + 1 * c.val = _; omega))
  · rw [harg2.readAt_unread]
    exact congrArg x0 (ext3 _ _ (by show k0_off2 i 0 + 1 * 0 = 0; rw [off2]; rfl)
      (by show k0_off2 i 1 + 1 * R.val = row.val; rw [off2, hrow]; show 256 * (i 1).val + 1 * R.val = _; omega)
      (by show k0_off2 i 2 + 1 * 0 = 0; rw [off2]; rfl))
  · rw [harg2.readAt_unread]
    exact congrArg x0 (ext3 _ _ (by show k0_off3 i 0 + 1 * 0 = 0; rw [off3]; rfl)
      (by show k0_off3 i 1 + 1 * R.val = row.val; rw [off3, hrow]; show 256 * (i 1).val + 1 * R.val = _; omega)
      (by show k0_off3 i 2 + 1 * 0 = 1; rw [off3]; rfl))
  · rw [harg2.readAt_unread]
    exact congrArg x0 (ext3 _ _ (by show k0_off4 i 0 + 1 * 0 = 0; rw [off4]; rfl)
      (by show k0_off4 i 1 + 1 * R.val = row.val; rw [off4, hrow]; show 256 * (i 1).val + 1 * R.val = _; omega)
      (by show k0_off4 i 2 + 1 * 0 = 2; rw [off4]; rfl))
  · intro j
    rw [harg3.readAt_unread, ← hT]
    exact congrArg x1 (ext3 _ _ rfl rfl (by show 0 + 1 * j.val = j.val; omega))
  · intro j
    rw [harg3.readAt_unread, ← hT]
    exact congrArg x1 (ext3 _ _ rfl rfl (by show 0 + 1 * j.val = j.val; omega))
  · intro j
    rw [harg3.readAt_unread, ← hT]
    exact congrArg x1 (ext3 _ _ rfl rfl (by show 0 + 1 * j.val = j.val; omega))
  · rfl

end Cert.Kernel1Ideal.Gen
end
-- ==== Proof.ConvArr1.lean ====
/-
  Layer 1's result array: its blocks put together.
-/
module

public import proofs.«01_k».proof.Proof.ConvVal1
public import proofs.«01_k».proof.Proof.Gen.Kernel1Ideal.Frame
public import Idealize.ShloMosaic.Lib.Pipeline.ValueKit
public import Idealize.ShloMosaic.Lib.Claim

@[expose] public section

set_option maxRecDepth 16384

noncomputable section

namespace Cert.Kernel1Ideal.Gen

open Idealize.ShloMosaic Idealize.ShloMosaic.TcCoe Idealize.ShloMosaic.Tactic
open scoped BigOperators

variable (m : (ℓ : Loc nD τ sig) → Buf (Elt Ideal) ℓ)

/-- The blocks each grid point reads and writes. -/
theorem idx : ∀ t : Fin cfg0.N, win0_0.index t = ![(grid0.coords t 0).val, 0, 0] ∧ win0_1.index t = ![(grid0.coords t 0).val, 0, 0]
    ∧ win0_2.index t = ![0, 0] ∧ win0_3.index t = ![0, 0]
    ∧ win0_4.index t = ![0, 0] ∧ win0_5.index t = ![0, 0] ∧ win0_6.index t = ![(grid0.coords t 0).val, (grid0.coords t 1).val, 0] := by
  decide +kernel

/-- Layer 1's convolution of the points `p` and the weights. -/
def G (p : Vec Ideal S32768x3 .f32) (wa : Vec Ideal S3x64 .f32) (ba : Vec Ideal S64 .f32)
    (wb : Vec Ideal S64x64 .f32) (bb : Vec Ideal S64 .f32) : Vec Ideal S16x2048x64 .f32 := fun y =>
  Spec.conv r2 (fun (j : Fin 2048) (a : Fin 3) => p (ix2 ⟨2048 * (y 0).val + j.val, by have : (y 0).val < 16 := (y 0).isLt; omega⟩ a))
    (fun j k => (∑ a : Fin 3, (p (ix2 ⟨2048 * (y 0).val + j.val, by have : (y 0).val < 16 := (y 0).isLt; omega⟩ a) * wa (ix2 a k) : EReal)) + ba (ix1 k))
    (fun a k => wa (ix2 a k)) (fun k f => wb (ix2 k f)) (fun f => bb (ix1 f)) (y 1) (y 2)

/-- Layer 1's convolution of the arguments in memory. -/
def Gm (c : Dev nD) : Vec Ideal S16x2048x64 .f32 :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem batch_lt (b : Fin 16) (j : Fin 2048) : 2048 * b.val + j.val < 32768 := by omega

theorem read0 (c : Dev nD) (t : Fin cfg0.N) (j : Fin 2048) (a : Fin 3) :
    iblk m c 0 t (ix3 0 j a) = m ((c.tc : Thread nD τ).loc main_arg0) (ix2 ⟨2048 * (grid0.coords t 0).val + j.val, batch_lt (grid0.coords t 0) j⟩ a) := by
  blk_simp [iblk]; entry_read
  pointwise
  blk_ext [idx t]
theorem read1 (c : Dev nD) (t : Fin cfg0.N) (j : Fin 2048) (a : Fin 3) :
    iblk m c 1 t (ix3 0 a j) = m ((c.tc : Thread nD τ).loc main_arg0) (ix2 ⟨2048 * (grid0.coords t 0).val + j.val, batch_lt (grid0.coords t 0) j⟩ a) := by
  blk_simp [iblk]; entry_read
  pointwise
  blk_ext [idx t]
theorem read2 (c : Dev nD) (t : Fin cfg0.N) (a : Fin 3) (k : Fin 64) : iblk m c 2 t (ix2 a k) = m ((c.tc : Thread nD τ).loc main_arg1) (ix2 a k) := by
  blk_ext [iblk, V, idx t]
theorem read3 (c : Dev nD) (t : Fin cfg0.N) (k : Fin 64) : iblk m c 3 t (ix2 0 k) = m ((c.tc : Thread nD τ).loc main_arg2) (ix1 k) := by
  blk_simp [iblk]; entry_read
  pointwise
  blk_ext [idx t]
theorem read4 (c : Dev nD) (t : Fin cfg0.N) (a : Fin 64) (k : Fin 64) : iblk m c 4 t (ix2 a k) = m ((c.tc : Thread nD τ).loc main_arg3) (ix2 a k) := by
  blk_ext [iblk, V, idx t]
theorem read5 (c : Dev nD) (t : Fin cfg0.N) (k : Fin 64) : iblk m c 5 t (ix2 0 k) = m ((c.tc : Thread nD τ).loc main_arg4) (ix1 k) := by
  blk_simp [iblk]; entry_read
  pointwise
  blk_ext [idx t]

theorem arr_eq (c : Dev nD) : (dats m 0 c).arrAt 6 (cfgs 0).N = Gm m c := by
  refine (dats m 0 c).arrAt_eq_of_covers 6 _ (by decide +kernel) fun t hf y => ?_
  blk_simp
  rw [after0_6]
  obtain ⟨u, R, f, rfl⟩ : ∃ (u : Fin 1) (R : Fin 256) (f : Fin 64), y = ix3 u R f := ⟨y 0, y 1, y 2, by blk_ext⟩
  have hb : (grid0.coords t 1).val < 8 := (grid0.coords t 1).isLt
  have he : (win0_6.blk t).view.emb (ix3 u R f) = ix3 (grid0.coords t 0) ⟨256 * (grid0.coords t 1).val + R.val, by have := R.isLt; omega⟩ f := by
    blk_ext [idx t]
  unfold outsAt0
  refine (out0_apply c _ _ _ _ _ _ _ _ _ _ _ _ _ _ _ _ _ _ _ _ _ u R f ⟨256 * (grid0.coords t 1).val + R.val, by have := R.isLt; omega⟩ rfl (fun a j => (read1 m c t j a).trans (read0 m c t j a).symm)).trans ?_
  simp only [read0, read2, read3, read4, read5]
  rw [he]
  rfl

/-- The run of the program: the result, and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v4) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 6).trans (arr_eq m c), h.2 c⟩) (θ_run_and (run_main m ρ) (unchanged m ρ))

end Cert.Kernel1Ideal.Gen
-- ==== Proof.RefDef1.lean ====
/-
  The reference of layer 1 as a function of its arguments, stage by stage.
-/
module

public import proofs.«01_k».proof.Proof.Gen.Reference1Ideal
public import Idealize.ShloMosaic.PureOps.Ideal

@[expose] public section

noncomputable section

namespace Cert.Reference1Ideal.Gen

open Idealize.ShloMosaic Idealize.ShloMosaic.TcCoe

/-- The difference of the points `i` and `j`. -/
def diff (p : FVec Ideal S16x2048x3 .f32) : FVec Ideal S16x2048x2048x3 .f32 :=
  subf (broadcastInDim S16x2048x2048x3 ![0, 1, 2, 3] bcast_S16x2048x1x3_S16x2048x2048x3_0_1_2_3 (broadcastInDim S16x2048x1x3 ![0, 1, 3] bcast_S16x2048x3_S16x2048x1x3_0_1_3 p))
    (broadcastInDim S16x2048x2048x3 ![0, 1, 2, 3] bcast_S16x1x2048x3_S16x2048x2048x3_0_1_2_3 (broadcastInDim S16x1x2048x3 ![0, 2, 3] bcast_S16x2048x3_S16x1x2048x3_0_2_3 p))

/-- The squared distance of the points `i` and `j`. -/
def dist (p : FVec Ideal S16x2048x3 .f32) : FVec Ideal S16x2048x2048 .f32 :=
  Host.reduceAdd (mulf (diff p) (diff p)) (constant S_ .f32 0x00000000#32) reducesTo_S16x2048x2048x3_S16x2048x2048_d3 h_S_

/-- The negated distance, `-∞` outside the radius. -/
def neg (p : FVec Ideal S16x2048x3 .f32) : FVec Ideal S16x2048x2048 .f32 :=
  Host.negf (select (cmpf .ole (dist p) (broadcastInDim S16x2048x2048 ![] bcast_S_S16x2048x2048 (constant S_ .f32 0x3D23D70A#32))) (dist p)
    (broadcastInDim S16x2048x2048 ![1, 2] bcast_S2048x2048_S16x2048x2048_1_2 (broadcastInDim S2048x2048 ![] bcast_S_S2048x2048 (constant S_ .f32 0x7F800000#32))))

/-- The 32 greatest of them. -/
def topV (p : FVec Ideal S16x2048x3 .f32) : FVec Ideal S16x2048x32 .f32 :=
  (Host.topK S16x2048x32 2 (FloatOps.cmpfTotal .gt) (neg p) sliceFits_S16x2048x2048_S16x2048x32).1

/-- Their places. -/
def topI (p : FVec Ideal S16x2048x3 .f32) : IVec S16x2048x32 32 :=
  (Host.topK S16x2048x32 2 (FloatOps.cmpfTotal .gt) (neg p) sliceFits_S16x2048x2048_S16x2048x32).2

/-- Which of them lie within the radius. -/
def valid (p : FVec Ideal S16x2048x3 .f32) : IVec S16x2048x32 1 :=
  cmpf .olt (Host.absf (topV p)) (broadcastInDim S16x2048x32 ![] bcast_S_S16x2048x32 (constant S_ .f32 0x7F800000#32))

/-- The places as an index array; a negative one would count from the end. -/
def place (p : FVec Ideal S16x2048x3 .f32) : IVec S16x2048x32x1 32 :=
  broadcastInDim S16x2048x32x1 ![0, 1, 2] bcast_S16x2048x32_S16x2048x32x1_0_1_2
    (select (cmpi .slt (topI p) (broadcastInDim S16x2048x32 ![] bcast_S_S16x2048x32 (constantI S_ 32 0#32)))
      (addi (topI p) (broadcastInDim S16x2048x32 ![] bcast_S_S16x2048x32 (constantI S_ 32 2048#32))) (topI p))

/-- The positions of the neighbours relative to the centre. -/
def rel (p : FVec Ideal S16x2048x3 .f32) : FVec Ideal S16x2048x32x3 .f32 :=
  subf (Host.gather gather_S16x2048x3_S16x2048x32x1_S16x2048x32x3_3_1_0_0_1_3_113 p (place p))
    (broadcastInDim S16x2048x32x3 ![0, 1, 2, 3] bcast_S16x2048x1x3_S16x2048x32x3_0_1_2_3 (broadcastInDim S16x2048x1x3 ![0, 1, 3] bcast_S16x2048x3_S16x2048x1x3_0_1_3 p))

/-- The hidden layer. -/
def hid (p : FVec Ideal S16x2048x3 .f32) (wa : FVec Ideal S3x64 .f32) (ba : FVec Ideal S64 .f32) : FVec Ideal S16x2048x32x64 .f32 :=
  maximumf (addf (Host.dotGeneral dot_S16x2048x32x3_S3x64_S16x2048x32x64_3_0_012_1_n_n none (rel p) wa)
      (broadcastInDim S16x2048x32x64 ![0, 1, 2, 3] bcast_S1x1x1x64_S16x2048x32x64_0_1_2_3 (broadcastInDim S1x1x1x64 ![1, 2, 3] bcast_S1x1x64_S1x1x1x64_1_2_3 (broadcastInDim S1x1x64 ![2] bcast_S64_S1x1x64_2 ba))))
    (broadcastInDim S16x2048x32x64 ![] bcast_S_S16x2048x32x64 (constant S_ .f32 0x00000000#32))

/-- The messages. -/
def msg (p : FVec Ideal S16x2048x3 .f32) (wa : FVec Ideal S3x64 .f32) (ba : FVec Ideal S64 .f32) (wb : FVec Ideal S64x64 .f32) (bb : FVec Ideal S64 .f32) : FVec Ideal S16x2048x32x64 .f32 :=
  addf (Host.dotGeneral dot_S16x2048x32x64_S64x64_S16x2048x32x64_3_0_012_1_n_n none (hid p wa ba) wb)
    (broadcastInDim S16x2048x32x64 ![0, 1, 2, 3] bcast_S1x1x1x64_S16x2048x32x64_0_1_2_3 (broadcastInDim S1x1x1x64 ![1, 2, 3] bcast_S1x1x64_S1x1x1x64_1_2_3 (broadcastInDim S1x1x64 ![2] bcast_S64_S1x1x64_2 bb)))

/-- The messages, `-∞` outside the radius. -/
def masked (p : FVec Ideal S16x2048x3 .f32) (wa : FVec Ideal S3x64 .f32) (ba : FVec Ideal S64 .f32) (wb : FVec Ideal S64x64 .f32) (bb : FVec Ideal S64 .f32) : FVec Ideal S16x2048x32x64 .f32 :=
  select (broadcastInDim S16x2048x32x64 ![0, 1, 2, 3] bcast_S16x2048x32x1_S16x2048x32x64_0_1_2_3 (broadcastInDim S16x2048x32x1 ![0, 1, 2] bcast_S16x2048x32_S16x2048x32x1_0_1_2 (valid p)))
    (msg p wa ba wb bb)
    (broadcastInDim S16x2048x32x64 ![1, 2, 3] bcast_S2048x32x64_S16x2048x32x64_1_2_3 (broadcastInDim S2048x32x64 ![] bcast_S_S2048x32x64 (constant S_ .f32 0xFF800000#32)))

/-- The greatest message, at least zero. -/
def layer (p : FVec Ideal S16x2048x3 .f32) (wa : FVec Ideal S3x64 .f32) (ba : FVec Ideal S64 .f32) (wb : FVec Ideal S64x64 .f32) (bb : FVec Ideal S64 .f32) : FVec Ideal S16x2048x64 .f32 :=
  maximumf (Host.reduce FloatOps.maximumf (masked p wa ba wb bb) (constant S_ .f32 0xFF800000#32) reducesTo_S16x2048x32x64_S16x2048x64_d2 h_S_)
    (broadcastInDim S16x2048x64 ![] bcast_S_S16x2048x64 (constant S_ .f32 0x00000000#32))

end Cert.Reference1Ideal.Gen
-- ==== Proof.RefRun1.lean ====
/-
  The run of layer 1's reference: its result is the composed function of its arguments, which stay as they were.
-/
module

public import proofs.«01_k».proof.Proof.RefDef1
public import Idealize.ShloMosaic.Lib.StableHlo.RunHlo
public import Idealize.ShloMosaic.Lib.StableHlo.RunRead
public import Idealize.ShloMosaic.Lib.Claim

@[expose] public section

set_option maxRecDepth 16384

noncomputable section

namespace Cert.Reference1Ideal.Gen

open Idealize.ShloMosaic Idealize.ShloMosaic.TcCoe Idealize.ShloMosaic.Tactic

variable (m : (ℓ : Loc nD τ sig) → Buf (Elt Ideal) ℓ)

/-- The run: the result and the arguments. -/
theorem run (ρ : Dev nD → PrngReg) : θ_run defs (onTc (τ := τ) (main (F := Ideal))) ⟨m, fun _ => 0, ρ⟩ (fun r => ∀ c : Dev nD,
    r.2.mem ((c.tc : Thread nD τ).loc main_v39) = layer (shapeCast S16x2048x3 (m ((c.tc : Thread nD τ).loc main_arg0)) shapeCasts_S32768x3_S16x2048x3) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  simp only [StableHlo.TRef.ofBuf_toBuf]
  simp -implicitDefEqProofs only [StableHlo.TRef.ofBuf, StableHlo.TRef.toBuf, cast_eq]
  unfold layer masked msg hid rel place valid topV topI neg dist diff
  rfl

/-- The run leaves the arguments and the semaphores as they were. -/
theorem frame (ρ : Dev nD → PrngReg) : θ_run defs (onTc (τ := τ) (main (F := Ideal))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (run m ρ)

end Cert.Reference1Ideal.Gen
-- ==== Proof.RefRead.lean ====
/-
  Two host operations read at an index: the greatest entries of each row with their places, and rows taken by place.
-/
module

public import proofs.«01_k».proof.Proof.SortOrder
public import Idealize.ShloMosaic.PureOps.Ideal
public import Idealize.ShloMosaic.Lib.Pointwise

@[expose] public section

noncomputable section

namespace Cert.Conv

open Idealize.ShloMosaic

variable {B N M K C : ℕ}

theorem along_ix3 (b : Fin B) (i : Fin M) (k k' : Fin N) :
    Shape.Idx.along (s := ⟨3, ![B, M, N]⟩) (ix3 b i k) (2 : Fin 3) k' = ix3 b i k' := by
  funext a
  fin_cases a <;> rfl

/-- The permutation that a row's selection uses. -/
def rowOrder {α : Type} (gt : α → α → BitVec 1) (x : (⟨3, ![B, M, N]⟩ : Shape).Idx → α) (b : Fin B) (i : Fin M) : Fin N → Fin N :=
  sortedFrom fun k k' => gt (x (ix3 b i k)) (x (ix3 b i k')) == 1#1

theorem order_along {α : Type} (gt : α → α → BitVec 1) (x : (⟨3, ![B, M, N]⟩ : Shape).Idx → α) (b : Fin B) (i : Fin M) (k : Fin N) :
    Shape.Idx.along (s := ⟨3, ![B, M, N]⟩) (ix3 b i k) (2 : Fin 3)
        (sortedFrom (fun l l' : Fin N => gt (x (Shape.Idx.along (s := ⟨3, ![B, M, N]⟩) (ix3 b i k) (2 : Fin 3) l))
          (x (Shape.Idx.along (s := ⟨3, ![B, M, N]⟩) (ix3 b i k) (2 : Fin 3) l')) == 1#1) k)
      = ix3 b i (rowOrder gt x b i k) := by
  refine (along_ix3 b i k _).trans ?_
  unfold rowOrder
  refine congrArg (fun f => ix3 b i (sortedFrom f k)) ?_
  funext l l'
  rw [along_ix3, along_ix3]

theorem slice_ix3 (b : Fin B) (i : Fin M) (r : Fin K) (h : Shape.Slices ⟨3, ![B, M, N]⟩ (fun _ => 0) ⟨3, ![B, M, K]⟩) (hK : K ≤ N) {α : Type}
    (y : (⟨3, ![B, M, N]⟩ : Shape).Idx → α) : extractStridedSlice ⟨3, ![B, M, K]⟩ (fun _ => 0) y h (ix3 b i r) = y (ix3 b i (r.castLE hK)) := by
  unfold extractStridedSlice
  refine congrArg y ?_
  funext a
  fin_cases a <;> exact Fin.ext (Nat.zero_add _)

theorem topK_val {α : Type} (gt : α → α → BitVec 1) (x : (⟨3, ![B, M, N]⟩ : Shape).Idx → α)
    (h : Shape.Slices ⟨3, ![B, M, N]⟩ (fun _ => 0) ⟨3, ![B, M, K]⟩) (hK : K ≤ N) (b : Fin B) (i : Fin M) (r : Fin K) :
    (Host.topK ⟨3, ![B, M, K]⟩ 2 gt x h).1 (ix3 b i r) = x (ix3 b i (rowOrder gt x b i (r.castLE hK))) := by
  unfold Host.topK
  dsimp only
  refine (slice_ix3 b i r h hK _).trans ?_
  unfold Host.sort2
  rw [dif_pos (by decide : (2 : ℕ) < 3)]
  exact congrArg x (order_along gt x b i (r.castLE hK))

theorem topK_idx {α : Type} (gt : α → α → BitVec 1) (x : (⟨3, ![B, M, N]⟩ : Shape).Idx → α)
    (h : Shape.Slices ⟨3, ![B, M, N]⟩ (fun _ => 0) ⟨3, ![B, M, K]⟩) (hK : K ≤ N) (b : Fin B) (i : Fin M) (r : Fin K) :
    (Host.topK ⟨3, ![B, M, K]⟩ 2 gt x h).2 (ix3 b i r) = BitVec.ofNat 32 (rowOrder gt x b i (r.castLE hK)).val := by
  unfold Host.topK
  dsimp only
  refine (slice_ix3 b i r h hK _).trans ?_
  unfold Host.sort2
  rw [dif_pos (by decide : (2 : ℕ) < 3)]
  exact congrArg (fun j : (⟨3, ![B, M, N]⟩ : Shape).Idx => BitVec.ofNat 32 (j (2 : Fin 3)).val) (order_along gt x b i (r.castLE hK))

/-- Rows taken by place, batch by batch. -/
def takeRows (wf : GatherDims.WF ⟨3, ![B, N, C]⟩ ⟨4, ![B, M, K, 1]⟩ ⟨4, ![B, M, K, C]⟩ [3] [1] [0] [1] [0] 3 ![1, 1, C]) :
    GatherDims ⟨3, ![B, N, C]⟩ ⟨4, ![B, M, K, 1]⟩ ⟨4, ![B, M, K, C]⟩ where
  offsetDims := [3]
  collapsedSliceDims := [1]
  operandBatchingDims := [0]
  startIndicesBatchingDims := [0]
  startIndexMap := [1]
  indexVectorDim := 3
  sliceSizes := ![1, 1, C]
  wf := wf

theorem takeRows_apply {α : Type} (wf : GatherDims.WF ⟨3, ![B, N, C]⟩ ⟨4, ![B, M, K, 1]⟩ ⟨4, ![B, M, K, C]⟩ [3] [1] [0] [1] [0] 3 ![1, 1, C])
    (x : (⟨3, ![B, N, C]⟩ : Shape).Idx → α) (idx : IVec ⟨4, ![B, M, K, 1]⟩ 32) (b : Fin B) (i : Fin M) (r : Fin K) (c : Fin C) (j : Fin N)
    (hj : (idx (ix4 b i r 0)).toInt = j.val) : Host.gather (takeRows wf) x idx (ix4 b i r c) = x (ix3 b j c) := by
  have hs : ∀ k : Fin 1, (takeRows wf).siIdx (ix4 b i r c) k = ix4 b i r 0 := by
    intro k
    funext a
    fin_cases a
    · rfl
    · rfl
    · rfl
    · exact Fin.ext (by have := k.isLt; show k.val = 0; omega)
  show x ((takeRows wf).operandIdx (ix4 b i r c) idx) = _
  refine congrArg x ?_
  funext a
  fin_cases a
  · refine Fin.ext ?_
    show (takeRows wf).start (ix4 b i r c) idx (0 : Fin 3) + (takeRows wf).batchCoord (ix4 b i r c) (0 : Fin 3) + (takeRows wf).offCoord (ix4 b i r c) (0 : Fin 3) = b.val
    have h1 : (takeRows wf).start (ix4 b i r c) idx (0 : Fin 3) = 0 := dif_neg (by show ¬ (0 : Fin 3) ∈ [(1 : Fin 3)]; decide)
    have h2 : (takeRows wf).batchCoord (ix4 b i r c) (0 : Fin 3) = b.val := rfl
    have h3 : (takeRows wf).offCoord (ix4 b i r c) (0 : Fin 3) = 0 := rfl
    omega
  · refine Fin.ext ?_
    show (takeRows wf).start (ix4 b i r c) idx (1 : Fin 3) + (takeRows wf).batchCoord (ix4 b i r c) (1 : Fin 3) + (takeRows wf).offCoord (ix4 b i r c) (1 : Fin 3) = j.val
    have h1 : (takeRows wf).start (ix4 b i r c) idx (1 : Fin 3) = min (idx (ix4 b i r 0)).toInt.toNat (N - 1) := by
      refine (dif_pos (by show (1 : Fin 3) ∈ [(1 : Fin 3)]; decide)).trans ?_
      exact congrArg (fun q => min (idx q).toInt.toNat (N - 1)) (hs _)
    have h2 : (takeRows wf).batchCoord (ix4 b i r c) (1 : Fin 3) = 0 := rfl
    have h3 : (takeRows wf).offCoord (ix4 b i r c) (1 : Fin 3) = 0 := rfl
    have := j.isLt
    rw [h1, h2, h3, hj]
    simp only [Int.toNat_natCast]
    omega
  · refine Fin.ext ?_
    show (takeRows wf).start (ix4 b i r c) idx (2 : Fin 3) + (takeRows wf).batchCoord (ix4 b i r c) (2 : Fin 3) + (takeRows wf).offCoord (ix4 b i r c) (2 : Fin 3) = c.val
    have h1 : (takeRows wf).start (ix4 b i r c) idx (2 : Fin 3) = 0 := dif_neg (by show ¬ (2 : Fin 3) ∈ [(1 : Fin 3)]; decide)
    have h2 : (takeRows wf).batchCoord (ix4 b i r c) (2 : Fin 3) = 0 := rfl
    have h3 : (takeRows wf).offCoord (ix4 b i r c) (2 : Fin 3) = c.val := rfl
    omega

end Cert.Conv

end
-- ==== Proof.RefVal1.lean ====
/-
  Layer 1's reference read at an index.
-/
module

public import proofs.«01_k».proof.Proof.RefDef1
public import proofs.«01_k».proof.Proof.RefRead
public import proofs.«01_k».proof.Proof.Layer
public import proofs.«01_k».proof.Proof.ConvRead
public import Idealize.ShloMosaic.Lib.Pointwise
public import Idealize.ShloMosaic.Lib.Claim
public import Idealize.ShloMosaic.Lib.Tactic.CleanTypes
public import Idealize.ShloMosaic.Lib.Tactic.WordOmega

@[expose] public section

set_option maxRecDepth 16384

noncomputable section

namespace Cert.Reference1Ideal.Gen

open Idealize.ShloMosaic Idealize.ShloMosaic.TcCoe Idealize.ShloMosaic.Tactic
open scoped BigOperators

/-- The squared radius. -/
def r2 : EReal := Ideal.ofBits .f32 0x3D23D70A#32

/-- The points of batch `b`. -/
def pts (p : FVec Ideal S16x2048x3 .f32) (b : Fin 16) (j : Fin 2048) (a : Fin 3) : EReal := p (ix3 b j a)

/-- The distances from the centre `i`, infinite outside the radius. -/
def nr (p : FVec Ideal S16x2048x3 .f32) (b : Fin 16) (i : Fin 2048) : Fin 2048 → EReal := Spec.near r2 (pts p b) i

/-- The `t`-th nearest point. -/
def nb (p : FVec Ideal S16x2048x3 .f32) (b : Fin 16) (i : Fin 2048) (t : Fin 32) : Fin 2048 :=
  First.order (nr p b i) (t.castLE (by decide))

theorem dist_apply (p : FVec Ideal S16x2048x3 .f32) (b : Fin 16) (i j : Fin 2048) : (dist p (ix3 b i j) : EReal) = Spec.sqd (pts p b) i j := by
  rw [Spec.sqd_eq_sum]
  unfold pts
  clean_types
  pointwise [dist, diff]

theorem neg_apply (p : FVec Ideal S16x2048x3 .f32) (b : Fin 16) (i j : Fin 2048) : (neg p (ix3 b i j) : EReal) = - nr p b i j := by
  unfold nr Spec.near
  pointwise [neg]
  simp only [dist_apply]
  unfold r2
  simp only [Conv.ofBits_inf]

theorem order_eq (p : FVec Ideal S16x2048x3 .f32) (b : Fin 16) (i : Fin 2048) :
    Conv.rowOrder (FloatOps.cmpfTotal (F := Ideal) (φ := .f32) .gt) (neg p) b i = First.order (nr p b i) := by
  rw [First.order_coe]
  unfold Conv.rowOrder
  refine congrArg sortedFrom (funext fun k => funext fun k' => ?_)
  rw [neg_apply, neg_apply]

theorem topV_apply (p : FVec Ideal S16x2048x3 .f32) (b : Fin 16) (i : Fin 2048) (t : Fin 32) :
    (topV p (ix3 b i t) : EReal) = - nr p b i (nb p b i t) := by
  refine (Conv.topK_val _ _ _ (by decide) b i t).trans ?_
  rw [order_eq, neg_apply]
  rfl

theorem topI_apply (p : FVec Ideal S16x2048x3 .f32) (b : Fin 16) (i : Fin 2048) (t : Fin 32) :
    topI p (ix3 b i t) = BitVec.ofNat 32 (nb p b i t).val := by
  refine (Conv.topK_idx _ _ _ (by decide) b i t).trans ?_
  rw [order_eq]
  rfl

theorem place_apply (p : FVec Ideal S16x2048x3 .f32) (b : Fin 16) (i : Fin 2048) (t : Fin 32) :
    (place p (ix4 b i t 0)).toInt = (nb p b i t).val := by
  have e : place p (ix4 b i t 0) = topI p (ix3 b i t) := by
    pointwise [place]
    rw [topI_apply]
    have := (nb p b i t).isLt
    word_omega
  rw [e, topI_apply]
  exact Conv.toInt_ofNat (lt_trans (nb p b i t).isLt (by decide))

theorem rel_apply (p : FVec Ideal S16x2048x3 .f32) (b : Fin 16) (i : Fin 2048) (t : Fin 32) (a : Fin 3) :
    (rel p (ix4 b i t a) : EReal) = pts p b (nb p b i t) a - pts p b i a := by
  have e : (Host.gather gather_S16x2048x3_S16x2048x32x1_S16x2048x32x3_3_1_0_0_1_3_113 p (place p)) (ix4 b i t a) = p (ix3 b (nb p b i t) a) :=
    Conv.takeRows_apply gather_S16x2048x3_S16x2048x32x1_S16x2048x32x3_3_1_0_0_1_3_113_wf p (place p) b i t a (nb p b i t) (place_apply p b i t)
  unfold rel
  generalize Host.gather gather_S16x2048x3_S16x2048x32x1_S16x2048x32x3_3_1_0_0_1_3_113 p (place p) = g at e ⊢
  pointwise
  rw [e]
  rfl

theorem valid_apply (p : FVec Ideal S16x2048x3 .f32) (b : Fin 16) (i : Fin 2048) (t : Fin 32) (hv : nr p b i (nb p b i t) ≠ ⊥) :
    valid p (ix3 b i t) = 1#1 ↔ nr p b i (nb p b i t) < ⊤ := by
  pointwise [valid]
  simp only [topV_apply, Conv.ofBits_inf, Conv.ofBool_eq_one]
  exact Spec.abs_neg_lt hv

theorem hid_apply (p : FVec Ideal S16x2048x3 .f32) (wa : FVec Ideal S3x64 .f32) (ba : FVec Ideal S64 .f32)
    (b : Fin 16) (i : Fin 2048) (t : Fin 32) (k : Fin 64) :
    (hid p wa ba (ix4 b i t k) : EReal)
      = max ((∑ c : Fin 3, ((pts p b (nb p b i t) c - pts p b i c) * wa (ix2 c k) : EReal)) + ba (ix1 k)) 0 := by
  pointwise [hid]
  simp only [rel_apply]

theorem masked_apply (p : FVec Ideal S16x2048x3 .f32) (wa : FVec Ideal S3x64 .f32) (ba : FVec Ideal S64 .f32)
    (wb : FVec Ideal S64x64 .f32) (bb : FVec Ideal S64 .f32) (b : Fin 16) (i : Fin 2048) (t : Fin 32) (f : Fin 64) :
    (masked p wa ba wb bb (ix4 b i t f) : EReal)
      = if valid p (ix3 b i t) = 1#1 then (∑ k : Fin 64, (hid p wa ba (ix4 b i t k) * wb (ix2 k f) : EReal)) + bb (ix1 f) else ⊥ := by
  pointwise [masked, msg]
  simp only [Conv.ofBits_ninf]
  rfl

/-- The maximum over the neighbours. -/
theorem max_apply (M : FVec Ideal S16x2048x32x64 .f32) (b : Fin 16) (i : Fin 2048) (f : Fin 64) :
    ((Host.reduce (FloatOps.maximumf : Ideal .f32 → Ideal .f32 → Ideal .f32) M (constant S_ .f32 0xFF800000#32)
        reducesTo_S16x2048x32x64_S16x2048x64_d2 h_S_ : FVec Ideal S16x2048x64 .f32) (ix3 b i f) : EReal)
      = (Finset.univ : Finset (Fin 32)).fold max ⊥ fun t => (M (ix4 b i t f) : EReal) := by
  clean_types
  pointwise
  simp only [Conv.ofBits_ninf]

/-- The cut at zero. -/
theorem relu_apply (R : FVec Ideal S16x2048x64 .f32) (b : Fin 16) (i : Fin 2048) (f : Fin 64) :
    ((maximumf R (broadcastInDim S16x2048x64 ![] bcast_S_S16x2048x64 (constant S_ .f32 0x00000000#32)) : FVec Ideal S16x2048x64 .f32) (ix3 b i f) : EReal)
      = max (R (ix3 b i f) : EReal) 0 := by
  pointwise

theorem layer_apply (p : FVec Ideal S16x2048x3 .f32) (wa : FVec Ideal S3x64 .f32) (ba : FVec Ideal S64 .f32)
    (wb : FVec Ideal S64x64 .f32) (bb : FVec Ideal S64 .f32) (b : Fin 16) (i : Fin 2048) (f : Fin 64) :
    (layer p wa ba wb bb (ix3 b i f) : EReal)
      = max ((Finset.univ : Finset (Fin 32)).fold max ⊥ fun t =>
          if valid p (ix3 b i t) = 1#1 then (∑ k : Fin 64, (hid p wa ba (ix4 b i t k) * wb (ix2 k f) : EReal)) + bb (ix1 f) else ⊥) 0 := by
  unfold layer
  exact (relu_apply _ b i f).trans (congrArg (fun v : EReal => max v 0) ((max_apply _ b i f).trans
    (congrArg (fun g : Fin 32 → EReal => (Finset.univ : Finset (Fin 32)).fold max ⊥ g) (funext fun t => masked_apply p wa ba wb bb b i t f))))

end Cert.Reference1Ideal.Gen
-- ==== Proof.RefConv1.lean ====
/-
  Layer 1's reference is the convolution over the nearest points.
-/
module

public import proofs.«01_k».proof.Proof.RefVal1
public import Idealize.ShloMosaic.Lib.Pointwise

@[expose] public section

set_option maxRecDepth 16384

noncomputable section

namespace Cert.Reference1Ideal.Gen

open Idealize.ShloMosaic Idealize.ShloMosaic.TcCoe Idealize.ShloMosaic.Tactic
open scoped BigOperators

/-- The layer is the convolution over the neighbours in the order of their distance, where points and first weights are finite. -/
theorem layer_conv (p : FVec Ideal S16x2048x3 .f32) (wa : FVec Ideal S3x64 .f32) (ba : FVec Ideal S64 .f32)
    (wb : FVec Ideal S64x64 .f32) (bb : FVec Ideal S64 .f32) (hp : ∀ y, Spec.Real (p y))
    (hwa : ∀ y, Spec.Real (wa y)) (hba : ∀ y, Spec.Real (ba y)) (b : Fin 16) (i : Fin 2048) (f : Fin 64) :
    (layer p wa ba wb bb (ix3 b i f) : EReal)
      = Spec.conv r2 (pts p b)
          (fun j k => (∑ a : Fin 3, (p (ix3 b j a) * wa (ix2 a k) : EReal)) + ba (ix1 k))
          (fun a k => wa (ix2 a k)) (fun k f => wb (ix2 k f)) (fun f => bb (ix1 f)) i f := by
  have hn : ∀ t, nr p b i (nb p b i t) ≠ ⊥ := fun t => Spec.near_ne_bot r2 (pts p b) (fun j a => hp _) i _
  have h32 : 32 ≤ 2048 := by decide
  have e1 : ∀ t, nb p b i t = First.order (Spec.near r2 (pts p b) i) (t.castLE h32) := fun t => by unfold nb nr; rfl
  have e2 : ∀ t, valid p (ix3 b i t) = 1#1 ↔ Spec.near r2 (pts p b) i (nb p b i t) < ⊤ := fun t => valid_apply p b i t (hn t)
  rw [layer_apply]
  refine Spec.conv_of h32 r2 (pts p b) _ (fun a k => wa (ix2 a k)) (fun k f => wb (ix2 k f)) (fun f => bb (ix1 f)) i f (nb p b i) e1
    (fun t => valid p (ix3 b i t)) e2 (fun t k => hid p wa ba (ix4 b i t k)) ?_
  intro t k
  have e3 := Spec.hidden_eq0 (pts p b (nb p b i t)) (pts p b i) (fun c => wa (ix2 c k)) (ba (ix1 k)) (fun _ => hp _) (fun _ => hp _) (fun _ => hwa _) (hba _)
  rw [hid_apply]
  unfold Spec.hidK
  generalize nb p b i t = j at e3 ⊢
  exact congrArg (fun v : EReal => max v 0) e3.symm
end Cert.Reference1Ideal.Gen
-- ==== Proof.Claim1.lean ====
/-
  Layer 1: kernel and reference run to the same result.
-/
module

public import proofs.«01_k».proof.Defs
public import proofs.«01_k».proof.Proof.Finite
public import proofs.«01_k».proof.Proof.ConvArr1
public import proofs.«01_k».proof.Proof.RefRun1
public import proofs.«01_k».proof.Proof.RefConv1
public import proofs.«01_k».proof.Proof.Gen.Pre_finite1
public import Idealize.ShloMosaic.Lib.Claim

@[expose] public section

set_option maxRecDepth 16384

noncomputable section

namespace Cert.Proof

open Idealize.ShloMosaic Idealize.ShloMosaic.TcCoe Idealize.ShloMosaic.Tactic
open scoped BigOperators

/-- What the precondition says: points, features and first weights are finite. -/
theorem finite1 (m : (ℓ : Loc Cert.Kernel1Ideal.nD Cert.Kernel1Ideal.τ Cert.Kernel1Ideal.sig) → Buf (Elt Ideal) ℓ) (h : Pre_Kernel1Ideal_finite1 m) (c : Dev Cert.Kernel1Ideal.nD) :
    (∀ y, Spec.Real (m ((c.tc : Thread Cert.Kernel1Ideal.nD Cert.Kernel1Ideal.τ).loc Cert.Kernel1Ideal.main_arg0) y))
      ∧ (∀ y, Spec.Real (m ((c.tc : Thread Cert.Kernel1Ideal.nD Cert.Kernel1Ideal.τ).loc Cert.Kernel1Ideal.main_arg1) y))
      ∧ (∀ y, Spec.Real (m ((c.tc : Thread Cert.Kernel1Ideal.nD Cert.Kernel1Ideal.τ).loc Cert.Kernel1Ideal.main_arg2) y)) :=
  ⟨Spec.real_of_finite _ (m ((c.tc : Thread Cert.Kernel1Ideal.nD Cert.Kernel1Ideal.τ).loc Cert.Kernel1Ideal.main_arg0)) (h c).1,
    Spec.real_of_finite _ (m ((c.tc : Thread Cert.Kernel1Ideal.nD Cert.Kernel1Ideal.τ).loc Cert.Kernel1Ideal.main_arg1)) (h c).2.1,
    Spec.real_of_finite _ (m ((c.tc : Thread Cert.Kernel1Ideal.nD Cert.Kernel1Ideal.τ).loc Cert.Kernel1Ideal.main_arg2)) (h c).2.2⟩

/-- The reference's layer is the kernel's. -/
theorem layer_eq1 (p : FVec Ideal Kernel1Ideal.S32768x3 .f32) (wa : FVec Ideal Kernel1Ideal.S3x64 .f32) (ba : FVec Ideal Kernel1Ideal.S64 .f32)
    (wb : FVec Ideal Kernel1Ideal.S64x64 .f32) (bb : FVec Ideal Kernel1Ideal.S64 .f32) (hp : ∀ y, Spec.Real (p y))
    (hwa : ∀ y, Spec.Real (wa y)) (hba : ∀ y, Spec.Real (ba y)) :
    Reference1Ideal.Gen.layer (shapeCast Reference1Ideal.S16x2048x3 p Reference1Ideal.Gen.shapeCasts_S32768x3_S16x2048x3) wa ba wb bb = Kernel1Ideal.Gen.G p wa ba wb bb := by
  have hc : ∀ (b : Fin 16) (j : Fin 2048) (a : Fin 3), ((shapeCast Reference1Ideal.S16x2048x3 p Reference1Ideal.Gen.shapeCasts_S32768x3_S16x2048x3 : FVec Ideal Reference1Ideal.S16x2048x3 .f32) (ix3 b j a) : EReal)
      = p (ix2 ⟨2048 * b.val + j.val, by omega⟩ a) := by
    intro b j a
    pointwise
    exact congrArg (fun z => p (ix2 z a)) (Fin.ext (by show b.val * 2048 + j.val = 2048 * b.val + j.val; omega))
  have e : ∀ (b : Fin 16) (i : Fin 2048) (f : Fin 64), _ := fun b i f =>
    Reference1Ideal.Gen.layer_conv (shapeCast Reference1Ideal.S16x2048x3 p Reference1Ideal.Gen.shapeCasts_S32768x3_S16x2048x3) wa ba wb bb (fun _ => hp _) hwa hba b i f
  unfold Reference1Ideal.Gen.pts at e
  simp only [hc] at e
  funext y
  rw [eq_ix3 y]
  exact e (y 0) (y 1) (y 2)

theorem algebraic1 : algebraic_Kernel1Ideal_Reference1Ideal_pre_finite1 := by
  pair_intro
  · run_from Kernel1Ideal.Gen.run m g
  · refine (θ_run _ _ _).mono (fun r h c => ?_) (Reference1Ideal.Gen.run m' g')
    have e := h c
    obtain ⟨hp, hwa, hba⟩ := finite1 m hpre c
    refine ⟨e.1.trans ?_, e.2⟩
    obtain ⟨a0, a1, a2, a3, a4⟩ := hagree c
    rw [a0, a1, a2, a3, a4]
    exact layer_eq1 _ _ _ _ _ hp hwa hba

end Cert.Proof

end
-- ==== Proof.ConvRun2.lean ====
/-
  What layer 2's convolution stores, as the shape-generic block of `ConvDefs` over what the body's loads read.
-/
module

public import proofs.«01_k».proof.Proof.Gen.Kernel2Ideal.Frame
public import proofs.«01_k».proof.Proof.ConvDefs

@[expose] public section

set_option maxRecDepth 65536

noncomputable section

namespace Cert.Kernel2Ideal.Gen

open Idealize.ShloMosaic Idealize.ShloMosaic.TcCoe Idealize.ShloMosaic.Tactic

variable {F : FTy → Type} [FloatOps F]

theorem facts0 : Conv.Facts 1024 128 128 where
  red := reduces_S64x1024_S64
  cast1 := shapeCasts_S64_S64x1
  bc := broadcasts_S64x1_S64x1024
  io := iota_S64x1024_d1_w32
  catO := concatenates_S64x1024_S64x1024_S64x1024_S64x1024_S256x1024_d0
  catM := concatenates_S64x1_S64x1_S64x1_S64x1_S256x1_d0
  catA := concatenates_S1024x128_S1024x128_S1024x256_d1
  slL := slices_S256x256_o0_0_S256x128
  slR := slices_S256x256_o0_128_S256x128
  castB := shapeCasts_S1x128_S1x128
  bcB := broadcasts_S1x128_S256x128
  castV := shapeCasts_S256x1_S256x1
  bcV := broadcasts_S256x1_S256x128
  castF := shapeCasts_S256x128_S1x256x128
  sl0 := slices_S256x1024_o0_0_S64x1024
  sl1 := slices_S256x1024_o64_0_S64x1024
  sl2 := slices_S256x1024_o128_0_S64x1024
  sl3 := slices_S256x1024_o192_0_S64x1024
  lt1 := natLt_1_32
  ltb := bitsLt_bf16_f32

/-- The stored block of the convolution from what its loads read. -/
def blk0 (p : Vec F S1x1024x3 .f32) (wap : Vec F S3x128 .f32) (ba : Vec F S1x128 .f32) (x : Vec F S1x1024x64 .f32) (wax : Vec F S64x128 .f32) (pr : Vec F S1x256x3 .f32) (q0 : Vec F S1x256x1 .f32) (t0 : Vec F S1x1x1024 .f32) (q1 : Vec F S1x256x1 .f32) (t1 : Vec F S1x1x1024 .f32) (q2 : Vec F S1x256x1 .f32) (t2 : Vec F S1x1x1024 .f32) (wb : Vec F S128x128 .f32) (bb : Vec F S1x128 .f32) : FVec F S1x256x128 .f32 :=
  Conv.block facts0 (k0_pay5 (k0_pay4 q0 t0) q1 t1 q2 t2) (k0_pay2 p wap ba x wax) (k0_pay3 pr wap) wb bb

theorem run0_eq (c : Dev nD) (i : grid0.Coords) (arg2 : Memref sig .tc .vmem S1x1024x3 .f32) (harg2 : arg2.IsWhole) (arg3 : Memref sig .tc .vmem S1x3x1024 .f32) (harg3 : arg3.IsWhole) (arg4 : Memref sig .tc .vmem S1x1024x64 .f32) (harg4 : arg4.IsWhole) (arg5 : Memref sig .tc .vmem S64x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x256x128 .f32) (harg10 : arg10.IsWhole)
    (x0 : Vec F S1x1024x3 .f32) (x1 : Vec F S1x3x1024 .f32) (x2 : Vec F S1x1024x64 .f32) (x3 : Vec F S64x128 .f32) (x4 : Vec F S3x128 .f32) (x5 : Vec F S1x128 .f32) (x6 : Vec F S128x128 .f32) (x7 : Vec F S1x128 .f32) :
    (kernelRun0_A c i arg2 harg2 arg3 harg3 arg4 harg4 arg5 harg5 arg6 harg6 arg7 harg7 arg8 harg8 arg9 harg9 arg10 harg10 x0 x1 x2 x3 x4 x5 x6 x7).1
      = [⟨Rect.unit (s := S1x256x128) ![0, 0, 0] S1x256x128.size inb_S1x256x128_S1x256x128_0_0_0,
          blk0 (arg2.view.readAt (Elt F) (Rect.unit (s := S1x1024x3) ![0, 0, 0] S1x1024x3.size inb_S1x1024x3_S1x1024x3_0_0_0).toLoadRect (harg2.unread x0))
            (arg6.view.readAt (Elt F) (Rect.unit (s := S3x128) ![0, 0] S3x128.size inb_S3x128_S3x128_0_0).toLoadRect (harg6.unread x4))
            (arg7.view.readAt (Elt F) (Rect.unit (s := S1x128) ![0, 0] S1x128.size inb_S1x128_S1x128_0_0).toLoadRect (harg7.unread x5))
            (arg4.view.readAt (Elt F) (Rect.unit (s := S1x1024x64) ![0, 0, 0] S1x1024x64.size inb_S1x1024x64_S1x1024x64_0_0_0).toLoadRect (harg4.unread x2))
            (arg5.view.readAt (Elt F) (Rect.unit (s := S64x128) ![0, 0] S64x128.size inb_S64x128_S64x128_0_0).toLoadRect (harg5.unread x3))
            (arg2.view.readAt (Elt F) (Rect.unit (s := S1x1024x3) (k0_off1 i) S1x256x3.size (k0_off1_inb i)).toLoadRect (harg2.unread x0))
            (arg2.view.readAt (Elt F) (Rect.unit (s := S1x1024x3) (k0_off2 i) S1x256x1.size (k0_off2_inb i)).toLoadRect (harg2.unread x0))
            (arg3.view.readAt (Elt F) (Rect.unit (s := S1x3x1024) ![0, 0, 0] S1x1x1024.size inb_S1x3x1024_S1x1x1024_0_0_0).toLoadRect (harg3.unread x1))
            (arg2.view.readAt (Elt F) (Rect.unit (s := S1x1024x3) (k0_off3 i) S1x256x1.size (k0_off3_inb i)).toLoadRect (harg2.unread x0))
            (arg3.view.readAt (Elt F) (Rect.unit (s := S1x3x1024) ![0, 1, 0] S1x1x1024.size inb_S1x3x1024_S1x1x1024_0_1_0).toLoadRect (harg3.unread x1))
            (arg2.view.readAt (Elt F) (Rect.unit (s := S1x1024x3) (k0_off4 i) S1x256x1.size (k0_off4_inb i)).toLoadRect (harg2.unread x0))
            (arg3.view.readAt (Elt F) (Rect.unit (s := S1x3x1024) ![0, 2, 0] S1x1x1024.size inb_S1x3x1024_S1x1x1024_0_2_0).toLoadRect (harg3.unread x1))
            (arg8.view.readAt (Elt F) (Rect.unit (s := S128x128) ![0, 0] S128x128.size inb_S128x128_S128x128_0_0).toLoadRect (harg8.unread x6))
            (arg9.view.readAt (Elt F) (Rect.unit (s := S1x128) ![0, 0] S1x128.size inb_S1x128_S1x128_0_0).toLoadRect (harg9.unread x7))⟩] := by
  sl_kernel_rfl

end Cert.Kernel2Ideal.Gen
end
-- ==== Proof.ConvVal2.lean ====
/-
  Layer 2's convolution read at an index of its block: the convolution of `Layer` over the loaded blocks.
-/
module

public import proofs.«01_k».proof.Proof.ConvRun2
public import proofs.«01_k».proof.Proof.ConvRead
public import proofs.«01_k».proof.Proof.Layer
public import Idealize.ShloMosaic.Lib.Pointwise
public import Idealize.ShloMosaic.Lib.Pointwise.IndexBridge
public import Idealize.ShloMosaic.Lib.WholeRead
public import Idealize.ShloMosaic.Lib.VecWindow

@[expose] public section

set_option maxRecDepth 16384

noncomputable section

namespace Cert.Kernel2Ideal.Gen

open Idealize.ShloMosaic Idealize.ShloMosaic.TcCoe Idealize.ShloMosaic.Tactic
open scoped BigOperators

theorem share_apply (p : Vec Ideal S1x1024x3 .f32) (wap : Vec Ideal S3x128 .f32) (ba : Vec Ideal S1x128 .f32) (x : Vec Ideal S1x1024x64 .f32) (wax : Vec Ideal S64x128 .f32) (j : Fin 1024) (k : Fin 128) :
    (k0_pay2 p wap ba x wax (ix2 j k) : EReal) = ((∑ c : Fin 3, p (ix3 0 j c) * wap (ix2 c k)) + ba (ix2 0 k)) + ∑ c : Fin 64, x (ix3 0 j c) * wax (ix2 c k) := by
  pointwise [k0_pay2]

theorem centre_apply (pr : Vec Ideal S1x256x3 .f32) (wap : Vec Ideal S3x128 .f32) (R : Fin 256) (k : Fin 128) :
    (k0_pay3 pr wap (ix2 R k) : EReal) = ∑ c : Fin 3, pr (ix3 0 R c) * wap (ix2 c k) := by
  pointwise [k0_pay3]

/-- The radius squared. -/
def r2 : EReal := Ideal.ofBits .f32 0x3E23D70A#32

theorem dist_apply (q0 : Vec Ideal S1x256x1 .f32) (t0 : Vec Ideal S1x1x1024 .f32) (q1 : Vec Ideal S1x256x1 .f32) (t1 : Vec Ideal S1x1x1024 .f32) (q2 : Vec Ideal S1x256x1 .f32) (t2 : Vec Ideal S1x1x1024 .f32) (R : Fin 256) (j : Fin 1024) :
    (k0_pay5 (k0_pay4 q0 t0) q1 t1 q2 t2 (ix2 R j) : EReal)
      = if ((q0 (ix3 0 R 0) - t0 (ix3 0 0 j) : EReal) * (q0 (ix3 0 R 0) - t0 (ix3 0 0 j) : EReal)
          + (q1 (ix3 0 R 0) - t1 (ix3 0 0 j) : EReal) * (q1 (ix3 0 R 0) - t1 (ix3 0 0 j) : EReal))
          + (q2 (ix3 0 R 0) - t2 (ix3 0 0 j) : EReal) * (q2 (ix3 0 R 0) - t2 (ix3 0 0 j) : EReal) ≤ r2
        then ((q0 (ix3 0 R 0) - t0 (ix3 0 0 j) : EReal) * (q0 (ix3 0 R 0) - t0 (ix3 0 0 j) : EReal)
          + (q1 (ix3 0 R 0) - t1 (ix3 0 0 j) : EReal) * (q1 (ix3 0 R 0) - t1 (ix3 0 0 j) : EReal))
          + (q2 (ix3 0 R 0) - t2 (ix3 0 0 j) : EReal) * (q2 (ix3 0 R 0) - t2 (ix3 0 0 j) : EReal)
        else ⊤ := by
  pointwise [k0_pay5, k0_pay4]
  unfold r2
  simp only [Conv.ofBits_inf, Ideal.ofBits_one_f32]

/-- The block at a row and a feature, the loaded rows and columns of points being those of the family `X`. -/
theorem blk0_apply (p : Vec Ideal S1x1024x3 .f32) (wap : Vec Ideal S3x128 .f32) (ba : Vec Ideal S1x128 .f32) (x : Vec Ideal S1x1024x64 .f32) (wax : Vec Ideal S64x128 .f32) (pr : Vec Ideal S1x256x3 .f32) (q0 : Vec Ideal S1x256x1 .f32) (t0 : Vec Ideal S1x1x1024 .f32) (q1 : Vec Ideal S1x256x1 .f32) (t1 : Vec Ideal S1x1x1024 .f32) (q2 : Vec Ideal S1x256x1 .f32) (t2 : Vec Ideal S1x1x1024 .f32) (wb : Vec Ideal S128x128 .f32) (bb : Vec Ideal S1x128 .f32) (X : Fin 1024 → Fin 3 → EReal) (u : Fin 1) (R : Fin 256) (f : Fin 128) (row : Fin 1024)
    (hp : ∀ j c, (p (ix3 0 j c) : EReal) = X j c) (hpr : ∀ c, (pr (ix3 0 R c) : EReal) = X row c)
    (hq0 : (q0 (ix3 0 R 0) : EReal) = X row 0) (hq1 : (q1 (ix3 0 R 0) : EReal) = X row 1) (hq2 : (q2 (ix3 0 R 0) : EReal) = X row 2)
    (ht0 : ∀ j, (t0 (ix3 0 0 j) : EReal) = X j 0) (ht1 : ∀ j, (t1 (ix3 0 0 j) : EReal) = X j 1)
    (ht2 : ∀ j, (t2 (ix3 0 0 j) : EReal) = X j 2) :
    (blk0 p wap ba x wax pr q0 t0 q1 t1 q2 t2 wb bb (ix3 u R f) : EReal)
      = Spec.out (Spec.near r2 X row)
          (Spec.hidK (fun j k => ((∑ c : Fin 3, X j c * wap (ix2 c k)) + ba (ix2 0 k)) + ∑ c : Fin 64, x (ix3 0 j c) * wax (ix2 c k)) (fun k => ∑ c : Fin 3, X row c * wap (ix2 c k)))
          (fun k => wb (ix2 k f)) (bb (ix2 0 f)) := by
  unfold blk0
  rw [ix3_eq_valueIdx]
  refine (Conv.block_apply facts0 (by norm_num) _ _ _ _ _ u R f).trans ?_
  unfold Spec.out
  have e1 : Conv.row (k0_pay5 (k0_pay4 q0 t0) q1 t1 q2 t2) R = Spec.near r2 X row := by
    funext j
    show (k0_pay5 (k0_pay4 q0 t0) q1 t1 q2 t2) (ValueIdx.ix2 R j) = _
    rw [← ix2_eq_valueIdx, dist_apply, hq0, hq1, hq2, ht0, ht1, ht2]
    rfl
  have e2 : Conv.contrib (k0_pay2 p wap ba x wax) (k0_pay3 pr wap) wb bb R f = fun j => ∑ k,
      Spec.hidK (fun j k => ((∑ c : Fin 3, X j c * wap (ix2 c k)) + ba (ix2 0 k)) + ∑ c : Fin 64, x (ix3 0 j c) * wax (ix2 c k)) (fun k => ∑ c : Fin 3, X row c * wap (ix2 c k)) j k
        * wb (ix2 k f) + bb (ix2 0 f) := by
    funext j
    unfold Conv.contrib Conv.hid Spec.hidK
    simp only [← ix2_eq_valueIdx, share_apply, centre_apply, hp, hpr]
  rw [e1, e2]

theorem off1 (i : grid0.Coords) : k0_off1 i = ![0, 256 * (i 1).val, 0] := by
  have h : (i 1).val < 4 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 0] = _
  rw [e]

theorem off2 (i : grid0.Coords) : k0_off2 i = ![0, 256 * (i 1).val, 0] := by
  have h : (i 1).val < 4 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 0] = _
  rw [e]

theorem off3 (i : grid0.Coords) : k0_off3 i = ![0, 256 * (i 1).val, 1] := by
  have h : (i 1).val < 4 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 1] = _
  rw [e]

theorem off4 (i : grid0.Coords) : k0_off4 i = ![0, 256 * (i 1).val, 2] := by
  have h : (i 1).val < 4 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 2] = _
  rw [e]

theorem ext3 {a b c : ℕ} (x y : (⟨3, ![a, b, c]⟩ : Shape).Idx) (h0 : (x 0).val = (y 0).val) (h1 : (x 1).val = (y 1).val)
    (h2 : (x 2).val = (y 2).val) : x = y := by
  funext k
  match k with
  | ⟨0, _⟩ => exact Fin.ext h0
  | ⟨1, _⟩ => exact Fin.ext h1
  | ⟨2, _⟩ => exact Fin.ext h2

/-- What a point of the grid leaves in the output's staging buffer, at an index. -/
theorem out0_apply (c : Dev nD) (i : grid0.Coords) (arg2 : Memref sig .tc .vmem S1x1024x3 .f32) (harg2 : arg2.IsWhole) (arg3 : Memref sig .tc .vmem S1x3x1024 .f32) (harg3 : arg3.IsWhole) (arg4 : Memref sig .tc .vmem S1x1024x64 .f32) (harg4 : arg4.IsWhole) (arg5 : Memref sig .tc .vmem S64x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x256x128 .f32) (harg10 : arg10.IsWhole)
    (x0 : Vec Ideal S1x1024x3 .f32) (x1 : Vec Ideal S1x3x1024 .f32) (x2 : Vec Ideal S1x1024x64 .f32) (x3 : Vec Ideal S64x128 .f32) (x4 : Vec Ideal S3x128 .f32) (x5 : Vec Ideal S1x128 .f32) (x6 : Vec Ideal S128x128 .f32) (x7 : Vec Ideal S1x128 .f32)
    (u : Fin 1) (R : Fin 256) (f : Fin 128) (row : Fin 1024) (hrow : row.val = 256 * (i 1).val + R.val)
    (hT : ∀ c j, (x1 (ix3 0 c j) : EReal) = x0 (ix3 0 j c)) :
    (out0_A_8 c i arg2 harg2 arg3 harg3 arg4 harg4 arg5 harg5 arg6 harg6 arg7 harg7 arg8 harg8 arg9 harg9 arg10 harg10 x0 x1 x2 x3 x4 x5 x6 x7 (ix3 u R f) : EReal)
      = Spec.out (Spec.near r2 (fun j c => x0 (ix3 0 j c)) row)
          (Spec.hidK (fun j k => (((∑ c : Fin 3, x0 (ix3 0 j c) * x4 (ix2 c k)) + x5 (ix2 0 k)) + ∑ c : Fin 64, x2 (ix3 0 j c) * x3 (ix2 c k))) (fun k => ∑ c : Fin 3, x0 (ix3 0 row c) * x4 (ix2 c k)))
          (fun k => x6 (ix2 k f)) (x7 (ix2 0 f)) := by
  have e : out0_A_8 c i arg2 harg2 arg3 harg3 arg4 harg4 arg5 harg5 arg6 harg6 arg7 harg7 arg8 harg8 arg9 harg9 arg10 harg10 x0 x1 x2 x3 x4 x5 x6 x7 = blk0 (arg2.view.readAt (Elt Ideal) (Rect.unit (s := S1x1024x3) ![0, 0, 0] S1x1024x3.size inb_S1x1024x3_S1x1024x3_0_0_0).toLoadRect (harg2.unread x0))
            (arg6.view.readAt (Elt Ideal) (Rect.unit (s := S3x128) ![0, 0] S3x128.size inb_S3x128_S3x128_0_0).toLoadRect (harg6.unread x4))
            (arg7.view.readAt (Elt Ideal) (Rect.unit (s := S1x128) ![0, 0] S1x128.size inb_S1x128_S1x128_0_0).toLoadRect (harg7.unread x5))
            (arg4.view.readAt (Elt Ideal) (Rect.unit (s := S1x1024x64) ![0, 0, 0] S1x1024x64.size inb_S1x1024x64_S1x1024x64_0_0_0).toLoadRect (harg4.unread x2))
            (arg5.view.readAt (Elt Ideal) (Rect.unit (s := S64x128) ![0, 0] S64x128.size inb_S64x128_S64x128_0_0).toLoadRect (harg5.unread x3))
            (arg2.view.readAt (Elt Ideal) (Rect.unit (s := S1x1024x3) (k0_off1 i) S1x256x3.size (k0_off1_inb i)).toLoadRect (harg2.unread x0))
            (arg2.view.readAt (Elt Ideal) (Rect.unit (s := S1x1024x3) (k0_off2 i) S1x256x1.size (k0_off2_inb i)).toLoadRect (harg2.unread x0))
            (arg3.view.readAt (Elt Ideal) (Rect.unit (s := S1x3x1024) ![0, 0, 0] S1x1x1024.size inb_S1x3x1024_S1x1x1024_0_0_0).toLoadRect (harg3.unread x1))
            (arg2.view.readAt (Elt Ideal) (Rect.unit (s := S1x1024x3) (k0_off3 i) S1x256x1.size (k0_off3_inb i)).toLoadRect (harg2.unread x0))
            (arg3.view.readAt (Elt Ideal) (Rect.unit (s := S1x3x1024) ![0, 1, 0] S1x1x1024.size inb_S1x3x1024_S1x1x1024_0_1_0).toLoadRect (harg3.unread x1))
            (arg2.view.readAt (Elt Ideal) (Rect.unit (s := S1x1024x3) (k0_off4 i) S1x256x1.size (k0_off4_inb i)).toLoadRect (harg2.unread x0))
            (arg3.view.readAt (Elt Ideal) (Rect.unit (s := S1x3x1024) ![0, 2, 0] S1x1x1024.size inb_S1x3x1024_S1x1x1024_0_2_0).toLoadRect (harg3.unread x1))
            (arg8.view.readAt (Elt Ideal) (Rect.unit (s := S128x128) ![0, 0] S128x128.size inb_S128x128_S128x128_0_0).toLoadRect (harg8.unread x6))
            (arg9.view.readAt (Elt Ideal) (Rect.unit (s := S1x128) ![0, 0] S1x128.size inb_S1x128_S1x128_0_0).toLoadRect (harg9.unread x7)) := by
    unfold out0_A_8
    refine (View.read_writes_eq_canon VO0_8 _ _ (cover0_A_8 c i arg2 harg2 arg3 harg3 arg4 harg4 arg5 harg5 arg6 harg6 arg7 harg7 arg8 harg8 arg9 harg9 arg10 harg10 x0 x1 x2 x3 x4 x5 x6 x7)).trans ?_
    rw [run0_eq]
    exact View.canon_unit_zero (by funext a; match a with | ⟨0, _⟩ => rfl | ⟨1, _⟩ => rfl | ⟨2, _⟩ => rfl) _ _
  have l0 : (arg2.view.readAt (Elt Ideal) (Rect.unit (s := S1x1024x3) ![0, 0, 0] S1x1024x3.size inb_S1x1024x3_S1x1024x3_0_0_0).toLoadRect (harg2.unread x0)) = x0 := (View.readAt_full _ _ _).trans (harg2.read_unread _)
  have l2 : (arg4.view.readAt (Elt Ideal) (Rect.unit (s := S1x1024x64) ![0, 0, 0] S1x1024x64.size inb_S1x1024x64_S1x1024x64_0_0_0).toLoadRect (harg4.unread x2)) = x2 := (View.readAt_full _ _ _).trans (harg4.read_unread _)
  have l3 : (arg5.view.readAt (Elt Ideal) (Rect.unit (s := S64x128) ![0, 0] S64x128.size inb_S64x128_S64x128_0_0).toLoadRect (harg5.unread x3)) = x3 := (View.readAt_full _ _ _).trans (harg5.read_unread _)
  have l4 : (arg6.view.readAt (Elt Ideal) (Rect.unit (s := S3x128) ![0, 0] S3x128.size inb_S3x128_S3x128_0_0).toLoadRect (harg6.unread x4)) = x4 := (View.readAt_full _ _ _).trans (harg6.read_unread _)
  have l5 : (arg7.view.readAt (Elt Ideal) (Rect.unit (s := S1x128) ![0, 0] S1x128.size inb_S1x128_S1x128_0_0).toLoadRect (harg7.unread x5)) = x5 := (View.readAt_full _ _ _).trans (harg7.read_unread _)
  have l6 : (arg8.view.readAt (Elt Ideal) (Rect.unit (s := S128x128) ![0, 0] S128x128.size inb_S128x128_S128x128_0_0).toLoadRect (harg8.unread x6)) = x6 := (View.readAt_full _ _ _).trans (harg8.read_unread _)
  have l7 : (arg9.view.readAt (Elt Ideal) (Rect.unit (s := S1x128) ![0, 0] S1x128.size inb_S1x128_S1x128_0_0).toLoadRect (harg9.unread x7)) = x7 := (View.readAt_full _ _ _).trans (harg9.read_unread _)
  rw [e, l0, l2, l3, l4, l5, l6, l7]
  refine (blk0_apply _ _ _ _ _ _ _ _ _ _ _ _ _ _ (fun j c => x0 (ix3 0 j c)) u R f row ?_ ?_ ?_ ?_ ?_ ?_ ?_ ?_).trans ?_
  · intro j c
    rfl
  · intro c
    rw [harg2.readAt_unread]
    exact congrArg x0 (ext3 _ _ (by show k0_off1 i 0 + 1 * 0 = 0; rw [off1]; rfl)
      (by show k0_off1 i 1 + 1 * R.val = row.val; rw [off1, hrow]; show 256 * (i 1).val + 1 * R.val = _; omega)
      (by show k0_off1 i 2 + 1 * c.val = c.val; rw [off1]; show 0 + 1 * c.val = _; omega))
  · rw [harg2.readAt_unread]
    exact congrArg x0 (ext3 _ _ (by show k0_off2 i 0 + 1 * 0 = 0; rw [off2]; rfl)
      (by show k0_off2 i 1 + 1 * R.val = row.val; rw [off2, hrow]; show 256 * (i 1).val + 1 * R.val = _; omega)
      (by show k0_off2 i 2 + 1 * 0 = 0; rw [off2]; rfl))
  · rw [harg2.readAt_unread]
    exact congrArg x0 (ext3 _ _ (by show k0_off3 i 0 + 1 * 0 = 0; rw [off3]; rfl)
      (by show k0_off3 i 1 + 1 * R.val = row.val; rw [off3, hrow]; show 256 * (i 1).val + 1 * R.val = _; omega)
      (by show k0_off3 i 2 + 1 * 0 = 1; rw [off3]; rfl))
  · rw [harg2.readAt_unread]
    exact congrArg x0 (ext3 _ _ (by show k0_off4 i 0 + 1 * 0 = 0; rw [off4]; rfl)
      (by show k0_off4 i 1 + 1 * R.val = row.val; rw [off4, hrow]; show 256 * (i 1).val + 1 * R.val = _; omega)
      (by show k0_off4 i 2 + 1 * 0 = 2; rw [off4]; rfl))
  · intro j
    rw [harg3.readAt_unread, ← hT]
    exact congrArg x1 (ext3 _ _ rfl rfl (by show 0 + 1 * j.val = j.val; omega))
  · intro j
    rw [harg3.readAt_unread, ← hT]
    exact congrArg x1 (ext3 _ _ rfl rfl (by show 0 + 1 * j.val = j.val; omega))
  · intro j
    rw [harg3.readAt_unread, ← hT]
    exact congrArg x1 (ext3 _ _ rfl rfl (by show 0 + 1 * j.val = j.val; omega))
  · rfl

end Cert.Kernel2Ideal.Gen
end
-- ==== Proof.ConvArr2.lean ====
/-
  Layer 2's result array: its blocks put together.
-/
module

public import proofs.«01_k».proof.Proof.ConvVal2
public import proofs.«01_k».proof.Proof.Gen.Kernel2Ideal.Frame
public import Idealize.ShloMosaic.Lib.Pipeline.ValueKit
public import Idealize.ShloMosaic.Lib.Claim

@[expose] public section

set_option maxRecDepth 16384

noncomputable section

namespace Cert.Kernel2Ideal.Gen

open Idealize.ShloMosaic Idealize.ShloMosaic.TcCoe Idealize.ShloMosaic.Tactic
open scoped BigOperators

variable (m : (ℓ : Loc nD τ sig) → Buf (Elt Ideal) ℓ)

/-- The blocks each grid point reads and writes. -/
theorem idx : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![0, 0] ∧ win0_4.index t = ![0, 0] ∧ win0_5.index t = ![0, 0]
    ∧ win0_6.index t = ![0, 0] ∧ win0_7.index t = ![0, 0] ∧ win0_8.index t = ![(grid0.coords t 0).val, (grid0.coords t 1).val, 0] := by
  decide +kernel

/-- Layer 2's convolution of the points `p`, the features `x` and the weights. -/
def G (p : Vec Ideal S16x1024x3 .f32) (x : Vec Ideal S16x1024x64 .f32) (wa : Vec Ideal S67x128 .f32) (ba : Vec Ideal S128 .f32)
    (wb : Vec Ideal S128x128 .f32) (bb : Vec Ideal S128 .f32) : Vec Ideal S16x1024x128 .f32 := fun y =>
  Spec.conv r2 (fun j a => p (ix3 (y 0) j a))
    (fun j k => ((∑ a : Fin 3, (p (ix3 (y 0) j a) * wa (ix2 ⟨64 + a.val, by omega⟩ k) : EReal)) + ba (ix1 k))
      + ∑ a : Fin 64, (x (ix3 (y 0) j a) * wa (ix2 ⟨a.val, by omega⟩ k) : EReal))
    (fun a k => wa (ix2 ⟨64 + a.val, by omega⟩ k)) (fun k f => wb (ix2 k f)) (fun f => bb (ix1 f)) (y 1) (y 2)

/-- Layer 2's convolution of the arguments in memory. -/
def Gm (c : Dev nD) : Vec Ideal S16x1024x128 .f32 :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem read0 (c : Dev nD) (t : Fin cfg0.N) (j : Fin 1024) (a : Fin 3) : iblk m c 0 t (ix3 0 j a) = m ((c.tc : Thread nD τ).loc main_arg0) (ix3 (grid0.coords t 0) j a) := by
  blk_ext [iblk, V, idx t]
theorem read1 (c : Dev nD) (t : Fin cfg0.N) (j : Fin 1024) (a : Fin 3) : iblk m c 1 t (ix3 0 a j) = m ((c.tc : Thread nD τ).loc main_arg0) (ix3 (grid0.coords t 0) j a) := by
  blk_simp [iblk]; entry_read
  pointwise
  blk_ext [idx t]
theorem read2 (c : Dev nD) (t : Fin cfg0.N) (j : Fin 1024) (a : Fin 64) : iblk m c 2 t (ix3 0 j a) = m ((c.tc : Thread nD τ).loc main_arg1) (ix3 (grid0.coords t 0) j a) := by
  blk_ext [iblk, V, idx t]
theorem read3 (c : Dev nD) (t : Fin cfg0.N) (a : Fin 64) (k : Fin 128) : iblk m c 3 t (ix2 a k) = m ((c.tc : Thread nD τ).loc main_arg2) (ix2 ⟨a.val, by omega⟩ k) := by
  blk_simp [iblk]; entry_read
  pointwise
  blk_ext [idx t]
theorem read4 (c : Dev nD) (t : Fin cfg0.N) (a : Fin 3) (k : Fin 128) : iblk m c 4 t (ix2 a k) = m ((c.tc : Thread nD τ).loc main_arg2) (ix2 ⟨64 + a.val, by omega⟩ k) := by
  blk_simp [iblk]; entry_read
  pointwise
  blk_ext [idx t]
theorem read5 (c : Dev nD) (t : Fin cfg0.N) (k : Fin 128) : iblk m c 5 t (ix2 0 k) = m ((c.tc : Thread nD τ).loc main_arg3) (ix1 k) := by
  blk_simp [iblk]; entry_read
  pointwise
  blk_ext [idx t]
theorem read6 (c : Dev nD) (t : Fin cfg0.N) (a : Fin 128) (k : Fin 128) : iblk m c 6 t (ix2 a k) = m ((c.tc : Thread nD τ).loc main_arg4) (ix2 a k) := by
  blk_ext [iblk, V, idx t]
theorem read7 (c : Dev nD) (t : Fin cfg0.N) (k : Fin 128) : iblk m c 7 t (ix2 0 k) = m ((c.tc : Thread nD τ).loc main_arg5) (ix1 k) := by
  blk_simp [iblk]; entry_read
  pointwise
  blk_ext [idx t]

theorem arr_eq (c : Dev nD) : (dats m 0 c).arrAt 8 (cfgs 0).N = Gm m c := by
  refine (dats m 0 c).arrAt_eq_of_covers 8 _ (by decide +kernel) fun t hf y => ?_
  blk_simp
  rw [after0_8]
  obtain ⟨u, R, f, rfl⟩ : ∃ (u : Fin 1) (R : Fin 256) (f : Fin 128), y = ix3 u R f := ⟨y 0, y 1, y 2, by blk_ext⟩
  have hb : (grid0.coords t 1).val < 4 := (grid0.coords t 1).isLt
  have he : (win0_8.blk t).view.emb (ix3 u R f) = ix3 (grid0.coords t 0) ⟨256 * (grid0.coords t 1).val + R.val, by have := R.isLt; omega⟩ f := by
    blk_ext [idx t]
  unfold outsAt0
  refine (out0_apply c _ _ _ _ _ _ _ _ _ _ _ _ _ _ _ _ _ _ _ _ _ _ _ _ _ _ _ u R f ⟨256 * (grid0.coords t 1).val + R.val, by have := R.isLt; omega⟩ rfl (fun a j => (read1 m c t j a).trans (read0 m c t j a).symm)).trans ?_
  simp only [read0, read2, read3, read4, read5, read6, read7]
  rw [he]
  rfl

/-- The run of the program: the result, and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v5) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 8).trans (arr_eq m c), h.2 c⟩) (θ_run_and (run_main m ρ) (unchanged m ρ))

end Cert.Kernel2Ideal.Gen
-- ==== Proof.RefDef2.lean ====
/-
  The reference of layer 2 as a function of its arguments, stage by stage.
-/
module

public import proofs.«01_k».proof.Proof.Gen.Reference2Ideal
public import Idealize.ShloMosaic.PureOps.Ideal

@[expose] public section

noncomputable section

namespace Cert.Reference2Ideal.Gen

open Idealize.ShloMosaic Idealize.ShloMosaic.TcCoe

/-- The difference of the points `i` and `j`. -/
def diff (p : FVec Ideal S16x1024x3 .f32) : FVec Ideal S16x1024x1024x3 .f32 :=
  subf (broadcastInDim S16x1024x1024x3 ![0, 1, 2, 3] bcast_S16x1024x1x3_S16x1024x1024x3_0_1_2_3 (broadcastInDim S16x1024x1x3 ![0, 1, 3] bcast_S16x1024x3_S16x1024x1x3_0_1_3 p))
    (broadcastInDim S16x1024x1024x3 ![0, 1, 2, 3] bcast_S16x1x1024x3_S16x1024x1024x3_0_1_2_3 (broadcastInDim S16x1x1024x3 ![0, 2, 3] bcast_S16x1024x3_S16x1x1024x3_0_2_3 p))

/-- The squared distance of the points `i` and `j`. -/
def dist (p : FVec Ideal S16x1024x3 .f32) : FVec Ideal S16x1024x1024 .f32 :=
  Host.reduceAdd (mulf (diff p) (diff p)) (constant S_ .f32 0x00000000#32) reducesTo_S16x1024x1024x3_S16x1024x1024_d3 h_S_

/-- The negated distance, `-∞` outside the radius. -/
def neg (p : FVec Ideal S16x1024x3 .f32) : FVec Ideal S16x1024x1024 .f32 :=
  Host.negf (select (cmpf .ole (dist p) (broadcastInDim S16x1024x1024 ![] bcast_S_S16x1024x1024 (constant S_ .f32 0x3E23D70A#32))) (dist p)
    (broadcastInDim S16x1024x1024 ![1, 2] bcast_S1024x1024_S16x1024x1024_1_2 (broadcastInDim S1024x1024 ![] bcast_S_S1024x1024 (constant S_ .f32 0x7F800000#32))))

/-- The 32 greatest of them. -/
def topV (p : FVec Ideal S16x1024x3 .f32) : FVec Ideal S16x1024x32 .f32 :=
  (Host.topK S16x1024x32 2 (FloatOps.cmpfTotal .gt) (neg p) sliceFits_S16x1024x1024_S16x1024x32).1

/-- Their places. -/
def topI (p : FVec Ideal S16x1024x3 .f32) : IVec S16x1024x32 32 :=
  (Host.topK S16x1024x32 2 (FloatOps.cmpfTotal .gt) (neg p) sliceFits_S16x1024x1024_S16x1024x32).2

/-- Which of them lie within the radius. -/
def valid (p : FVec Ideal S16x1024x3 .f32) : IVec S16x1024x32 1 :=
  cmpf .olt (Host.absf (topV p)) (broadcastInDim S16x1024x32 ![] bcast_S_S16x1024x32 (constant S_ .f32 0x7F800000#32))

/-- The places as an index array; a negative one would count from the end. -/
def place (p : FVec Ideal S16x1024x3 .f32) : IVec S16x1024x32x1 32 :=
  broadcastInDim S16x1024x32x1 ![0, 1, 2] bcast_S16x1024x32_S16x1024x32x1_0_1_2
    (select (cmpi .slt (topI p) (broadcastInDim S16x1024x32 ![] bcast_S_S16x1024x32 (constantI S_ 32 0#32)))
      (addi (topI p) (broadcastInDim S16x1024x32 ![] bcast_S_S16x1024x32 (constantI S_ 32 1024#32))) (topI p))

/-- The positions of the neighbours relative to the centre. -/
def rel (p : FVec Ideal S16x1024x3 .f32) : FVec Ideal S16x1024x32x3 .f32 :=
  subf (Host.gather gather_S16x1024x3_S16x1024x32x1_S16x1024x32x3_3_1_0_0_1_3_113 p (place p))
    (broadcastInDim S16x1024x32x3 ![0, 1, 2, 3] bcast_S16x1024x1x3_S16x1024x32x3_0_1_2_3 (broadcastInDim S16x1024x1x3 ![0, 1, 3] bcast_S16x1024x3_S16x1024x1x3_0_1_3 p))

/-- The features of the neighbours. -/
def feat (p : FVec Ideal S16x1024x3 .f32) (x : FVec Ideal S16x1024x64 .f32) : FVec Ideal S16x1024x32x64 .f32 :=
  Host.gather gather_S16x1024x64_S16x1024x32x1_S16x1024x32x64_3_1_0_0_1_3_1164 x (place p)

/-- Features and positions side by side. -/
def cat (p : FVec Ideal S16x1024x3 .f32) (x : FVec Ideal S16x1024x64 .f32) : FVec Ideal S16x1024x32x67 .f32 :=
  concatenate S16x1024x32x67 3 [⟨S16x1024x32x64, feat p x⟩, ⟨S16x1024x32x3, rel p⟩] concatenates_S16x1024x32x64_S16x1024x32x3_S16x1024x32x67_d3

/-- The hidden layer. -/
def hid (p : FVec Ideal S16x1024x3 .f32) (x : FVec Ideal S16x1024x64 .f32) (wa : FVec Ideal S67x128 .f32) (ba : FVec Ideal S128 .f32) : FVec Ideal S16x1024x32x128 .f32 :=
  maximumf (addf (Host.dotGeneral dot_S16x1024x32x67_S67x128_S16x1024x32x128_3_0_012_1_n_n none (cat p x) wa)
      (broadcastInDim S16x1024x32x128 ![0, 1, 2, 3] bcast_S1x1x1x128_S16x1024x32x128_0_1_2_3 (broadcastInDim S1x1x1x128 ![1, 2, 3] bcast_S1x1x128_S1x1x1x128_1_2_3 (broadcastInDim S1x1x128 ![2] bcast_S128_S1x1x128_2 ba))))
    (broadcastInDim S16x1024x32x128 ![] bcast_S_S16x1024x32x128 (constant S_ .f32 0x00000000#32))

/-- The messages. -/
def msg (p : FVec Ideal S16x1024x3 .f32) (x : FVec Ideal S16x1024x64 .f32) (wa : FVec Ideal S67x128 .f32) (ba : FVec Ideal S128 .f32) (wb : FVec Ideal S128x128 .f32) (bb : FVec Ideal S128 .f32) : FVec Ideal S16x1024x32x128 .f32 :=
  addf (Host.dotGeneral dot_S16x1024x32x128_S128x128_S16x1024x32x128_3_0_012_1_n_n none (hid p x wa ba) wb)
    (broadcastInDim S16x1024x32x128 ![0, 1, 2, 3] bcast_S1x1x1x128_S16x1024x32x128_0_1_2_3 (broadcastInDim S1x1x1x128 ![1, 2, 3] bcast_S1x1x128_S1x1x1x128_1_2_3 (broadcastInDim S1x1x128 ![2] bcast_S128_S1x1x128_2 bb)))

/-- The messages, `-∞` outside the radius. -/
def masked (p : FVec Ideal S16x1024x3 .f32) (x : FVec Ideal S16x1024x64 .f32) (wa : FVec Ideal S67x128 .f32) (ba : FVec Ideal S128 .f32) (wb : FVec Ideal S128x128 .f32) (bb : FVec Ideal S128 .f32) : FVec Ideal S16x1024x32x128 .f32 :=
  select (broadcastInDim S16x1024x32x128 ![0, 1, 2, 3] bcast_S16x1024x32x1_S16x1024x32x128_0_1_2_3 (broadcastInDim S16x1024x32x1 ![0, 1, 2] bcast_S16x1024x32_S16x1024x32x1_0_1_2 (valid p)))
    (msg p x wa ba wb bb)
    (broadcastInDim S16x1024x32x128 ![1, 2, 3] bcast_S1024x32x128_S16x1024x32x128_1_2_3 (broadcastInDim S1024x32x128 ![] bcast_S_S1024x32x128 (constant S_ .f32 0xFF800000#32)))

/-- The greatest message, at least zero. -/
def layer (p : FVec Ideal S16x1024x3 .f32) (x : FVec Ideal S16x1024x64 .f32) (wa : FVec Ideal S67x128 .f32) (ba : FVec Ideal S128 .f32) (wb : FVec Ideal S128x128 .f32) (bb : FVec Ideal S128 .f32) : FVec Ideal S16x1024x128 .f32 :=
  maximumf (Host.reduce FloatOps.maximumf (masked p x wa ba wb bb) (constant S_ .f32 0xFF800000#32) reducesTo_S16x1024x32x128_S16x1024x128_d2 h_S_)
    (broadcastInDim S16x1024x128 ![] bcast_S_S16x1024x128 (constant S_ .f32 0x00000000#32))

end Cert.Reference2Ideal.Gen
-- ==== Proof.RefRun2.lean ====
/-
  The run of layer 2's reference: its result is the composed function of its arguments, which stay as they were.
-/
module

public import proofs.«01_k».proof.Proof.RefDef2
public import Idealize.ShloMosaic.Lib.StableHlo.RunHlo
public import Idealize.ShloMosaic.Lib.StableHlo.RunRead
public import Idealize.ShloMosaic.Lib.Claim

@[expose] public section

set_option maxRecDepth 16384

noncomputable section

namespace Cert.Reference2Ideal.Gen

open Idealize.ShloMosaic Idealize.ShloMosaic.TcCoe Idealize.ShloMosaic.Tactic

variable (m : (ℓ : Loc nD τ sig) → Buf (Elt Ideal) ℓ)

/-- The run: the result and the arguments. -/
theorem run (ρ : Dev nD → PrngReg) : θ_run defs (onTc (τ := τ) (main (F := Ideal))) ⟨m, fun _ => 0, ρ⟩ (fun r => ∀ c : Dev nD,
    r.2.mem ((c.tc : Thread nD τ).loc main_v46) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  simp only [StableHlo.TRef.ofBuf_toBuf]
  simp -implicitDefEqProofs only [StableHlo.TRef.ofBuf, StableHlo.TRef.toBuf, cast_eq]
  unfold layer masked msg hid cat feat rel place valid topV topI neg dist diff
  with_reducible rfl

/-- The run leaves the arguments and the semaphores as they were. -/
theorem frame (ρ : Dev nD → PrngReg) : θ_run defs (onTc (τ := τ) (main (F := Ideal))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (run m ρ)

end Cert.Reference2Ideal.Gen
-- ==== Proof.RefVal2.lean ====
/-
  Layer 2's reference read at an index.
-/
module

public import proofs.«01_k».proof.Proof.RefDef2
public import proofs.«01_k».proof.Proof.RefRead
public import proofs.«01_k».proof.Proof.Layer
public import proofs.«01_k».proof.Proof.ConvRead
public import Idealize.ShloMosaic.Lib.Pointwise
public import Idealize.ShloMosaic.Lib.Claim
public import Idealize.ShloMosaic.Lib.Tactic.CleanTypes
public import Idealize.ShloMosaic.Lib.Tactic.WordOmega

@[expose] public section

set_option maxRecDepth 16384

noncomputable section

namespace Cert.Reference2Ideal.Gen

open Idealize.ShloMosaic Idealize.ShloMosaic.TcCoe Idealize.ShloMosaic.Tactic
open scoped BigOperators

/-- The squared radius. -/
def r2 : EReal := Ideal.ofBits .f32 0x3E23D70A#32

/-- The points of batch `b`. -/
def pts (p : FVec Ideal S16x1024x3 .f32) (b : Fin 16) (j : Fin 1024) (a : Fin 3) : EReal := p (ix3 b j a)

/-- The distances from the centre `i`, infinite outside the radius. -/
def nr (p : FVec Ideal S16x1024x3 .f32) (b : Fin 16) (i : Fin 1024) : Fin 1024 → EReal := Spec.near r2 (pts p b) i

/-- The `t`-th nearest point. -/
def nb (p : FVec Ideal S16x1024x3 .f32) (b : Fin 16) (i : Fin 1024) (t : Fin 32) : Fin 1024 :=
  First.order (nr p b i) (t.castLE (by decide))

theorem dist_apply (p : FVec Ideal S16x1024x3 .f32) (b : Fin 16) (i j : Fin 1024) : (dist p (ix3 b i j) : EReal) = Spec.sqd (pts p b) i j := by
  rw [Spec.sqd_eq_sum]
  unfold pts
  clean_types
  pointwise [dist, diff]

theorem neg_apply (p : FVec Ideal S16x1024x3 .f32) (b : Fin 16) (i j : Fin 1024) : (neg p (ix3 b i j) : EReal) = - nr p b i j := by
  unfold nr Spec.near
  pointwise [neg]
  simp only [dist_apply]
  unfold r2
  simp only [Conv.ofBits_inf]

theorem order_eq (p : FVec Ideal S16x1024x3 .f32) (b : Fin 16) (i : Fin 1024) :
    Conv.rowOrder (FloatOps.cmpfTotal (F := Ideal) (φ := .f32) .gt) (neg p) b i = First.order (nr p b i) := by
  rw [First.order_coe]
  unfold Conv.rowOrder
  refine congrArg sortedFrom (funext fun k => funext fun k' => ?_)
  rw [neg_apply, neg_apply]

theorem topV_apply (p : FVec Ideal S16x1024x3 .f32) (b : Fin 16) (i : Fin 1024) (t : Fin 32) :
    (topV p (ix3 b i t) : EReal) = - nr p b i (nb p b i t) := by
  refine (Conv.topK_val _ _ _ (by decide) b i t).trans ?_
  rw [order_eq, neg_apply]
  rfl

theorem topI_apply (p : FVec Ideal S16x1024x3 .f32) (b : Fin 16) (i : Fin 1024) (t : Fin 32) :
    topI p (ix3 b i t) = BitVec.ofNat 32 (nb p b i t).val := by
  refine (Conv.topK_idx _ _ _ (by decide) b i t).trans ?_
  rw [order_eq]
  rfl

theorem place_apply (p : FVec Ideal S16x1024x3 .f32) (b : Fin 16) (i : Fin 1024) (t : Fin 32) :
    (place p (ix4 b i t 0)).toInt = (nb p b i t).val := by
  have e : place p (ix4 b i t 0) = topI p (ix3 b i t) := by
    pointwise [place]
    rw [topI_apply]
    have := (nb p b i t).isLt
    word_omega
  rw [e, topI_apply]
  exact Conv.toInt_ofNat (lt_trans (nb p b i t).isLt (by decide))

theorem rel_apply (p : FVec Ideal S16x1024x3 .f32) (b : Fin 16) (i : Fin 1024) (t : Fin 32) (a : Fin 3) :
    (rel p (ix4 b i t a) : EReal) = pts p b (nb p b i t) a - pts p b i a := by
  have e : (Host.gather gather_S16x1024x3_S16x1024x32x1_S16x1024x32x3_3_1_0_0_1_3_113 p (place p)) (ix4 b i t a) = p (ix3 b (nb p b i t) a) :=
    Conv.takeRows_apply gather_S16x1024x3_S16x1024x32x1_S16x1024x32x3_3_1_0_0_1_3_113_wf p (place p) b i t a (nb p b i t) (place_apply p b i t)
  unfold rel
  generalize Host.gather gather_S16x1024x3_S16x1024x32x1_S16x1024x32x3_3_1_0_0_1_3_113 p (place p) = g at e ⊢
  pointwise
  rw [e]
  rfl

theorem valid_apply (p : FVec Ideal S16x1024x3 .f32) (b : Fin 16) (i : Fin 1024) (t : Fin 32) (hv : nr p b i (nb p b i t) ≠ ⊥) :
    valid p (ix3 b i t) = 1#1 ↔ nr p b i (nb p b i t) < ⊤ := by
  pointwise [valid]
  simp only [topV_apply, Conv.ofBits_inf, Conv.ofBool_eq_one]
  exact Spec.abs_neg_lt hv

theorem feat_apply (p : FVec Ideal S16x1024x3 .f32) (x : FVec Ideal S16x1024x64 .f32) (b : Fin 16) (i : Fin 1024) (t : Fin 32) (a : Fin 64) :
    (feat p x (ix4 b i t a) : EReal) = x (ix3 b (nb p b i t) a) :=
  Conv.takeRows_apply gather_S16x1024x64_S16x1024x32x1_S16x1024x32x64_3_1_0_0_1_3_1164_wf x (place p) b i t a (nb p b i t) (place_apply p b i t)

theorem hid_apply (p : FVec Ideal S16x1024x3 .f32) (x : FVec Ideal S16x1024x64 .f32) (wa : FVec Ideal S67x128 .f32) (ba : FVec Ideal S128 .f32)
    (b : Fin 16) (i : Fin 1024) (t : Fin 32) (k : Fin 128) :
    (hid p x wa ba (ix4 b i t k) : EReal) = max ((∑ c : Fin 64, (x (ix3 b (nb p b i t) c) * wa (ix2 ⟨c.val, by omega⟩ k) : EReal)
      + ∑ c : Fin 3, ((pts p b (nb p b i t) c - pts p b i c) * wa (ix2 ⟨64 + c.val, by omega⟩ k) : EReal)) + ba (ix1 k)) 0 := by
  pointwise [hid, cat]
  simp only [feat_apply, rel_apply]

theorem masked_apply (p : FVec Ideal S16x1024x3 .f32) (x : FVec Ideal S16x1024x64 .f32) (wa : FVec Ideal S67x128 .f32) (ba : FVec Ideal S128 .f32)
    (wb : FVec Ideal S128x128 .f32) (bb : FVec Ideal S128 .f32) (b : Fin 16) (i : Fin 1024) (t : Fin 32) (f : Fin 128) :
    (masked p x wa ba wb bb (ix4 b i t f) : EReal)
      = if valid p (ix3 b i t) = 1#1 then (∑ k : Fin 128, (hid p x wa ba (ix4 b i t k) * wb (ix2 k f) : EReal)) + bb (ix1 f) else ⊥ := by
  pointwise [masked, msg]
  simp only [Conv.ofBits_ninf]
  rfl

/-- The maximum over the neighbours. -/
theorem max_apply (M : FVec Ideal S16x1024x32x128 .f32) (b : Fin 16) (i : Fin 1024) (f : Fin 128) :
    ((Host.reduce (FloatOps.maximumf : Ideal .f32 → Ideal .f32 → Ideal .f32) M (constant S_ .f32 0xFF800000#32)
        reducesTo_S16x1024x32x128_S16x1024x128_d2 h_S_ : FVec Ideal S16x1024x128 .f32) (ix3 b i f) : EReal)
      = (Finset.univ : Finset (Fin 32)).fold max ⊥ fun t => (M (ix4 b i t f) : EReal) := by
  clean_types
  pointwise
  simp only [Conv.ofBits_ninf]

/-- The cut at zero. -/
theorem relu_apply (R : FVec Ideal S16x1024x128 .f32) (b : Fin 16) (i : Fin 1024) (f : Fin 128) :
    ((maximumf R (broadcastInDim S16x1024x128 ![] bcast_S_S16x1024x128 (constant S_ .f32 0x00000000#32)) : FVec Ideal S16x1024x128 .f32) (ix3 b i f) : EReal)
      = max (R (ix3 b i f) : EReal) 0 := by
  pointwise

theorem layer_apply (p : FVec Ideal S16x1024x3 .f32) (x : FVec Ideal S16x1024x64 .f32) (wa : FVec Ideal S67x128 .f32) (ba : FVec Ideal S128 .f32)
    (wb : FVec Ideal S128x128 .f32) (bb : FVec Ideal S128 .f32) (b : Fin 16) (i : Fin 1024) (f : Fin 128) :
    (layer p x wa ba wb bb (ix3 b i f) : EReal)
      = max ((Finset.univ : Finset (Fin 32)).fold max ⊥ fun t =>
          if valid p (ix3 b i t) = 1#1 then (∑ k : Fin 128, (hid p x wa ba (ix4 b i t k) * wb (ix2 k f) : EReal)) + bb (ix1 f) else ⊥) 0 := by
  unfold layer
  exact (relu_apply _ b i f).trans (congrArg (fun v : EReal => max v 0) ((max_apply _ b i f).trans
    (congrArg (fun g : Fin 32 → EReal => (Finset.univ : Finset (Fin 32)).fold max ⊥ g) (funext fun t => masked_apply p x wa ba wb bb b i t f))))

end Cert.Reference2Ideal.Gen
-- ==== Proof.RefConv2.lean ====
/-
  Layer 2's reference is the convolution over the nearest points.
-/
module

public import proofs.«01_k».proof.Proof.RefVal2
public import Idealize.ShloMosaic.Lib.Pointwise

@[expose] public section

set_option maxRecDepth 16384

noncomputable section

namespace Cert.Reference2Ideal.Gen

open Idealize.ShloMosaic Idealize.ShloMosaic.TcCoe Idealize.ShloMosaic.Tactic
open scoped BigOperators

/-- The layer is the convolution over the neighbours in the order of their distance, where points, features and first weights are finite. -/
theorem layer_conv (p : FVec Ideal S16x1024x3 .f32) (x : FVec Ideal S16x1024x64 .f32) (wa : FVec Ideal S67x128 .f32) (ba : FVec Ideal S128 .f32)
    (wb : FVec Ideal S128x128 .f32) (bb : FVec Ideal S128 .f32) (hp : ∀ y, Spec.Real (p y)) (hx : ∀ y, Spec.Real (x y))
    (hwa : ∀ y, Spec.Real (wa y)) (hba : ∀ y, Spec.Real (ba y)) (b : Fin 16) (i : Fin 1024) (f : Fin 128) :
    (layer p x wa ba wb bb (ix3 b i f) : EReal)
      = Spec.conv r2 (pts p b)
          (fun j k => ((∑ a : Fin 3, (p (ix3 b j a) * wa (ix2 ⟨64 + a.val, by omega⟩ k) : EReal)) + ba (ix1 k))
            + ∑ a : Fin 64, (x (ix3 b j a) * wa (ix2 ⟨a.val, by omega⟩ k) : EReal))
          (fun a k => wa (ix2 ⟨64 + a.val, by omega⟩ k)) (fun k f => wb (ix2 k f)) (fun f => bb (ix1 f)) i f := by
  have hn : ∀ t, nr p b i (nb p b i t) ≠ ⊥ := fun t => Spec.near_ne_bot r2 (pts p b) (fun j a => hp _) i _
  have h32 : 32 ≤ 1024 := by decide
  have e1 : ∀ t, nb p b i t = First.order (Spec.near r2 (pts p b) i) (t.castLE h32) := fun t => by unfold nb nr; rfl
  have e2 : ∀ t, valid p (ix3 b i t) = 1#1 ↔ Spec.near r2 (pts p b) i (nb p b i t) < ⊤ := fun t => valid_apply p b i t (hn t)
  rw [layer_apply]
  refine Spec.conv_of h32 r2 (pts p b) _ (fun a k => wa (ix2 ⟨64 + a.val, by omega⟩ k)) (fun k f => wb (ix2 k f)) (fun f => bb (ix1 f)) i f (nb p b i) e1
    (fun t => valid p (ix3 b i t)) e2 (fun t k => hid p x wa ba (ix4 b i t k)) ?_
  intro t k
  have e3 := Spec.hidden_eq (fun c : Fin 64 => (x (ix3 b (nb p b i t) c) : EReal)) (fun c => wa (ix2 ⟨c.val, by omega⟩ k))
    (pts p b (nb p b i t)) (pts p b i) (fun c => wa (ix2 ⟨64 + c.val, by omega⟩ k)) (ba (ix1 k)) (fun _ => hx _) (fun _ => hwa _)
    (fun _ => hp _) (fun _ => hp _) (fun _ => hwa _) (hba _)
  rw [hid_apply]
  unfold Spec.hidK
  generalize nb p b i t = j at e3 ⊢
  exact congrArg (fun v : EReal => max v 0) e3.symm
end Cert.Reference2Ideal.Gen
-- ==== Proof.Claim2.lean ====
/-
  Layer 2: kernel and reference run to the same result.
-/
module

public import proofs.«01_k».proof.Defs
public import proofs.«01_k».proof.Proof.Finite
public import proofs.«01_k».proof.Proof.ConvArr2
public import proofs.«01_k».proof.Proof.RefRun2
public import proofs.«01_k».proof.Proof.RefConv2
public import proofs.«01_k».proof.Proof.Gen.Pre_finite2
public import Idealize.ShloMosaic.Lib.Claim

@[expose] public section

set_option maxRecDepth 16384

noncomputable section

namespace Cert.Proof

open Idealize.ShloMosaic Idealize.ShloMosaic.TcCoe Idealize.ShloMosaic.Tactic
open scoped BigOperators

/-- What the precondition says: points, features and first weights are finite. -/
theorem finite2 (m : (ℓ : Loc Cert.Kernel2Ideal.nD Cert.Kernel2Ideal.τ Cert.Kernel2Ideal.sig) → Buf (Elt Ideal) ℓ) (h : Pre_Kernel2Ideal_finite2 m) (c : Dev Cert.Kernel2Ideal.nD) :
    (∀ y, Spec.Real (m ((c.tc : Thread Cert.Kernel2Ideal.nD Cert.Kernel2Ideal.τ).loc Cert.Kernel2Ideal.main_arg0) y))
      ∧ (∀ y, Spec.Real (m ((c.tc : Thread Cert.Kernel2Ideal.nD Cert.Kernel2Ideal.τ).loc Cert.Kernel2Ideal.main_arg1) y))
      ∧ (∀ y, Spec.Real (m ((c.tc : Thread Cert.Kernel2Ideal.nD Cert.Kernel2Ideal.τ).loc Cert.Kernel2Ideal.main_arg2) y))
      ∧ (∀ y, Spec.Real (m ((c.tc : Thread Cert.Kernel2Ideal.nD Cert.Kernel2Ideal.τ).loc Cert.Kernel2Ideal.main_arg3) y)) :=
  ⟨Spec.real_of_finite _ (m ((c.tc : Thread Cert.Kernel2Ideal.nD Cert.Kernel2Ideal.τ).loc Cert.Kernel2Ideal.main_arg0)) (h c).1,
    Spec.real_of_finite _ (m ((c.tc : Thread Cert.Kernel2Ideal.nD Cert.Kernel2Ideal.τ).loc Cert.Kernel2Ideal.main_arg1)) (h c).2.1,
    Spec.real_of_finite _ (m ((c.tc : Thread Cert.Kernel2Ideal.nD Cert.Kernel2Ideal.τ).loc Cert.Kernel2Ideal.main_arg2)) (h c).2.2.1,
    Spec.real_of_finite _ (m ((c.tc : Thread Cert.Kernel2Ideal.nD Cert.Kernel2Ideal.τ).loc Cert.Kernel2Ideal.main_arg3)) (h c).2.2.2⟩

/-- The reference's layer is the kernel's. -/
theorem layer_eq2 (p : FVec Ideal Kernel2Ideal.S16x1024x3 .f32) (x : FVec Ideal Kernel2Ideal.S16x1024x64 .f32) (wa : FVec Ideal Kernel2Ideal.S67x128 .f32) (ba : FVec Ideal Kernel2Ideal.S128 .f32)
    (wb : FVec Ideal Kernel2Ideal.S128x128 .f32) (bb : FVec Ideal Kernel2Ideal.S128 .f32) (hp : ∀ y, Spec.Real (p y)) (hx : ∀ y, Spec.Real (x y))
    (hwa : ∀ y, Spec.Real (wa y)) (hba : ∀ y, Spec.Real (ba y)) :
    Reference2Ideal.Gen.layer p x wa ba wb bb = Kernel2Ideal.Gen.G p x wa ba wb bb := by
  funext y
  have e := Reference2Ideal.Gen.layer_conv p x wa ba wb bb hp hx hwa hba (y 0) (y 1) (y 2)
  rw [eq_ix3 y]
  exact e

theorem algebraic2 : algebraic_Kernel2Ideal_Reference2Ideal_pre_finite2 := by
  pair_intro
  · run_from Kernel2Ideal.Gen.run m g
  · refine (θ_run _ _ _).mono (fun r h c => ?_) (Reference2Ideal.Gen.run m' g')
    have e := h c
    obtain ⟨hp, hx, hwa, hba⟩ := finite2 m hpre c
    refine ⟨e.1.trans ?_, e.2⟩
    obtain ⟨a0, a1, a2, a3, a4, a5⟩ := hagree c
    rw [a0, a1, a2, a3, a4, a5]
    exact layer_eq2 _ _ _ _ _ _ hp hx hwa hba

end Cert.Proof

end
-- ==== Proof.ConvRun3.lean ====
/-
  What layer 3's convolution stores, as the shape-generic block of `ConvDefs` over what the body's loads read.
-/
module

public import proofs.«01_k».proof.Proof.Gen.KernelIdeal.Frame
public import proofs.«01_k».proof.Proof.ConvDefs

@[expose] public section

set_option maxRecDepth 65536

noncomputable section

namespace Cert.KernelIdeal.Gen

open Idealize.ShloMosaic Idealize.ShloMosaic.TcCoe Idealize.ShloMosaic.Tactic

variable {F : FTy → Type} [FloatOps F]

theorem facts0 : Conv.Facts 256 256 256 where
  red := reduces_S64x256_S64
  cast1 := shapeCasts_S64_S64x1
  bc := broadcasts_S64x1_S64x256
  io := iota_S64x256_d1_w32
  catO := concatenates_S64x256_S64x256_S64x256_S64x256_S256x256_d0
  catM := concatenates_S64x1_S64x1_S64x1_S64x1_S256x1_d0
  catA := concatenates_S256x256_S256x256_S256x512_d1
  slL := slices_S256x512_o0_0_S256x256
  slR := slices_S256x512_o0_256_S256x256
  castB := shapeCasts_S1x256_S1x256
  bcB := broadcasts_S1x256_S256x256
  castV := shapeCasts_S256x1_S256x1
  bcV := broadcasts_S256x1_S256x256
  castF := shapeCasts_S256x256_S1x256x256
  sl0 := slices_S256x256_o0_0_S64x256
  sl1 := slices_S256x256_o64_0_S64x256
  sl2 := slices_S256x256_o128_0_S64x256
  sl3 := slices_S256x256_o192_0_S64x256
  lt1 := natLt_1_32
  ltb := bitsLt_bf16_f32

/-- The stored block of the convolution from what its loads read. -/
def blk0 (p : Vec F S1x256x3 .f32) (wap : Vec F S3x256 .f32) (ba : Vec F S1x256 .f32) (x : Vec F S1x256x128 .f32) (wax : Vec F S128x256 .f32) (pr : Vec F S1x256x3 .f32) (q0 : Vec F S1x256x1 .f32) (t0 : Vec F S1x1x256 .f32) (q1 : Vec F S1x256x1 .f32) (t1 : Vec F S1x1x256 .f32) (q2 : Vec F S1x256x1 .f32) (t2 : Vec F S1x1x256 .f32) (wb : Vec F S256x256 .f32) (bb : Vec F S1x256 .f32) : FVec F S1x256x256 .f32 :=
  Conv.block facts0 (k0_pay5 (k0_pay4 q0 t0) q1 t1 q2 t2) (k0_pay2 p wap ba x wax) (k0_pay3 pr wap) wb bb

theorem run0_eq (c : Dev nD) (i : grid0.Coords) (arg2 : Memref sig .tc .vmem S1x256x3 .f32) (harg2 : arg2.IsWhole) (arg3 : Memref sig .tc .vmem S1x3x256 .f32) (harg3 : arg3.IsWhole) (arg4 : Memref sig .tc .vmem S1x256x128 .f32) (harg4 : arg4.IsWhole) (arg5 : Memref sig .tc .vmem S128x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256x256 .f32) (harg10 : arg10.IsWhole)
    (x0 : Vec F S1x256x3 .f32) (x1 : Vec F S1x3x256 .f32) (x2 : Vec F S1x256x128 .f32) (x3 : Vec F S128x256 .f32) (x4 : Vec F S3x256 .f32) (x5 : Vec F S1x256 .f32) (x6 : Vec F S256x256 .f32) (x7 : Vec F S1x256 .f32) :
    (kernelRun0_A c i arg2 harg2 arg3 harg3 arg4 harg4 arg5 harg5 arg6 harg6 arg7 harg7 arg8 harg8 arg9 harg9 arg10 harg10 x0 x1 x2 x3 x4 x5 x6 x7).1
      = [⟨Rect.unit (s := S1x256x256) ![0, 0, 0] S1x256x256.size inb_S1x256x256_S1x256x256_0_0_0,
          blk0 (arg2.view.readAt (Elt F) (Rect.unit (s := S1x256x3) ![0, 0, 0] S1x256x3.size inb_S1x256x3_S1x256x3_0_0_0).toLoadRect (harg2.unread x0))
            (arg6.view.readAt (Elt F) (Rect.unit (s := S3x256) ![0, 0] S3x256.size inb_S3x256_S3x256_0_0).toLoadRect (harg6.unread x4))
            (arg7.view.readAt (Elt F) (Rect.unit (s := S1x256) ![0, 0] S1x256.size inb_S1x256_S1x256_0_0).toLoadRect (harg7.unread x5))
            (arg4.view.readAt (Elt F) (Rect.unit (s := S1x256x128) ![0, 0, 0] S1x256x128.size inb_S1x256x128_S1x256x128_0_0_0).toLoadRect (harg4.unread x2))
            (arg5.view.readAt (Elt F) (Rect.unit (s := S128x256) ![0, 0] S128x256.size inb_S128x256_S128x256_0_0).toLoadRect (harg5.unread x3))
            (arg2.view.readAt (Elt F) (Rect.unit (s := S1x256x3) (k0_off1 i) S1x256x3.size (k0_off1_inb i)).toLoadRect (harg2.unread x0))
            (arg2.view.readAt (Elt F) (Rect.unit (s := S1x256x3) (k0_off2 i) S1x256x1.size (k0_off2_inb i)).toLoadRect (harg2.unread x0))
            (arg3.view.readAt (Elt F) (Rect.unit (s := S1x3x256) ![0, 0, 0] S1x1x256.size inb_S1x3x256_S1x1x256_0_0_0).toLoadRect (harg3.unread x1))
            (arg2.view.readAt (Elt F) (Rect.unit (s := S1x256x3) (k0_off3 i) S1x256x1.size (k0_off3_inb i)).toLoadRect (harg2.unread x0))
            (arg3.view.readAt (Elt F) (Rect.unit (s := S1x3x256) ![0, 1, 0] S1x1x256.size inb_S1x3x256_S1x1x256_0_1_0).toLoadRect (harg3.unread x1))
            (arg2.view.readAt (Elt F) (Rect.unit (s := S1x256x3) (k0_off4 i) S1x256x1.size (k0_off4_inb i)).toLoadRect (harg2.unread x0))
            (arg3.view.readAt (Elt F) (Rect.unit (s := S1x3x256) ![0, 2, 0] S1x1x256.size inb_S1x3x256_S1x1x256_0_2_0).toLoadRect (harg3.unread x1))
            (arg8.view.readAt (Elt F) (Rect.unit (s := S256x256) ![0, 0] S256x256.size inb_S256x256_S256x256_0_0).toLoadRect (harg8.unread x6))
            (arg9.view.readAt (Elt F) (Rect.unit (s := S1x256) ![0, 0] S1x256.size inb_S1x256_S1x256_0_0).toLoadRect (harg9.unread x7))⟩] := by
  sl_kernel_rfl

end Cert.KernelIdeal.Gen
end
-- ==== Proof.ConvVal3.lean ====
/-
  Layer 3's convolution read at an index of its block: the convolution of `Layer` over the loaded blocks.
-/
module

public import proofs.«01_k».proof.Proof.ConvRun3
public import proofs.«01_k».proof.Proof.ConvRead
public import proofs.«01_k».proof.Proof.Layer
public import Idealize.ShloMosaic.Lib.Pointwise
public import Idealize.ShloMosaic.Lib.Pointwise.IndexBridge
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open scoped BigOperators

theorem share_apply (p : Vec Ideal S1x256x3 .f32) (wap : Vec Ideal S3x256 .f32) (ba : Vec Ideal S1x256 .f32) (x : Vec Ideal S1x256x128 .f32) (wax : Vec Ideal S128x256 .f32) (j : Fin 256) (k : Fin 256) :
    (k0_pay2 p wap ba x wax (ix2 j k) : EReal) = ((∑ c : Fin 3, p (ix3 0 j c) * wap (ix2 c k)) + ba (ix2 0 k)) + ∑ c : Fin 128, x (ix3 0 j c) * wax (ix2 c k) := by
  pointwise [k0_pay2]

theorem centre_apply (pr : Vec Ideal S1x256x3 .f32) (wap : Vec Ideal S3x256 .f32) (R : Fin 256) (k : Fin 256) :
    (k0_pay3 pr wap (ix2 R k) : EReal) = ∑ c : Fin 3, pr (ix3 0 R c) * wap (ix2 c k) := by
  pointwise [k0_pay3]

/-- The radius squared. -/
def r2 : EReal := Ideal.ofBits .f32 0x3F800000#32

theorem dist_apply (q0 : Vec Ideal S1x256x1 .f32) (t0 : Vec Ideal S1x1x256 .f32) (q1 : Vec Ideal S1x256x1 .f32) (t1 : Vec Ideal S1x1x256 .f32) (q2 : Vec Ideal S1x256x1 .f32) (t2 : Vec Ideal S1x1x256 .f32) (R : Fin 256) (j : Fin 256) :
    (k0_pay5 (k0_pay4 q0 t0) q1 t1 q2 t2 (ix2 R j) : EReal)
      = if ((q0 (ix3 0 R 0) - t0 (ix3 0 0 j) : EReal) * (q0 (ix3 0 R 0) - t0 (ix3 0 0 j) : EReal)
          + (q1 (ix3 0 R 0) - t1 (ix3 0 0 j) : EReal) * (q1 (ix3 0 R 0) - t1 (ix3 0 0 j) : EReal))
          + (q2 (ix3 0 R 0) - t2 (ix3 0 0 j) : EReal) * (q2 (ix3 0 R 0) - t2 (ix3 0 0 j) : EReal) ≤ r2
        then ((q0 (ix3 0 R 0) - t0 (ix3 0 0 j) : EReal) * (q0 (ix3 0 R 0) - t0 (ix3 0 0 j) : EReal)
          + (q1 (ix3 0 R 0) - t1 (ix3 0 0 j) : EReal) * (q1 (ix3 0 R 0) - t1 (ix3 0 0 j) : EReal))
          + (q2 (ix3 0 R 0) - t2 (ix3 0 0 j) : EReal) * (q2 (ix3 0 R 0) - t2 (ix3 0 0 j) : EReal)
        else ⊤ := by
  pointwise [k0_pay5, k0_pay4]
  unfold r2
  simp only [Conv.ofBits_inf, Ideal.ofBits_one_f32]

/-- The block at a row and a feature, the loaded rows and columns of points being those of the family `X`. -/
theorem blk0_apply (p : Vec Ideal S1x256x3 .f32) (wap : Vec Ideal S3x256 .f32) (ba : Vec Ideal S1x256 .f32) (x : Vec Ideal S1x256x128 .f32) (wax : Vec Ideal S128x256 .f32) (pr : Vec Ideal S1x256x3 .f32) (q0 : Vec Ideal S1x256x1 .f32) (t0 : Vec Ideal S1x1x256 .f32) (q1 : Vec Ideal S1x256x1 .f32) (t1 : Vec Ideal S1x1x256 .f32) (q2 : Vec Ideal S1x256x1 .f32) (t2 : Vec Ideal S1x1x256 .f32) (wb : Vec Ideal S256x256 .f32) (bb : Vec Ideal S1x256 .f32) (X : Fin 256 → Fin 3 → EReal) (u : Fin 1) (R : Fin 256) (f : Fin 256) (row : Fin 256)
    (hp : ∀ j c, (p (ix3 0 j c) : EReal) = X j c) (hpr : ∀ c, (pr (ix3 0 R c) : EReal) = X row c)
    (hq0 : (q0 (ix3 0 R 0) : EReal) = X row 0) (hq1 : (q1 (ix3 0 R 0) : EReal) = X row 1) (hq2 : (q2 (ix3 0 R 0) : EReal) = X row 2)
    (ht0 : ∀ j, (t0 (ix3 0 0 j) : EReal) = X j 0) (ht1 : ∀ j, (t1 (ix3 0 0 j) : EReal) = X j 1)
    (ht2 : ∀ j, (t2 (ix3 0 0 j) : EReal) = X j 2) :
    (blk0 p wap ba x wax pr q0 t0 q1 t1 q2 t2 wb bb (ix3 u R f) : EReal)
      = Spec.out (Spec.near r2 X row)
          (Spec.hidK (fun j k => ((∑ c : Fin 3, X j c * wap (ix2 c k)) + ba (ix2 0 k)) + ∑ c : Fin 128, x (ix3 0 j c) * wax (ix2 c k)) (fun k => ∑ c : Fin 3, X row c * wap (ix2 c k)))
          (fun k => wb (ix2 k f)) (bb (ix2 0 f)) := by
  unfold blk0
  rw [ix3_eq_valueIdx]
  refine (Conv.block_apply facts0 (by norm_num) _ _ _ _ _ u R f).trans ?_
  unfold Spec.out
  have e1 : Conv.row (k0_pay5 (k0_pay4 q0 t0) q1 t1 q2 t2) R = Spec.near r2 X row := by
    funext j
    show (k0_pay5 (k0_pay4 q0 t0) q1 t1 q2 t2) (ValueIdx.ix2 R j) = _
    rw [← ix2_eq_valueIdx, dist_apply, hq0, hq1, hq2, ht0, ht1, ht2]
    rfl
  have e2 : Conv.contrib (k0_pay2 p wap ba x wax) (k0_pay3 pr wap) wb bb R f = fun j => ∑ k,
      Spec.hidK (fun j k => ((∑ c : Fin 3, X j c * wap (ix2 c k)) + ba (ix2 0 k)) + ∑ c : Fin 128, x (ix3 0 j c) * wax (ix2 c k)) (fun k => ∑ c : Fin 3, X row c * wap (ix2 c k)) j k
        * wb (ix2 k f) + bb (ix2 0 f) := by
    funext j
    unfold Conv.contrib Conv.hid Spec.hidK
    simp only [← ix2_eq_valueIdx, share_apply, centre_apply, hp, hpr]
  rw [e1, e2]

theorem off1 (i : grid0.Coords) : k0_off1 i = ![0, 256 * (i 1).val, 0] := by
  have h : (i 1).val < 1 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 0] = _
  rw [e]

theorem off2 (i : grid0.Coords) : k0_off2 i = ![0, 256 * (i 1).val, 0] := by
  have h : (i 1).val < 1 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 0] = _
  rw [e]

theorem off3 (i : grid0.Coords) : k0_off3 i = ![0, 256 * (i 1).val, 1] := by
  have h : (i 1).val < 1 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 1] = _
  rw [e]

theorem off4 (i : grid0.Coords) : k0_off4 i = ![0, 256 * (i 1).val, 2] := by
  have h : (i 1).val < 1 := (i 1).isLt
  have e : (BitVec.ofNat 32 (i 1).val * 256#32).toNat = 256 * (i 1).val := by
    rw [BitVec.toNat_mul, BitVec.toNat_ofNat]
    show (i 1).val % 2 ^ 32 * 256 % 2 ^ 32 = _
    omega
  show ![0, (BitVec.ofNat 32 (i 1).val * 256#32).toNat, 2] = _
  rw [e]

theorem ext3 {a b c : ℕ} (x y : (⟨3, ![a, b, c]⟩ : Shape).Idx) (h0 : (x 0).val = (y 0).val) (h1 : (x 1).val = (y 1).val)
    (h2 : (x 2).val = (y 2).val) : x = y := by
  funext k
  match k with
  | ⟨0, _⟩ => exact Fin.ext h0
  | ⟨1, _⟩ => exact Fin.ext h1
  | ⟨2, _⟩ => exact Fin.ext h2

/-- What a point of the grid leaves in the output's staging buffer, at an index. -/
theorem out0_apply (c : Dev nD) (i : grid0.Coords) (arg2 : Memref sig .tc .vmem S1x256x3 .f32) (harg2 : arg2.IsWhole) (arg3 : Memref sig .tc .vmem S1x3x256 .f32) (harg3 : arg3.IsWhole) (arg4 : Memref sig .tc .vmem S1x256x128 .f32) (harg4 : arg4.IsWhole) (arg5 : Memref sig .tc .vmem S128x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256x256 .f32) (harg10 : arg10.IsWhole)
    (x0 : Vec Ideal S1x256x3 .f32) (x1 : Vec Ideal S1x3x256 .f32) (x2 : Vec Ideal S1x256x128 .f32) (x3 : Vec Ideal S128x256 .f32) (x4 : Vec Ideal S3x256 .f32) (x5 : Vec Ideal S1x256 .f32) (x6 : Vec Ideal S256x256 .f32) (x7 : Vec Ideal S1x256 .f32)
    (u : Fin 1) (R : Fin 256) (f : Fin 256) (row : Fin 256) (hrow : row.val = 256 * (i 1).val + R.val)
    (hT : ∀ c j, (x1 (ix3 0 c j) : EReal) = x0 (ix3 0 j c)) :
    (out0_A_8 c i arg2 harg2 arg3 harg3 arg4 harg4 arg5 harg5 arg6 harg6 arg7 harg7 arg8 harg8 arg9 harg9 arg10 harg10 x0 x1 x2 x3 x4 x5 x6 x7 (ix3 u R f) : EReal)
      = Spec.out (Spec.near r2 (fun j c => x0 (ix3 0 j c)) row)
          (Spec.hidK (fun j k => (((∑ c : Fin 3, x0 (ix3 0 j c) * x4 (ix2 c k)) + x5 (ix2 0 k)) + ∑ c : Fin 128, x2 (ix3 0 j c) * x3 (ix2 c k))) (fun k => ∑ c : Fin 3, x0 (ix3 0 row c) * x4 (ix2 c k)))
          (fun k => x6 (ix2 k f)) (x7 (ix2 0 f)) := by
  have e : out0_A_8 c i arg2 harg2 arg3 harg3 arg4 harg4 arg5 harg5 arg6 harg6 arg7 harg7 arg8 harg8 arg9 harg9 arg10 harg10 x0 x1 x2 x3 x4 x5 x6 x7 = blk0 (arg2.view.readAt (Elt Ideal) (Rect.unit (s := S1x256x3) ![0, 0, 0] S1x256x3.size inb_S1x256x3_S1x256x3_0_0_0).toLoadRect (harg2.unread x0))
            (arg6.view.readAt (Elt Ideal) (Rect.unit (s := S3x256) ![0, 0] S3x256.size inb_S3x256_S3x256_0_0).toLoadRect (harg6.unread x4))
            (arg7.view.readAt (Elt Ideal) (Rect.unit (s := S1x256) ![0, 0] S1x256.size inb_S1x256_S1x256_0_0).toLoadRect (harg7.unread x5))
            (arg4.view.readAt (Elt Ideal) (Rect.unit (s := S1x256x128) ![0, 0, 0] S1x256x128.size inb_S1x256x128_S1x256x128_0_0_0).toLoadRect (harg4.unread x2))
            (arg5.view.readAt (Elt Ideal) (Rect.unit (s := S128x256) ![0, 0] S128x256.size inb_S128x256_S128x256_0_0).toLoadRect (harg5.unread x3))
            (arg2.view.readAt (Elt Ideal) (Rect.unit (s := S1x256x3) (k0_off1 i) S1x256x3.size (k0_off1_inb i)).toLoadRect (harg2.unread x0))
            (arg2.view.readAt (Elt Ideal) (Rect.unit (s := S1x256x3) (k0_off2 i) S1x256x1.size (k0_off2_inb i)).toLoadRect (harg2.unread x0))
            (arg3.view.readAt (Elt Ideal) (Rect.unit (s := S1x3x256) ![0, 0, 0] S1x1x256.size inb_S1x3x256_S1x1x256_0_0_0).toLoadRect (harg3.unread x1))
            (arg2.view.readAt (Elt Ideal) (Rect.unit (s := S1x256x3) (k0_off3 i) S1x256x1.size (k0_off3_inb i)).toLoadRect (harg2.unread x0))
            (arg3.view.readAt (Elt Ideal) (Rect.unit (s := S1x3x256) ![0, 1, 0] S1x1x256.size inb_S1x3x256_S1x1x256_0_1_0).toLoadRect (harg3.unread x1))
            (arg2.view.readAt (Elt Ideal) (Rect.unit (s := S1x256x3) (k0_off4 i) S1x256x1.size (k0_off4_inb i)).toLoadRect (harg2.unread x0))
            (arg3.view.readAt (Elt Ideal) (Rect.unit (s := S1x3x256) ![0, 2, 0] S1x1x256.size inb_S1x3x256_S1x1x256_0_2_0).toLoadRect (harg3.unread x1))
            (arg8.view.readAt (Elt Ideal) (Rect.unit (s := S256x256) ![0, 0] S256x256.size inb_S256x256_S256x256_0_0).toLoadRect (harg8.unread x6))
            (arg9.view.readAt (Elt Ideal) (Rect.unit (s := S1x256) ![0, 0] S1x256.size inb_S1x256_S1x256_0_0).toLoadRect (harg9.unread x7)) := by
    unfold out0_A_8
    refine (View.read_writes_eq_canon VO0_8 _ _ (cover0_A_8 c i arg2 harg2 arg3 harg3 arg4 harg4 arg5 harg5 arg6 harg6 arg7 harg7 arg8 harg8 arg9 harg9 arg10 harg10 x0 x1 x2 x3 x4 x5 x6 x7)).trans ?_
    rw [run0_eq]
    exact View.canon_unit_zero (by funext a; match a with | ⟨0, _⟩ => rfl | ⟨1, _⟩ => rfl | ⟨2, _⟩ => rfl) _ _
  have l0 : (arg2.view.readAt (Elt Ideal) (Rect.unit (s := S1x256x3) ![0, 0, 0] S1x256x3.size inb_S1x256x3_S1x256x3_0_0_0).toLoadRect (harg2.unread x0)) = x0 := (View.readAt_full _ _ _).trans (harg2.read_unread _)
  have l2 : (arg4.view.readAt (Elt Ideal) (Rect.unit (s := S1x256x128) ![0, 0, 0] S1x256x128.size inb_S1x256x128_S1x256x128_0_0_0).toLoadRect (harg4.unread x2)) = x2 := (View.readAt_full _ _ _).trans (harg4.read_unread _)
  have l3 : (arg5.view.readAt (Elt Ideal) (Rect.unit (s := S128x256) ![0, 0] S128x256.size inb_S128x256_S128x256_0_0).toLoadRect (harg5.unread x3)) = x3 := (View.readAt_full _ _ _).trans (harg5.read_unread _)
  have l4 : (arg6.view.readAt (Elt Ideal) (Rect.unit (s := S3x256) ![0, 0] S3x256.size inb_S3x256_S3x256_0_0).toLoadRect (harg6.unread x4)) = x4 := (View.readAt_full _ _ _).trans (harg6.read_unread _)
  have l5 : (arg7.view.readAt (Elt Ideal) (Rect.unit (s := S1x256) ![0, 0] S1x256.size inb_S1x256_S1x256_0_0).toLoadRect (harg7.unread x5)) = x5 := (View.readAt_full _ _ _).trans (harg7.read_unread _)
  have l6 : (arg8.view.readAt (Elt Ideal) (Rect.unit (s := S256x256) ![0, 0] S256x256.size inb_S256x256_S256x256_0_0).toLoadRect (harg8.unread x6)) = x6 := (View.readAt_full _ _ _).trans (harg8.read_unread _)
  have l7 : (arg9.view.readAt (Elt Ideal) (Rect.unit (s := S1x256) ![0, 0] S1x256.size inb_S1x256_S1x256_0_0).toLoadRect (harg9.unread x7)) = x7 := (View.readAt_full _ _ _).trans (harg9.read_unread _)
  rw [e, l0, l2, l3, l4, l5, l6, l7]
  refine (blk0_apply _ _ _ _ _ _ _ _ _ _ _ _ _ _ (fun j c => x0 (ix3 0 j c)) u R f row ?_ ?_ ?_ ?_ ?_ ?_ ?_ ?_).trans ?_
  · intro j c
    rfl
  · intro c
    rw [harg2.readAt_unread]
    exact congrArg x0 (ext3 _ _ (by show k0_off1 i 0 + 1 * 0 = 0; rw [off1]; rfl)
      (by show k0_off1 i 1 + 1 * R.val = row.val; rw [off1, hrow]; show 256 * (i 1).val + 1 * R.val = _; omega)
      (by show k0_off1 i 2 + 1 * c.val = c.val; rw [off1]; show 0 + 1 * c.val = _; omega))
  · rw [harg2.readAt_unread]
    exact congrArg x0 (ext3 _ _ (by show k0_off2 i 0 + 1 * 0 = 0; rw [off2]; rfl)
      (by show k0_off2 i 1 + 1 * R.val = row.val; rw [off2, hrow]; show 256 * (i 1).val + 1 * R.val = _; omega)
      (by show k0_off2 i 2 + 1 * 0 = 0; rw [off2]; rfl))
  · rw [harg2.readAt_unread]
    exact congrArg x0 (ext3 _ _ (by show k0_off3 i 0 + 1 * 0 = 0; rw [off3]; rfl)
      (by show k0_off3 i 1 + 1 * R.val = row.val; rw [off3, hrow]; show 256 * (i 1).val + 1 * R.val = _; omega)
      (by show k0_off3 i 2 + 1 * 0 = 1; rw [off3]; rfl))
  · rw [harg2.readAt_unread]
    exact congrArg x0 (ext3 _ _ (by show k0_off4 i 0 + 1 * 0 = 0; rw [off4]; rfl)
      (by show k0_off4 i 1 + 1 * R.val = row.val; rw [off4, hrow]; show 256 * (i 1).val + 1 * R.val = _; omega)
      (by show k0_off4 i 2 + 1 * 0 = 2; rw [off4]; rfl))
  · intro j
    rw [harg3.readAt_unread, ← hT]
    exact congrArg x1 (ext3 _ _ rfl rfl (by show 0 + 1 * j.val = j.val; omega))
  · intro j
    rw [harg3.readAt_unread, ← hT]
    exact congrArg x1 (ext3 _ _ rfl rfl (by show 0 + 1 * j.val = j.val; omega))
  · intro j
    rw [harg3.readAt_unread, ← hT]
    exact congrArg x1 (ext3 _ _ rfl rfl (by show 0 + 1 * j.val = j.val; omega))
  · rfl

end Cert.KernelIdeal.Gen
end
-- ==== Proof.ConvArr3.lean ====
/-
  Layer 3's result array: its blocks put together.
-/
module

public import proofs.«01_k».proof.Proof.ConvVal3
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.ShloMosaic.Tactic
open scoped BigOperators

variable (m : (ℓ : Loc nD τ sig) → Buf (Elt Ideal) ℓ) (ρ : Dev nD → PrngReg)

/-- The blocks each grid point of the first call reads and writes. -/
theorem idx0 : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![0, 0] ∧ win0_4.index t = ![0, 0] ∧ win0_5.index t = ![0, 0]
    ∧ win0_6.index t = ![0, 0] ∧ win0_7.index t = ![0, 0] ∧ win0_8.index t = ![(grid0.coords t 0).val, (grid0.coords t 1).val, 0] := by
  decide +kernel

/-- Layer 3's convolution of the points `p`, the features `x` and the weights. -/
def G (p : Vec Ideal S16x256x3 .f32) (x : Vec Ideal S16x256x128 .f32) (wa : Vec Ideal S131x256 .f32) (ba : Vec Ideal S256 .f32)
    (wb : Vec Ideal S256x256 .f32) (bb : Vec Ideal S256 .f32) : Vec Ideal S16x256x256 .f32 := fun y =>
  Spec.conv r2 (fun j a => p (ix3 (y 0) j a))
    (fun j k => ((∑ a : Fin 3, (p (ix3 (y 0) j a) * wa (ix2 ⟨128 + a.val, by omega⟩ k) : EReal)) + ba (ix1 k))
      + ∑ a : Fin 128, (x (ix3 (y 0) j a) * wa (ix2 ⟨a.val, by omega⟩ k) : EReal))
    (fun a k => wa (ix2 ⟨128 + a.val, by omega⟩ k)) (fun k f => wb (ix2 k f)) (fun f => bb (ix1 f)) (y 1) (y 2)

/-- Layer 3's convolution of the arguments in memory. -/
def Gm (c : Dev nD) : Vec Ideal S16x256x256 .f32 :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-! ## What the first call finds in memory -/

theorem at_arg0 (c : Dev nD) : V1 m ρ c main_arg0 = m ((c.tc : Thread nD τ).loc main_arg0) := W1_args m ρ c main_arg0 (by decide)
theorem at_arg1 (c : Dev nD) : V1 m ρ c main_arg1 = m ((c.tc : Thread nD τ).loc main_arg1) := W1_args m ρ c main_arg1 (by decide)
theorem at_arg4 (c : Dev nD) : V1 m ρ c main_arg4 = m ((c.tc : Thread nD τ).loc main_arg4) := W1_args m ρ c main_arg4 (by decide)
theorem at_v0 (c : Dev nD) (b : Fin 16) (j : Fin 256) (a : Fin 3) :
    V1 m ρ c main_v0 (ix3 b a j) = m ((c.tc : Thread nD τ).loc main_arg0) (ix3 b j a) := by
  show StableHlo.after hostOps0 (W0 m ρ c) (Proc.devRef .tc main_v0) _ = _
  after_results
  pointwise
theorem at_v1 (c : Dev nD) (a : Fin 128) (k : Fin 256) :
    V1 m ρ c main_v1 (ix2 a k) = m ((c.tc : Thread nD τ).loc main_arg2) (ix2 ⟨a.val, by omega⟩ k) := by
  show StableHlo.after hostOps0 (W0 m ρ c) (Proc.devRef .tc main_v1) _ = _
  after_results
  pointwise
theorem at_v2 (c : Dev nD) (a : Fin 3) (k : Fin 256) :
    V1 m ρ c main_v2 (ix2 a k) = m ((c.tc : Thread nD τ).loc main_arg2) (ix2 ⟨128 + a.val, by omega⟩ k) := by
  show StableHlo.after hostOps0 (W0 m ρ c) (Proc.devRef .tc main_v2) _ = _
  after_results
  pointwise
theorem at_v3 (c : Dev nD) (k : Fin 256) : V1 m ρ c main_v3 (ix2 0 k) = m ((c.tc : Thread nD τ).loc main_arg3) (ix1 k) := by
  show StableHlo.after hostOps0 (W0 m ρ c) (Proc.devRef .tc main_v3) _ = _
  after_results
  pointwise
theorem at_v4 (c : Dev nD) (k : Fin 256) : V1 m ρ c main_v4 (ix2 0 k) = m ((c.tc : Thread nD τ).loc main_arg5) (ix1 k) := by
  show StableHlo.after hostOps0 (W0 m ρ c) (Proc.devRef .tc main_v4) _ = _
  after_results
  pointwise

/-! ## The blocks -/

section
variable (V : (c : Dev nD) → (b : Ref sig .tc) → Buf (Elt Ideal) ((c : Thread nD τ).loc b))
theorem got0 (c : Dev nD) (t : Fin cfg0.N) (j : Fin 256) (a : Fin 3) : iblk0 V c 0 t (ix3 0 j a) = V c main_arg0 (ix3 (grid0.coords t 0) j a) := by
  blk_ext [iblk0, idx0 t]
theorem got1 (c : Dev nD) (t : Fin cfg0.N) (j : Fin 256) (a : Fin 3) : iblk0 V c 1 t (ix3 0 a j) = V c main_v0 (ix3 (grid0.coords t 0) a j) := by
  blk_ext [iblk0, idx0 t]
theorem got2 (c : Dev nD) (t : Fin cfg0.N) (j : Fin 256) (a : Fin 128) : iblk0 V c 2 t (ix3 0 j a) = V c main_arg1 (ix3 (grid0.coords t 0) j a) := by
  blk_ext [iblk0, idx0 t]
theorem got3 (c : Dev nD) (t : Fin cfg0.N) (a : Fin 128) (k : Fin 256) : iblk0 V c 3 t (ix2 a k) = V c main_v1 (ix2 a k) := by
  blk_ext [iblk0, idx0 t]
theorem got4 (c : Dev nD) (t : Fin cfg0.N) (a : Fin 3) (k : Fin 256) : iblk0 V c 4 t (ix2 a k) = V c main_v2 (ix2 a k) := by
  blk_ext [iblk0, idx0 t]
theorem got5 (c : Dev nD) (t : Fin cfg0.N) (k : Fin 256) : iblk0 V c 5 t (ix2 0 k) = V c main_v3 (ix2 0 k) := by
  blk_ext [iblk0, idx0 t]
theorem got6 (c : Dev nD) (t : Fin cfg0.N) (a : Fin 256) (k : Fin 256) : iblk0 V c 6 t (ix2 a k) = V c main_arg4 (ix2 a k) := by
  blk_ext [iblk0, idx0 t]
theorem got7 (c : Dev nD) (t : Fin cfg0.N) (k : Fin 256) : iblk0 V c 7 t (ix2 0 k) = V c main_v4 (ix2 0 k) := by
  blk_ext [iblk0, idx0 t]
end

theorem read0 (c : Dev nD) (t : Fin cfg0.N) (j : Fin 256) (a : Fin 3) : iblk0 (V1 m ρ) c 0 t (ix3 0 j a) = m ((c.tc : Thread nD τ).loc main_arg0) (ix3 (grid0.coords t 0) j a) :=
  (got0 _ c t j a).trans (congrFun (at_arg0 m ρ c) _)
theorem read1 (c : Dev nD) (t : Fin cfg0.N) (j : Fin 256) (a : Fin 3) : iblk0 (V1 m ρ) c 1 t (ix3 0 a j) = m ((c.tc : Thread nD τ).loc main_arg0) (ix3 (grid0.coords t 0) j a) :=
  (got1 _ c t j a).trans (at_v0 m ρ c _ j a)
theorem read2 (c : Dev nD) (t : Fin cfg0.N) (j : Fin 256) (a : Fin 128) : iblk0 (V1 m ρ) c 2 t (ix3 0 j a) = m ((c.tc : Thread nD τ).loc main_arg1) (ix3 (grid0.coords t 0) j a) :=
  (got2 _ c t j a).trans (congrFun (at_arg1 m ρ c) _)
theorem read3 (c : Dev nD) (t : Fin cfg0.N) (a : Fin 128) (k : Fin 256) : iblk0 (V1 m ρ) c 3 t (ix2 a k) = m ((c.tc : Thread nD τ).loc main_arg2) (ix2 ⟨a.val, by omega⟩ k) :=
  (got3 _ c t a k).trans (at_v1 m ρ c a k)
theorem read4 (c : Dev nD) (t : Fin cfg0.N) (a : Fin 3) (k : Fin 256) : iblk0 (V1 m ρ) c 4 t (ix2 a k) = m ((c.tc : Thread nD τ).loc main_arg2) (ix2 ⟨128 + a.val, by omega⟩ k) :=
  (got4 _ c t a k).trans (at_v2 m ρ c a k)
theorem read5 (c : Dev nD) (t : Fin cfg0.N) (k : Fin 256) : iblk0 (V1 m ρ) c 5 t (ix2 0 k) = m ((c.tc : Thread nD τ).loc main_arg3) (ix1 k) :=
  (got5 _ c t k).trans (at_v3 m ρ c k)
theorem read6 (c : Dev nD) (t : Fin cfg0.N) (a : Fin 256) (k : Fin 256) : iblk0 (V1 m ρ) c 6 t (ix2 a k) = m ((c.tc : Thread nD τ).loc main_arg4) (ix2 a k) :=
  (got6 _ c t a k).trans (congrFun (at_arg4 m ρ c) _)
theorem read7 (c : Dev nD) (t : Fin cfg0.N) (k : Fin 256) : iblk0 (V1 m ρ) c 7 t (ix2 0 k) = m ((c.tc : Thread nD τ).loc main_arg5) (ix1 k) :=
  (got7 _ c t k).trans (at_v4 m ρ c k)

/-- What the first call leaves in its result. -/
theorem arr0_eq (c : Dev nD) : (dat0 (V1 m ρ) c).arrAt 8 cfg0.N = Gm m c := by
  refine (dat0 (V1 m ρ) c).arrAt_eq_of_covers 8 _ (by decide +kernel) fun t hf y => ?_
  blk_simp
  rw [after0_8]
  obtain ⟨u, R, f, rfl⟩ : ∃ (u : Fin 1) (R : Fin 256) (f : Fin 256), y = ix3 u R f := ⟨y 0, y 1, y 2, by blk_ext⟩
  have hb : (grid0.coords t 1).val < 1 := (grid0.coords t 1).isLt
  have he : (win0_8.blk t).view.emb (ix3 u R f) = ix3 (grid0.coords t 0) ⟨256 * (grid0.coords t 1).val + R.val, by have := R.isLt; omega⟩ f := by
    blk_ext [idx0 t]
  unfold outsAt0
  refine (out0_apply c _ _ _ _ _ _ _ _ _ _ _ _ _ _ _ _ _ _ _ _ _ _ _ _ _ _ _ u R f ⟨256 * (grid0.coords t 1).val + R.val, by have := R.isLt; omega⟩ rfl (fun a j => (read1 m ρ c t j a).trans (read0 m ρ c t j a).symm)).trans ?_
  simp only [read0, read2, read3, read4, read5, read6, read7]
  rw [he]
  rfl

end Cert.KernelIdeal.Gen
-- ==== Proof.HeadVal.lean ====
/-
  The head call's block, stage by stage, and each stage against the reference's.
-/
module

public import proofs.«01_k».proof.Proof.RefHead
public import proofs.«01_k».proof.Proof.ConvRead
public import proofs.«01_k».proof.Proof.Gen.KernelIdeal.Skeleton
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.KernelIdeal.Gen

open Idealize.ShloMosaic Idealize.ShloMosaic.TcCoe Idealize.ShloMosaic.Tactic
open scoped BigOperators

/-- The greatest feature over all points. -/
def hPool (h : FVec Ideal S16x256x256 .f32) : FVec Ideal S16x256 .f32 :=
  multiReduction .maximumf [1] S16x256 (shapeCast S16x256x256 h shapeCasts_S16x256x256_S16x256x256) 0xFF800000#32 reduces_S16x256x256_S16x256 (.inl rfl) rfl

/-- A dense layer cut at zero. -/
def hDense (g : FVec Ideal S16x256 .f32) (w : FVec Ideal S256x256 .f32) (b : FVec Ideal S1x256 .f32) : FVec Ideal S16x256 .f32 :=
  maximumf (addf (matmul (F := Ideal) (φ₁ := .f32) (φ₂ := .f32) dot_S16x256_S256x256_S16x256_1_0_0_1_n_n none g w (constant S16x256 .f32 0x00000000#32))
    (broadcastTo S16x256 (shapeCast S1x256 b shapeCasts_S1x256_S1x256) broadcasts_S1x256_S16x256))
    (broadcast S16x256 (Scalar.ofBits .f32 0x00000000#32 : Ideal .f32))

/-- The scores of the classes. -/
def hScore (g : FVec Ideal S16x256 .f32) (w : FVec Ideal S256x40 .f32) (b : FVec Ideal S1x40 .f32) : FVec Ideal S16x40 .f32 :=
  addf (matmul (F := Ideal) (φ₁ := .f32) (φ₂ := .f32) dot_S16x256_S256x40_S16x40_1_0_0_1_n_n none g w (constant S16x40 .f32 0x00000000#32))
    (broadcastTo S16x40 (shapeCast S1x40 b shapeCasts_S1x40_S1x40) broadcasts_S1x40_S16x40)

/-- The greatest score of each batch. -/
def hTop (z : FVec Ideal S16x40 .f32) : FVec Ideal S16 .f32 :=
  multiReduction .maximumf [1] S16 z 0xFF800000#32 reduces_S16x40_S16 (.inl rfl) rfl

/-- The scores less a number of each batch. -/
def hSub (z : FVec Ideal S16x40 .f32) (a : FVec Ideal S16 .f32) : FVec Ideal S16x40 .f32 :=
  subf z (broadcastTo S16x40 (shapeCast S16x1 a shapeCasts_S16_S16x1) broadcasts_S16x1_S16x40)

/-- The sum of the exponentials. -/
def hTotal (s : FVec Ideal S16x40 .f32) : FVec Ideal S16 .f32 :=
  multiReduction .add [1] S16 (exp s) 0x00000000#32 reduces_S16x40_S16 (.inl rfl) rfl

/-- The scores less the logarithm of a number of each batch. -/
def hLess (s : FVec Ideal S16x40 .f32) (a : FVec Ideal S16 .f32) : FVec Ideal S16x40 .f32 :=
  subf s (broadcastTo S16x40 (log (shapeCast S16x1 a shapeCasts_S16_S16x1)) broadcasts_S16x1_S16x40)

theorem pay1_eq (v0 : FVec Ideal S16x256x256 .f32) (v3 : FVec Ideal S256x256 .f32) (v5 : FVec Ideal S1x256 .f32) (v11 : FVec Ideal S256x256 .f32)
    (v13 : FVec Ideal S1x256 .f32) (v19 : FVec Ideal S256x40 .f32) (v21 : FVec Ideal S1x40 .f32) :
    k1_pay1 (F := Ideal) v0 v3 v5 v11 v13 v19 v21
      = (fun z => (fun s => hLess s (hTotal s)) (hSub z (hTop z))) (hScore (hDense (hDense (hPool v0) v3 v5) v11 v13) v19 v21) := rfl

theorem pool_eq (h : FVec Ideal S16x256x256 .f32) : hPool h = ReferenceIdeal.Gen.pool h := by
  funext y
  rw [eq_ix2 y]
  unfold hPool ReferenceIdeal.Gen.pool
  clean_types
  pointwise

theorem dense_eq (g : FVec Ideal S16x256 .f32) (w : FVec Ideal S256x256 .f32) (b : FVec Ideal S1x256 .f32) (b' : FVec Ideal S256 .f32)
    (hb : ∀ k : Fin 256, (b (ix2 0 k) : EReal) = b' (ix1 k)) : hDense g w b = ReferenceIdeal.Gen.dense g w b' := by
  funext y
  rw [eq_ix2 y]
  unfold hDense ReferenceIdeal.Gen.dense
  clean_types
  pointwise
  exact congrArg (fun t : EReal => max (_ + t) 0) (hb (y 1))

theorem score_eq (g : FVec Ideal S16x256 .f32) (w : FVec Ideal S256x40 .f32) (b : FVec Ideal S1x40 .f32) (b' : FVec Ideal S40 .f32)
    (hb : ∀ k : Fin 40, (b (ix2 0 k) : EReal) = b' (ix1 k)) : hScore g w b = ReferenceIdeal.Gen.score g w b' := by
  funext y
  rw [eq_ix2 y]
  unfold hScore ReferenceIdeal.Gen.score
  clean_types
  pointwise
  exact congrArg (fun t : EReal => _ + t) (hb (y 1))

theorem top_eq (z : FVec Ideal S16x40 .f32) : hTop z = ReferenceIdeal.Gen.top z := by
  funext y
  rw [eq_ix1 y]
  unfold hTop ReferenceIdeal.Gen.top
  clean_types
  pointwise
  simp only [Conv.ofBits_ninf]
  exact (max_eq_right bot_le).symm

theorem shifted_eq (z : FVec Ideal S16x40 .f32) : hSub z (ReferenceIdeal.Gen.top z) = ReferenceIdeal.Gen.shifted z := by
  unfold ReferenceIdeal.Gen.shifted
  generalize ReferenceIdeal.Gen.top z = a
  funext y
  rw [eq_ix2 y]
  unfold hSub
  pointwise

theorem total_eq (z : FVec Ideal S16x40 .f32) : hTotal (ReferenceIdeal.Gen.shifted z) = ReferenceIdeal.Gen.total z := by
  unfold ReferenceIdeal.Gen.total
  generalize ReferenceIdeal.Gen.shifted z = s
  funext y
  rw [eq_ix1 y]
  unfold hTotal
  clean_types
  pointwise

theorem less_eq (z : FVec Ideal S16x40 .f32) :
    hLess (ReferenceIdeal.Gen.shifted z) (ReferenceIdeal.Gen.total z) = ReferenceIdeal.Gen.logSoftmax z := by
  unfold ReferenceIdeal.Gen.logSoftmax
  generalize ReferenceIdeal.Gen.shifted z = s
  generalize ReferenceIdeal.Gen.total z = a
  funext y
  rw [eq_ix2 y]
  unfold hLess
  pointwise

/-- The head call's block is the reference's head. -/
theorem head_eq (h : FVec Ideal S16x256x256 .f32) (w1 : FVec Ideal S256x256 .f32) (b1 : FVec Ideal S1x256 .f32) (w2 : FVec Ideal S256x256 .f32)
    (b2 : FVec Ideal S1x256 .f32) (w3 : FVec Ideal S256x40 .f32) (b3 : FVec Ideal S1x40 .f32)
    (b1' : FVec Ideal S256 .f32) (b2' : FVec Ideal S256 .f32) (b3' : FVec Ideal S40 .f32)
    (h1 : ∀ k : Fin 256, (b1 (ix2 0 k) : EReal) = b1' (ix1 k)) (h2 : ∀ k : Fin 256, (b2 (ix2 0 k) : EReal) = b2' (ix1 k))
    (h3 : ∀ k : Fin 40, (b3 (ix2 0 k) : EReal) = b3' (ix1 k)) :
    k1_pay1 (F := Ideal) h w1 b1 w2 b2 w3 b3 = ReferenceIdeal.Gen.head h w1 b1' w2 b2' w3 b3' := by
  rw [pay1_eq, pool_eq, dense_eq _ _ _ b1' h1, dense_eq _ _ _ b2' h2, score_eq _ _ _ b3' h3]
  unfold ReferenceIdeal.Gen.head
  generalize ReferenceIdeal.Gen.score _ w3 b3' = z
  show hLess (hSub z (hTop z)) (hTotal (hSub z (hTop z))) = _
  rw [top_eq, shifted_eq, total_eq, less_eq]

end Cert.KernelIdeal.Gen
-- ==== Proof.HeadRun.lean ====
/-
  The run of the third program, with its result: layer 3 and then the head.
-/
module

public import proofs.«01_k».proof.Proof.ConvArr3
public import proofs.«01_k».proof.Proof.HeadVal

@[expose] public section

set_option maxRecDepth 16384

noncomputable section

namespace Cert.KernelIdeal.Gen

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic Idealize.ShloMosaic.TcCoe Idealize.ShloMosaic.Tactic
open scoped BigOperators

local notation "𝕄" => MT nD τ sig Unit (Elt Ideal) ℕ (UR sig nD τ) ℕ

variable (m : (ℓ : Loc nD τ sig) → Buf (Elt Ideal) ℓ) (ρ : Dev nD → PrngReg)

/-- The blocks the head call reads and writes: the whole arrays. -/
theorem idx1 : ∀ t : Fin cfg1.N, win1_0.index t = ![0, 0, 0] ∧ win1_1.index t = ![0, 0] ∧ win1_2.index t = ![0, 0]
    ∧ win1_3.index t = ![0, 0] ∧ win1_4.index t = ![0, 0] ∧ win1_5.index t = ![0, 0]
    ∧ win1_6.index t = ![0, 0] ∧ win1_7.index t = ![0, 0] := by
  decide +kernel

/-! ## What the head call finds in memory -/

theorem in_v5 (c : Dev nD) : V3 m ρ c main_v5 = Gm m c :=
  ((W3_of m ρ c main_v5 (by decide)).trans (W2_arr m ρ c 8)).trans (arr0_eq m ρ c)
theorem in_arg6 (c : Dev nD) : V3 m ρ c main_arg6 = m ((c.tc : Thread nD τ).loc main_arg6) := W3_args m ρ c main_arg6 (by decide)
theorem in_arg8 (c : Dev nD) : V3 m ρ c main_arg8 = m ((c.tc : Thread nD τ).loc main_arg8) := W3_args m ρ c main_arg8 (by decide)
theorem in_arg10 (c : Dev nD) : V3 m ρ c main_arg10 = m ((c.tc : Thread nD τ).loc main_arg10) := W3_args m ρ c main_arg10 (by decide)
theorem in_v6 (c : Dev nD) (k : Fin 256) : V3 m ρ c main_v6 (ix2 0 k) = m ((c.tc : Thread nD τ).loc main_arg7) (ix1 k) := by
  rw [← W2_args m ρ c main_arg7 (by decide)]
  show StableHlo.after hostOps1 (W2 m ρ c) (Proc.devRef .tc main_v6) _ = _
  generalize W2 m ρ c = W
  after_results
  pointwise
theorem in_v7 (c : Dev nD) (k : Fin 256) : V3 m ρ c main_v7 (ix2 0 k) = m ((c.tc : Thread nD τ).loc main_arg9) (ix1 k) := by
  rw [← W2_args m ρ c main_arg9 (by decide)]
  show StableHlo.after hostOps1 (W2 m ρ c) (Proc.devRef .tc main_v7) _ = _
  generalize W2 m ρ c = W
  after_results
  pointwise
theorem in_v8 (c : Dev nD) (k : Fin 40) : V3 m ρ c main_v8 (ix2 0 k) = m ((c.tc : Thread nD τ).loc main_arg11) (ix1 k) := by
  rw [← W2_args m ρ c main_arg11 (by decide)]
  show StableHlo.after hostOps1 (W2 m ρ c) (Proc.devRef .tc main_v8) _ = _
  generalize W2 m ρ c = W
  after_results
  pointwise

/-! ## The blocks -/

section
variable (V : (c : Dev nD) → (b : Ref sig .tc) → Buf (Elt Ideal) ((c : Thread nD τ).loc b))
theorem all0 (c : Dev nD) (t : Fin cfg1.N) : iblk1 V c 0 t = V c main_v5 := by
  funext y
  blk_ext [iblk1, idx1 t]
theorem all1 (c : Dev nD) (t : Fin cfg1.N) : iblk1 V c 1 t = V c main_arg6 := by
  funext y
  blk_ext [iblk1, idx1 t]
theorem all2 (c : Dev nD) (t : Fin cfg1.N) : iblk1 V c 2 t = V c main_v6 := by
  funext y
  blk_ext [iblk1, idx1 t]
theorem all3 (c : Dev nD) (t : Fin cfg1.N) : iblk1 V c 3 t = V c main_arg8 := by
  funext y
  blk_ext [iblk1, idx1 t]
theorem all4 (c : Dev nD) (t : Fin cfg1.N) : iblk1 V c 4 t = V c main_v7 := by
  funext y
  blk_ext [iblk1, idx1 t]
theorem all5 (c : Dev nD) (t : Fin cfg1.N) : iblk1 V c 5 t = V c main_arg10 := by
  funext y
  blk_ext [iblk1, idx1 t]
theorem all6 (c : Dev nD) (t : Fin cfg1.N) : iblk1 V c 6 t = V c main_v8 := by
  funext y
  blk_ext [iblk1, idx1 t]

/-- The head's body loads its whole blocks and stores one whole block. -/
theorem out1_eq (x0 : Vec Ideal S16x256x256 .f32) (x1 : Vec Ideal S256x256 .f32) (x2 : Vec Ideal S1x256 .f32) (x3 : Vec Ideal S256x256 .f32)
    (x4 : Vec Ideal S1x256 .f32) (x5 : Vec Ideal S256x40 .f32) (x6 : Vec Ideal S1x40 .f32) :
    out1_7 x0 x1 x2 x3 x4 x5 x6 = k1_pay1 x0 x1 x2 x3 x4 x5 x6 := by
  unfold out1_7
  rw [show View.ld x0 r1_0 = x0 from View.ld_unit_lit _ _ (by decide), show View.ld x1 r1_1 = x1 from View.ld_unit_lit _ _ (by decide),
    show View.ld x2 r1_2 = x2 from View.ld_unit_lit _ _ (by decide), show View.ld x3 r1_1 = x3 from View.ld_unit_lit _ _ (by decide),
    show View.ld x4 r1_2 = x4 from View.ld_unit_lit _ _ (by decide), show View.ld x5 r1_3 = x5 from View.ld_unit_lit _ _ (by decide),
    show View.ld x6 r1_4 = x6 from View.ld_unit_lit _ _ (by decide)]
  exact View.canon_cons_unit_lit _ _ [] (by decide)

/-- What the head call leaves in its result, over what it finds. -/
theorem arr1_of (c : Dev nD) : (dat1 V c).arrAt 7 cfg1.N = (k1_pay1 (V c main_v5) (V c main_arg6) (V c main_v6) (V c main_arg8) (V c main_v7) (V c main_arg10) (V c main_v8) : FVec Ideal S16x40 .f32) := by
  refine (dat1 V c).arrAt_eq_of_covers 7 _ (by decide +kernel) fun t hf y => ?_
  have he : (win1_7.blk t).view.emb y = y := by
    blk_ext [idx1 t]
  blk_simp
  rw [after1_7, all0, all1, all2, all3, all4, all5, all6]
  rw [out1_eq, he]
end

/-- The result of the program: the head of layer 3's convolution. -/
def Hm (c : Dev nD) : FVec Ideal S16x40 .f32 :=
  ReferenceIdeal.Gen.head (Gm m c) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem arr1_eq (c : Dev nD) : (dat1 (V3 m ρ) c).arrAt 7 cfg1.N = Hm m c := by
  refine (arr1_of _ c).trans ?_
  rw [in_v5, in_arg6, in_arg8, in_arg10]
  exact head_eq _ _ _ _ _ _ _ _ _ _ (in_v6 m ρ c) (in_v7 m ρ c) (in_v8 m ρ c)

set_option backward.isDefEq.respectTransparency.types false in
/-- The run of the program: the result, and the arguments as they were. -/
theorem run : θ_run defs (onTc (τ := τ) (main (F := Ideal))) ⟨m, fun _ => 0, ρ⟩ (fun r => ∀ c : Dev nD,
      r.2.mem ((c.tc : Thread nD τ).loc main_v9) = Hm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨((h c _ (mem_uc main_v9 (by decide))).trans (W4_arr m ρ c 7)).trans (arr1_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Gen
-- ==== Proof.RefVal3.lean ====
/-
  Layer 3's reference read at an index.
-/
module

public import proofs.«01_k».proof.Proof.RefDef3
public import proofs.«01_k».proof.Proof.RefRead
public import proofs.«01_k».proof.Proof.Layer
public import proofs.«01_k».proof.Proof.ConvRead
public import Idealize.ShloMosaic.Lib.Pointwise
public import Idealize.ShloMosaic.Lib.Claim
public import Idealize.ShloMosaic.Lib.Tactic.CleanTypes
public import Idealize.ShloMosaic.Lib.Tactic.WordOmega

@[expose] public section

set_option maxRecDepth 16384

noncomputable section

namespace Cert.ReferenceIdeal.Gen

open Idealize.ShloMosaic Idealize.ShloMosaic.TcCoe Idealize.ShloMosaic.Tactic
open scoped BigOperators

/-- The squared radius. -/
def r2 : EReal := Ideal.ofBits .f32 0x3F800000#32

/-- The points of batch `b`. -/
def pts (p : FVec Ideal S16x256x3 .f32) (b : Fin 16) (j : Fin 256) (a : Fin 3) : EReal := p (ix3 b j a)

/-- The distances from the centre `i`, infinite outside the radius. -/
def nr (p : FVec Ideal S16x256x3 .f32) (b : Fin 16) (i : Fin 256) : Fin 256 → EReal := Spec.near r2 (pts p b) i

/-- The `t`-th nearest point. -/
def nb (p : FVec Ideal S16x256x3 .f32) (b : Fin 16) (i : Fin 256) (t : Fin 32) : Fin 256 :=
  First.order (nr p b i) (t.castLE (by decide))

theorem dist_apply (p : FVec Ideal S16x256x3 .f32) (b : Fin 16) (i j : Fin 256) : (dist p (ix3 b i j) : EReal) = Spec.sqd (pts p b) i j := by
  rw [Spec.sqd_eq_sum]
  unfold pts
  clean_types
  pointwise [dist, diff]

theorem neg_apply (p : FVec Ideal S16x256x3 .f32) (b : Fin 16) (i j : Fin 256) : (neg p (ix3 b i j) : EReal) = - nr p b i j := by
  unfold nr Spec.near
  pointwise [neg]
  simp only [dist_apply]
  unfold r2
  simp only [Conv.ofBits_inf, Ideal.ofBits_one_f32]

theorem order_eq (p : FVec Ideal S16x256x3 .f32) (b : Fin 16) (i : Fin 256) :
    Conv.rowOrder (FloatOps.cmpfTotal (F := Ideal) (φ := .f32) .gt) (neg p) b i = First.order (nr p b i) := by
  rw [First.order_coe]
  unfold Conv.rowOrder
  refine congrArg sortedFrom (funext fun k => funext fun k' => ?_)
  rw [neg_apply, neg_apply]

theorem topV_apply (p : FVec Ideal S16x256x3 .f32) (b : Fin 16) (i : Fin 256) (t : Fin 32) :
    (topV p (ix3 b i t) : EReal) = - nr p b i (nb p b i t) := by
  refine (Conv.topK_val _ _ _ (by decide) b i t).trans ?_
  rw [order_eq, neg_apply]
  rfl

theorem topI_apply (p : FVec Ideal S16x256x3 .f32) (b : Fin 16) (i : Fin 256) (t : Fin 32) :
    topI p (ix3 b i t) = BitVec.ofNat 32 (nb p b i t).val := by
  refine (Conv.topK_idx _ _ _ (by decide) b i t).trans ?_
  rw [order_eq]
  rfl

theorem place_apply (p : FVec Ideal S16x256x3 .f32) (b : Fin 16) (i : Fin 256) (t : Fin 32) :
    (place p (ix4 b i t 0)).toInt = (nb p b i t).val := by
  have e : place p (ix4 b i t 0) = topI p (ix3 b i t) := by
    pointwise [place]
    rw [topI_apply]
    have := (nb p b i t).isLt
    word_omega
  rw [e, topI_apply]
  exact Conv.toInt_ofNat (lt_trans (nb p b i t).isLt (by decide))

theorem rel_apply (p : FVec Ideal S16x256x3 .f32) (b : Fin 16) (i : Fin 256) (t : Fin 32) (a : Fin 3) :
    (rel p (ix4 b i t a) : EReal) = pts p b (nb p b i t) a - pts p b i a := by
  have e : (Host.gather gather_S16x256x3_S16x256x32x1_S16x256x32x3_3_1_0_0_1_3_113 p (place p)) (ix4 b i t a) = p (ix3 b (nb p b i t) a) :=
    Conv.takeRows_apply gather_S16x256x3_S16x256x32x1_S16x256x32x3_3_1_0_0_1_3_113_wf p (place p) b i t a (nb p b i t) (place_apply p b i t)
  unfold rel
  generalize Host.gather gather_S16x256x3_S16x256x32x1_S16x256x32x3_3_1_0_0_1_3_113 p (place p) = g at e ⊢
  pointwise
  rw [e]
  rfl

theorem valid_apply (p : FVec Ideal S16x256x3 .f32) (b : Fin 16) (i : Fin 256) (t : Fin 32) (hv : nr p b i (nb p b i t) ≠ ⊥) :
    valid p (ix3 b i t) = 1#1 ↔ nr p b i (nb p b i t) < ⊤ := by
  pointwise [valid]
  simp only [topV_apply, Conv.ofBits_inf, Conv.ofBool_eq_one]
  exact Spec.abs_neg_lt hv

theorem feat_apply (p : FVec Ideal S16x256x3 .f32) (x : FVec Ideal S16x256x128 .f32) (b : Fin 16) (i : Fin 256) (t : Fin 32) (a : Fin 128) :
    (feat p x (ix4 b i t a) : EReal) = x (ix3 b (nb p b i t) a) :=
  Conv.takeRows_apply gather_S16x256x128_S16x256x32x1_S16x256x32x128_3_1_0_0_1_3_11128_wf x (place p) b i t a (nb p b i t) (place_apply p b i t)

theorem hid_apply (p : FVec Ideal S16x256x3 .f32) (x : FVec Ideal S16x256x128 .f32) (wa : FVec Ideal S131x256 .f32) (ba : FVec Ideal S256 .f32)
    (b : Fin 16) (i : Fin 256) (t : Fin 32) (k : Fin 256) :
    (hid p x wa ba (ix4 b i t k) : EReal) = max ((∑ c : Fin 128, (x (ix3 b (nb p b i t) c) * wa (ix2 ⟨c.val, by omega⟩ k) : EReal)
      + ∑ c : Fin 3, ((pts p b (nb p b i t) c - pts p b i c) * wa (ix2 ⟨128 + c.val, by omega⟩ k) : EReal)) + ba (ix1 k)) 0 := by
  pointwise [hid, cat]
  simp only [feat_apply, rel_apply]

theorem masked_apply (p : FVec Ideal S16x256x3 .f32) (x : FVec Ideal S16x256x128 .f32) (wa : FVec Ideal S131x256 .f32) (ba : FVec Ideal S256 .f32)
    (wb : FVec Ideal S256x256 .f32) (bb : FVec Ideal S256 .f32) (b : Fin 16) (i : Fin 256) (t : Fin 32) (f : Fin 256) :
    (masked p x wa ba wb bb (ix4 b i t f) : EReal)
      = if valid p (ix3 b i t) = 1#1 then (∑ k : Fin 256, (hid p x wa ba (ix4 b i t k) * wb (ix2 k f) : EReal)) + bb (ix1 f) else ⊥ := by
  pointwise [masked, msg]
  simp only [Conv.ofBits_ninf]
  rfl

/-- The maximum over the neighbours. -/
theorem max_apply (M : FVec Ideal S16x256x32x256 .f32) (b : Fin 16) (i : Fin 256) (f : Fin 256) :
    ((Host.reduce (FloatOps.maximumf : Ideal .f32 → Ideal .f32 → Ideal .f32) M (constant S_ .f32 0xFF800000#32)
        reducesTo_S16x256x32x256_S16x256x256_d2 h_S_ : FVec Ideal S16x256x256 .f32) (ix3 b i f) : EReal)
      = (Finset.univ : Finset (Fin 32)).fold max ⊥ fun t => (M (ix4 b i t f) : EReal) := by
  clean_types
  pointwise
  simp only [Conv.ofBits_ninf]

/-- The cut at zero. -/
theorem relu_apply (R : FVec Ideal S16x256x256 .f32) (b : Fin 16) (i : Fin 256) (f : Fin 256) :
    ((maximumf R (broadcastInDim S16x256x256 ![] bcast_S_S16x256x256 (constant S_ .f32 0x00000000#32)) : FVec Ideal S16x256x256 .f32) (ix3 b i f) : EReal)
      = max (R (ix3 b i f) : EReal) 0 := by
  pointwise

theorem layer_apply (p : FVec Ideal S16x256x3 .f32) (x : FVec Ideal S16x256x128 .f32) (wa : FVec Ideal S131x256 .f32) (ba : FVec Ideal S256 .f32)
    (wb : FVec Ideal S256x256 .f32) (bb : FVec Ideal S256 .f32) (b : Fin 16) (i : Fin 256) (f : Fin 256) :
    (layer p x wa ba wb bb (ix3 b i f) : EReal)
      = max ((Finset.univ : Finset (Fin 32)).fold max ⊥ fun t =>
          if valid p (ix3 b i t) = 1#1 then (∑ k : Fin 256, (hid p x wa ba (ix4 b i t k) * wb (ix2 k f) : EReal)) + bb (ix1 f) else ⊥) 0 := by
  unfold layer
  exact (relu_apply _ b i f).trans (congrArg (fun v : EReal => max v 0) ((max_apply _ b i f).trans
    (congrArg (fun g : Fin 32 → EReal => (Finset.univ : Finset (Fin 32)).fold max ⊥ g) (funext fun t => masked_apply p x wa ba wb bb b i t f))))

end Cert.ReferenceIdeal.Gen
-- ==== Proof.RefConv3.lean ====
/-
  Layer 3's reference is the convolution over the nearest points.
-/
module

public import proofs.«01_k».proof.Proof.RefVal3
public import Idealize.ShloMosaic.Lib.Pointwise

@[expose] public section

set_option maxRecDepth 16384

noncomputable section

namespace Cert.ReferenceIdeal.Gen

open Idealize.ShloMosaic Idealize.ShloMosaic.TcCoe Idealize.ShloMosaic.Tactic
open scoped BigOperators

/-- The layer is the convolution over the neighbours in the order of their distance, where points, features and first weights are finite. -/
theorem layer_conv (p : FVec Ideal S16x256x3 .f32) (x : FVec Ideal S16x256x128 .f32) (wa : FVec Ideal S131x256 .f32) (ba : FVec Ideal S256 .f32)
    (wb : FVec Ideal S256x256 .f32) (bb : FVec Ideal S256 .f32) (hp : ∀ y, Spec.Real (p y)) (hx : ∀ y, Spec.Real (x y))
    (hwa : ∀ y, Spec.Real (wa y)) (hba : ∀ y, Spec.Real (ba y)) (b : Fin 16) (i : Fin 256) (f : Fin 256) :
    (layer p x wa ba wb bb (ix3 b i f) : EReal)
      = Spec.conv r2 (pts p b)
          (fun j k => ((∑ a : Fin 3, (p (ix3 b j a) * wa (ix2 ⟨128 + a.val, by omega⟩ k) : EReal)) + ba (ix1 k))
            + ∑ a : Fin 128, (x (ix3 b j a) * wa (ix2 ⟨a.val, by omega⟩ k) : EReal))
          (fun a k => wa (ix2 ⟨128 + a.val, by omega⟩ k)) (fun k f => wb (ix2 k f)) (fun f => bb (ix1 f)) i f := by
  have hn : ∀ t, nr p b i (nb p b i t) ≠ ⊥ := fun t => Spec.near_ne_bot r2 (pts p b) (fun j a => hp _) i _
  have h32 : 32 ≤ 256 := by decide
  have e1 : ∀ t, nb p b i t = First.order (Spec.near r2 (pts p b) i) (t.castLE h32) := fun t => by unfold nb nr; rfl
  have e2 : ∀ t, valid p (ix3 b i t) = 1#1 ↔ Spec.near r2 (pts p b) i (nb p b i t) < ⊤ := fun t => valid_apply p b i t (hn t)
  rw [layer_apply]
  refine Spec.conv_of h32 r2 (pts p b) _ (fun a k => wa (ix2 ⟨128 + a.val, by omega⟩ k)) (fun k f => wb (ix2 k f)) (fun f => bb (ix1 f)) i f (nb p b i) e1
    (fun t => valid p (ix3 b i t)) e2 (fun t k => hid p x wa ba (ix4 b i t k)) ?_
  intro t k
  have e3 := Spec.hidden_eq (fun c : Fin 128 => (x (ix3 b (nb p b i t) c) : EReal)) (fun c => wa (ix2 ⟨c.val, by omega⟩ k))
    (pts p b (nb p b i t)) (pts p b i) (fun c => wa (ix2 ⟨128 + c.val, by omega⟩ k)) (ba (ix1 k)) (fun _ => hx _) (fun _ => hwa _)
    (fun _ => hp _) (fun _ => hp _) (fun _ => hwa _) (hba _)
  rw [hid_apply]
  unfold Spec.hidK
  generalize nb p b i t = j at e3 ⊢
  exact congrArg (fun v : EReal => max v 0) e3.symm
end Cert.ReferenceIdeal.Gen
-- ==== Proof.Claim3.lean ====
/-
  Layer 3 and the head: kernel and reference run to the same result.
-/
module

public import proofs.«01_k».proof.Defs
public import proofs.«01_k».proof.Proof.Finite
public import proofs.«01_k».proof.Proof.HeadRun
public import proofs.«01_k».proof.Proof.RefRun3
public import proofs.«01_k».proof.Proof.RefConv3
public import proofs.«01_k».proof.Proof.Gen.Pre_finite3
public import Idealize.ShloMosaic.Lib.Claim

@[expose] public section

set_option maxRecDepth 16384

noncomputable section

namespace Cert.Proof

open Idealize.ShloMosaic Idealize.ShloMosaic.TcCoe Idealize.ShloMosaic.Tactic
open scoped BigOperators

/-- What the precondition says: points, features and first weights are finite. -/
theorem finite3 (m : (ℓ : Loc Cert.KernelIdeal.nD Cert.KernelIdeal.τ Cert.KernelIdeal.sig) → Buf (Elt Ideal) ℓ) (h : Pre_KernelIdeal_finite3 m) (c : Dev Cert.KernelIdeal.nD) :
    (∀ y, Spec.Real (m ((c.tc : Thread Cert.KernelIdeal.nD Cert.KernelIdeal.τ).loc Cert.KernelIdeal.main_arg0) y))
      ∧ (∀ y, Spec.Real (m ((c.tc : Thread Cert.KernelIdeal.nD Cert.KernelIdeal.τ).loc Cert.KernelIdeal.main_arg1) y))
      ∧ (∀ y, Spec.Real (m ((c.tc : Thread Cert.KernelIdeal.nD Cert.KernelIdeal.τ).loc Cert.KernelIdeal.main_arg2) y))
      ∧ (∀ y, Spec.Real (m ((c.tc : Thread Cert.KernelIdeal.nD Cert.KernelIdeal.τ).loc Cert.KernelIdeal.main_arg3) y)) :=
  ⟨Spec.real_of_finite _ (m ((c.tc : Thread Cert.KernelIdeal.nD Cert.KernelIdeal.τ).loc Cert.KernelIdeal.main_arg0)) (h c).1,
    Spec.real_of_finite _ (m ((c.tc : Thread Cert.KernelIdeal.nD Cert.KernelIdeal.τ).loc Cert.KernelIdeal.main_arg1)) (h c).2.1,
    Spec.real_of_finite _ (m ((c.tc : Thread Cert.KernelIdeal.nD Cert.KernelIdeal.τ).loc Cert.KernelIdeal.main_arg2)) (h c).2.2.1,
    Spec.real_of_finite _ (m ((c.tc : Thread Cert.KernelIdeal.nD Cert.KernelIdeal.τ).loc Cert.KernelIdeal.main_arg3)) (h c).2.2.2⟩

/-- The reference's layer is the kernel's. -/
theorem layer_eq3 (p : FVec Ideal KernelIdeal.S16x256x3 .f32) (x : FVec Ideal KernelIdeal.S16x256x128 .f32) (wa : FVec Ideal KernelIdeal.S131x256 .f32) (ba : FVec Ideal KernelIdeal.S256 .f32)
    (wb : FVec Ideal KernelIdeal.S256x256 .f32) (bb : FVec Ideal KernelIdeal.S256 .f32) (hp : ∀ y, Spec.Real (p y)) (hx : ∀ y, Spec.Real (x y))
    (hwa : ∀ y, Spec.Real (wa y)) (hba : ∀ y, Spec.Real (ba y)) :
    ReferenceIdeal.Gen.layer p x wa ba wb bb = KernelIdeal.Gen.G p x wa ba wb bb := by
  funext y
  have e := ReferenceIdeal.Gen.layer_conv p x wa ba wb bb hp hx hwa hba (y 0) (y 1) (y 2)
  rw [eq_ix3 y]
  exact e

theorem algebraic3 : algebraic_KernelIdeal_ReferenceIdeal_pre_finite3 := by
  pair_intro
  · run_from KernelIdeal.Gen.run m g
  · refine (θ_run _ _ _).mono (fun r h c => ?_) (ReferenceIdeal.Gen.run m' g')
    have e := h c
    obtain ⟨hp, hx, hwa, hba⟩ := finite3 m hpre c
    refine ⟨e.1.trans ?_, e.2⟩
    obtain ⟨a0, a1, a2, a3, a4, a5, a6, a7, a8, a9, a10, a11⟩ := hagree c
    rw [a0, a1, a2, a3, a4, a5, a6, a7, a8, a9, a10, a11]
    exact congrArg (fun h => ReferenceIdeal.Gen.head h _ _ _ _ _ _) (layer_eq3 _ _ _ _ _ _ hp hx hwa hba)

end Cert.Proof

end
-- ==== Proof.Take.lean ====
/-
  Rows taken by place: the places as indices, and the host's gather of one row per place.
-/
module

public import proofs.«01_k».proof.Proof.ConvRead
public import Idealize.ShloMosaic.Lib.Pointwise

@[expose] public section

noncomputable section

namespace Cert.Take

open Idealize.ShloMosaic
open scoped BigOperators

/-- A word that names one of `N` places. -/
def Inside (N : ℕ) (s : BitVec 32) : Prop := 0 ≤ s.toInt ∧ s.toInt < N

/-- The place a word names. -/
def place (N : ℕ) [NeZero N] (s : BitVec 32) : Fin N := Fin.ofNat N s.toNat

variable {N : ℕ} [NeZero N]

theorem toInt_place {s : BitVec 32} (h : Inside N s) : s.toInt = ((place N s).val : ℤ) := by
  obtain ⟨h0, h1⟩ := h
  have hs := s.isLt
  have e : s.toInt = (s.toNat : ℤ) := by
    rw [BitVec.toInt_eq_toNat_cond] at h0 ⊢
    split at h0 <;> omega
  have hlt : s.toNat < N := by omega
  rw [e]
  show (s.toNat : ℤ) = ((s.toNat % N : ℕ) : ℤ)
  rw [Nat.mod_eq_of_lt hlt]

theorem eq_iff_place (hN : N < 2 ^ 31) {s : BitVec 32} (h : Inside N s) (n : Fin N) : BitVec.ofNat 32 n.val = s ↔ n = place N s := by
  have e := toInt_place h
  have hn := Conv.toInt_ofNat (n := n.val) (by have := n.isLt; omega)
  constructor
  · intro hs
    apply Fin.ext
    rw [hs, e] at hn
    exact_mod_cast hn.symm
  · intro hs
    apply BitVec.toInt_inj.1
    rw [hn, e, hs]

/-- The entry of a one-hot row as a number. -/
theorem hot (hN : N < 2 ^ 31) {s : BitVec 32} (h : Inside N s) (n : Fin N) :
    (((((BitVec.ofBool (BitVec.ofNat 32 n.val == s)).setWidth 32).toInt : ℝ)) : EReal) = if n = place N s then 1 else 0 := by
  by_cases hn : n = place N s
  · rw [if_pos hn, beq_iff_eq.2 ((eq_iff_place hN h n).2 hn)]; simp
  · rw [if_neg hn, beq_eq_false_iff_ne.2 (fun e => hn ((eq_iff_place hN h n).1 e))]; simp

variable {B M C : ℕ}

/-- One row per place, batch by batch. -/
def takeRow (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

omit [NeZero N] in
theorem takeRow_apply {α : Type} (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ 32) (b : Fin B) (i : Fin M) (c : Fin C) (j : Fin N)
    (hj : (idx (ix3 b i 0)).toInt = j.val) : Host.gather (takeRow wf) x idx (ix3 b i c) = x (ix3 b j c) := by
  have hs : ∀ k : Fin 1, (takeRow wf).siIdx (ix3 b i c) k = ix3 b i 0 := by
    intro k
    funext a
    fin_cases a
    · rfl
    · rfl
    · exact Fin.ext (by have := k.isLt; show k.val = 0; omega)
  show x ((takeRow wf).operandIdx (ix3 b i c) idx) = _
  refine congrArg x ?_
  funext a
  fin_cases a
  · refine Fin.ext ?_
    show (takeRow wf).start (ix3 b i c) idx (0 : Fin 3) + (takeRow wf).batchCoord (ix3 b i c) (0 : Fin 3) + (takeRow wf).offCoord (ix3 b i c) (0 : Fin 3) = b.val
    have h1 : (takeRow wf).start (ix3 b i c) idx (0 : Fin 3) = 0 := dif_neg (by show ¬ (0 : Fin 3) ∈ [(1 : Fin 3)]; decide)
    have h2 : (takeRow wf).batchCoord (ix3 b i c) (0 : Fin 3) = b.val := rfl
    have h3 : (takeRow wf).offCoord (ix3 b i c) (0 : Fin 3) = 0 := rfl
    omega
  · refine Fin.ext ?_
    show (takeRow wf).start (ix3 b i c) idx (1 : Fin 3) + (takeRow wf).batchCoord (ix3 b i c) (1 : Fin 3) + (takeRow wf).offCoord (ix3 b i c) (1 : Fin 3) = j.val
    have h1 : (takeRow wf).start (ix3 b i c) idx (1 : Fin 3) = min (idx (ix3 b i 0)).toInt.toNat (N - 1) := by
      refine (dif_pos (by show (1 : Fin 3) ∈ [(1 : Fin 3)]; decide)).trans ?_
      exact congrArg (fun q => min (idx q).toInt.toNat (N - 1)) (hs _)
    have h2 : (takeRow wf).batchCoord (ix3 b i c) (1 : Fin 3) = 0 := rfl
    have h3 : (takeRow wf).offCoord (ix3 b i c) (1 : Fin 3) = 0 := rfl
    have := j.isLt
    rw [h1, h2, h3, hj]
    simp only [Int.toNat_natCast]
    omega
  · refine Fin.ext ?_
    show (takeRow wf).start (ix3 b i c) idx (2 : Fin 3) + (takeRow wf).batchCoord (ix3 b i c) (2 : Fin 3) + (takeRow wf).offCoord (ix3 b i c) (2 : Fin 3) = c.val
    have h1 : (takeRow wf).start (ix3 b i c) idx (2 : Fin 3) = 0 := dif_neg (by show ¬ (2 : Fin 3) ∈ [(1 : Fin 3)]; decide)
    have h2 : (takeRow wf).batchCoord (ix3 b i c) (2 : Fin 3) = 0 := rfl
    have h3 : (takeRow wf).offCoord (ix3 b i c) (2 : Fin 3) = c.val := rfl
    omega

/-- A place that is not negative is kept as it is. -/
theorem kept {n : ℕ} {s k : BitVec 32} (h : Inside n s) : (if IntOp.cmpi .slt s 0#32 = 1#1 then s + k else s) = s := by
  refine if_neg fun e => ?_
  have : s.slt 0#32 = true := by
    revert e
    show BitVec.ofBool (s.slt 0#32) = 1#1 → _
    cases s.slt 0#32 <;> decide
  rw [BitVec.slt_eq_decide] at this
  have h0 : s.toInt < (0#32 : BitVec 32).toInt := of_decide_eq_true this
  have h1 := h.1
  have : (0#32 : BitVec 32).toInt = 0 := by decide
  omega

/-- The two comparisons that say a word names a place. -/
theorem inside_of {n : ℕ} (hn : n < 2 ^ 31) {s : BitVec 32}
    (h : BitVec.ofBool ((0#32 : BitVec 32).sle s) &&& BitVec.ofBool (s.slt (BitVec.ofNat 32 n)) = 1#1) : Inside n s := by
  have h2 : (0#32 : BitVec 32).sle s = true ∧ s.slt (BitVec.ofNat 32 n) = true := by
    revert h
    cases (0#32 : BitVec 32).sle s <;> cases s.slt (BitVec.ofNat 32 n) <;> decide
  rw [BitVec.sle_eq_decide, BitVec.slt_eq_decide, Conv.toInt_ofNat hn] at h2
  exact ⟨of_decide_eq_true h2.1, of_decide_eq_true h2.2⟩

end Cert.Take

end
-- ==== Proof.Samp.lean ====
/-
  Farthest point sampling on one cloud: the state after each pick, and the two ways to find the farthest point, the
  first index of a row's greatest entry, read at an index.
-/
module

public import proofs.«01_k».proof.Proof.Take
public import Idealize.ShloMosaic.Lib.Exec

@[expose] public section

noncomputable section

namespace Cert.Samp

open Idealize.ShloMosaic Cert.First Cert.Conv
open scoped BigOperators

variable {N : ℕ} [NeZero N]

/-- The first index at which `x` is greatest. -/
def top (x : Fin N → EReal) : Fin N := am fun j => -x j

theorem le_top' (x : Fin N → EReal) (l : Fin N) : x l ≤ x (top x) := EReal.neg_le_neg_iff.1 ((am_spec fun j => -x j).1 l)

theorem lt_top' (x : Fin N → EReal) {l : Fin N} (h : l < top x) : x l < x (top x) :=
  EReal.neg_lt_neg_iff.1 ((am_spec fun j => -x j).2 l h)

/-- The squared distance of point `j` from point `q`. -/
def dist (p : Fin N → Fin 3 → EReal) (q j : Fin N) : EReal :=
  (p j 0 - p q 0) * (p j 0 - p q 0) + (p j 1 - p q 1) * (p j 1 - p q 1) + (p j 2 - p q 2) * (p j 2 - p q 2)

/-- The distance of every point from the picked ones, and the last pick; the first pick is point 0 and not yet counted. -/
def st (d : Fin N → Fin N → EReal) : ℕ → (Fin N → EReal) × Fin N
  | 0 => (fun _ => ⊤, 0)
  | k + 1 => (fun j => min ((st d k).1 j) (d (st d k).2 j), top fun j => min ((st d k).1 j) (d (st d k).2 j))

/-- The `k`-th pick. -/
def pick (d : Fin N → Fin N → EReal) (k : ℕ) : Fin N := (st d k).2

/-- The distances with point 0 counted from the start. -/
def far (d : Fin N → Fin N → EReal) : ℕ → Fin N → EReal
  | 0 => d 0
  | k + 1 => (st d (k + 1)).1

theorem far_succ (d : Fin N → Fin N → EReal) (k : ℕ) (j : Fin N) : min (far d k j) (d (pick d k) j) = far d (k + 1) j := by
  cases k with
  | zero => show min (d 0 j) (d 0 j) = min ⊤ (d 0 j); rw [min_self, top_inf_eq]
  | succ k => rfl

theorem pick_succ (d : Fin N → Fin N → EReal) (k : ℕ) : pick d (k + 1) = top (far d (k + 1)) := rfl

/-! ### By masked indices -/

/-- The greatest value, as a fold from ⊥. -/
theorem fold_max_eq (x : Fin N → EReal) : (Finset.univ : Finset (Fin N)).fold max ⊥ x = x (top x) :=
  le_antisymm ((Finset.fold_max_le _).2 ⟨bot_le, fun l _ => le_top' x l⟩)
    ((Finset.le_fold_max _).2 (Or.inr ⟨top x, Finset.mem_univ _, le_rfl⟩))

/-- The least index whose entry is the greatest. -/
theorem masked_apply {B : ℕ} (hN : N < 2 ^ 31) (d : FVec Ideal (M2 B N) .f32) (li : IVec (M2 B N) 32) (g : FVec Ideal (M2 B N) .f32)
    (red : (M2 B N).Reduces [1] (M1 B)) (b : Fin B)
    (hli : ∀ k : Fin N, li (ix2 b k) = BitVec.ofNat 32 k.val) (hg : ∀ k : Fin N, (g (ix2 b k) : EReal) = row d b (top (row d b))) :
    (multiReductionI .minsi [1] (M1 B) (select (cmpf .oeq d g) li (broadcast (M2 B N) (BitVec.ofNat 32 N))) 2147483647#32 red rfl) (ix1 b)
      = BitVec.ofNat 32 (top (row d b)).val := by
  have hv : ∀ l : Fin N, (row (select (cmpf .oeq d g) li (broadcast (M2 B N) (BitVec.ofNat 32 N))) b l).toInt
      = if row d b l = row d b (top (row d b)) then (l.val : ℤ) else N := fun l => by
    show (if (BitVec.ofBool (decide (d (ix2 b l) = g (ix2 b l)))) = 1#1 then li (ix2 b l) else BitVec.ofNat 32 N).toInt = _
    rw [hli, hg, show (d (ix2 b l) : EReal) = row d b l from rfl]
    by_cases h : row d b l = row d b (top (row d b))
    · rw [if_pos h, if_pos (ofBool_eq_one.2 h), toInt_ofNat (by omega)]
    · rw [if_neg h, if_neg (fun e => h (ofBool_eq_one.1 e)), toInt_ofNat hN]
  apply BitVec.toInt_inj.1
  refine (congrArg BitVec.toInt (reduceFold_row red IntOp.minsi _ _ b)).trans ?_
  rw [fold_minsi_toInt]
  have ht := (top (row d b)).isLt
  refine Eq.trans ?_ (toInt_ofNat (n := (top (row d b)).val) (by omega)).symm
  apply le_antisymm
  · refine (Finset.fold_min_le _).2 (Or.inr ⟨top (row d b), Finset.mem_univ _, ?_⟩)
    rw [hv, if_pos rfl]
  · refine (Finset.le_fold_min _).2 ⟨?_, fun (l : Fin N) _ => ?_⟩
    · rw [show (2147483647#32 : BitVec 32).toInt = 2147483647 from by decide]
      omega
    · rw [hv]
      split
      · next h =>
        by_contra hlt
        have hl : l < top (row d b) := by rw [Fin.lt_def]; omega
        exact absurd h (lt_top' _ hl).ne
      · omega

/-! ### By a fold over pairs of value and index -/

/-- The pair kept of two: the greater value, of equal ones the lesser index. -/
def keep (a b : EReal × BitVec 32) : EReal × BitVec 32 := if b.1 < a.1 ∨ (a.1 = b.1 ∧ a.2.toInt < b.2.toInt) then a else b

/-- `r` is as good as `p`. -/
def Over (r p : EReal × BitVec 32) : Prop := p.1 < r.1 ∨ (p.1 = r.1 ∧ r.2.toInt ≤ p.2.toInt)

theorem Over.trans {a b c : EReal × BitVec 32} (h : Over a b) (h' : Over b c) : Over a c := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

theorem keep_spec (a b : EReal × BitVec 32) : (keep a b = a ∨ keep a b = b) ∧ Over (keep a b) a ∧ Over (keep a b) b := by
  unfold keep
  split
  · next h =>
    refine ⟨Or.inl rfl, Or.inr ⟨rfl, le_rfl⟩, ?_⟩
    rcases h with h | ⟨h, i⟩
    · exact Or.inl h
    · exact Or.inr ⟨h.symm, i.le⟩
  · next h =>
    rw [not_or] at h
    refine ⟨Or.inr rfl, ?_, Or.inr ⟨rfl, le_rfl⟩⟩
    rcases (not_lt.1 h.1).lt_or_eq with e | e
    · exact Or.inl e
    · exact Or.inr ⟨e, not_lt.1 fun i => h.2 ⟨e, i⟩⟩

theorem foldl_keep (l : List (EReal × BitVec 32)) : ∀ a : EReal × BitVec 32,
    (l.foldl keep a = a ∨ l.foldl keep a ∈ l) ∧ Over (l.foldl keep a) a ∧ ∀ p ∈ l, Over (l.foldl keep a) p := by
  induction l with
  | nil => exact fun a => ⟨Or.inl rfl, Or.inr ⟨rfl, le_rfl⟩, fun p hp => absurd hp (List.not_mem_nil)⟩
  | cons b l ih =>
    intro a
    obtain ⟨h1, h2, h3⟩ := ih (keep a b)
    obtain ⟨k1, k2, k3⟩ := keep_spec a b
    rw [List.foldl_cons]
    refine ⟨?_, h2.trans k2, fun p hp => ?_⟩
    · rcases h1 with h1 | h1
      · rw [h1]
        rcases k1 with k1 | k1
        · exact Or.inl k1
        · rw [k1]; exact Or.inr (List.mem_cons_self)
      · exact Or.inr (List.mem_cons_of_mem _ h1)
    · rcases List.mem_cons.1 hp with rfl | hp
      · exact h2.trans k3
      · exact h3 p hp

/-- The fold over a row's pairs, whatever their order, ends at the first index of the greatest entry. -/
theorem foldl_row (hN : N < 2 ^ 31) (x : Fin N → EReal) (l : List (EReal × BitVec 32))
    (hl : ∀ p, p ∈ l ↔ ∃ n : Fin N, p = (x n, BitVec.ofNat 32 n.val)) : (l.foldl keep (⊥, 0#32)).2 = BitVec.ofNat 32 (top x).val := by
  obtain ⟨h1, -, h3⟩ := foldl_keep l (⊥, 0#32)
  have ht := h3 _ ((hl _).2 ⟨top x, rfl⟩)
  generalize l.foldl keep (⊥, 0#32) = r at h1 h3 ht
  rcases h1 with rfl | h1
  · rcases ht with h | ⟨h, -⟩
    · exact absurd h not_lt_bot
    · have h0 : top x = 0 := by
        by_contra hne
        have hlt : (0 : Fin N) < top x := Fin.pos_iff_ne_zero.2 hne
        have := lt_top' x hlt
        rw [show x (top x) = ⊥ from h] at this
        exact absurd this not_lt_bot
      rw [h0]; simp
  · obtain ⟨n, rfl⟩ := (hl _).1 h1
    have hn := n.isLt
    have htl := (top x).isLt
    rcases ht with h | ⟨h, i⟩
    · exact absurd h (not_lt.2 (le_top' x n))
    · rw [toInt_ofNat (by omega), toInt_ofNat (by omega)] at i
      have hle : n ≤ top x := by rw [Fin.le_def]; exact_mod_cast i
      rcases hle.lt_or_eq with hlt | he
      · exact absurd (show x (top x) = x n from h) (lt_top' x hlt).ne'
      · rw [he]

/-- The host's index of the greatest entry along the rows of a matrix. -/
theorem argReduce_apply {B : ℕ} (hN : N < 2 ^ 31) (f : Ideal .f32 × BitVec 32 → Ideal .f32 × BitVec 32 → Ideal .f32 × BitVec 32)
    (hf : ∀ a b, f a b = keep a b) (x : FVec Ideal (M2 B N) .f32) (y : IVec (M2 B N) 32) {u : Shape} (ix : FVec Ideal u .f32) (iy : IVec u 32)
    (h : (M2 B N).ReducesTo [1] (M1 B)) (hu : 0 < u.numel) (hx : ∀ i, (ix i : EReal) = ⊥) (hy : ∀ i, iy i = 0#32) (b : Fin B)
    (hyb : ∀ k : Fin N, y (ix2 b k) = BitVec.ofNat 32 k.val) :
    (Host.argReduce f x y ix iy h hu (ix1 b)).2 = BitVec.ofNat 32 (top (row x b)).val := by
  rw [Ideal.argReduce_eq_reduce2, Host.reduce2_eq_foldl_fiber, hy]
  have e : f = keep := funext fun a => funext fun b => hf a b
  rw [e, show (ix (Shape.Idx.first hu) : Ideal .f32) = (⊥ : EReal) from hx _]
  refine foldl_row hN (row x b) _ fun p => ?_
  unfold Host.argReduceFiber
  simp only [List.mem_map, List.mem_filter, List.mem_finRange, true_and, decide_eq_true_eq]
  constructor
  · rintro ⟨n, hn, rfl⟩
    generalize (M2 B N).rowMajor.symm n = i at hn
    have hi : i = ix2 b (i 1) := by
      funext a
      match a with
      | ⟨0, _⟩ => exact Fin.ext ((h.drop_apply_val i 0).symm.trans (congrArg (fun j => (j 0).val) hn))
      | ⟨1, _⟩ => rfl
    refine ⟨i 1, ?_⟩
    rw [hi]
    exact Prod.ext rfl (hyb (i 1))
  · rintro ⟨n, rfl⟩
    refine ⟨(M2 B N).rowMajor (ix2 b n), ?_, ?_⟩
    · rw [Equiv.symm_apply_apply]
      funext a
      match a with
      | ⟨0, _⟩ => exact Fin.ext (h.drop_apply_val (ix2 b n) 0)
    · rw [Equiv.symm_apply_apply]
      exact Prod.ext rfl (hyb n)

/-! ### What holds after every trip -/

theorem fold_inv {n : ℕ} {α : Type} (g : Fin n → α → α) (init : α) (P : ℕ → α → Prop) (h0 : P 0 init)
    (hs : ∀ (k : Fin n) (a : α), P k.val a → P (k.val + 1) (g k a)) : P n (Scf.fold g init) := by
  rw [Scf.fold_eq]
  induction n with
  | zero => exact h0
  | succ n ih =>
    rw [List.finRange_succ_last, List.foldl_append, List.foldl_map]
    exact hs (Fin.last n) _ (ih (fun k => g k.castSucc) fun k => hs k.castSucc)

/-! ### One point per cloud, taken by its place -/

variable {B C : ℕ}

/-- One row per cloud; the place is a pair of cloud and row. -/
def takePoint (wf : GatherDims.WF ⟨3, ![B, N, C]⟩ ⟨2, ![B, 2]⟩ ⟨2, ![B, C]⟩ [1] [0, 1] [] [0, 1] [] 1 ![1, 1, C]) :
    GatherDims ⟨3, ![B, N, C]⟩ ⟨2, ![B, 2]⟩ ⟨2, ![B, C]⟩ where
  offsetDims := [1]
  collapsedSliceDims := [0, 1]
  operandBatchingDims := []
  startIndicesBatchingDims := []
  startIndexMap := [0, 1]
  indexVectorDim := 1
  sliceSizes := ![1, 1, C]
  wf := wf

omit [NeZero N] in
theorem takePoint_apply {α : Type} (wf : GatherDims.WF ⟨3, ![B, N, C]⟩ ⟨2, ![B, 2]⟩ ⟨2, ![B, C]⟩ [1] [0, 1] [] [0, 1] [] 1 ![1, 1, C])
    (x : (⟨3, ![B, N, C]⟩ : Shape).Idx → α) (idx : IVec ⟨2, ![B, 2]⟩ 32) (b : Fin B) (c : Fin C) (j : Fin N)
    (hb : (idx (ix2 b 0)).toInt = b.val) (hj : (idx (ix2 b 1)).toInt = j.val) : Host.gather (takePoint wf) x idx (ix2 b c) = x (ix3 b j c) := by
  have hs0 : (takePoint wf).siIdx (ix2 b c) (0 : Fin 2) = ix2 b 0 := by
    funext a
    fin_cases a <;> rfl
  have hs1 : (takePoint wf).siIdx (ix2 b c) (1 : Fin 2) = ix2 b 1 := by
    funext a
    fin_cases a <;> rfl
  show x ((takePoint wf).operandIdx (ix2 b c) idx) = _
  refine congrArg x ?_
  funext a
  fin_cases a
  · refine Fin.ext ?_
    show (takePoint wf).start (ix2 b c) idx (0 : Fin 3) + (takePoint wf).batchCoord (ix2 b c) (0 : Fin 3) + (takePoint wf).offCoord (ix2 b c) (0 : Fin 3) = b.val
    have h1 : (takePoint wf).start (ix2 b c) idx (0 : Fin 3) = min (idx (ix2 b 0)).toInt.toNat (B - 1) := by
      refine (dif_pos (by show (0 : Fin 3) ∈ [(0 : Fin 3), 1]; decide)).trans ?_
      exact congrArg (fun q => min (idx q).toInt.toNat (B - 1)) hs0
    have h2 : (takePoint wf).batchCoord (ix2 b c) (0 : Fin 3) = 0 := rfl
    have h3 : (takePoint wf).offCoord (ix2 b c) (0 : Fin 3) = 0 := rfl
    have := b.isLt
    rw [h1, h2, h3, hb]
    simp only [Int.toNat_natCast]
    omega
  · refine Fin.ext ?_
    show (takePoint wf).start (ix2 b c) idx (1 : Fin 3) + (takePoint wf).batchCoord (ix2 b c) (1 : Fin 3) + (takePoint wf).offCoord (ix2 b c) (1 : Fin 3) = j.val
    have h1 : (takePoint wf).start (ix2 b c) idx (1 : Fin 3) = min (idx (ix2 b 1)).toInt.toNat (N - 1) := by
      refine (dif_pos (by show (1 : Fin 3) ∈ [(0 : Fin 3), 1]; decide)).trans ?_
      exact congrArg (fun q => min (idx q).toInt.toNat (N - 1)) hs1
    have h2 : (takePoint wf).batchCoord (ix2 b c) (1 : Fin 3) = 0 := rfl
    have h3 : (takePoint wf).offCoord (ix2 b c) (1 : Fin 3) = 0 := rfl
    have := j.isLt
    rw [h1, h2, h3, hj]
    simp only [Int.toNat_natCast]
    omega
  · refine Fin.ext ?_
    show (takePoint wf).start (ix2 b c) idx (2 : Fin 3) + (takePoint wf).batchCoord (ix2 b c) (2 : Fin 3) + (takePoint wf).offCoord (ix2 b c) (2 : Fin 3) = c.val
    have h1 : (takePoint wf).start (ix2 b c) idx (2 : Fin 3) = 0 := dif_neg (by show ¬ (2 : Fin 3) ∈ [(0 : Fin 3), 1]; decide)
    have h2 : (takePoint wf).batchCoord (ix2 b c) (2 : Fin 3) = 0 := rfl
    have h3 : (takePoint wf).offCoord (ix2 b c) (2 : Fin 3) = c.val := rfl
    omega

end Cert.Samp

end
-- ==== Proof.SampVal4.lean ====
/-
  The first sampling's kernel: one trip read at an index, and what the loop leaves.
-/
module

public import proofs.«01_k».proof.Proof.Samp
public import proofs.«01_k».proof.Proof.Gen.Kernel4Ideal.Frame
public import proofs.«01_k».proof.Proof.Gen.Kernel4Ideal.Value
public import Idealize.ShloMosaic.Lib.Pipeline.ValueKit
public import Idealize.ShloMosaic.Lib.Tactic.CleanTypes
public import Idealize.ShloMosaic.Lib.Claim

@[expose] public section

set_option maxRecDepth 16384

noncomputable section

namespace Cert.Kernel4Ideal.Gen

open Idealize.ShloMosaic Idealize.ShloMosaic.TcCoe Idealize.ShloMosaic.Tactic
open scoped BigOperators

section
variable (v0 v2 v4 : Vec Ideal S16x1x2048 .f32) (d : FVec Ideal S16x2048 .f32) (l : IVec S16x1 32)

/-- The points of cloud `b`, the coordinates in three arrays. -/
def cloud (b : Fin 16) (j : Fin 2048) (c : Fin 3) : EReal := (![v0 (ix3 b 0 j), v2 (ix3 b 0 j), v4 (ix3 b 0 j)] : Fin 3 → EReal) c

/-- The one-hot rows of the last picks. -/
def hotRows : FVec Ideal S16x2048 .f32 := sitofp .f32 (extui 32 (cmpi .eq (iota .tc S16x2048 32 [1] iota_S16x2048_d1_w32)
  (broadcastTo S16x2048 l broadcasts_S16x1_S16x2048)) natLt_1_32)

/-- The last pick's coordinate, in every cloud. -/
def coordOf (v : FVec Ideal S16x2048 .f32) : FVec Ideal S16x1 .f32 := shapeCast S16x1 (multiReduction .add [1] S16 (mulf (hotRows l) v) 0x00000000#32
  reduces_S16x2048_S16 (.inl rfl) rfl) shapeCasts_S16_S16x1

theorem hotRows_apply (b : Fin 16) (q : Fin 2048) (h : l (ix2 b 0) = BitVec.ofNat 32 q.val) (j : Fin 2048) :
    (hotRows l (ix2 b j) : EReal) = if j = q then 1 else 0 := by
  have hin : Take.Inside 2048 (l (ix2 b 0)) := by
    rw [h]
    unfold Take.Inside
    rw [Conv.toInt_ofNat (by have := q.isLt; omega)]
    have := q.isLt
    omega
  have hq : Take.place 2048 (l (ix2 b 0)) = q := ((Take.eq_iff_place (N := 2048) (by decide) hin q).1 h.symm).symm
  refine Eq.trans ?_ ((Take.hot (N := 2048) (by decide) hin j).trans (by rw [hq]))
  unfold hotRows
  clean_types
  pointwise
  rfl

theorem coordOf_apply (v : FVec Ideal S16x2048 .f32) (b : Fin 16) (q : Fin 2048) (h : l (ix2 b 0) = BitVec.ofNat 32 q.val) :
    (coordOf l v (ix2 b 0) : EReal) = v (ix2 b q) := by
  refine Eq.trans ?_ (Conv.pick_sum q fun j => v (ix2 b j))
  refine (ValueIdx.shapeCast_a_a1_apply _ _ b 0).trans ((Ideal.multiReduction_add_single (mulf (hotRows l) v) _ reduces_S16x2048_S16 (.inl rfl) rfl (ix1 b)).trans ?_)
  refine Finset.sum_congr rfl fun j _ => ?_
  refine (congrArg (mulf (hotRows l) v) (Conv.lift_ix1 (n := 16) (m := 2048) reduces_S16x2048_S16 b j)).trans ?_
  exact congrArg (· * v (ix2 b j)) (hotRows_apply l b q h j)

theorem pay4_apply (b : Fin 16) (q : Fin 2048) (h : l (ix2 b 0) = BitVec.ofNat 32 q.val) (j : Fin 2048) :
    (k0_pay4 (F := Ideal) v0 v2 v4 d l (ix2 b j) : EReal) = min (d (ix2 b j)) (Samp.dist (cloud v0 v2 v4 b) q j) := by
  have h0 := coordOf_apply l (shapeCast S16x2048 v0 shapeCasts_S16x1x2048_S16x2048) b q h
  have h1 := coordOf_apply l (shapeCast S16x2048 v2 shapeCasts_S16x1x2048_S16x2048) b q h
  have h2 := coordOf_apply l (shapeCast S16x2048 v4 shapeCasts_S16x1x2048_S16x2048) b q h
  have e : k0_pay4 (F := Ideal) v0 v2 v4 d l = minimumf d (addf (addf
      (mulf (subf (shapeCast S16x2048 v0 shapeCasts_S16x1x2048_S16x2048) (broadcastTo S16x2048 (coordOf l (shapeCast S16x2048 v0 shapeCasts_S16x1x2048_S16x2048)) broadcasts_S16x1_S16x2048))
        (subf (shapeCast S16x2048 v0 shapeCasts_S16x1x2048_S16x2048) (broadcastTo S16x2048 (coordOf l (shapeCast S16x2048 v0 shapeCasts_S16x1x2048_S16x2048)) broadcasts_S16x1_S16x2048)))
      (mulf (subf (shapeCast S16x2048 v2 shapeCasts_S16x1x2048_S16x2048) (broadcastTo S16x2048 (coordOf l (shapeCast S16x2048 v2 shapeCasts_S16x1x2048_S16x2048)) broadcasts_S16x1_S16x2048))
        (subf (shapeCast S16x2048 v2 shapeCasts_S16x1x2048_S16x2048) (broadcastTo S16x2048 (coordOf l (shapeCast S16x2048 v2 shapeCasts_S16x1x2048_S16x2048)) broadcasts_S16x1_S16x2048))))
      (mulf (subf (shapeCast S16x2048 v4 shapeCasts_S16x1x2048_S16x2048) (broadcastTo S16x2048 (coordOf l (shapeCast S16x2048 v4 shapeCasts_S16x1x2048_S16x2048)) broadcasts_S16x1_S16x2048))
        (subf (shapeCast S16x2048 v4 shapeCasts_S16x1x2048_S16x2048) (broadcastTo S16x2048 (coordOf l (shapeCast S16x2048 v4 shapeCasts_S16x1x2048_S16x2048)) broadcasts_S16x1_S16x2048)))) := rfl
  rw [e]
  generalize coordOf l (shapeCast S16x2048 v0 shapeCasts_S16x1x2048_S16x2048) = z0 at h0
  generalize coordOf l (shapeCast S16x2048 v2 shapeCasts_S16x1x2048_S16x2048) = z1 at h1
  generalize coordOf l (shapeCast S16x2048 v4 shapeCasts_S16x1x2048_S16x2048) = z2 at h2
  revert h0 h1 h2
  clean_types
  pointwise
  intro h0 h1 h2
  simp only [h0, h1, h2]
  rfl

theorem pay5_apply (b : Fin 16) : k0_pay5 (F := Ideal) v0 v2 v4 d l (ix2 b 0)
    = BitVec.ofNat 32 (Samp.top (Conv.row (k0_pay4 (F := Ideal) v0 v2 v4 d l) b)).val := by
  unfold k0_pay5
  generalize k0_pay4 (F := Ideal) v0 v2 v4 d l = x
  refine (ValueIdx.shapeCast_a_a1_apply _ _ b 0).trans (Samp.masked_apply (N := 2048) (by decide) x _ _ reduces_S16x2048_S16 b (fun k => iota_single_apply _ _ _ _ _ _) fun k => ?_)
  refine (Conv.broadcastTo_a1_ab_apply _ _ b k).trans ((ValueIdx.shapeCast_a_a1_apply _ _ b 0).trans ?_)
  refine (Ideal.multiReduction_maximumf_single x _ reduces_S16x2048_S16 (.inl rfl) rfl (ix1 b)).trans ?_
  refine Eq.trans ?_ (Samp.fold_max_eq (N := 2048) (Conv.row x b))
  refine (Finset.fold_congr fun j _ => congrArg x (Conv.lift_ix1 (n := 16) (m := 2048) reduces_S16x2048_S16 b j)).trans ?_
  exact congrArg (fun e : EReal => (Finset.univ : Finset (Fin 2048)).fold max e (Conv.row x b)) Conv.ofBits_ninf

theorem pay6_apply (t : Fin k0_t1_loop.trips) (s : IVec S16x1024 32) (b : Fin 16) (j : Fin 1024) :
    k0_pay6 (F := Ideal) v0 v2 v4 t d l s (ix2 b j)
      = if j.val = t.val + 1 then k0_pay5 (F := Ideal) v0 v2 v4 d l (ix2 b 0) else s (ix2 b j) := by
  unfold k0_pay6
  generalize k0_pay5 (F := Ideal) v0 v2 v4 d l = x
  have ht : t.val < 1023 := by
    have := t.isLt
    have e : k0_t1_loop.trips = 1023 := by decide
    omega
  have hi : BitVec.ofNat 32 j.val = Scf.iv 1#32 1#32 t.val ↔ j.val = t.val + 1 := by
    have hj := j.isLt
    rw [show Scf.iv 1#32 1#32 t.val = BitVec.ofNat 32 (t.val + 1) from by
      apply BitVec.eq_of_toNat_eq
      simp [Scf.iv]
      omega]
    constructor
    · intro e
      have := congrArg BitVec.toNat e
      simp at this
      omega
    · intro e; rw [e]
  have e : ∀ y : IVec S16x1024 32, y (ix2 b j) = x (ix2 b 0) → select (cmpi .eq (iota .tc S16x1024 32 [1] iota_S16x1024_d1_w32) (broadcast S16x1024 (Scf.iv 1#32 1#32 t.val))) y s (ix2 b j)
      = if j.val = t.val + 1 then x (ix2 b 0) else s (ix2 b j) := fun y hy => by
    show (if BitVec.ofBool (iota .tc S16x1024 32 [1] iota_S16x1024_d1_w32 (ix2 b j) == Scf.iv 1#32 1#32 t.val) = 1#1 then y (ix2 b j) else s (ix2 b j)) = _
    rw [iota_single_apply]
    show (if BitVec.ofBool (BitVec.ofNat 32 j.val == Scf.iv 1#32 1#32 t.val) = 1#1 then y (ix2 b j) else s (ix2 b j)) = _
    by_cases h : j.val = t.val + 1
    · rw [if_pos h, beq_iff_eq.2 (hi.2 h), hy]; rfl
    · rw [if_neg h, beq_eq_false_iff_ne.2 fun q => h (hi.1 q)]; rfl
  refine e _ ((Conv.broadcastTo_a1_ab_apply _ _ b j).trans ?_)
  exact congrFun (shapeCast_self x _) _

/-! ### The loop -/

/-- One trip on the carried arrays. -/
def trip (t : Fin k0_t1_loop.trips) (a : FVec Ideal S16x2048 .f32 × IVec S16x1 32 × IVec S16x1024 32) :
    FVec Ideal S16x2048 .f32 × IVec S16x1 32 × IVec S16x1024 32 :=
  (k0_pay4 (F := Ideal) v0 v2 v4 a.1 a.2.1, k0_pay5 (F := Ideal) v0 v2 v4 a.1 a.2.1, k0_pay6 (F := Ideal) v0 v2 v4 t a.1 a.2.1 a.2.2)

theorem trip_pick (t : Fin k0_t1_loop.trips) (a : FVec Ideal S16x2048 .f32 × IVec S16x1 32 × IVec S16x1024 32) :
    (trip v0 v2 v4 t a).2.1 = k0_pay5 (F := Ideal) v0 v2 v4 a.1 a.2.1 := by
  unfold trip
  dsimp only
theorem trip_buf (t : Fin k0_t1_loop.trips) (a : FVec Ideal S16x2048 .f32 × IVec S16x1 32 × IVec S16x1024 32) :
    (trip v0 v2 v4 t a).2.2 = k0_pay6 (F := Ideal) v0 v2 v4 t a.1 a.2.1 a.2.2 := by
  unfold trip
  dsimp only

/-- The state after `k` trips: the distances, the last pick and the picks so far, in every cloud. -/
def Inv (k : ℕ) (a : FVec Ideal S16x2048 .f32 × IVec S16x1 32 × IVec S16x1024 32) : Prop := ∀ b : Fin 16,
  (∀ j : Fin 2048, (a.1 (ix2 b j) : EReal) = (Samp.st (Samp.dist (cloud v0 v2 v4 b)) k).1 j)
    ∧ a.2.1 (ix2 b 0) = BitVec.ofNat 32 (Samp.pick (Samp.dist (cloud v0 v2 v4 b)) k).val
    ∧ ∀ j : Fin 1024, a.2.2 (ix2 b j) = if j.val ≤ k then BitVec.ofNat 32 (Samp.pick (Samp.dist (cloud v0 v2 v4 b)) j.val).val else 0#32

theorem inv_zero : Inv v0 v2 v4 0 (k0_pay1 (F := Ideal), k0_pay2, k0_pay3) := fun b => by
  refine ⟨fun j => Conv.ofBits_inf, rfl, fun j => ?_⟩
  split
  · next h =>
    have hj : j.val = 0 := by omega
    rw [hj]
    rfl
  · rfl

theorem inv_step (k : Fin k0_t1_loop.trips) (a : FVec Ideal S16x2048 .f32 × IVec S16x1 32 × IVec S16x1024 32) (h : Inv v0 v2 v4 k.val a) :
    Inv v0 v2 v4 (k.val + 1) (trip v0 v2 v4 k a) := fun b => by
  obtain ⟨hd, hl, hs⟩ := h b
  have h4 : ∀ j : Fin 2048, (k0_pay4 (F := Ideal) v0 v2 v4 a.1 a.2.1 (ix2 b j) : EReal) = (Samp.st (Samp.dist (cloud v0 v2 v4 b)) (k.val + 1)).1 j := fun j => by
    rw [pay4_apply v0 v2 v4 a.1 a.2.1 b _ hl j, hd j]
    rfl
  have h5 : k0_pay5 (F := Ideal) v0 v2 v4 a.1 a.2.1 (ix2 b 0) = BitVec.ofNat 32 (Samp.pick (Samp.dist (cloud v0 v2 v4 b)) (k.val + 1)).val := by
    rw [pay5_apply]
    exact congrArg (fun x : Fin 2048 → EReal => BitVec.ofNat 32 (Samp.top x).val) (funext h4)
  refine ⟨h4, (congrFun (trip_pick v0 v2 v4 k a) _).trans h5, fun j => (congrFun (trip_buf v0 v2 v4 k a) _).trans ?_⟩
  refine (pay6_apply v0 v2 v4 a.1 a.2.1 k a.2.2 b j).trans ?_
  rw [h5, hs j]
  by_cases e : j.val = k.val + 1
  · rw [if_pos e, if_pos (by omega), e]
  · rw [if_neg e]
    exact if_congr (by omega) rfl rfl

theorem inv_end : Inv v0 v2 v4 k0_t1_loop.trips (Scf.fold (trip v0 v2 v4) (k0_pay1 (F := Ideal), k0_pay2, k0_pay3)) :=
  Samp.fold_inv (trip v0 v2 v4) (k0_pay1 (F := Ideal), k0_pay2, k0_pay3) (Inv v0 v2 v4) (inv_zero v0 v2 v4) (inv_step v0 v2 v4)
end

/-- The three coordinates of the points, each an array of its own. -/
abbrev ld0 (x0 : Vec Ideal S16x3x2048 .f32) : Vec Ideal S16x1x2048 .f32 := View.ld x0 (Rect.unit (s := S16x3x2048) ![0, 0, 0] S16x1x2048.size inb_S16x3x2048_S16x1x2048_0_0_0)
abbrev ld1 (x0 : Vec Ideal S16x3x2048 .f32) : Vec Ideal S16x1x2048 .f32 := View.ld x0 (Rect.unit (s := S16x3x2048) ![0, 1, 0] S16x1x2048.size inb_S16x3x2048_S16x1x2048_0_1_0)
abbrev ld2 (x0 : Vec Ideal S16x3x2048 .f32) : Vec Ideal S16x1x2048 .f32 := View.ld x0 (Rect.unit (s := S16x3x2048) ![0, 2, 0] S16x1x2048.size inb_S16x3x2048_S16x1x2048_0_2_0)

theorem cloud_ld (x0 : Vec Ideal S16x3x2048 .f32) (b : Fin 16) : cloud (ld0 x0) (ld1 x0) (ld2 x0) b = fun j c => x0 (ix3 b c j) := by
  funext j c
  match c with
  | ⟨0, _⟩ =>
    refine congrArg x0 (funext fun a => ?_)
    match a with
    | ⟨0, _⟩ => exact Fin.ext (by show 0 + 1 * b.val = b.val; omega)
    | ⟨1, _⟩ => exact Fin.ext (by show 0 + 1 * 0 = 0; rfl)
    | ⟨2, _⟩ => exact Fin.ext (by show 0 + 1 * j.val = j.val; omega)
  | ⟨1, _⟩ =>
    refine congrArg x0 (funext fun a => ?_)
    match a with
    | ⟨0, _⟩ => exact Fin.ext (by show 0 + 1 * b.val = b.val; omega)
    | ⟨1, _⟩ => exact Fin.ext (by show 1 + 1 * 0 = 1; rfl)
    | ⟨2, _⟩ => exact Fin.ext (by show 0 + 1 * j.val = j.val; omega)
  | ⟨2, _⟩ =>
    refine congrArg x0 (funext fun a => ?_)
    match a with
    | ⟨0, _⟩ => exact Fin.ext (by show 0 + 1 * b.val = b.val; omega)
    | ⟨1, _⟩ => exact Fin.ext (by show 2 + 1 * 0 = 2; rfl)
    | ⟨2, _⟩ => exact Fin.ext (by show 0 + 1 * j.val = j.val; omega)

theorem out_eq (c : Dev nD) (arg0 : Memref sig .tc .vmem S16x3x2048 .f32) (harg0 : arg0.IsWhole) (arg1 : Memref sig .tc .vmem S16x1x1024 .i32) (harg1 : arg1.IsWhole)
    (x0 : Vec Ideal S16x3x2048 .f32) : out0_A_1 (F := Ideal) c arg0 harg0 arg1 harg1 x0
      = k0_pay7 (Scf.fold (trip (ld0 x0) (ld1 x0) (ld2 x0)) (k0_pay1 (F := Ideal), k0_pay2, k0_pay3)).2.2 := by
  unfold out0_A_1
  rw [View.read_writes_eq_canon _ _ _ (cover0_A_1 c arg0 harg0 arg1 harg1 x0)]
  unfold kernelRun0_A
  dsimp only
  rw [View.canon_cons_unit_lit _ _ [] (by decide)]
  sl_unfold_words
  simp only [View.readAt_eq_ld, harg0.read_unread]
  rfl

theorem out_apply (c : Dev nD) (arg0 : Memref sig .tc .vmem S16x3x2048 .f32) (harg0 : arg0.IsWhole) (arg1 : Memref sig .tc .vmem S16x1x1024 .i32) (harg1 : arg1.IsWhole)
    (x0 : Vec Ideal S16x3x2048 .f32) (b : Fin 16) (j : Fin 1024) : out0_A_1 (F := Ideal) c arg0 harg0 arg1 harg1 x0 (ix3 b 0 j)
      = BitVec.ofNat 32 (Samp.pick (Samp.dist fun i c => x0 (ix3 b c i)) j.val).val := by
  rw [out_eq]
  have h := (inv_end (ld0 x0) (ld1 x0) (ld2 x0) b).2.2 j
  rw [if_pos (by rw [show k0_t1_loop.trips = 1023 from by decide]; have := j.isLt; omega), cloud_ld] at h
  refine Eq.trans ?_ h
  generalize (Scf.fold (trip (ld0 x0) (ld1 x0) (ld2 x0)) (k0_pay1 (F := Ideal), k0_pay2, k0_pay3)).2.2 = y
  unfold k0_pay7
  clean_types
  pointwise

theorem idx : ∀ t : Fin cfg0.N, win0_0.index t = ![0, 0, 0] ∧ win0_1.index t = ![0, 0, 0] := by
  decide +kernel

/-- The picks of farthest point sampling, cloud by cloud. -/
def picks (p : Vec Ideal S16x2048x3 .f32) : Vec Ideal S16x1x1024 .i32 := fun y =>
  BitVec.ofNat 32 (Samp.pick (Samp.dist fun j c => p (ix3 (y 0) j c)) (y 2).val).val

variable (m : (ℓ : Loc nD τ sig) → Buf (Elt Ideal) ℓ)

theorem read0 (c : Dev nD) (t : Fin cfg0.N) (b : Fin 16) (j : Fin 2048) (f : Fin 3) :
    iblk m c 0 t (ix3 b f j) = shapeCast S16x2048x3 (m ((c.tc : Thread nD τ).loc main_arg0)) shapeCasts_S32768x3_S16x2048x3 (ix3 b j f) := by
  blk_simp [iblk]; entry_read
  generalize shapeCast S16x2048x3 (m ((c.tc : Thread nD τ).loc main_arg0)) shapeCasts_S32768x3_S16x2048x3 = p
  pointwise
  blk_ext [idx t]

theorem arr1_eq (c : Dev nD) : (dats m 0 c).arrAt 1 (cfgs 0).N
    = picks (shapeCast S16x2048x3 (m ((c.tc : Thread nD τ).loc main_arg0)) shapeCasts_S32768x3_S16x2048x3) := by
  refine (dats m 0 c).arrAt_eq_of_covers 1 _ (by decide +kernel) fun t hf y => ?_
  blk_simp
  rw [after0_1]
  unfold outsAt0
  obtain ⟨b, i, rfl⟩ : ∃ (b : Fin 16) (i : Fin 1024), y = ix3 b 0 i := ⟨y 0, y 2, by blk_ext⟩
  have he : (win0_1.blk t).view.emb (ix3 b 0 i) = ix3 b 0 i := by
    blk_ext [idx t]
  refine (out_apply _ _ _ _ _ _ b i).trans ?_
  rw [he]
  simp only [read0]
  rfl

/-- The run of the program: the picks, and the points as they were. -/
theorem run (ρ : Dev nD → PrngReg) : θ_run defs (onTc (τ := τ) (main (F := Ideal))) ⟨m, fun _ => 0, ρ⟩ (fun r => ∀ c : Dev nD,
    r.2.mem ((c.tc : Thread nD τ).loc main_v2) = picks (shapeCast S16x2048x3 (m ((c.tc : Thread nD τ).loc main_arg0)) shapeCasts_S32768x3_S16x2048x3)
      ∧ r.2.mem ((c.tc : Thread nD τ).loc main_arg0) = m ((c.tc : Thread nD τ).loc main_arg0)) :=
  (θ_run defs _ _).mono (fun _ h c => ⟨(h c).1.trans (arr1_eq m c), (h c).2⟩) (Value.run_blocks m ρ)

end Cert.Kernel4Ideal.Gen

end
-- ==== Proof.SampArr4.lean ====
/-
  The arrays one trip of the first sampling's reference computes, read at an index.
-/
module

public import proofs.«01_k».proof.Proof.Samp
public import proofs.«01_k».proof.Proof.Gen.Reference4Ideal
public import Idealize.ShloMosaic.Lib.Routing.OpsOne
public import Idealize.ShloMosaic.Lib.Tactic.CleanTypes

@[expose] public section

set_option maxRecDepth 16384

noncomputable section

namespace Cert.Reference4Ideal.Gen

open Idealize.ShloMosaic Idealize.ShloMosaic.TcCoe Idealize.ShloMosaic.Tactic
open Idealize.ShloMosaic.StableHlo Idealize.SL.Sem
open scoped BigOperators

/-- The index read as jax reads it: from the end when it is negative. -/
def from0 (i : IVec S_ 32) : IVec S_ 32 := select (cmpi .slt i (constantI S_ 32 0#32)) (addi i (constantI S_ 32 1024#32)) i

/-- The pick at place `i`, in every cloud. -/
def lastOf (sel : IVec S16x1024 32) (i : IVec S_ 32) : IVec S16 32 :=
  shapeCast S16 (Host.dynamicSlice S16x1 sel (fun k => ((![constantI S_ 32 0#32, from0 i] : Fin 2 → IVec S_ 32) k (Shape.Idx.first h_S_)).toInt)
    sliceFits_S16x1024_S16x1) shapeCasts_S16x1_S16

/-- Indices read from the end when negative. -/
def wrap (v : IVec S16 32) (n : BitVec 32) : IVec S16 32 :=
  select (cmpi .slt v (broadcastInDim S16 ![] bcast_S_S16 (constantI S_ 32 0#32)))
    (addi v (broadcastInDim S16 ![] bcast_S_S16 (constantI S_ 32 n))) v

/-- The pairs of cloud and point. -/
def pairs (r l : IVec S16 32) : IVec S16x2 32 :=
  concatenate S16x2 1 [⟨S16x1, broadcastInDim S16x1 ![0] bcast_S16_S16x1_0 (wrap r 16#32)⟩,
    ⟨S16x1, broadcastInDim S16x1 ![0] bcast_S16_S16x1_0 (wrap l 2048#32)⟩] concatenates_S16x1_S16x1_S16x2_d1

/-- The squared distance of every point from the cloud's point `q`. -/
def toPoint (p : FVec Ideal S16x2048x3 .f32) (q : FVec Ideal S16x1x3 .f32) : FVec Ideal S16x2048 .f32 :=
  Host.reduceAdd (mulf (subf p (broadcastInDim S16x2048x3 ![0, 1, 2] bcast_S16x1x3_S16x2048x3_0_1_2 q))
    (subf p (broadcastInDim S16x2048x3 ![0, 1, 2] bcast_S16x1x3_S16x2048x3_0_1_2 q))) (constant S_ .f32 0x00000000#32)
    reducesTo_S16x2048x3_S16x2048_d2 h_S_

/-- The distances after the pick at place `i` is counted. -/
def newD (r : IVec S16 32) (p : FVec Ideal S16x2048x3 .f32) (sel : IVec S16x1024 32) (i : IVec S_ 32) (d : FVec Ideal S16x2048 .f32) :
    FVec Ideal S16x2048 .f32 :=
  minimumf d (toPoint p (broadcastInDim S16x1x3 ![0, 2] bcast_S16x3_S16x1x3_0_2
    (Host.gather gather_S16x2048x3_S16x2_S16x3_1_01_n_n_01_1_113 p (pairs r (lastOf sel i)))))

/-- The farthest point of every cloud. -/
def farthest (d : FVec Ideal S16x2048 .f32) : IVec S16 32 := fun j =>
  (Host.argReduce reducer_argmax_f32_i32 d (iotaInDim S16x2048 32 1) (constant S_ .f32 0xFF800000#32) (constantI S_ 32 0#32)
    reducesTo_S16x2048_S16_d1 h_S_ j).2

/-- The picks with `s` at place `i`. -/
def newSel (sel : IVec S16x1024 32) (i : IVec S_ 32) (s : IVec S16 32) : IVec S16x1024 32 :=
  Host.scatter scatter_S16x1024_S1_S16_0_1_1_0 (fun _ b => b) sel (broadcastInDim S1 ![] bcast_S_S1 (from0 i)) s

theorem toPoint_apply (p : FVec Ideal S16x2048x3 .f32) (q : FVec Ideal S16x1x3 .f32) (b : Fin 16) (i j : Fin 2048)
    (hq : ∀ c, q (ix3 b 0 c) = p (ix3 b i c)) : (toPoint p q (ix2 b j) : EReal) = Samp.dist (fun j c => p (ix3 b j c)) i j := by
  unfold toPoint
  refine (Ideal.hostReduceAdd_single reducesTo_S16x2048x3_S16x2048_d2 (by decide : S16x2048x3.Reduces [2] S16x2048) _ _ _).trans ?_
  have hl : ∀ c : Fin 3, (by decide : S16x2048x3.Reduces [2] S16x2048).lift (ix2 b j) c = ix3 b j c := fun c => by
    funext a
    match a with
    | ⟨0, _⟩ => rfl
    | ⟨1, _⟩ => rfl
    | ⟨2, _⟩ => rfl
  have hb : ∀ c : Fin 3, broadcastInDim S16x2048x3 ![0, 1, 2] bcast_S16x1x3_S16x2048x3_0_1_2 q (ix3 b j c) = p (ix3 b i c) := fun c => by
    rw [← hq c]
    pointwise
  have ht : ∀ c : Fin 3, (mulf (subf p (broadcastInDim S16x2048x3 ![0, 1, 2] bcast_S16x1x3_S16x2048x3_0_1_2 q))
      (subf p (broadcastInDim S16x2048x3 ![0, 1, 2] bcast_S16x1x3_S16x2048x3_0_1_2 q)) (ix3 b j c) : EReal)
        = (p (ix3 b j c) - p (ix3 b i c)) * (p (ix3 b j c) - p (ix3 b i c)) := fun c => by
    rw [← hb c]
    rfl
  generalize mulf (subf p (broadcastInDim S16x2048x3 ![0, 1, 2] bcast_S16x1x3_S16x2048x3_0_1_2 q))
      (subf p (broadcastInDim S16x2048x3 ![0, 1, 2] bcast_S16x1x3_S16x2048x3_0_1_2 q)) = z at ht
  have hz : (constant (F := Ideal) S_ .f32 0x00000000#32 (Shape.Idx.first h_S_) : EReal) = 0 := by
    show Ideal.ofBits .f32 0x00000000#32 = 0
    simp [Ideal.ofBits, Ideal.ieee]
  refine (congrArg₂ (fun u v : EReal => u + v) hz (Finset.sum_congr rfl fun c _ => (congrArg z (hl c)).trans (ht c))).trans ?_
  rw [zero_add]
  exact Fin.sum_univ_three fun c : Fin 3 => (p (ix3 b j c) - p (ix3 b i c)) * (p (ix3 b j c) - p (ix3 b i c))

theorem from0_of {w : BitVec 32} (h : Take.Inside 1024 w) : from0 (fun _ => w) = fun _ => w :=
  funext fun _ => Take.kept (k := 1024#32) h

theorem start_of {w : BitVec 32} (h : Take.Inside 1024 w) : (fun k => ((![constantI S_ 32 0#32, from0 fun _ => w] : Fin 2 → IVec S_ 32) k (Shape.Idx.first h_S_)).toInt)
    = ![(0 : ℤ), w.toInt] := by
  rw [from0_of h]
  funext k
  fin_cases k <;> rfl

theorem column_apply (x : IVec S16x1 32) (b : Fin 16) : shapeCast S16 x shapeCasts_S16x1_S16 (ix1 b) = x (ix2 b 0) := by
  pointwise

theorem lastOf_apply (sel : IVec S16x1024 32) {w : BitVec 32} (n : Fin 1024) (h : w.toInt = n.val) (b : Fin 16) :
    lastOf sel (fun _ => w) (ix1 b) = sel (ix2 b n) := by
  have hn := n.isLt
  have hi : Take.Inside 1024 w := ⟨by omega, by omega⟩
  unfold lastOf
  rw [start_of hi]
  refine (column_apply _ b).trans ?_
  rw [Host.dynamicSlice_apply]
  refine congrArg sel ?_
  funext a
  match a with
  | ⟨0, _⟩ =>
    refine Fin.ext ?_
    show Host.clampedStart S16x1024 S16x1 rfl ![(0 : ℤ), w.toInt] (0 : Fin 2) + b.val = b.val
    rw [Host.clampedStart_of_le (s := S16x1024) (t := S16x1) rfl ![(0 : ℤ), w.toInt] (0 : Fin 2) 0 rfl (by decide)]
    omega
  | ⟨1, _⟩ =>
    refine Fin.ext ?_
    show Host.clampedStart S16x1024 S16x1 rfl ![(0 : ℤ), w.toInt] (1 : Fin 2) + 0 = n.val
    rw [Host.clampedStart_of_le (s := S16x1024) (t := S16x1) rfl ![(0 : ℤ), w.toInt] (1 : Fin 2) n.val h (by show n.val + 1 ≤ 1024; omega)]
    rfl

theorem newSel_apply (sel : IVec S16x1024 32) {w : BitVec 32} (n : Fin 1024) (h : w.toInt = n.val) (s : IVec S16 32) (b : Fin 16) (j : Fin 1024) :
    newSel sel (fun _ => w) s (ix2 b j) = if j = n then s (ix1 b) else sel (ix2 b j) := by
  have hn := n.isLt
  unfold newSel
  rw [from0_of (w := w) ⟨by omega, by omega⟩]
  exact Routing.scatter_col_signed scatter_S16x1024_S1_S16_0_1_1_0 rfl rfl sel _ s n h b j

theorem farthest_apply (d : FVec Ideal S16x2048 .f32) (b : Fin 16) : farthest d (ix1 b) = BitVec.ofNat 32 (Samp.top (Conv.row d b)).val := by
  refine Samp.argReduce_apply (N := 2048) (B := 16) (by decide) _ (fun x y => ?_) d _ _ _ reducesTo_S16x2048_S16_d1 h_S_ (fun _ => Conv.ofBits_ninf) (fun _ => rfl) b fun k => rfl
  obtain ⟨x1, x2⟩ := x
  obtain ⟨y1, y2⟩ := y
  show (((if BitVec.ofBool (decide ((y1 : EReal) < x1)) ||| BitVec.ofBool (decide ((x1 : EReal) ≠ x1)) = 1#1 then x1 else y1),
    (if (BitVec.ofBool (decide ((y1 : EReal) < x1)) ||| BitVec.ofBool (decide ((x1 : EReal) ≠ x1)))
      ||| (BitVec.ofBool (decide ((x1 : EReal) = y1)) &&& BitVec.ofBool (x2.slt y2)) = 1#1 then x2 else y2)) : EReal × BitVec 32)
    = if (y1 : EReal) < x1 ∨ ((x1 : EReal) = y1 ∧ x2.toInt < y2.toInt) then (x1, x2) else (y1, y2)
  rw [BitVec.slt_eq_decide]
  by_cases h1 : (y1 : EReal) < x1
  · simp [h1, h1.ne']
  · by_cases h2 : (x1 : EReal) = y1
    · by_cases h3 : x2.toInt < y2.toInt
      · simp [h2, h3]
      · simp [h2, h3]
    · simp [h1, h2]

/-- A place among the clouds or the points is kept. -/
theorem wrap_apply {N : ℕ} (v : IVec S16 32) (k : BitVec 32) (b : Fin 16) (h : Take.Inside N (v (ix1 b))) : wrap v k (ix1 b) = v (ix1 b) := by
  refine Eq.trans ?_ (Take.kept (k := k) h)
  unfold wrap
  pointwise
  rfl

theorem pairs_apply0 (r l : IVec S16 32) (b : Fin 16) : pairs r l (ix2 b 0) = wrap r 16#32 (ix1 b) := by
  unfold pairs
  pointwise
theorem pairs_apply1 (r l : IVec S16 32) (b : Fin 16) : pairs r l (ix2 b 1) = wrap l 2048#32 (ix1 b) := by
  unfold pairs
  pointwise

theorem newD_apply (p : FVec Ideal S16x2048x3 .f32) (sel : IVec S16x1024 32) (w : BitVec 32) (d : FVec Ideal S16x2048 .f32)
    (n : Fin 1024) (hw : w.toInt = n.val) (b : Fin 16) (q : Fin 2048) (hq : sel (ix2 b n) = BitVec.ofNat 32 q.val) (j : Fin 2048) :
    (newD (iotaInDim S16 32 0) p sel (fun _ => w) d (ix2 b j) : EReal) = min (d (ix2 b j)) (Samp.dist (fun j c => p (ix3 b j c)) q j) := by
  refine congrArg (min (d (ix2 b j))) (toPoint_apply p _ b q j fun c => ?_)
  have hb := b.isLt
  have hqq := q.isLt
  have hl : lastOf sel (fun _ => w) (ix1 b) = BitVec.ofNat 32 q.val := (lastOf_apply sel n hw b).trans hq
  have hr : iotaInDim S16 32 0 (ix1 b) = BitVec.ofNat 32 b.val := rfl
  have tb : (BitVec.ofNat 32 b.val).toInt = b.val := Conv.toInt_ofNat (by omega)
  have tq : (BitVec.ofNat 32 q.val).toInt = q.val := Conv.toInt_ofNat (by omega)
  have e0 : (pairs (iotaInDim S16 32 0) (lastOf sel fun _ => w) (ix2 b 0)).toInt = b.val := by
    rw [pairs_apply0, wrap_apply (N := 16) _ _ b (by rw [hr]; unfold Take.Inside; omega), hr, tb]
  have e1 : (pairs (iotaInDim S16 32 0) (lastOf sel fun _ => w) (ix2 b 1)).toInt = q.val := by
    rw [pairs_apply1, wrap_apply (N := 2048) _ _ b (by rw [hl]; unfold Take.Inside; omega), hl, tq]
  refine Eq.trans ?_ (Samp.takePoint_apply gather_S16x2048x3_S16x2_S16x3_1_01_n_n_01_1_113.wf p _ b c q e0 e1)
  have hz : ∀ z : FVec Ideal S16x3 .f32, broadcastInDim S16x1x3 ![0, 2] bcast_S16x3_S16x1x3_0_2 z (ix3 b 0 c) = z (ix2 b c) := fun z => by
    pointwise
  exact hz _

end Cert.Reference4Ideal.Gen

end
-- ==== Proof.SampRun4.lean ====
/-
  The first sampling's reference as a run: the loop's operations in order, the trip counter, and what one trip makes of
  the loop's buffers.
-/
module

public import proofs.«01_k».proof.Proof.SampArr4
public import Idealize.ShloMosaic.Lib.Pipeline.RegionsLoop
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Claim

@[expose] public section

set_option maxRecDepth 16384

noncomputable section

namespace Cert.Reference4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-! ### The operations -/

/-- The operations before the loop. -/
abbrev preOps : List (HloOp τ sig (Elt Ideal)) :=
  [ StableHlo.reshape main_arg0 main_v0 (rfl : (.f32 : EltTy) = .f32) shapeCasts_S32768x3_S16x2048x3,
    StableHlo.nullary main_v1 (iotaInDim S16 32 0),
    StableHlo.unary main_v0 main_v2 ((extractStridedSlice S16x1x3 ![0, 0, 0] · slices_S16x2048x3_S16x1x3_0_0_0) : (⟨S16x2048x3, .f32⟩ : BufTy).Contents (Elt Ideal) → (⟨S16x1x3, .f32⟩ : BufTy).Contents (Elt Ideal)),
    StableHlo.unary main_v2 main_v3 (broadcastInDim S16x2048x3 ![0, 1, 2] bcast_S16x1x3_S16x2048x3_0_1_2 : (⟨S16x1x3, .f32⟩ : BufTy).Contents (Elt Ideal) → (⟨S16x2048x3, .f32⟩ : BufTy).Contents (Elt Ideal)),
    StableHlo.binary main_v0 main_v3 main_v4 (subf (F := Ideal) (φ := .f32) : (⟨S16x2048x3, .f32⟩ : BufTy).Contents (Elt Ideal) → (⟨S16x2048x3, .f32⟩ : BufTy).Contents (Elt Ideal) → (⟨S16x2048x3, .f32⟩ : BufTy).Contents (Elt Ideal)),
    StableHlo.binary main_v4 main_v4 main_v5 (mulf (F := Ideal) (φ := .f32) : (⟨S16x2048x3, .f32⟩ : BufTy).Contents (Elt Ideal) → (⟨S16x2048x3, .f32⟩ : BufTy).Contents (Elt Ideal) → (⟨S16x2048x3, .f32⟩ : BufTy).Contents (Elt Ideal)),
    StableHlo.nullary main_cst (constant (F := Ideal) S_ .f32 0x00000000#32),
    StableHlo.binary main_v5 main_cst main_v6 ((fun x v => Host.reduceAdd (F := Ideal) (φ := .f32) x v reducesTo_S16x2048x3_S16x2048_d2 h_S_) : (⟨S16x2048x3, .f32⟩ : BufTy).Contents (Elt Ideal) → (⟨S_, .f32⟩ : BufTy).Contents (Elt Ideal) → (⟨S16x2048, .f32⟩ : BufTy).Contents (Elt Ideal)),
    StableHlo.nullary main_c (constantI S_ 32 0#32),
    StableHlo.unary main_c main_v7 (broadcastInDim S16x1024 ![] bcast_S_S16x1024 : (⟨S_, .i32⟩ : BufTy).Contents (Elt Ideal) → (⟨S16x1024, .i32⟩ : BufTy).Contents (Elt Ideal)),
    StableHlo.nullary main_c_0 (constantI S_ 32 1#32),
    StableHlo.nullary main_c_1 (constantI S_ 32 0#32),
    StableHlo.unary main_v1 main_v8_0 id,
    StableHlo.unary main_v0 main_v8_1 id,
    StableHlo.unary main_c_1 main_v8_2 id,
    StableHlo.unary main_c_0 main_v8_3 id,
    StableHlo.unary main_v7 main_v8_4 id,
    StableHlo.unary main_v6 main_v8_5 id ]

/-- The operations of the condition: the counter against the bound. -/
abbrev condOps : List (HloOp τ sig (Elt Ideal)) :=
  [ StableHlo.nullary main_while0c_c_7 (constantI S_ 32 1023#32),
    StableHlo.binary main_v8_2 main_while0c_c_7 main_while0c_v10 (cmpi .slt : (⟨S_, .i32⟩ : BufTy).Contents (Elt Ideal) → (⟨S_, .i32⟩ : BufTy).Contents (Elt Ideal) → (⟨S_, .i1⟩ : BufTy).Contents (Elt Ideal)) ]

/-- The operations of one trip. -/
abbrev bodyOps : List (HloOp τ sig (Elt Ideal)) :=
  [ StableHlo.nullary main_while0b_c_7 (constantI S_ 32 1#32),
    StableHlo.binary main_v8_3 main_while0b_c_7 main_while0b_v10 (addi : (⟨S_, .i32⟩ : BufTy).Contents (Elt Ideal) → (⟨S_, .i32⟩ : BufTy).Contents (Elt Ideal) → (⟨S_, .i32⟩ : BufTy).Contents (Elt Ideal)),
    StableHlo.nullary main_while0b_c_8 (constantI S_ 32 1#32),
    StableHlo.binary main_v8_3 main_while0b_c_8 main_while0b_v11 (subi : (⟨S_, .i32⟩ : BufTy).Contents (Elt Ideal) → (⟨S_, .i32⟩ : BufTy).Contents (Elt Ideal) → (⟨S_, .i32⟩ : BufTy).Contents (Elt Ideal)),
    StableHlo.unary main_while0b_v11 main_while0b_v12 (id : (⟨S_, .i32⟩ : BufTy).Contents (Elt Ideal) → (⟨S_, .i32⟩ : BufTy).Contents (Elt Ideal)),
    StableHlo.nullary main_while0b_c_9 (constantI S_ 32 0#32),
    StableHlo.nullary main_while0b_c_10 (constantI S_ 32 0#32),
    StableHlo.binary main_while0b_c_9 main_while0b_c_10 main_while0b_v13 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_11 (constantI S_ 32 0#32),
    StableHlo.nullary main_while0b_c_12 (constantI S_ 32 16#32),
    StableHlo.binary main_while0b_c_11 main_while0b_c_12 main_while0b_v14 (addi : (⟨S_, .i32⟩ : BufTy).Contents (Elt Ideal) → (⟨S_, .i32⟩ : BufTy).Contents (Elt Ideal) → (⟨S_, .i32⟩ : BufTy).Contents (Elt Ideal)),
    StableHlo.nullary main_while0b_c_13 (constantI S_ 32 0#32),
    StableHlo.ternary main_while0b_v13 main_while0b_v14 main_while0b_c_13 main_while0b_v15 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.nullary main_while0b_c_14 (constantI S_ 32 0#32),
    StableHlo.binary main_while0b_v12 main_while0b_c_14 main_while0b_v16 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_15 (constantI S_ 32 1024#32),
    StableHlo.binary main_while0b_v12 main_while0b_c_15 main_while0b_v17 (addi : (⟨S_, .i32⟩ : BufTy).Contents (Elt Ideal) → (⟨S_, .i32⟩ : BufTy).Contents (Elt Ideal) → (⟨S_, .i32⟩ : BufTy).Contents (Elt Ideal)),
    StableHlo.ternary main_while0b_v16 main_while0b_v17 main_while0b_v12 main_while0b_v18 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.unaryIndexed main_v8_4 ![main_while0b_v15, main_while0b_v18] ⟨S_, .i32⟩ main_while0b_v19 ((fun x i => Host.dynamicSlice S16x1 x (fun k => (i k (Shape.Idx.first h_S_)).toInt) sliceFits_S16x1024_S16x1) : (⟨S16x1024, .i32⟩ : BufTy).Contents (Elt Ideal) → (Fin 2 → (⟨S_, .i32⟩ : BufTy).Contents (Elt Ideal)) → (⟨S16x1, .i32⟩ : BufTy).Contents (Elt Ideal)),
    StableHlo.reshape main_while0b_v19 main_while0b_v20 (rfl : (.i32 : EltTy) = .i32) shapeCasts_S16x1_S16,
    StableHlo.nullary main_while0b_c_16 (constantI S_ 32 0#32),
    StableHlo.unary main_while0b_c_16 main_while0b_v21 (broadcastInDim S16 ![] bcast_S_S16 : (⟨S_, .i32⟩ : BufTy).Contents (Elt Ideal) → (⟨S16, .i32⟩ : BufTy).Contents (Elt Ideal)),
    StableHlo.binary main_v8_0 main_while0b_v21 main_while0b_v22 (cmpi .slt : (⟨S16, .i32⟩ : BufTy).Contents (Elt Ideal) → (⟨S16, .i32⟩ : BufTy).Contents (Elt Ideal) → (⟨S16, .i1⟩ : BufTy).Contents (Elt Ideal)),
    StableHlo.nullary main_while0b_c_17 (constantI S_ 32 16#32),
    StableHlo.unary main_while0b_c_17 main_while0b_v23 (broadcastInDim S16 ![] bcast_S_S16 : (⟨S_, .i32⟩ : BufTy).Contents (Elt Ideal) → (⟨S16, .i32⟩ : BufTy).Contents (Elt Ideal)),
    StableHlo.binary main_v8_0 main_while0b_v23 main_while0b_v24 (addi : (⟨S16, .i32⟩ : BufTy).Contents (Elt Ideal) → (⟨S16, .i32⟩ : BufTy).Contents (Elt Ideal) → (⟨S16, .i32⟩ : BufTy).Contents (Elt Ideal)),
    StableHlo.ternary main_while0b_v22 main_while0b_v24 main_v8_0 main_while0b_v25 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.nullary main_while0b_c_18 (constantI S_ 32 0#32),
    StableHlo.unary main_while0b_c_18 main_while0b_v26 (broadcastInDim S16 ![] bcast_S_S16 : (⟨S_, .i32⟩ : BufTy).Contents (Elt Ideal) → (⟨S16, .i32⟩ : BufTy).Contents (Elt Ideal)),
    StableHlo.binary main_while0b_v20 main_while0b_v26 main_while0b_v27 (cmpi .slt : (⟨S16, .i32⟩ : BufTy).Contents (Elt Ideal) → (⟨S16, .i32⟩ : BufTy).Contents (Elt Ideal) → (⟨S16, .i1⟩ : BufTy).Contents (Elt Ideal)),
    StableHlo.nullary main_while0b_c_19 (constantI S_ 32 2048#32),
    StableHlo.unary main_while0b_c_19 main_while0b_v28 (broadcastInDim S16 ![] bcast_S_S16 : (⟨S_, .i32⟩ : BufTy).Contents (Elt Ideal) → (⟨S16, .i32⟩ : BufTy).Contents (Elt Ideal)),
    StableHlo.binary main_while0b_v20 main_while0b_v28 main_while0b_v29 (addi : (⟨S16, .i32⟩ : BufTy).Contents (Elt Ideal) → (⟨S16, .i32⟩ : BufTy).Contents (Elt Ideal) → (⟨S16, .i32⟩ : BufTy).Contents (Elt Ideal)),
    StableHlo.ternary main_while0b_v27 main_while0b_v29 main_while0b_v20 main_while0b_v30 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.unary main_while0b_v25 main_while0b_v31 (broadcastInDim S16x1 ![0] bcast_S16_S16x1_0 : (⟨S16, .i32⟩ : BufTy).Contents (Elt Ideal) → (⟨S16x1, .i32⟩ : BufTy).Contents (Elt Ideal)),
    StableHlo.unary main_while0b_v30 main_while0b_v32 (broadcastInDim S16x1 ![0] bcast_S16_S16x1_0 : (⟨S16, .i32⟩ : BufTy).Contents (Elt Ideal) → (⟨S16x1, .i32⟩ : BufTy).Contents (Elt Ideal)),
    StableHlo.binary main_while0b_v31 main_while0b_v32 main_while0b_v33 ((fun a b => concatenate S16x2 1 [⟨S16x1, a⟩, ⟨S16x1, b⟩] concatenates_S16x1_S16x1_S16x2_d1) : (⟨S16x1, .i32⟩ : BufTy).Contents (Elt Ideal) → (⟨S16x1, .i32⟩ : BufTy).Contents (Elt Ideal) → (⟨S16x2, .i32⟩ : BufTy).Contents (Elt Ideal)),
    StableHlo.binary main_v8_1 main_while0b_v33 main_while0b_v34 ((fun x i => Host.gather gather_S16x2048x3_S16x2_S16x3_1_01_n_n_01_1_113 x i) : (⟨S16x2048x3, .f32⟩ : BufTy).Contents (Elt Ideal) → (⟨S16x2, .i32⟩ : BufTy).Contents (Elt Ideal) → (⟨S16x3, .f32⟩ : BufTy).Contents (Elt Ideal)),
    StableHlo.unary main_while0b_v34 main_while0b_v35 (broadcastInDim S16x1x3 ![0, 2] bcast_S16x3_S16x1x3_0_2 : (⟨S16x3, .f32⟩ : BufTy).Contents (Elt Ideal) → (⟨S16x1x3, .f32⟩ : BufTy).Contents (Elt Ideal)),
    StableHlo.unary main_while0b_v35 main_while0b_v36 (broadcastInDim S16x2048x3 ![0, 1, 2] bcast_S16x1x3_S16x2048x3_0_1_2 : (⟨S16x1x3, .f32⟩ : BufTy).Contents (Elt Ideal) → (⟨S16x2048x3, .f32⟩ : BufTy).Contents (Elt Ideal)),
    StableHlo.binary main_v8_1 main_while0b_v36 main_while0b_v37 (subf (F := Ideal) (φ := .f32) : (⟨S16x2048x3, .f32⟩ : BufTy).Contents (Elt Ideal) → (⟨S16x2048x3, .f32⟩ : BufTy).Contents (Elt Ideal) → (⟨S16x2048x3, .f32⟩ : BufTy).Contents (Elt Ideal)),
    StableHlo.binary main_while0b_v37 main_while0b_v37 main_while0b_v38 (mulf (F := Ideal) (φ := .f32) : (⟨S16x2048x3, .f32⟩ : BufTy).Contents (Elt Ideal) → (⟨S16x2048x3, .f32⟩ : BufTy).Contents (Elt Ideal) → (⟨S16x2048x3, .f32⟩ : BufTy).Contents (Elt Ideal)),
    StableHlo.nullary main_while0b_cst_20 (constant (F := Ideal) S_ .f32 0x00000000#32),
    StableHlo.binary main_while0b_v38 main_while0b_cst_20 main_while0b_v39 ((fun x v => Host.reduceAdd (F := Ideal) (φ := .f32) x v reducesTo_S16x2048x3_S16x2048_d2 h_S_) : (⟨S16x2048x3, .f32⟩ : BufTy).Contents (Elt Ideal) → (⟨S_, .f32⟩ : BufTy).Contents (Elt Ideal) → (⟨S16x2048, .f32⟩ : BufTy).Contents (Elt Ideal)),
    StableHlo.binary main_v8_5 main_while0b_v39 main_while0b_v40 (minimumf (F := Ideal) (φ := .f32) : (⟨S16x2048, .f32⟩ : BufTy).Contents (Elt Ideal) → (⟨S16x2048, .f32⟩ : BufTy).Contents (Elt Ideal) → (⟨S16x2048, .f32⟩ : BufTy).Contents (Elt Ideal)),
    StableHlo.TRef.nullary main_while0b_call0.v0 (iotaInDim S16x2048 32 1),
    StableHlo.TRef.nullary main_while0b_call0.cst (constant (F := Ideal) S_ .f32 0xFF800000#32),
    StableHlo.TRef.nullary main_while0b_call0.c (constantI S_ 32 0#32),
    StableHlo.TRef.quaternary (.of main_while0b_v40 : StableHlo.TRef sig ⟨S16x2048, .f32⟩) main_while0b_call0.v0 main_while0b_call0.cst main_while0b_call0.c main_while0b_call0.v1_0 (fun x y u v j => (Host.argReduce (reducer_argmax_f32_i32 (F := Ideal)) x y u v reducesTo_S16x2048_S16_d1 h_S_ j).1),
    StableHlo.TRef.quaternary (.of main_while0b_v40 : StableHlo.TRef sig ⟨S16x2048, .f32⟩) main_while0b_call0.v0 main_while0b_call0.cst main_while0b_call0.c main_while0b_call0.v1_1 (fun x y u v j => (Host.argReduce (reducer_argmax_f32_i32 (F := Ideal)) x y u v reducesTo_S16x2048_S16_d1 h_S_ j).2),
    StableHlo.nullary main_while0b_c_21 (constantI S_ 32 0#32),
    StableHlo.binary main_v8_3 main_while0b_c_21 main_while0b_v42 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_22 (constantI S_ 32 1024#32),
    StableHlo.binary main_v8_3 main_while0b_c_22 main_while0b_v43 (addi : (⟨S_, .i32⟩ : BufTy).Contents (Elt Ideal) → (⟨S_, .i32⟩ : BufTy).Contents (Elt Ideal) → (⟨S_, .i32⟩ : BufTy).Contents (Elt Ideal)),
    StableHlo.ternary main_while0b_v42 main_while0b_v43 main_v8_3 main_while0b_v44 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.unary main_while0b_v44 main_while0b_v45 (id : (⟨S_, .i32⟩ : BufTy).Contents (Elt Ideal) → (⟨S_, .i32⟩ : BufTy).Contents (Elt Ideal)),
    StableHlo.unary main_while0b_v45 main_while0b_v46 (broadcastInDim S1 ![] bcast_S_S1 : (⟨S_, .i32⟩ : BufTy).Contents (Elt Ideal) → (⟨S1, .i32⟩ : BufTy).Contents (Elt Ideal)),
    StableHlo.ternary main_v8_4 main_while0b_v46 main_while0b_v41 main_while0b_v47 ((fun x i u => Host.scatter scatter_S16x1024_S1_S16_0_1_1_0 (fun _ b => b) x i u) : (⟨S16x1024, .i32⟩ : BufTy).Contents (Elt Ideal) → (⟨S1, .i32⟩ : BufTy).Contents (Elt Ideal) → (⟨S16, .i32⟩ : BufTy).Contents (Elt Ideal) → (⟨S16x1024, .i32⟩ : BufTy).Contents (Elt Ideal)),
    StableHlo.nullary main_while0b_c_23 (constantI S_ 32 1#32),
    StableHlo.binary main_v8_2 main_while0b_c_23 main_while0b_v48 (addi : (⟨S_, .i32⟩ : BufTy).Contents (Elt Ideal) → (⟨S_, .i32⟩ : BufTy).Contents (Elt Ideal) → (⟨S_, .i32⟩ : BufTy).Contents (Elt Ideal)),
    StableHlo.unary main_while0b_v48 main_v8_2 id,
    StableHlo.unary main_while0b_v10 main_v8_3 id,
    StableHlo.unary main_while0b_v47 main_v8_4 id,
    StableHlo.unary main_while0b_v40 main_v8_5 id ]

/-- One trip: the place of the last pick. -/
abbrev bodyOps1 : List (HloOp τ sig (Elt Ideal)) :=
  [ StableHlo.nullary main_while0b_c_7 (constantI S_ 32 1#32),
    StableHlo.binary main_v8_3 main_while0b_c_7 main_while0b_v10 (addi : (⟨S_, .i32⟩ : BufTy).Contents (Elt Ideal) → (⟨S_, .i32⟩ : BufTy).Contents (Elt Ideal) → (⟨S_, .i32⟩ : BufTy).Contents (Elt Ideal)),
    StableHlo.nullary main_while0b_c_8 (constantI S_ 32 1#32),
    StableHlo.binary main_v8_3 main_while0b_c_8 main_while0b_v11 (subi : (⟨S_, .i32⟩ : BufTy).Contents (Elt Ideal) → (⟨S_, .i32⟩ : BufTy).Contents (Elt Ideal) → (⟨S_, .i32⟩ : BufTy).Contents (Elt Ideal)),
    StableHlo.unary main_while0b_v11 main_while0b_v12 (id : (⟨S_, .i32⟩ : BufTy).Contents (Elt Ideal) → (⟨S_, .i32⟩ : BufTy).Contents (Elt Ideal)),
    StableHlo.nullary main_while0b_c_9 (constantI S_ 32 0#32),
    StableHlo.nullary main_while0b_c_10 (constantI S_ 32 0#32),
    StableHlo.binary main_while0b_c_9 main_while0b_c_10 main_while0b_v13 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_11 (constantI S_ 32 0#32),
    StableHlo.nullary main_while0b_c_12 (constantI S_ 32 16#32),
    StableHlo.binary main_while0b_c_11 main_while0b_c_12 main_while0b_v14 (addi : (⟨S_, .i32⟩ : BufTy).Contents (Elt Ideal) → (⟨S_, .i32⟩ : BufTy).Contents (Elt Ideal) → (⟨S_, .i32⟩ : BufTy).Contents (Elt Ideal)),
    StableHlo.nullary main_while0b_c_13 (constantI S_ 32 0#32),
    StableHlo.ternary main_while0b_v13 main_while0b_v14 main_while0b_c_13 main_while0b_v15 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.nullary main_while0b_c_14 (constantI S_ 32 0#32),
    StableHlo.binary main_while0b_v12 main_while0b_c_14 main_while0b_v16 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_15 (constantI S_ 32 1024#32),
    StableHlo.binary main_while0b_v12 main_while0b_c_15 main_while0b_v17 (addi : (⟨S_, .i32⟩ : BufTy).Contents (Elt Ideal) → (⟨S_, .i32⟩ : BufTy).Contents (Elt Ideal) → (⟨S_, .i32⟩ : BufTy).Contents (Elt Ideal)),
    StableHlo.ternary main_while0b_v16 main_while0b_v17 main_while0b_v12 main_while0b_v18 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) ]
/-- What it writes. -/
abbrev bodyW1 : List (Ref sig .tc) := [main_while0b_c_7, main_while0b_v10, main_while0b_c_8, main_while0b_v11, main_while0b_v12, main_while0b_c_9, main_while0b_c_10, main_while0b_v13, main_while0b_c_11, main_while0b_c_12, main_while0b_v14, main_while0b_c_13, main_while0b_v15, main_while0b_c_14, main_while0b_v16, main_while0b_c_15, main_while0b_v17, main_while0b_v18]
/-- One trip: the last pick is read. -/
abbrev bodyOps2 : List (HloOp τ sig (Elt Ideal)) :=
  [ StableHlo.unaryIndexed main_v8_4 ![main_while0b_v15, main_while0b_v18] ⟨S_, .i32⟩ main_while0b_v19 ((fun x i => Host.dynamicSlice S16x1 x (fun k => (i k (Shape.Idx.first h_S_)).toInt) sliceFits_S16x1024_S16x1) : (⟨S16x1024, .i32⟩ : BufTy).Contents (Elt Ideal) → (Fin 2 → (⟨S_, .i32⟩ : BufTy).Contents (Elt Ideal)) → (⟨S16x1, .i32⟩ : BufTy).Contents (Elt Ideal)),
    StableHlo.reshape main_while0b_v19 main_while0b_v20 (rfl : (.i32 : EltTy) = .i32) shapeCasts_S16x1_S16 ]
/-- What it writes. -/
abbrev bodyW2 : List (Ref sig .tc) := [main_while0b_v19, main_while0b_v20]
/-- One trip: the distances are updated. -/
abbrev bodyOps3 : List (HloOp τ sig (Elt Ideal)) :=
  [ StableHlo.nullary main_while0b_c_16 (constantI S_ 32 0#32),
    StableHlo.unary main_while0b_c_16 main_while0b_v21 (broadcastInDim S16 ![] bcast_S_S16 : (⟨S_, .i32⟩ : BufTy).Contents (Elt Ideal) → (⟨S16, .i32⟩ : BufTy).Contents (Elt Ideal)),
    StableHlo.binary main_v8_0 main_while0b_v21 main_while0b_v22 (cmpi .slt : (⟨S16, .i32⟩ : BufTy).Contents (Elt Ideal) → (⟨S16, .i32⟩ : BufTy).Contents (Elt Ideal) → (⟨S16, .i1⟩ : BufTy).Contents (Elt Ideal)),
    StableHlo.nullary main_while0b_c_17 (constantI S_ 32 16#32),
    StableHlo.unary main_while0b_c_17 main_while0b_v23 (broadcastInDim S16 ![] bcast_S_S16 : (⟨S_, .i32⟩ : BufTy).Contents (Elt Ideal) → (⟨S16, .i32⟩ : BufTy).Contents (Elt Ideal)),
    StableHlo.binary main_v8_0 main_while0b_v23 main_while0b_v24 (addi : (⟨S16, .i32⟩ : BufTy).Contents (Elt Ideal) → (⟨S16, .i32⟩ : BufTy).Contents (Elt Ideal) → (⟨S16, .i32⟩ : BufTy).Contents (Elt Ideal)),
    StableHlo.ternary main_while0b_v22 main_while0b_v24 main_v8_0 main_while0b_v25 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.nullary main_while0b_c_18 (constantI S_ 32 0#32),
    StableHlo.unary main_while0b_c_18 main_while0b_v26 (broadcastInDim S16 ![] bcast_S_S16 : (⟨S_, .i32⟩ : BufTy).Contents (Elt Ideal) → (⟨S16, .i32⟩ : BufTy).Contents (Elt Ideal)),
    StableHlo.binary main_while0b_v20 main_while0b_v26 main_while0b_v27 (cmpi .slt : (⟨S16, .i32⟩ : BufTy).Contents (Elt Ideal) → (⟨S16, .i32⟩ : BufTy).Contents (Elt Ideal) → (⟨S16, .i1⟩ : BufTy).Contents (Elt Ideal)),
    StableHlo.nullary main_while0b_c_19 (constantI S_ 32 2048#32),
    StableHlo.unary main_while0b_c_19 main_while0b_v28 (broadcastInDim S16 ![] bcast_S_S16 : (⟨S_, .i32⟩ : BufTy).Contents (Elt Ideal) → (⟨S16, .i32⟩ : BufTy).Contents (Elt Ideal)),
    StableHlo.binary main_while0b_v20 main_while0b_v28 main_while0b_v29 (addi : (⟨S16, .i32⟩ : BufTy).Contents (Elt Ideal) → (⟨S16, .i32⟩ : BufTy).Contents (Elt Ideal) → (⟨S16, .i32⟩ : BufTy).Contents (Elt Ideal)),
    StableHlo.ternary main_while0b_v27 main_while0b_v29 main_while0b_v20 main_while0b_v30 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.unary main_while0b_v25 main_while0b_v31 (broadcastInDim S16x1 ![0] bcast_S16_S16x1_0 : (⟨S16, .i32⟩ : BufTy).Contents (Elt Ideal) → (⟨S16x1, .i32⟩ : BufTy).Contents (Elt Ideal)),
    StableHlo.unary main_while0b_v30 main_while0b_v32 (broadcastInDim S16x1 ![0] bcast_S16_S16x1_0 : (⟨S16, .i32⟩ : BufTy).Contents (Elt Ideal) → (⟨S16x1, .i32⟩ : BufTy).Contents (Elt Ideal)),
    StableHlo.binary main_while0b_v31 main_while0b_v32 main_while0b_v33 ((fun a b => concatenate S16x2 1 [⟨S16x1, a⟩, ⟨S16x1, b⟩] concatenates_S16x1_S16x1_S16x2_d1) : (⟨S16x1, .i32⟩ : BufTy).Contents (Elt Ideal) → (⟨S16x1, .i32⟩ : BufTy).Contents (Elt Ideal) → (⟨S16x2, .i32⟩ : BufTy).Contents (Elt Ideal)),
    StableHlo.binary main_v8_1 main_while0b_v33 main_while0b_v34 ((fun x i => Host.gather gather_S16x2048x3_S16x2_S16x3_1_01_n_n_01_1_113 x i) : (⟨S16x2048x3, .f32⟩ : BufTy).Contents (Elt Ideal) → (⟨S16x2, .i32⟩ : BufTy).Contents (Elt Ideal) → (⟨S16x3, .f32⟩ : BufTy).Contents (Elt Ideal)),
    StableHlo.unary main_while0b_v34 main_while0b_v35 (broadcastInDim S16x1x3 ![0, 2] bcast_S16x3_S16x1x3_0_2 : (⟨S16x3, .f32⟩ : BufTy).Contents (Elt Ideal) → (⟨S16x1x3, .f32⟩ : BufTy).Contents (Elt Ideal)),
    StableHlo.unary main_while0b_v35 main_while0b_v36 (broadcastInDim S16x2048x3 ![0, 1, 2] bcast_S16x1x3_S16x2048x3_0_1_2 : (⟨S16x1x3, .f32⟩ : BufTy).Contents (Elt Ideal) → (⟨S16x2048x3, .f32⟩ : BufTy).Contents (Elt Ideal)),
    StableHlo.binary main_v8_1 main_while0b_v36 main_while0b_v37 (subf (F := Ideal) (φ := .f32) : (⟨S16x2048x3, .f32⟩ : BufTy).Contents (Elt Ideal) → (⟨S16x2048x3, .f32⟩ : BufTy).Contents (Elt Ideal) → (⟨S16x2048x3, .f32⟩ : BufTy).Contents (Elt Ideal)),
    StableHlo.binary main_while0b_v37 main_while0b_v37 main_while0b_v38 (mulf (F := Ideal) (φ := .f32) : (⟨S16x2048x3, .f32⟩ : BufTy).Contents (Elt Ideal) → (⟨S16x2048x3, .f32⟩ : BufTy).Contents (Elt Ideal) → (⟨S16x2048x3, .f32⟩ : BufTy).Contents (Elt Ideal)),
    StableHlo.nullary main_while0b_cst_20 (constant (F := Ideal) S_ .f32 0x00000000#32),
    StableHlo.binary main_while0b_v38 main_while0b_cst_20 main_while0b_v39 ((fun x v => Host.reduceAdd (F := Ideal) (φ := .f32) x v reducesTo_S16x2048x3_S16x2048_d2 h_S_) : (⟨S16x2048x3, .f32⟩ : BufTy).Contents (Elt Ideal) → (⟨S_, .f32⟩ : BufTy).Contents (Elt Ideal) → (⟨S16x2048, .f32⟩ : BufTy).Contents (Elt Ideal)),
    StableHlo.binary main_v8_5 main_while0b_v39 main_while0b_v40 (minimumf (F := Ideal) (φ := .f32) : (⟨S16x2048, .f32⟩ : BufTy).Contents (Elt Ideal) → (⟨S16x2048, .f32⟩ : BufTy).Contents (Elt Ideal) → (⟨S16x2048, .f32⟩ : BufTy).Contents (Elt Ideal)) ]
/-- What it writes. -/
abbrev bodyW3 : List (Ref sig .tc) := [main_while0b_c_16, main_while0b_v21, main_while0b_v22, main_while0b_c_17, main_while0b_v23, main_while0b_v24, main_while0b_v25, main_while0b_c_18, main_while0b_v26, main_while0b_v27, main_while0b_c_19, main_while0b_v28, main_while0b_v29, main_while0b_v30, main_while0b_v31, main_while0b_v32, main_while0b_v33, main_while0b_v34, main_while0b_v35, main_while0b_v36, main_while0b_v37, main_while0b_v38, main_while0b_cst_20, main_while0b_v39, main_while0b_v40]
/-- One trip: the farthest point is found. -/
abbrev bodyOps4 : List (HloOp τ sig (Elt Ideal)) :=
  [ StableHlo.TRef.nullary main_while0b_call0.v0 (iotaInDim S16x2048 32 1),
    StableHlo.TRef.nullary main_while0b_call0.cst (constant (F := Ideal) S_ .f32 0xFF800000#32),
    StableHlo.TRef.nullary main_while0b_call0.c (constantI S_ 32 0#32),
    StableHlo.TRef.quaternary (.of main_while0b_v40 : StableHlo.TRef sig ⟨S16x2048, .f32⟩) main_while0b_call0.v0 main_while0b_call0.cst main_while0b_call0.c main_while0b_call0.v1_0 (fun x y u v j => (Host.argReduce (reducer_argmax_f32_i32 (F := Ideal)) x y u v reducesTo_S16x2048_S16_d1 h_S_ j).1),
    StableHlo.TRef.quaternary (.of main_while0b_v40 : StableHlo.TRef sig ⟨S16x2048, .f32⟩) main_while0b_call0.v0 main_while0b_call0.cst main_while0b_call0.c main_while0b_call0.v1_1 (fun x y u v j => (Host.argReduce (reducer_argmax_f32_i32 (F := Ideal)) x y u v reducesTo_S16x2048_S16_d1 h_S_ j).2) ]
/-- What it writes. -/
abbrev bodyW4 : List (Ref sig .tc) := [main_while0b_call0_v0, main_while0b_call0_cst, main_while0b_call0_c, main_while0b_call0_v1_0, main_while0b_v41]
/-- One trip: the place of the new pick. -/
abbrev bodyOps5 : List (HloOp τ sig (Elt Ideal)) :=
  [ StableHlo.nullary main_while0b_c_21 (constantI S_ 32 0#32),
    StableHlo.binary main_v8_3 main_while0b_c_21 main_while0b_v42 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_22 (constantI S_ 32 1024#32),
    StableHlo.binary main_v8_3 main_while0b_c_22 main_while0b_v43 (addi : (⟨S_, .i32⟩ : BufTy).Contents (Elt Ideal) → (⟨S_, .i32⟩ : BufTy).Contents (Elt Ideal) → (⟨S_, .i32⟩ : BufTy).Contents (Elt Ideal)),
    StableHlo.ternary main_while0b_v42 main_while0b_v43 main_v8_3 main_while0b_v44 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.unary main_while0b_v44 main_while0b_v45 (id : (⟨S_, .i32⟩ : BufTy).Contents (Elt Ideal) → (⟨S_, .i32⟩ : BufTy).Contents (Elt Ideal)),
    StableHlo.unary main_while0b_v45 main_while0b_v46 (broadcastInDim S1 ![] bcast_S_S1 : (⟨S_, .i32⟩ : BufTy).Contents (Elt Ideal) → (⟨S1, .i32⟩ : BufTy).Contents (Elt Ideal)) ]
/-- What it writes. -/
abbrev bodyW5 : List (Ref sig .tc) := [main_while0b_c_21, main_while0b_v42, main_while0b_c_22, main_while0b_v43, main_while0b_v44, main_while0b_v45, main_while0b_v46]
/-- One trip: the picks and the counters are written. -/
abbrev bodyOps6 : List (HloOp τ sig (Elt Ideal)) :=
  [ StableHlo.ternary main_v8_4 main_while0b_v46 main_while0b_v41 main_while0b_v47 ((fun x i u => Host.scatter scatter_S16x1024_S1_S16_0_1_1_0 (fun _ b => b) x i u) : (⟨S16x1024, .i32⟩ : BufTy).Contents (Elt Ideal) → (⟨S1, .i32⟩ : BufTy).Contents (Elt Ideal) → (⟨S16, .i32⟩ : BufTy).Contents (Elt Ideal) → (⟨S16x1024, .i32⟩ : BufTy).Contents (Elt Ideal)),
    StableHlo.nullary main_while0b_c_23 (constantI S_ 32 1#32),
    StableHlo.binary main_v8_2 main_while0b_c_23 main_while0b_v48 (addi : (⟨S_, .i32⟩ : BufTy).Contents (Elt Ideal) → (⟨S_, .i32⟩ : BufTy).Contents (Elt Ideal) → (⟨S_, .i32⟩ : BufTy).Contents (Elt Ideal)),
    StableHlo.unary main_while0b_v48 main_v8_2 id,
    StableHlo.unary main_while0b_v10 main_v8_3 id,
    StableHlo.unary main_while0b_v47 main_v8_4 id,
    StableHlo.unary main_while0b_v40 main_v8_5 id ]
/-- What it writes. -/
abbrev bodyW6 : List (Ref sig .tc) := [main_while0b_v47, main_while0b_c_23, main_while0b_v48, main_v8_2, main_v8_3, main_v8_4, main_v8_5]
/-- The operation after the loop. -/
abbrev postOps : List (HloOp τ sig (Elt Ideal)) :=
  [ StableHlo.unary main_v8_4 main_v9 (broadcastInDim S16x1x1024 ![0, 2] bcast_S16x1024_S16x1x1024_0_2 : (⟨S16x1024, .i32⟩ : BufTy).Contents (Elt Ideal) → (⟨S16x1x1024, .i32⟩ : BufTy).Contents (Elt Ideal)) ]

/-- What each list writes. -/
abbrev preW : List (Ref sig .tc) := [main_v0, main_v1, main_v2, main_v3, main_v4, main_v5, main_cst, main_v6, main_c, main_v7, main_c_0, main_c_1, main_v8_0, main_v8_1, main_v8_2, main_v8_3, main_v8_4, main_v8_5]
abbrev condW : List (Ref sig .tc) := [main_while0c_c_7, main_while0c_v10]
abbrev bodyW : List (Ref sig .tc) := [main_while0b_c_7, main_while0b_v10, main_while0b_c_8, main_while0b_v11, main_while0b_v12, main_while0b_c_9, main_while0b_c_10, main_while0b_v13, main_while0b_c_11, main_while0b_c_12, main_while0b_v14, main_while0b_c_13, main_while0b_v15, main_while0b_c_14, main_while0b_v16, main_while0b_c_15, main_while0b_v17, main_while0b_v18, main_while0b_v19, main_while0b_v20, main_while0b_c_16, main_while0b_v21, main_while0b_v22, main_while0b_c_17, main_while0b_v23, main_while0b_v24, main_while0b_v25, main_while0b_c_18, main_while0b_v26, main_while0b_v27, main_while0b_c_19, main_while0b_v28, main_while0b_v29, main_while0b_v30, main_while0b_v31, main_while0b_v32, main_while0b_v33, main_while0b_v34, main_while0b_v35, main_while0b_v36, main_while0b_v37, main_while0b_v38, main_while0b_cst_20, main_while0b_v39, main_while0b_v40, main_while0b_call0_v0, main_while0b_call0_cst, main_while0b_call0_c, main_while0b_call0_v1_0, main_while0b_v41, main_while0b_c_21, main_while0b_v42, main_while0b_c_22, main_while0b_v43, main_while0b_v44, main_while0b_v45, main_while0b_v46, main_while0b_v47, main_while0b_c_23, main_while0b_v48, main_v8_2, main_v8_3, main_v8_4, main_v8_5]
abbrev postW : List (Ref sig .tc) := [main_v9]

theorem pre_writes : (preOps).Forall fun op => op.writes ⊆ (preW.map (Proc.devRef (τ := τ) .tc)).toFinset := forall_writes_sub_of_map rfl
theorem cond_writes : (condOps).Forall fun op => op.writes ⊆ (condW.map (Proc.devRef (τ := τ) .tc)).toFinset := forall_writes_sub_of_map rfl
theorem body_writes : (bodyOps).Forall fun op => op.writes ⊆ (bodyW.map (Proc.devRef (τ := τ) .tc)).toFinset := forall_writes_sub_of_map rfl
theorem post_writes : (postOps).Forall fun op => op.writes ⊆ (postW.map (Proc.devRef (τ := τ) .tc)).toFinset := forall_writes_sub_of_map rfl

theorem main_eq (c : Dev nD) : main (F := Ideal) c = Pipeline.chain ([preOps].map (fun ops => (seq ops : Prog _ PUnit))
    ++ HostLoop.enter 0 :: [postOps].map fun ops => (seq ops : Prog _ PUnit)) := by chain_rfl
theorem body_eq : main_while0_body (F := Ideal) = Pipeline.chain ([bodyOps].map fun ops => (seq ops : Prog _ PUnit)) := by chain_rfl

/-! ### What the lists make of the loop's buffers -/

section
variable (X : Valuation τ sig (Elt Ideal))

theorem step2 : after bodyOps X (Proc.devRef .tc main_v8_2) = addi (X (Proc.devRef .tc main_v8_2)) (constantI S_ 32 1#32) := by
  after_results
  rfl
theorem step3 : after bodyOps X (Proc.devRef .tc main_v8_3) = addi (X (Proc.devRef .tc main_v8_3)) (constantI S_ 32 1#32) := by
  after_results
  rfl
theorem body_split : bodyOps = bodyOps1 ++ (bodyOps2 ++ (bodyOps3 ++ (bodyOps4 ++ (bodyOps5 ++ bodyOps6)))) := rfl
theorem body_writes1 : (bodyOps1).Forall fun op => op.writes ⊆ (bodyW1.map (Proc.devRef (τ := τ) .tc)).toFinset := forall_writes_sub_of_map rfl
theorem body_writes2 : (bodyOps2).Forall fun op => op.writes ⊆ (bodyW2.map (Proc.devRef (τ := τ) .tc)).toFinset := forall_writes_sub_of_map rfl
theorem body_writes3 : (bodyOps3).Forall fun op => op.writes ⊆ (bodyW3.map (Proc.devRef (τ := τ) .tc)).toFinset := forall_writes_sub_of_map rfl
theorem body_writes4 : (bodyOps4).Forall fun op => op.writes ⊆ (bodyW4.map (Proc.devRef (τ := τ) .tc)).toFinset := forall_writes_sub_of_map rfl
theorem body_writes5 : (bodyOps5).Forall fun op => op.writes ⊆ (bodyW5.map (Proc.devRef (τ := τ) .tc)).toFinset := forall_writes_sub_of_map rfl
theorem body_writes6 : (bodyOps6).Forall fun op => op.writes ⊆ (bodyW6.map (Proc.devRef (τ := τ) .tc)).toFinset := forall_writes_sub_of_map rfl
theorem keep1 (b : Ref sig .tc) (h : b ∉ bodyW1) : after bodyOps1 X (Proc.devRef .tc b) = X (Proc.devRef .tc b) := after_of_writes_sub _ _ body_writes1 h
theorem keep2 (b : Ref sig .tc) (h : b ∉ bodyW2) : after bodyOps2 X (Proc.devRef .tc b) = X (Proc.devRef .tc b) := after_of_writes_sub _ _ body_writes2 h
theorem keep3 (b : Ref sig .tc) (h : b ∉ bodyW3) : after bodyOps3 X (Proc.devRef .tc b) = X (Proc.devRef .tc b) := after_of_writes_sub _ _ body_writes3 h
theorem keep4 (b : Ref sig .tc) (h : b ∉ bodyW4) : after bodyOps4 X (Proc.devRef .tc b) = X (Proc.devRef .tc b) := after_of_writes_sub _ _ body_writes4 h
theorem keep5 (b : Ref sig .tc) (h : b ∉ bodyW5) : after bodyOps5 X (Proc.devRef .tc b) = X (Proc.devRef .tc b) := after_of_writes_sub _ _ body_writes5 h
theorem part1 : after bodyOps1 X (Proc.devRef .tc main_while0b_v18) = from0 (subi (X (Proc.devRef .tc main_v8_3)) (constantI S_ 32 1#32)) := by
  after_results
  rfl
theorem part1' : after bodyOps1 X (Proc.devRef .tc main_while0b_v15) = constantI S_ 32 0#32 := by
  after_results
  rfl
theorem part2 (i : IVec S_ 32) (h0 : X (Proc.devRef .tc main_while0b_v15) = constantI S_ 32 0#32)
    (h1 : X (Proc.devRef .tc main_while0b_v18) = from0 i) : after bodyOps2 X (Proc.devRef .tc main_while0b_v20) = lastOf (X (Proc.devRef .tc main_v8_4)) i := by
  after_results
  refine congrArg (fun st => shapeCast S16 (Host.dynamicSlice S16x1 (X (Proc.devRef .tc main_v8_4)) st sliceFits_S16x1024_S16x1) shapeCasts_S16x1_S16)
    (funext fun k => ?_)
  match k with
  | ⟨0, _⟩ => exact congrArg (fun v : IVec S_ 32 => (v (Shape.Idx.first h_S_)).toInt) h0
  | ⟨1, _⟩ => exact congrArg (fun v : IVec S_ 32 => (v (Shape.Idx.first h_S_)).toInt) h1
theorem part3 : after bodyOps3 X (Proc.devRef .tc main_while0b_v40) = minimumf (F := Ideal) (φ := .f32) (X (Proc.devRef .tc main_v8_5)) (toPoint (X (Proc.devRef .tc main_v8_1))
    (broadcastInDim S16x1x3 ![0, 2] bcast_S16x3_S16x1x3_0_2 (Host.gather gather_S16x2048x3_S16x2_S16x3_1_01_n_n_01_1_113 (X (Proc.devRef .tc main_v8_1))
      (pairs (X (Proc.devRef .tc main_v8_0)) (X (Proc.devRef .tc main_while0b_v20)))))) := by
  after_results
  rfl
theorem part4 : after bodyOps4 X (Proc.devRef .tc main_while0b_v41) = farthest (X (Proc.devRef .tc main_while0b_v40)) := by
  after_results
  simp only [StableHlo.TRef.ofBuf_toBuf]
  simp -implicitDefEqProofs only [StableHlo.TRef.ofBuf, StableHlo.TRef.toBuf, cast_eq]
  rfl
theorem part5 : after bodyOps5 X (Proc.devRef .tc main_while0b_v46) = broadcastInDim S1 ![] bcast_S_S1 (from0 (X (Proc.devRef .tc main_v8_3))) := by
  after_results
  rfl
theorem part6 (i : IVec S_ 32) (h : X (Proc.devRef .tc main_while0b_v46) = broadcastInDim S1 ![] bcast_S_S1 (from0 i)) :
    after bodyOps6 X (Proc.devRef .tc main_v8_4) = newSel (X (Proc.devRef .tc main_v8_4)) i (X (Proc.devRef .tc main_while0b_v41)) := by
  after_results
  exact congrArg (fun st => Host.scatter scatter_S16x1024_S1_S16_0_1_1_0 (fun _ b => b) (X (Proc.devRef .tc main_v8_4)) st (X (Proc.devRef .tc main_while0b_v41))) h
theorem part6d : after bodyOps6 X (Proc.devRef .tc main_v8_5) = X (Proc.devRef .tc main_while0b_v40) := by
  after_results
  rfl
theorem upto2 : after bodyOps2 (after bodyOps1 X) (Proc.devRef .tc main_while0b_v20) = lastOf (X (Proc.devRef .tc main_v8_4))
    (subi (X (Proc.devRef .tc main_v8_3)) (constantI S_ 32 1#32)) := by
  rw [part2 _ _ (part1' X) (part1 X), keep1 _ main_v8_4 (by decide)]
theorem upto3 : after bodyOps3 (after bodyOps2 (after bodyOps1 X)) (Proc.devRef .tc main_while0b_v40) = newD (X (Proc.devRef .tc main_v8_0)) (X (Proc.devRef .tc main_v8_1))
    (X (Proc.devRef .tc main_v8_4)) (subi (X (Proc.devRef .tc main_v8_3)) (constantI S_ 32 1#32)) (X (Proc.devRef .tc main_v8_5)) := by
  rw [part3, upto2, keep2 _ main_v8_5 (by decide), keep2 _ main_v8_1 (by decide), keep2 _ main_v8_0 (by decide),
    keep1 _ main_v8_5 (by decide), keep1 _ main_v8_1 (by decide), keep1 _ main_v8_0 (by decide)]
  rfl
theorem step5 : after bodyOps X (Proc.devRef .tc main_v8_5) = newD (X (Proc.devRef .tc main_v8_0)) (X (Proc.devRef .tc main_v8_1))
    (X (Proc.devRef .tc main_v8_4)) (subi (X (Proc.devRef .tc main_v8_3)) (constantI S_ 32 1#32)) (X (Proc.devRef .tc main_v8_5)) := by
  rw [body_split, after_append, after_append, after_append, after_append, after_append]
  rw [part6d, keep5 _ main_while0b_v40 (by decide), keep4 _ main_while0b_v40 (by decide), upto3]
theorem step4 : after bodyOps X (Proc.devRef .tc main_v8_4) = newSel (X (Proc.devRef .tc main_v8_4)) (X (Proc.devRef .tc main_v8_3))
    (farthest (newD (X (Proc.devRef .tc main_v8_0)) (X (Proc.devRef .tc main_v8_1)) (X (Proc.devRef .tc main_v8_4))
      (subi (X (Proc.devRef .tc main_v8_3)) (constantI S_ 32 1#32)) (X (Proc.devRef .tc main_v8_5)))) := by
  rw [body_split, after_append, after_append, after_append, after_append, after_append]
  refine (part6 _ _ (part5 _)).trans ?_
  rw [keep5 _ main_while0b_v41 (by decide), part4, upto3, keep5 _ main_v8_4 (by decide), keep4 _ main_v8_4 (by decide), keep3 _ main_v8_4 (by decide), keep2 _ main_v8_4 (by decide),
    keep1 _ main_v8_4 (by decide), keep4 _ main_v8_3 (by decide), keep3 _ main_v8_3 (by decide), keep2 _ main_v8_3 (by decide), keep1 _ main_v8_3 (by decide)]
theorem step0 : after bodyOps X (Proc.devRef .tc main_v8_0) = X (Proc.devRef .tc main_v8_0) := after_of_writes_sub _ _ body_writes (by decide)
theorem step1 : after bodyOps X (Proc.devRef .tc main_v8_1) = X (Proc.devRef .tc main_v8_1) := after_of_writes_sub _ _ body_writes (by decide)
theorem stepA : after bodyOps X (Proc.devRef .tc main_arg0) = X (Proc.devRef .tc main_arg0) := after_of_writes_sub _ _ body_writes (by decide)
theorem condK (b : Ref sig .tc) (h : b ∉ condW) : after condOps X (Proc.devRef .tc b) = X (Proc.devRef .tc b) := after_of_writes_sub _ _ cond_writes h

/-- The points, cloud by cloud. -/
def pts : FVec Ideal S16x2048x3 .f32 := shapeCast S16x2048x3 (X (Proc.devRef .tc main_arg0)) shapeCasts_S32768x3_S16x2048x3

theorem entry0 : after preOps X (Proc.devRef .tc main_v8_0) = iotaInDim S16 32 0 := by
  after_results
  rfl
theorem entry1 : after preOps X (Proc.devRef .tc main_v8_1) = pts X := by
  after_results
  rfl
theorem entry2 : after preOps X (Proc.devRef .tc main_v8_2) = constantI S_ 32 0#32 := by
  after_results
  rfl
theorem entry3 : after preOps X (Proc.devRef .tc main_v8_3) = constantI S_ 32 1#32 := by
  after_results
  rfl
theorem entry4 : after preOps X (Proc.devRef .tc main_v8_4) = broadcastInDim S16x1024 ![] bcast_S_S16x1024 (constantI S_ 32 0#32) := by
  after_results
  rfl
theorem entry5 : after preOps X (Proc.devRef .tc main_v8_5)
    = toPoint (pts X) (extractStridedSlice S16x1x3 ![0, 0, 0] (pts X) slices_S16x2048x3_S16x1x3_0_0_0) := by
  after_results
  rfl
theorem entryA : after preOps X (Proc.devRef .tc main_arg0) = X (Proc.devRef .tc main_arg0) := after_of_writes_sub _ _ pre_writes (by decide)
theorem post9 : after postOps X (Proc.devRef .tc main_v9) = broadcastInDim S16x1x1024 ![0, 2] bcast_S16x1024_S16x1x1024_0_2 (X (Proc.devRef .tc main_v8_4)) := by
  after_results
theorem postA : after postOps X (Proc.devRef .tc main_arg0) = X (Proc.devRef .tc main_arg0) := after_of_writes_sub _ _ post_writes (by decide)
end

/-! ### The loop -/

variable (m : (ℓ : Loc nD τ sig) → Buf (Elt Ideal) ℓ)

/-- The buffers before the `k`-th run of the condition. -/
abbrev at' (k : ℕ) (c : Dev nD) : Valuation τ sig (Elt Ideal) := atTrip condOps [bodyOps] (entryContents [preOps] m) k c

theorem at_zero (c : Dev nD) : at' m 0 c = after preOps (launchContents m c) := rfl
theorem at_succ (k : ℕ) (c : Dev nD) : at' m (k + 1) c = after bodyOps (after condOps (at' m k c)) := rfl

theorem at2 (c : Dev nD) : ∀ k, at' m k c (Proc.devRef .tc main_v8_2) = fun _ => Scf.iv 0#32 1#32 k
  | 0 => by rw [at_zero, entry2, Scf.iv_zero]; rfl
  | k + 1 => by
    rw [at_succ, step2, condK _ _ (by decide), at2 c k, Scf.iv_succ]
    rfl

theorem body_sub : (bodyOps).Forall fun op => op.bufs ⊆ tcRefs τ sig := by
  refine ⟨nullary_bufs_sub .., binary_bufs_sub .., nullary_bufs_sub .., binary_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., unaryIndexed_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., binary_bufs_sub .., ternary_bufs_sub .., unary_bufs_sub .., unary_bufs_sub .., ternary_bufs_sub .., nullary_bufs_sub .., binary_bufs_sub .., unary_bufs_sub .., unary_bufs_sub .., unary_bufs_sub .., unary_bufs_sub ..⟩
theorem pre_sub : (preOps).Forall fun op => op.bufs ⊆ tcRefs τ sig := by
  refine ⟨reshape_bufs_sub .., nullary_bufs_sub .., unary_bufs_sub .., unary_bufs_sub .., binary_bufs_sub .., binary_bufs_sub .., nullary_bufs_sub .., binary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩
theorem post_sub : (postOps).Forall fun op => op.bufs ⊆ tcRefs τ sig := unary_bufs_sub ..

set_option backward.isDefEq.respectTransparency.types false in
/-- The condition holds for the first 1023 trips and leaves the buffers as its operations do. -/
theorem cond_spec : CondSpec (nD := nD) (pcfgs (F := Ideal)) defs₀ loops (main_while0_cond (F := Ideal)) condOps [bodyOps] (entryContents [preOps] m) 1023 := by
  intro k hk c bd
  have hctr := at2 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at' m k c) main_v8_2 HostLoop.idx0)
        (HloOp.result _ (at' m k c) main_while0c_c_7 HostLoop.idx0) = 1#1) (k < 1023)
    rw [nullary_result_ne _ _ _ _ (by decide), nullary_result, hctr]
    exact Scf.cmpi_slt_iv_ub_iff (lb := 0#32) (ub := 1023#32) (st := 1#32) (by decide) (show k ≤ Scf.trips 0#32 1023#32 1#32 from hk)
  isplitl [Hb]; · iexact Hb
  rw [after_cons, after_cons, after_nil]; iexact Hh

/-- The run: the picks after the last trip, the points as they were. -/
theorem run_trips (ρ : Dev nD → PrngReg) : θ_run defs (onTc (τ := τ) (main (F := Ideal))) ⟨m, fun _ => 0, ρ⟩ (fun r => ∀ c : Dev nD,
    r.2.mem ((c.tc : Thread nD τ).loc main_v9)
        = broadcastInDim S16x1x1024 ![0, 2] bcast_S16x1024_S16x1x1024_0_2 (at' m 1023 c (Proc.devRef .tc main_v8_4))
      ∧ r.2.mem ((c.tc : Thread nD τ).loc main_arg0) = at' m 1023 c (Proc.devRef .tc main_arg0)) := by
  refine (θ_run defs _ _).mono (fun r h c => ⟨?_, ?_⟩) (run_loop pcfgs defs₀ loops main 0 main_while0_cond main_while0_body rfl
    [preOps] [bodyOps] [postOps] condOps (Plain.cons pre_sub Plain.nil) (Plain.cons body_sub Plain.nil) (Plain.cons post_sub Plain.nil)
    main_eq body_eq 1023 m ρ (cond_spec m))
  · refine (h c main_v9 (by decide)).trans ?_
    show after postOps (after condOps (at' m 1023 c)) _ = _
    rw [post9, condK _ _ (by decide)]
  · refine (h c main_arg0 (by decide)).trans ?_
    show after postOps (after condOps (at' m 1023 c)) _ = _
    rw [postA, condK _ _ (by decide)]

end Cert.Reference4Ideal.Gen

end
-- ==== Proof.SampRef4.lean ====
/-
  The first sampling's reference: one trip read at an index, and the picks after the last.
-/
module

public import proofs.«01_k».proof.Proof.SampArr4
public import proofs.«01_k».proof.Proof.SampRun4
public import Idealize.ShloMosaic.Lib.Tactic.CleanTypes

@[expose] public section

set_option maxRecDepth 16384

noncomputable section

namespace Cert.Reference4Ideal.Gen

open Idealize.ShloMosaic Idealize.ShloMosaic.TcCoe Idealize.ShloMosaic.Tactic
open Idealize.ShloMosaic.StableHlo Idealize.SL.Sem
open scoped BigOperators

/-- The picks of farthest point sampling, cloud by cloud. -/
def picks (p : FVec Ideal S16x2048x3 .f32) : IVec S16x1x1024 32 := fun y =>
  BitVec.ofNat 32 (Samp.pick (Samp.dist fun j c => p (ix3 (y 0) j c)) (y 2).val).val

/-- The loop's buffers before the `k`-th trip. -/
structure At (p : FVec Ideal S16x2048x3 .f32) (k : ℕ) (X : Valuation τ sig (Elt Ideal)) : Prop where
  rows : X (Proc.devRef .tc main_v8_0) = iotaInDim S16 32 0
  pts : X (Proc.devRef .tc main_v8_1) = p
  iv : X (Proc.devRef .tc main_v8_3) = fun _ => BitVec.ofNat 32 (k + 1)
  sel : ∀ (b : Fin 16) (j : Fin 1024), (X (Proc.devRef .tc main_v8_4) : IVec S16x1024 32) (ix2 b j)
    = if j.val ≤ k then BitVec.ofNat 32 (Samp.pick (Samp.dist fun j c => p (ix3 b j c)) j.val).val else 0#32
  dst : ∀ (b : Fin 16) (j : Fin 2048), ((X (Proc.devRef .tc main_v8_5) : FVec Ideal S16x2048 .f32) (ix2 b j) : EReal)
    = Samp.far (Samp.dist fun j c => p (ix3 b j c)) k j

theorem first_apply (p : FVec Ideal S16x2048x3 .f32) (b : Fin 16) (c : Fin 3) :
    extractStridedSlice S16x1x3 ![0, 0, 0] p slices_S16x2048x3_S16x1x3_0_0_0 (ix3 b 0 c) = p (ix3 b 0 c) := by
  pointwise

theorem at_entry (X : Valuation τ sig (Elt Ideal)) : At (pts X) 0 (after preOps X) where
  rows := entry0 X
  pts := entry1 X
  iv := entry3 X
  sel b j := by
    rw [entry4]
    split
    · next h =>
      rw [show j.val = 0 by omega]
      rfl
    · rfl
  dst b j := by
    rw [entry5]
    exact toPoint_apply (pts X) _ b 0 j fun c => first_apply (pts X) b c

theorem at_cond {p : FVec Ideal S16x2048x3 .f32} {k : ℕ} {X : Valuation τ sig (Elt Ideal)} (h : At p k X) : At p k (after condOps X) where
  rows := (condK X _ (by decide)).trans h.rows
  pts := (condK X _ (by decide)).trans h.pts
  iv := (condK X _ (by decide)).trans h.iv
  sel b j := by rw [condK X _ (by decide)]; exact h.sel b j
  dst b j := by rw [condK X _ (by decide)]; exact h.dst b j

theorem at_body {p : FVec Ideal S16x2048x3 .f32} {k : ℕ} (hk : k < 1023) {X : Valuation τ sig (Elt Ideal)} (h : At p k X) : At p (k + 1) (after bodyOps X) := by
  have hiv : subi (X (Proc.devRef .tc main_v8_3)) (constantI S_ 32 1#32) = fun _ => BitVec.ofNat 32 k := by
    rw [h.iv]
    funext _
    show BitVec.ofNat 32 (k + 1) - 1#32 = _
    rw [BitVec.ofNat_add]
    exact BitVec.add_sub_cancel _ _
  have hd : ∀ (b : Fin 16) (j : Fin 2048), (newD (X (Proc.devRef .tc main_v8_0)) (X (Proc.devRef .tc main_v8_1)) (X (Proc.devRef .tc main_v8_4))
      (subi (X (Proc.devRef .tc main_v8_3)) (constantI S_ 32 1#32)) (X (Proc.devRef .tc main_v8_5)) (ix2 b j) : EReal)
        = Samp.far (Samp.dist fun j c => p (ix3 b j c)) (k + 1) j := fun b j => by
    rw [hiv, h.rows, h.pts]
    refine (newD_apply p _ (BitVec.ofNat 32 k) _ ⟨k, by omega⟩ (Conv.toInt_ofNat (by omega)) b (Samp.pick (Samp.dist fun j c => p (ix3 b j c)) k)
      ((h.sel b ⟨k, by omega⟩).trans (if_pos le_rfl)) j).trans ?_
    rw [h.dst]
    exact Samp.far_succ _ k j
  refine ⟨(step0 X).trans h.rows, (step1 X).trans h.pts, ?_, fun b j => ?_, fun b j => ?_⟩
  · rw [step3, h.iv]
    funext _
    show BitVec.ofNat 32 (k + 1) + 1#32 = _
    rw [← BitVec.ofNat_add]
  · rw [step4, h.iv]
    refine (newSel_apply _ (w := BitVec.ofNat 32 (k + 1)) ⟨k + 1, by omega⟩ (Conv.toInt_ofNat (by omega)) _ b j).trans ?_
    have hs := h.sel b j
    by_cases e : j = ⟨k + 1, by omega⟩
    · rw [if_pos e, if_pos (by rw [e]), farthest_apply, e]
      refine congrArg (fun x : Fin 2048 → EReal => BitVec.ofNat 32 (Samp.top x).val) (funext fun i => ?_)
      have := hd b i
      rw [h.iv] at this
      exact this
    · rw [if_neg e, hs]
      exact if_congr (by rw [Fin.ext_iff] at e; have : j.val ≠ k + 1 := e; omega) rfl rfl
  · rw [step5]
    exact hd b j

variable (m : (ℓ : Loc nD τ sig) → Buf (Elt Ideal) ℓ)

theorem at_trip (c : Dev nD) : ∀ k ≤ 1023, At (pts (launchContents m c)) k (at' m k c)
  | 0, _ => by rw [at_zero]; exact at_entry _
  | k + 1, h => by rw [at_succ]; exact at_body (by omega) (at_cond (at_trip c k (by omega)))

theorem arg_trip (c : Dev nD) : ∀ k, at' m k c (Proc.devRef .tc main_arg0) = launchContents m c (Proc.devRef .tc main_arg0)
  | 0 => by rw [at_zero, entryA]
  | k + 1 => by rw [at_succ, stepA, condK _ main_arg0 (by decide), arg_trip c k]

/-- The run of the reference: the picks, and the points as they were. -/
theorem run (ρ : Dev nD → PrngReg) : θ_run defs (onTc (τ := τ) (main (F := Ideal))) ⟨m, fun _ => 0, ρ⟩ (fun r => ∀ c : Dev nD,
    r.2.mem ((c.tc : Thread nD τ).loc main_v9) = picks (shapeCast S16x2048x3 (m ((c.tc : Thread nD τ).loc main_arg0)) shapeCasts_S32768x3_S16x2048x3)
      ∧ r.2.mem ((c.tc : Thread nD τ).loc main_arg0) = m ((c.tc : Thread nD τ).loc main_arg0)) := by
  refine (θ_run defs _ _).mono (fun r h c => ?_) (run_trips m ρ)
  have ha := arg_trip m c 1023
  have ht := at_trip m c 1023 le_rfl
  have hr := h c
  generalize at' m 1023 c = X at ha ht hr
  refine ⟨hr.1.trans ?_, hr.2.trans ha⟩
  funext y
  have hy := ht.sel (y 0) (y 2)
  rw [if_pos (by have := (y 2).isLt; have : (y 2).val < 1024 := this; omega)] at hy
  refine Eq.trans ?_ hy
  refine congrArg (X (Proc.devRef .tc main_v8_4) : IVec S16x1024 32) (funext fun a => ?_)
  match a with
  | ⟨0, _⟩ => rfl
  | ⟨1, _⟩ => rfl

/-- The run leaves the argument and the semaphores as they were. -/
theorem frame (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (run m ρ)

end Cert.Reference4Ideal.Gen

end
-- ==== Proof.Claim4.lean ====
/-
  The first sampling: kernel and reference run to the same picks.
-/
module

public import proofs.«01_k».proof.Defs
public import proofs.«01_k».proof.Proof.SampVal4
public import proofs.«01_k».proof.Proof.SampRef4
public import Idealize.ShloMosaic.Lib.Claim

@[expose] public section

set_option maxRecDepth 16384

noncomputable section

namespace Cert.Proof

open Idealize.ShloMosaic Idealize.ShloMosaic.TcCoe Idealize.ShloMosaic.Tactic

theorem algebraic4 : algebraic_Kernel4Ideal_Reference4Ideal := by
  pair_intro
  · run_from Kernel4Ideal.Gen.run m g
  · refine (θ_run _ _ _).mono (fun r h c => ?_) (Reference4Ideal.Gen.run m' g')
    have e := h c
    have a0 := hagree c
    refine ⟨e.1.trans ?_, e.2⟩
    rw [a0]
    rfl

end Cert.Proof

end
-- ==== Proof.SampVal5.lean ====
/-
  The second sampling's kernel: one trip read at an index, and what the loop leaves.
-/
module

public import proofs.«01_k».proof.Proof.Samp
public import proofs.«01_k».proof.Proof.Gen.Kernel5Ideal.Frame
public import proofs.«01_k».proof.Proof.Gen.Kernel5Ideal.Value
public import Idealize.ShloMosaic.Lib.Pipeline.ValueKit
public import Idealize.ShloMosaic.Lib.Tactic.CleanTypes
public import Idealize.ShloMosaic.Lib.Claim

@[expose] public section

set_option maxRecDepth 16384

noncomputable section

namespace Cert.Kernel5Ideal.Gen

open Idealize.ShloMosaic Idealize.ShloMosaic.TcCoe Idealize.ShloMosaic.Tactic
open scoped BigOperators

section
variable (v0 v2 v4 : Vec Ideal S16x1x1024 .f32) (d : FVec Ideal S16x1024 .f32) (l : IVec S16x1 32)

/-- The points of cloud `b`, the coordinates in three arrays. -/
def cloud (b : Fin 16) (j : Fin 1024) (c : Fin 3) : EReal := (![v0 (ix3 b 0 j), v2 (ix3 b 0 j), v4 (ix3 b 0 j)] : Fin 3 → EReal) c

/-- The one-hot rows of the last picks. -/
def hotRows : FVec Ideal S16x1024 .f32 := sitofp .f32 (extui 32 (cmpi .eq (iota .tc S16x1024 32 [1] iota_S16x1024_d1_w32)
  (broadcastTo S16x1024 l broadcasts_S16x1_S16x1024)) natLt_1_32)

/-- The last pick's coordinate, in every cloud. -/
def coordOf (v : FVec Ideal S16x1024 .f32) : FVec Ideal S16x1 .f32 := shapeCast S16x1 (multiReduction .add [1] S16 (mulf (hotRows l) v) 0x00000000#32
  reduces_S16x1024_S16 (.inl rfl) rfl) shapeCasts_S16_S16x1

theorem hotRows_apply (b : Fin 16) (q : Fin 1024) (h : l (ix2 b 0) = BitVec.ofNat 32 q.val) (j : Fin 1024) :
    (hotRows l (ix2 b j) : EReal) = if j = q then 1 else 0 := by
  have hin : Take.Inside 1024 (l (ix2 b 0)) := by
    rw [h]
    unfold Take.Inside
    rw [Conv.toInt_ofNat (by have := q.isLt; omega)]
    have := q.isLt
    omega
  have hq : Take.place 1024 (l (ix2 b 0)) = q := ((Take.eq_iff_place (N := 1024) (by decide) hin q).1 h.symm).symm
  refine Eq.trans ?_ ((Take.hot (N := 1024) (by decide) hin j).trans (by rw [hq]))
  unfold hotRows
  clean_types
  pointwise
  rfl

theorem coordOf_apply (v : FVec Ideal S16x1024 .f32) (b : Fin 16) (q : Fin 1024) (h : l (ix2 b 0) = BitVec.ofNat 32 q.val) :
    (coordOf l v (ix2 b 0) : EReal) = v (ix2 b q) := by
  refine Eq.trans ?_ (Conv.pick_sum q fun j => v (ix2 b j))
  refine (ValueIdx.shapeCast_a_a1_apply _ _ b 0).trans ((Ideal.multiReduction_add_single (mulf (hotRows l) v) _ reduces_S16x1024_S16 (.inl rfl) rfl (ix1 b)).trans ?_)
  refine Finset.sum_congr rfl fun j _ => ?_
  refine (congrArg (mulf (hotRows l) v) (Conv.lift_ix1 (n := 16) (m := 1024) reduces_S16x1024_S16 b j)).trans ?_
  exact congrArg (· * v (ix2 b j)) (hotRows_apply l b q h j)

theorem pay4_apply (b : Fin 16) (q : Fin 1024) (h : l (ix2 b 0) = BitVec.ofNat 32 q.val) (j : Fin 1024) :
    (k0_pay4 (F := Ideal) v0 v2 v4 d l (ix2 b j) : EReal) = min (d (ix2 b j)) (Samp.dist (cloud v0 v2 v4 b) q j) := by
  have h0 := coordOf_apply l (shapeCast S16x1024 v0 shapeCasts_S16x1x1024_S16x1024) b q h
  have h1 := coordOf_apply l (shapeCast S16x1024 v2 shapeCasts_S16x1x1024_S16x1024) b q h
  have h2 := coordOf_apply l (shapeCast S16x1024 v4 shapeCasts_S16x1x1024_S16x1024) b q h
  have e : k0_pay4 (F := Ideal) v0 v2 v4 d l = minimumf d (addf (addf
      (mulf (subf (shapeCast S16x1024 v0 shapeCasts_S16x1x1024_S16x1024) (broadcastTo S16x1024 (coordOf l (shapeCast S16x1024 v0 shapeCasts_S16x1x1024_S16x1024)) broadcasts_S16x1_S16x1024))
        (subf (shapeCast S16x1024 v0 shapeCasts_S16x1x1024_S16x1024) (broadcastTo S16x1024 (coordOf l (shapeCast S16x1024 v0 shapeCasts_S16x1x1024_S16x1024)) broadcasts_S16x1_S16x1024)))
      (mulf (subf (shapeCast S16x1024 v2 shapeCasts_S16x1x1024_S16x1024) (broadcastTo S16x1024 (coordOf l (shapeCast S16x1024 v2 shapeCasts_S16x1x1024_S16x1024)) broadcasts_S16x1_S16x1024))
        (subf (shapeCast S16x1024 v2 shapeCasts_S16x1x1024_S16x1024) (broadcastTo S16x1024 (coordOf l (shapeCast S16x1024 v2 shapeCasts_S16x1x1024_S16x1024)) broadcasts_S16x1_S16x1024))))
      (mulf (subf (shapeCast S16x1024 v4 shapeCasts_S16x1x1024_S16x1024) (broadcastTo S16x1024 (coordOf l (shapeCast S16x1024 v4 shapeCasts_S16x1x1024_S16x1024)) broadcasts_S16x1_S16x1024))
        (subf (shapeCast S16x1024 v4 shapeCasts_S16x1x1024_S16x1024) (broadcastTo S16x1024 (coordOf l (shapeCast S16x1024 v4 shapeCasts_S16x1x1024_S16x1024)) broadcasts_S16x1_S16x1024)))) := rfl
  rw [e]
  generalize coordOf l (shapeCast S16x1024 v0 shapeCasts_S16x1x1024_S16x1024) = z0 at h0
  generalize coordOf l (shapeCast S16x1024 v2 shapeCasts_S16x1x1024_S16x1024) = z1 at h1
  generalize coordOf l (shapeCast S16x1024 v4 shapeCasts_S16x1x1024_S16x1024) = z2 at h2
  revert h0 h1 h2
  clean_types
  pointwise
  intro h0 h1 h2
  simp only [h0, h1, h2]
  rfl

theorem pay5_apply (b : Fin 16) : k0_pay5 (F := Ideal) v0 v2 v4 d l (ix2 b 0)
    = BitVec.ofNat 32 (Samp.top (Conv.row (k0_pay4 (F := Ideal) v0 v2 v4 d l) b)).val := by
  unfold k0_pay5
  generalize k0_pay4 (F := Ideal) v0 v2 v4 d l = x
  refine (ValueIdx.shapeCast_a_a1_apply _ _ b 0).trans (Samp.masked_apply (N := 1024) (by decide) x _ _ reduces_S16x1024_S16 b (fun k => iota_single_apply _ _ _ _ _ _) fun k => ?_)
  refine (Conv.broadcastTo_a1_ab_apply _ _ b k).trans ((ValueIdx.shapeCast_a_a1_apply _ _ b 0).trans ?_)
  refine (Ideal.multiReduction_maximumf_single x _ reduces_S16x1024_S16 (.inl rfl) rfl (ix1 b)).trans ?_
  refine Eq.trans ?_ (Samp.fold_max_eq (N := 1024) (Conv.row x b))
  refine (Finset.fold_congr fun j _ => congrArg x (Conv.lift_ix1 (n := 16) (m := 1024) reduces_S16x1024_S16 b j)).trans ?_
  exact congrArg (fun e : EReal => (Finset.univ : Finset (Fin 1024)).fold max e (Conv.row x b)) Conv.ofBits_ninf

theorem pay6_apply (t : Fin k0_t1_loop.trips) (s : IVec S16x256 32) (b : Fin 16) (j : Fin 256) :
    k0_pay6 (F := Ideal) v0 v2 v4 t d l s (ix2 b j)
      = if j.val = t.val + 1 then k0_pay5 (F := Ideal) v0 v2 v4 d l (ix2 b 0) else s (ix2 b j) := by
  unfold k0_pay6
  generalize k0_pay5 (F := Ideal) v0 v2 v4 d l = x
  have ht : t.val < 255 := by
    have := t.isLt
    have e : k0_t1_loop.trips = 255 := by decide
    omega
  have hi : BitVec.ofNat 32 j.val = Scf.iv 1#32 1#32 t.val ↔ j.val = t.val + 1 := by
    have hj := j.isLt
    rw [show Scf.iv 1#32 1#32 t.val = BitVec.ofNat 32 (t.val + 1) from by
      apply BitVec.eq_of_toNat_eq
      simp [Scf.iv]
      omega]
    constructor
    · intro e
      have := congrArg BitVec.toNat e
      simp at this
      omega
    · intro e; rw [e]
  have e : ∀ y : IVec S16x256 32, y (ix2 b j) = x (ix2 b 0) → select (cmpi .eq (iota .tc S16x256 32 [1] iota_S16x256_d1_w32) (broadcast S16x256 (Scf.iv 1#32 1#32 t.val))) y s (ix2 b j)
      = if j.val = t.val + 1 then x (ix2 b 0) else s (ix2 b j) := fun y hy => by
    show (if BitVec.ofBool (iota .tc S16x256 32 [1] iota_S16x256_d1_w32 (ix2 b j) == Scf.iv 1#32 1#32 t.val) = 1#1 then y (ix2 b j) else s (ix2 b j)) = _
    rw [iota_single_apply]
    show (if BitVec.ofBool (BitVec.ofNat 32 j.val == Scf.iv 1#32 1#32 t.val) = 1#1 then y (ix2 b j) else s (ix2 b j)) = _
    by_cases h : j.val = t.val + 1
    · rw [if_pos h, beq_iff_eq.2 (hi.2 h), hy]; rfl
    · rw [if_neg h, beq_eq_false_iff_ne.2 fun q => h (hi.1 q)]; rfl
  refine e _ ((Conv.broadcastTo_a1_ab_apply _ _ b j).trans ?_)
  exact congrFun (shapeCast_self x _) _

/-! ### The loop -/

/-- One trip on the carried arrays. -/
def trip (t : Fin k0_t1_loop.trips) (a : FVec Ideal S16x1024 .f32 × IVec S16x1 32 × IVec S16x256 32) :
    FVec Ideal S16x1024 .f32 × IVec S16x1 32 × IVec S16x256 32 :=
  (k0_pay4 (F := Ideal) v0 v2 v4 a.1 a.2.1, k0_pay5 (F := Ideal) v0 v2 v4 a.1 a.2.1, k0_pay6 (F := Ideal) v0 v2 v4 t a.1 a.2.1 a.2.2)

theorem trip_pick (t : Fin k0_t1_loop.trips) (a : FVec Ideal S16x1024 .f32 × IVec S16x1 32 × IVec S16x256 32) :
    (trip v0 v2 v4 t a).2.1 = k0_pay5 (F := Ideal) v0 v2 v4 a.1 a.2.1 := by
  unfold trip
  dsimp only
theorem trip_buf (t : Fin k0_t1_loop.trips) (a : FVec Ideal S16x1024 .f32 × IVec S16x1 32 × IVec S16x256 32) :
    (trip v0 v2 v4 t a).2.2 = k0_pay6 (F := Ideal) v0 v2 v4 t a.1 a.2.1 a.2.2 := by
  unfold trip
  dsimp only

/-- The state after `k` trips: the distances, the last pick and the picks so far, in every cloud. -/
def Inv (k : ℕ) (a : FVec Ideal S16x1024 .f32 × IVec S16x1 32 × IVec S16x256 32) : Prop := ∀ b : Fin 16,
  (∀ j : Fin 1024, (a.1 (ix2 b j) : EReal) = (Samp.st (Samp.dist (cloud v0 v2 v4 b)) k).1 j)
    ∧ a.2.1 (ix2 b 0) = BitVec.ofNat 32 (Samp.pick (Samp.dist (cloud v0 v2 v4 b)) k).val
    ∧ ∀ j : Fin 256, a.2.2 (ix2 b j) = if j.val ≤ k then BitVec.ofNat 32 (Samp.pick (Samp.dist (cloud v0 v2 v4 b)) j.val).val else 0#32

theorem inv_zero : Inv v0 v2 v4 0 (k0_pay1 (F := Ideal), k0_pay2, k0_pay3) := fun b => by
  refine ⟨fun j => Conv.ofBits_inf, rfl, fun j => ?_⟩
  split
  · next h =>
    have hj : j.val = 0 := by omega
    rw [hj]
    rfl
  · rfl

theorem inv_step (k : Fin k0_t1_loop.trips) (a : FVec Ideal S16x1024 .f32 × IVec S16x1 32 × IVec S16x256 32) (h : Inv v0 v2 v4 k.val a) :
    Inv v0 v2 v4 (k.val + 1) (trip v0 v2 v4 k a) := fun b => by
  obtain ⟨hd, hl, hs⟩ := h b
  have h4 : ∀ j : Fin 1024, (k0_pay4 (F := Ideal) v0 v2 v4 a.1 a.2.1 (ix2 b j) : EReal) = (Samp.st (Samp.dist (cloud v0 v2 v4 b)) (k.val + 1)).1 j := fun j => by
    rw [pay4_apply v0 v2 v4 a.1 a.2.1 b _ hl j, hd j]
    rfl
  have h5 : k0_pay5 (F := Ideal) v0 v2 v4 a.1 a.2.1 (ix2 b 0) = BitVec.ofNat 32 (Samp.pick (Samp.dist (cloud v0 v2 v4 b)) (k.val + 1)).val := by
    rw [pay5_apply]
    exact congrArg (fun x : Fin 1024 → EReal => BitVec.ofNat 32 (Samp.top x).val) (funext h4)
  refine ⟨h4, (congrFun (trip_pick v0 v2 v4 k a) _).trans h5, fun j => (congrFun (trip_buf v0 v2 v4 k a) _).trans ?_⟩
  refine (pay6_apply v0 v2 v4 a.1 a.2.1 k a.2.2 b j).trans ?_
  rw [h5, hs j]
  by_cases e : j.val = k.val + 1
  · rw [if_pos e, if_pos (by omega), e]
  · rw [if_neg e]
    exact if_congr (by omega) rfl rfl

theorem inv_end : Inv v0 v2 v4 k0_t1_loop.trips (Scf.fold (trip v0 v2 v4) (k0_pay1 (F := Ideal), k0_pay2, k0_pay3)) :=
  Samp.fold_inv (trip v0 v2 v4) (k0_pay1 (F := Ideal), k0_pay2, k0_pay3) (Inv v0 v2 v4) (inv_zero v0 v2 v4) (inv_step v0 v2 v4)
end

/-- The three coordinates of the points, each an array of its own. -/
abbrev ld0 (x0 : Vec Ideal S16x3x1024 .f32) : Vec Ideal S16x1x1024 .f32 := View.ld x0 (Rect.unit (s := S16x3x1024) ![0, 0, 0] S16x1x1024.size inb_S16x3x1024_S16x1x1024_0_0_0)
abbrev ld1 (x0 : Vec Ideal S16x3x1024 .f32) : Vec Ideal S16x1x1024 .f32 := View.ld x0 (Rect.unit (s := S16x3x1024) ![0, 1, 0] S16x1x1024.size inb_S16x3x1024_S16x1x1024_0_1_0)
abbrev ld2 (x0 : Vec Ideal S16x3x1024 .f32) : Vec Ideal S16x1x1024 .f32 := View.ld x0 (Rect.unit (s := S16x3x1024) ![0, 2, 0] S16x1x1024.size inb_S16x3x1024_S16x1x1024_0_2_0)

theorem cloud_ld (x0 : Vec Ideal S16x3x1024 .f32) (b : Fin 16) : cloud (ld0 x0) (ld1 x0) (ld2 x0) b = fun j c => x0 (ix3 b c j) := by
  funext j c
  match c with
  | ⟨0, _⟩ =>
    refine congrArg x0 (funext fun a => ?_)
    match a with
    | ⟨0, _⟩ => exact Fin.ext (by show 0 + 1 * b.val = b.val; omega)
    | ⟨1, _⟩ => exact Fin.ext (by show 0 + 1 * 0 = 0; rfl)
    | ⟨2, _⟩ => exact Fin.ext (by show 0 + 1 * j.val = j.val; omega)
  | ⟨1, _⟩ =>
    refine congrArg x0 (funext fun a => ?_)
    match a with
    | ⟨0, _⟩ => exact Fin.ext (by show 0 + 1 * b.val = b.val; omega)
    | ⟨1, _⟩ => exact Fin.ext (by show 1 + 1 * 0 = 1; rfl)
    | ⟨2, _⟩ => exact Fin.ext (by show 0 + 1 * j.val = j.val; omega)
  | ⟨2, _⟩ =>
    refine congrArg x0 (funext fun a => ?_)
    match a with
    | ⟨0, _⟩ => exact Fin.ext (by show 0 + 1 * b.val = b.val; omega)
    | ⟨1, _⟩ => exact Fin.ext (by show 2 + 1 * 0 = 2; rfl)
    | ⟨2, _⟩ => exact Fin.ext (by show 0 + 1 * j.val = j.val; omega)

theorem out_eq (c : Dev nD) (arg0 : Memref sig .tc .vmem S16x3x1024 .f32) (harg0 : arg0.IsWhole) (arg1 : Memref sig .tc .vmem S16x1x256 .i32) (harg1 : arg1.IsWhole)
    (x0 : Vec Ideal S16x3x1024 .f32) : out0_A_1 (F := Ideal) c arg0 harg0 arg1 harg1 x0
      = k0_pay7 (Scf.fold (trip (ld0 x0) (ld1 x0) (ld2 x0)) (k0_pay1 (F := Ideal), k0_pay2, k0_pay3)).2.2 := by
  unfold out0_A_1
  rw [View.read_writes_eq_canon _ _ _ (cover0_A_1 c arg0 harg0 arg1 harg1 x0)]
  unfold kernelRun0_A
  dsimp only
  rw [View.canon_cons_unit_lit _ _ [] (by decide)]
  sl_unfold_words
  simp only [View.readAt_eq_ld, harg0.read_unread]
  rfl

theorem out_apply (c : Dev nD) (arg0 : Memref sig .tc .vmem S16x3x1024 .f32) (harg0 : arg0.IsWhole) (arg1 : Memref sig .tc .vmem S16x1x256 .i32) (harg1 : arg1.IsWhole)
    (x0 : Vec Ideal S16x3x1024 .f32) (b : Fin 16) (j : Fin 256) : out0_A_1 (F := Ideal) c arg0 harg0 arg1 harg1 x0 (ix3 b 0 j)
      = BitVec.ofNat 32 (Samp.pick (Samp.dist fun i c => x0 (ix3 b c i)) j.val).val := by
  rw [out_eq]
  have h := (inv_end (ld0 x0) (ld1 x0) (ld2 x0) b).2.2 j
  rw [if_pos (by rw [show k0_t1_loop.trips = 255 from by decide]; have := j.isLt; omega), cloud_ld] at h
  refine Eq.trans ?_ h
  generalize (Scf.fold (trip (ld0 x0) (ld1 x0) (ld2 x0)) (k0_pay1 (F := Ideal), k0_pay2, k0_pay3)).2.2 = y
  unfold k0_pay7
  clean_types
  pointwise

theorem idx : ∀ t : Fin cfg0.N, win0_0.index t = ![0, 0, 0] ∧ win0_1.index t = ![0, 0, 0] := by
  decide +kernel

/-- The picks of farthest point sampling, cloud by cloud. -/
def picks (p : Vec Ideal S16x1024x3 .f32) : Vec Ideal S16x1x256 .i32 := fun y =>
  BitVec.ofNat 32 (Samp.pick (Samp.dist fun j c => p (ix3 (y 0) j c)) (y 2).val).val

variable (m : (ℓ : Loc nD τ sig) → Buf (Elt Ideal) ℓ)

theorem read0 (c : Dev nD) (t : Fin cfg0.N) (b : Fin 16) (j : Fin 1024) (f : Fin 3) :
    iblk m c 0 t (ix3 b f j) = m ((c.tc : Thread nD τ).loc main_arg0) (ix3 b j f) := by
  blk_simp [iblk]; entry_read
  generalize m ((c.tc : Thread nD τ).loc main_arg0) = p
  pointwise
  blk_ext [idx t]

theorem arr1_eq (c : Dev nD) : (dats m 0 c).arrAt 1 (cfgs 0).N
    = picks (m ((c.tc : Thread nD τ).loc main_arg0)) := by
  refine (dats m 0 c).arrAt_eq_of_covers 1 _ (by decide +kernel) fun t hf y => ?_
  blk_simp
  rw [after0_1]
  unfold outsAt0
  obtain ⟨b, i, rfl⟩ : ∃ (b : Fin 16) (i : Fin 256), y = ix3 b 0 i := ⟨y 0, y 2, by blk_ext⟩
  have he : (win0_1.blk t).view.emb (ix3 b 0 i) = ix3 b 0 i := by
    blk_ext [idx t]
  refine (out_apply _ _ _ _ _ _ b i).trans ?_
  rw [he]
  simp only [read0]
  rfl

/-- The run of the program: the picks, and the points as they were. -/
theorem run (ρ : Dev nD → PrngReg) : θ_run defs (onTc (τ := τ) (main (F := Ideal))) ⟨m, fun _ => 0, ρ⟩ (fun r => ∀ c : Dev nD,
    r.2.mem ((c.tc : Thread nD τ).loc main_v1) = picks (m ((c.tc : Thread nD τ).loc main_arg0))
      ∧ r.2.mem ((c.tc : Thread nD τ).loc main_arg0) = m ((c.tc : Thread nD τ).loc main_arg0)) :=
  (θ_run defs _ _).mono (fun _ h c => ⟨(h c).1.trans (arr1_eq m c), (h c).2⟩) (Value.run_blocks m ρ)

end Cert.Kernel5Ideal.Gen

end
-- ==== Proof.SampArr5.lean ====
/-
  The arrays one trip of the second sampling's reference computes, read at an index.
-/
module

public import proofs.«01_k».proof.Proof.Samp
public import proofs.«01_k».proof.Proof.Gen.Reference5Ideal
public import Idealize.ShloMosaic.Lib.Routing.OpsOne
public import Idealize.ShloMosaic.Lib.Tactic.CleanTypes

@[expose] public section

set_option maxRecDepth 16384

noncomputable section

namespace Cert.Reference5Ideal.Gen

open Idealize.ShloMosaic Idealize.ShloMosaic.TcCoe Idealize.ShloMosaic.Tactic
open Idealize.ShloMosaic.StableHlo Idealize.SL.Sem
open scoped BigOperators

/-- The index read as jax reads it: from the end when it is negative. -/
def from0 (i : IVec S_ 32) : IVec S_ 32 := select (cmpi .slt i (constantI S_ 32 0#32)) (addi i (constantI S_ 32 256#32)) i

/-- The pick at place `i`, in every cloud. -/
def lastOf (sel : IVec S16x256 32) (i : IVec S_ 32) : IVec S16 32 :=
  shapeCast S16 (Host.dynamicSlice S16x1 sel (fun k => ((![constantI S_ 32 0#32, from0 i] : Fin 2 → IVec S_ 32) k (Shape.Idx.first h_S_)).toInt)
    sliceFits_S16x256_S16x1) shapeCasts_S16x1_S16

/-- Indices read from the end when negative. -/
def wrap (v : IVec S16 32) (n : BitVec 32) : IVec S16 32 :=
  select (cmpi .slt v (broadcastInDim S16 ![] bcast_S_S16 (constantI S_ 32 0#32)))
    (addi v (broadcastInDim S16 ![] bcast_S_S16 (constantI S_ 32 n))) v

/-- The pairs of cloud and point. -/
def pairs (r l : IVec S16 32) : IVec S16x2 32 :=
  concatenate S16x2 1 [⟨S16x1, broadcastInDim S16x1 ![0] bcast_S16_S16x1_0 (wrap r 16#32)⟩,
    ⟨S16x1, broadcastInDim S16x1 ![0] bcast_S16_S16x1_0 (wrap l 1024#32)⟩] concatenates_S16x1_S16x1_S16x2_d1

/-- The squared distance of every point from the cloud's point `q`. -/
def toPoint (p : FVec Ideal S16x1024x3 .f32) (q : FVec Ideal S16x1x3 .f32) : FVec Ideal S16x1024 .f32 :=
  Host.reduceAdd (mulf (subf p (broadcastInDim S16x1024x3 ![0, 1, 2] bcast_S16x1x3_S16x1024x3_0_1_2 q))
    (subf p (broadcastInDim S16x1024x3 ![0, 1, 2] bcast_S16x1x3_S16x1024x3_0_1_2 q))) (constant S_ .f32 0x00000000#32)
    reducesTo_S16x1024x3_S16x1024_d2 h_S_

/-- The distances after the pick at place `i` is counted. -/
def newD (r : IVec S16 32) (p : FVec Ideal S16x1024x3 .f32) (sel : IVec S16x256 32) (i : IVec S_ 32) (d : FVec Ideal S16x1024 .f32) :
    FVec Ideal S16x1024 .f32 :=
  minimumf d (toPoint p (broadcastInDim S16x1x3 ![0, 2] bcast_S16x3_S16x1x3_0_2
    (Host.gather gather_S16x1024x3_S16x2_S16x3_1_01_n_n_01_1_113 p (pairs r (lastOf sel i)))))

/-- The farthest point of every cloud. -/
def farthest (d : FVec Ideal S16x1024 .f32) : IVec S16 32 := fun j =>
  (Host.argReduce reducer_argmax_f32_i32 d (iotaInDim S16x1024 32 1) (constant S_ .f32 0xFF800000#32) (constantI S_ 32 0#32)
    reducesTo_S16x1024_S16_d1 h_S_ j).2

/-- The picks with `s` at place `i`. -/
def newSel (sel : IVec S16x256 32) (i : IVec S_ 32) (s : IVec S16 32) : IVec S16x256 32 :=
  Host.scatter scatter_S16x256_S1_S16_0_1_1_0 (fun _ b => b) sel (broadcastInDim S1 ![] bcast_S_S1 (from0 i)) s

theorem toPoint_apply (p : FVec Ideal S16x1024x3 .f32) (q : FVec Ideal S16x1x3 .f32) (b : Fin 16) (i j : Fin 1024)
    (hq : ∀ c, q (ix3 b 0 c) = p (ix3 b i c)) : (toPoint p q (ix2 b j) : EReal) = Samp.dist (fun j c => p (ix3 b j c)) i j := by
  unfold toPoint
  refine (Ideal.hostReduceAdd_single reducesTo_S16x1024x3_S16x1024_d2 (by decide : S16x1024x3.Reduces [2] S16x1024) _ _ _).trans ?_
  have hl : ∀ c : Fin 3, (by decide : S16x1024x3.Reduces [2] S16x1024).lift (ix2 b j) c = ix3 b j c := fun c => by
    funext a
    match a with
    | ⟨0, _⟩ => rfl
    | ⟨1, _⟩ => rfl
    | ⟨2, _⟩ => rfl
  have hb : ∀ c : Fin 3, broadcastInDim S16x1024x3 ![0, 1, 2] bcast_S16x1x3_S16x1024x3_0_1_2 q (ix3 b j c) = p (ix3 b i c) := fun c => by
    rw [← hq c]
    pointwise
  have ht : ∀ c : Fin 3, (mulf (subf p (broadcastInDim S16x1024x3 ![0, 1, 2] bcast_S16x1x3_S16x1024x3_0_1_2 q))
      (subf p (broadcastInDim S16x1024x3 ![0, 1, 2] bcast_S16x1x3_S16x1024x3_0_1_2 q)) (ix3 b j c) : EReal)
        = (p (ix3 b j c) - p (ix3 b i c)) * (p (ix3 b j c) - p (ix3 b i c)) := fun c => by
    rw [← hb c]
    rfl
  generalize mulf (subf p (broadcastInDim S16x1024x3 ![0, 1, 2] bcast_S16x1x3_S16x1024x3_0_1_2 q))
      (subf p (broadcastInDim S16x1024x3 ![0, 1, 2] bcast_S16x1x3_S16x1024x3_0_1_2 q)) = z at ht
  have hz : (constant (F := Ideal) S_ .f32 0x00000000#32 (Shape.Idx.first h_S_) : EReal) = 0 := by
    show Ideal.ofBits .f32 0x00000000#32 = 0
    simp [Ideal.ofBits, Ideal.ieee]
  refine (congrArg₂ (fun u v : EReal => u + v) hz (Finset.sum_congr rfl fun c _ => (congrArg z (hl c)).trans (ht c))).trans ?_
  rw [zero_add]
  exact Fin.sum_univ_three fun c : Fin 3 => (p (ix3 b j c) - p (ix3 b i c)) * (p (ix3 b j c) - p (ix3 b i c))

theorem from0_of {w : BitVec 32} (h : Take.Inside 256 w) : from0 (fun _ => w) = fun _ => w :=
  funext fun _ => Take.kept (k := 256#32) h

theorem start_of {w : BitVec 32} (h : Take.Inside 256 w) : (fun k => ((![constantI S_ 32 0#32, from0 fun _ => w] : Fin 2 → IVec S_ 32) k (Shape.Idx.first h_S_)).toInt)
    = ![(0 : ℤ), w.toInt] := by
  rw [from0_of h]
  funext k
  fin_cases k <;> rfl

theorem column_apply (x : IVec S16x1 32) (b : Fin 16) : shapeCast S16 x shapeCasts_S16x1_S16 (ix1 b) = x (ix2 b 0) := by
  pointwise

theorem lastOf_apply (sel : IVec S16x256 32) {w : BitVec 32} (n : Fin 256) (h : w.toInt = n.val) (b : Fin 16) :
    lastOf sel (fun _ => w) (ix1 b) = sel (ix2 b n) := by
  have hn := n.isLt
  have hi : Take.Inside 256 w := ⟨by omega, by omega⟩
  unfold lastOf
  rw [start_of hi]
  refine (column_apply _ b).trans ?_
  rw [Host.dynamicSlice_apply]
  refine congrArg sel ?_
  funext a
  match a with
  | ⟨0, _⟩ =>
    refine Fin.ext ?_
    show Host.clampedStart S16x256 S16x1 rfl ![(0 : ℤ), w.toInt] (0 : Fin 2) + b.val = b.val
    rw [Host.clampedStart_of_le (s := S16x256) (t := S16x1) rfl ![(0 : ℤ), w.toInt] (0 : Fin 2) 0 rfl (by decide)]
    omega
  | ⟨1, _⟩ =>
    refine Fin.ext ?_
    show Host.clampedStart S16x256 S16x1 rfl ![(0 : ℤ), w.toInt] (1 : Fin 2) + 0 = n.val
    rw [Host.clampedStart_of_le (s := S16x256) (t := S16x1) rfl ![(0 : ℤ), w.toInt] (1 : Fin 2) n.val h (by show n.val + 1 ≤ 256; omega)]
    rfl

theorem newSel_apply (sel : IVec S16x256 32) {w : BitVec 32} (n : Fin 256) (h : w.toInt = n.val) (s : IVec S16 32) (b : Fin 16) (j : Fin 256) :
    newSel sel (fun _ => w) s (ix2 b j) = if j = n then s (ix1 b) else sel (ix2 b j) := by
  have hn := n.isLt
  unfold newSel
  rw [from0_of (w := w) ⟨by omega, by omega⟩]
  exact Routing.scatter_col_signed scatter_S16x256_S1_S16_0_1_1_0 rfl rfl sel _ s n h b j

theorem farthest_apply (d : FVec Ideal S16x1024 .f32) (b : Fin 16) : farthest d (ix1 b) = BitVec.ofNat 32 (Samp.top (Conv.row d b)).val := by
  refine Samp.argReduce_apply (N := 1024) (B := 16) (by decide) _ (fun x y => ?_) d _ _ _ reducesTo_S16x1024_S16_d1 h_S_ (fun _ => Conv.ofBits_ninf) (fun _ => rfl) b fun k => rfl
  obtain ⟨x1, x2⟩ := x
  obtain ⟨y1, y2⟩ := y
  show (((if BitVec.ofBool (decide ((y1 : EReal) < x1)) ||| BitVec.ofBool (decide ((x1 : EReal) ≠ x1)) = 1#1 then x1 else y1),
    (if (BitVec.ofBool (decide ((y1 : EReal) < x1)) ||| BitVec.ofBool (decide ((x1 : EReal) ≠ x1)))
      ||| (BitVec.ofBool (decide ((x1 : EReal) = y1)) &&& BitVec.ofBool (x2.slt y2)) = 1#1 then x2 else y2)) : EReal × BitVec 32)
    = if (y1 : EReal) < x1 ∨ ((x1 : EReal) = y1 ∧ x2.toInt < y2.toInt) then (x1, x2) else (y1, y2)
  rw [BitVec.slt_eq_decide]
  by_cases h1 : (y1 : EReal) < x1
  · simp [h1, h1.ne']
  · by_cases h2 : (x1 : EReal) = y1
    · by_cases h3 : x2.toInt < y2.toInt
      · simp [h2, h3]
      · simp [h2, h3]
    · simp [h1, h2]

/-- A place among the clouds or the points is kept. -/
theorem wrap_apply {N : ℕ} (v : IVec S16 32) (k : BitVec 32) (b : Fin 16) (h : Take.Inside N (v (ix1 b))) : wrap v k (ix1 b) = v (ix1 b) := by
  refine Eq.trans ?_ (Take.kept (k := k) h)
  unfold wrap
  pointwise
  rfl

theorem pairs_apply0 (r l : IVec S16 32) (b : Fin 16) : pairs r l (ix2 b 0) = wrap r 16#32 (ix1 b) := by
  unfold pairs
  pointwise
theorem pairs_apply1 (r l : IVec S16 32) (b : Fin 16) : pairs r l (ix2 b 1) = wrap l 1024#32 (ix1 b) := by
  unfold pairs
  pointwise

theorem newD_apply (p : FVec Ideal S16x1024x3 .f32) (sel : IVec S16x256 32) (w : BitVec 32) (d : FVec Ideal S16x1024 .f32)
    (n : Fin 256) (hw : w.toInt = n.val) (b : Fin 16) (q : Fin 1024) (hq : sel (ix2 b n) = BitVec.ofNat 32 q.val) (j : Fin 1024) :
    (newD (iotaInDim S16 32 0) p sel (fun _ => w) d (ix2 b j) : EReal) = min (d (ix2 b j)) (Samp.dist (fun j c => p (ix3 b j c)) q j) := by
  refine congrArg (min (d (ix2 b j))) (toPoint_apply p _ b q j fun c => ?_)
  have hb := b.isLt
  have hqq := q.isLt
  have hl : lastOf sel (fun _ => w) (ix1 b) = BitVec.ofNat 32 q.val := (lastOf_apply sel n hw b).trans hq
  have hr : iotaInDim S16 32 0 (ix1 b) = BitVec.ofNat 32 b.val := rfl
  have tb : (BitVec.ofNat 32 b.val).toInt = b.val := Conv.toInt_ofNat (by omega)
  have tq : (BitVec.ofNat 32 q.val).toInt = q.val := Conv.toInt_ofNat (by omega)
  have e0 : (pairs (iotaInDim S16 32 0) (lastOf sel fun _ => w) (ix2 b 0)).toInt = b.val := by
    rw [pairs_apply0, wrap_apply (N := 16) _ _ b (by rw [hr]; unfold Take.Inside; omega), hr, tb]
  have e1 : (pairs (iotaInDim S16 32 0) (lastOf sel fun _ => w) (ix2 b 1)).toInt = q.val := by
    rw [pairs_apply1, wrap_apply (N := 1024) _ _ b (by rw [hl]; unfold Take.Inside; omega), hl, tq]
  refine Eq.trans ?_ (Samp.takePoint_apply gather_S16x1024x3_S16x2_S16x3_1_01_n_n_01_1_113.wf p _ b c q e0 e1)
  have hz : ∀ z : FVec Ideal S16x3 .f32, broadcastInDim S16x1x3 ![0, 2] bcast_S16x3_S16x1x3_0_2 z (ix3 b 0 c) = z (ix2 b c) := fun z => by
    pointwise
  exact hz _

end Cert.Reference5Ideal.Gen

end
-- ==== Proof.SampRun5.lean ====
/-
  The second sampling's reference as a run: the loop's operations in order, the trip counter, and what one trip makes of
  the loop's buffers.
-/
module

public import proofs.«01_k».proof.Proof.SampArr5
public import Idealize.ShloMosaic.Lib.Pipeline.RegionsLoop
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Claim

@[expose] public section

set_option maxRecDepth 16384

noncomputable section

namespace Cert.Reference5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-! ### The operations -/

/-- The operations before the loop. -/
abbrev preOps : List (HloOp τ sig (Elt Ideal)) :=
  [ StableHlo.nullary main_v0 (iotaInDim S16 32 0),
    StableHlo.unary main_arg0 main_v1 ((extractStridedSlice S16x1x3 ![0, 0, 0] · slices_S16x1024x3_S16x1x3_0_0_0) : (⟨S16x1024x3, .f32⟩ : BufTy).Contents (Elt Ideal) → (⟨S16x1x3, .f32⟩ : BufTy).Contents (Elt Ideal)),
    StableHlo.unary main_v1 main_v2 (broadcastInDim S16x1024x3 ![0, 1, 2] bcast_S16x1x3_S16x1024x3_0_1_2 : (⟨S16x1x3, .f32⟩ : BufTy).Contents (Elt Ideal) → (⟨S16x1024x3, .f32⟩ : BufTy).Contents (Elt Ideal)),
    StableHlo.binary main_arg0 main_v2 main_v3 (subf (F := Ideal) (φ := .f32) : (⟨S16x1024x3, .f32⟩ : BufTy).Contents (Elt Ideal) → (⟨S16x1024x3, .f32⟩ : BufTy).Contents (Elt Ideal) → (⟨S16x1024x3, .f32⟩ : BufTy).Contents (Elt Ideal)),
    StableHlo.binary main_v3 main_v3 main_v4 (mulf (F := Ideal) (φ := .f32) : (⟨S16x1024x3, .f32⟩ : BufTy).Contents (Elt Ideal) → (⟨S16x1024x3, .f32⟩ : BufTy).Contents (Elt Ideal) → (⟨S16x1024x3, .f32⟩ : BufTy).Contents (Elt Ideal)),
    StableHlo.nullary main_cst (constant (F := Ideal) S_ .f32 0x00000000#32),
    StableHlo.binary main_v4 main_cst main_v5 ((fun x v => Host.reduceAdd (F := Ideal) (φ := .f32) x v reducesTo_S16x1024x3_S16x1024_d2 h_S_) : (⟨S16x1024x3, .f32⟩ : BufTy).Contents (Elt Ideal) → (⟨S_, .f32⟩ : BufTy).Contents (Elt Ideal) → (⟨S16x1024, .f32⟩ : BufTy).Contents (Elt Ideal)),
    StableHlo.nullary main_c (constantI S_ 32 0#32),
    StableHlo.unary main_c main_v6 (broadcastInDim S16x256 ![] bcast_S_S16x256 : (⟨S_, .i32⟩ : BufTy).Contents (Elt Ideal) → (⟨S16x256, .i32⟩ : BufTy).Contents (Elt Ideal)),
    StableHlo.nullary main_c_0 (constantI S_ 32 1#32),
    StableHlo.nullary main_c_1 (constantI S_ 32 0#32),
    StableHlo.unary main_v0 main_v7_0 id,
    StableHlo.unary main_arg0 main_v7_1 id,
    StableHlo.unary main_c_1 main_v7_2 id,
    StableHlo.unary main_c_0 main_v7_3 id,
    StableHlo.unary main_v6 main_v7_4 id,
    StableHlo.unary main_v5 main_v7_5 id ]

/-- The operations of the condition: the counter against the bound. -/
abbrev condOps : List (HloOp τ sig (Elt Ideal)) :=
  [ StableHlo.nullary main_while0c_c_7 (constantI S_ 32 255#32),
    StableHlo.binary main_v7_2 main_while0c_c_7 main_while0c_v9 (cmpi .slt : (⟨S_, .i32⟩ : BufTy).Contents (Elt Ideal) → (⟨S_, .i32⟩ : BufTy).Contents (Elt Ideal) → (⟨S_, .i1⟩ : BufTy).Contents (Elt Ideal)) ]

/-- The operations of one trip. -/
abbrev bodyOps : List (HloOp τ sig (Elt Ideal)) :=
  [ StableHlo.nullary main_while0b_c_7 (constantI S_ 32 1#32),
    StableHlo.binary main_v7_3 main_while0b_c_7 main_while0b_v9 (addi : (⟨S_, .i32⟩ : BufTy).Contents (Elt Ideal) → (⟨S_, .i32⟩ : BufTy).Contents (Elt Ideal) → (⟨S_, .i32⟩ : BufTy).Contents (Elt Ideal)),
    StableHlo.nullary main_while0b_c_8 (constantI S_ 32 1#32),
    StableHlo.binary main_v7_3 main_while0b_c_8 main_while0b_v10 (subi : (⟨S_, .i32⟩ : BufTy).Contents (Elt Ideal) → (⟨S_, .i32⟩ : BufTy).Contents (Elt Ideal) → (⟨S_, .i32⟩ : BufTy).Contents (Elt Ideal)),
    StableHlo.unary main_while0b_v10 main_while0b_v11 (id : (⟨S_, .i32⟩ : BufTy).Contents (Elt Ideal) → (⟨S_, .i32⟩ : BufTy).Contents (Elt Ideal)),
    StableHlo.nullary main_while0b_c_9 (constantI S_ 32 0#32),
    StableHlo.nullary main_while0b_c_10 (constantI S_ 32 0#32),
    StableHlo.binary main_while0b_c_9 main_while0b_c_10 main_while0b_v12 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_11 (constantI S_ 32 0#32),
    StableHlo.nullary main_while0b_c_12 (constantI S_ 32 16#32),
    StableHlo.binary main_while0b_c_11 main_while0b_c_12 main_while0b_v13 (addi : (⟨S_, .i32⟩ : BufTy).Contents (Elt Ideal) → (⟨S_, .i32⟩ : BufTy).Contents (Elt Ideal) → (⟨S_, .i32⟩ : BufTy).Contents (Elt Ideal)),
    StableHlo.nullary main_while0b_c_13 (constantI S_ 32 0#32),
    StableHlo.ternary main_while0b_v12 main_while0b_v13 main_while0b_c_13 main_while0b_v14 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.nullary main_while0b_c_14 (constantI S_ 32 0#32),
    StableHlo.binary main_while0b_v11 main_while0b_c_14 main_while0b_v15 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_15 (constantI S_ 32 256#32),
    StableHlo.binary main_while0b_v11 main_while0b_c_15 main_while0b_v16 (addi : (⟨S_, .i32⟩ : BufTy).Contents (Elt Ideal) → (⟨S_, .i32⟩ : BufTy).Contents (Elt Ideal) → (⟨S_, .i32⟩ : BufTy).Contents (Elt Ideal)),
    StableHlo.ternary main_while0b_v15 main_while0b_v16 main_while0b_v11 main_while0b_v17 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.unaryIndexed main_v7_4 ![main_while0b_v14, main_while0b_v17] ⟨S_, .i32⟩ main_while0b_v18 ((fun x i => Host.dynamicSlice S16x1 x (fun k => (i k (Shape.Idx.first h_S_)).toInt) sliceFits_S16x256_S16x1) : (⟨S16x256, .i32⟩ : BufTy).Contents (Elt Ideal) → (Fin 2 → (⟨S_, .i32⟩ : BufTy).Contents (Elt Ideal)) → (⟨S16x1, .i32⟩ : BufTy).Contents (Elt Ideal)),
    StableHlo.reshape main_while0b_v18 main_while0b_v19 (rfl : (.i32 : EltTy) = .i32) shapeCasts_S16x1_S16,
    StableHlo.nullary main_while0b_c_16 (constantI S_ 32 0#32),
    StableHlo.unary main_while0b_c_16 main_while0b_v20 (broadcastInDim S16 ![] bcast_S_S16 : (⟨S_, .i32⟩ : BufTy).Contents (Elt Ideal) → (⟨S16, .i32⟩ : BufTy).Contents (Elt Ideal)),
    StableHlo.binary main_v7_0 main_while0b_v20 main_while0b_v21 (cmpi .slt : (⟨S16, .i32⟩ : BufTy).Contents (Elt Ideal) → (⟨S16, .i32⟩ : BufTy).Contents (Elt Ideal) → (⟨S16, .i1⟩ : BufTy).Contents (Elt Ideal)),
    StableHlo.nullary main_while0b_c_17 (constantI S_ 32 16#32),
    StableHlo.unary main_while0b_c_17 main_while0b_v22 (broadcastInDim S16 ![] bcast_S_S16 : (⟨S_, .i32⟩ : BufTy).Contents (Elt Ideal) → (⟨S16, .i32⟩ : BufTy).Contents (Elt Ideal)),
    StableHlo.binary main_v7_0 main_while0b_v22 main_while0b_v23 (addi : (⟨S16, .i32⟩ : BufTy).Contents (Elt Ideal) → (⟨S16, .i32⟩ : BufTy).Contents (Elt Ideal) → (⟨S16, .i32⟩ : BufTy).Contents (Elt Ideal)),
    StableHlo.ternary main_while0b_v21 main_while0b_v23 main_v7_0 main_while0b_v24 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.nullary main_while0b_c_18 (constantI S_ 32 0#32),
    StableHlo.unary main_while0b_c_18 main_while0b_v25 (broadcastInDim S16 ![] bcast_S_S16 : (⟨S_, .i32⟩ : BufTy).Contents (Elt Ideal) → (⟨S16, .i32⟩ : BufTy).Contents (Elt Ideal)),
    StableHlo.binary main_while0b_v19 main_while0b_v25 main_while0b_v26 (cmpi .slt : (⟨S16, .i32⟩ : BufTy).Contents (Elt Ideal) → (⟨S16, .i32⟩ : BufTy).Contents (Elt Ideal) → (⟨S16, .i1⟩ : BufTy).Contents (Elt Ideal)),
    StableHlo.nullary main_while0b_c_19 (constantI S_ 32 1024#32),
    StableHlo.unary main_while0b_c_19 main_while0b_v27 (broadcastInDim S16 ![] bcast_S_S16 : (⟨S_, .i32⟩ : BufTy).Contents (Elt Ideal) → (⟨S16, .i32⟩ : BufTy).Contents (Elt Ideal)),
    StableHlo.binary main_while0b_v19 main_while0b_v27 main_while0b_v28 (addi : (⟨S16, .i32⟩ : BufTy).Contents (Elt Ideal) → (⟨S16, .i32⟩ : BufTy).Contents (Elt Ideal) → (⟨S16, .i32⟩ : BufTy).Contents (Elt Ideal)),
    StableHlo.ternary main_while0b_v26 main_while0b_v28 main_while0b_v19 main_while0b_v29 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.unary main_while0b_v24 main_while0b_v30 (broadcastInDim S16x1 ![0] bcast_S16_S16x1_0 : (⟨S16, .i32⟩ : BufTy).Contents (Elt Ideal) → (⟨S16x1, .i32⟩ : BufTy).Contents (Elt Ideal)),
    StableHlo.unary main_while0b_v29 main_while0b_v31 (broadcastInDim S16x1 ![0] bcast_S16_S16x1_0 : (⟨S16, .i32⟩ : BufTy).Contents (Elt Ideal) → (⟨S16x1, .i32⟩ : BufTy).Contents (Elt Ideal)),
    StableHlo.binary main_while0b_v30 main_while0b_v31 main_while0b_v32 ((fun a b => concatenate S16x2 1 [⟨S16x1, a⟩, ⟨S16x1, b⟩] concatenates_S16x1_S16x1_S16x2_d1) : (⟨S16x1, .i32⟩ : BufTy).Contents (Elt Ideal) → (⟨S16x1, .i32⟩ : BufTy).Contents (Elt Ideal) → (⟨S16x2, .i32⟩ : BufTy).Contents (Elt Ideal)),
    StableHlo.binary main_v7_1 main_while0b_v32 main_while0b_v33 ((fun x i => Host.gather gather_S16x1024x3_S16x2_S16x3_1_01_n_n_01_1_113 x i) : (⟨S16x1024x3, .f32⟩ : BufTy).Contents (Elt Ideal) → (⟨S16x2, .i32⟩ : BufTy).Contents (Elt Ideal) → (⟨S16x3, .f32⟩ : BufTy).Contents (Elt Ideal)),
    StableHlo.unary main_while0b_v33 main_while0b_v34 (broadcastInDim S16x1x3 ![0, 2] bcast_S16x3_S16x1x3_0_2 : (⟨S16x3, .f32⟩ : BufTy).Contents (Elt Ideal) → (⟨S16x1x3, .f32⟩ : BufTy).Contents (Elt Ideal)),
    StableHlo.unary main_while0b_v34 main_while0b_v35 (broadcastInDim S16x1024x3 ![0, 1, 2] bcast_S16x1x3_S16x1024x3_0_1_2 : (⟨S16x1x3, .f32⟩ : BufTy).Contents (Elt Ideal) → (⟨S16x1024x3, .f32⟩ : BufTy).Contents (Elt Ideal)),
    StableHlo.binary main_v7_1 main_while0b_v35 main_while0b_v36 (subf (F := Ideal) (φ := .f32) : (⟨S16x1024x3, .f32⟩ : BufTy).Contents (Elt Ideal) → (⟨S16x1024x3, .f32⟩ : BufTy).Contents (Elt Ideal) → (⟨S16x1024x3, .f32⟩ : BufTy).Contents (Elt Ideal)),
    StableHlo.binary main_while0b_v36 main_while0b_v36 main_while0b_v37 (mulf (F := Ideal) (φ := .f32) : (⟨S16x1024x3, .f32⟩ : BufTy).Contents (Elt Ideal) → (⟨S16x1024x3, .f32⟩ : BufTy).Contents (Elt Ideal) → (⟨S16x1024x3, .f32⟩ : BufTy).Contents (Elt Ideal)),
    StableHlo.nullary main_while0b_cst_20 (constant (F := Ideal) S_ .f32 0x00000000#32),
    StableHlo.binary main_while0b_v37 main_while0b_cst_20 main_while0b_v38 ((fun x v => Host.reduceAdd (F := Ideal) (φ := .f32) x v reducesTo_S16x1024x3_S16x1024_d2 h_S_) : (⟨S16x1024x3, .f32⟩ : BufTy).Contents (Elt Ideal) → (⟨S_, .f32⟩ : BufTy).Contents (Elt Ideal) → (⟨S16x1024, .f32⟩ : BufTy).Contents (Elt Ideal)),
    StableHlo.binary main_v7_5 main_while0b_v38 main_while0b_v39 (minimumf (F := Ideal) (φ := .f32) : (⟨S16x1024, .f32⟩ : BufTy).Contents (Elt Ideal) → (⟨S16x1024, .f32⟩ : BufTy).Contents (Elt Ideal) → (⟨S16x1024, .f32⟩ : BufTy).Contents (Elt Ideal)),
    StableHlo.TRef.nullary main_while0b_call0.v0 (iotaInDim S16x1024 32 1),
    StableHlo.TRef.nullary main_while0b_call0.cst (constant (F := Ideal) S_ .f32 0xFF800000#32),
    StableHlo.TRef.nullary main_while0b_call0.c (constantI S_ 32 0#32),
    StableHlo.TRef.quaternary (.of main_while0b_v39 : StableHlo.TRef sig ⟨S16x1024, .f32⟩) main_while0b_call0.v0 main_while0b_call0.cst main_while0b_call0.c main_while0b_call0.v1_0 (fun x y u v j => (Host.argReduce (reducer_argmax_f32_i32 (F := Ideal)) x y u v reducesTo_S16x1024_S16_d1 h_S_ j).1),
    StableHlo.TRef.quaternary (.of main_while0b_v39 : StableHlo.TRef sig ⟨S16x1024, .f32⟩) main_while0b_call0.v0 main_while0b_call0.cst main_while0b_call0.c main_while0b_call0.v1_1 (fun x y u v j => (Host.argReduce (reducer_argmax_f32_i32 (F := Ideal)) x y u v reducesTo_S16x1024_S16_d1 h_S_ j).2),
    StableHlo.nullary main_while0b_c_21 (constantI S_ 32 0#32),
    StableHlo.binary main_v7_3 main_while0b_c_21 main_while0b_v41 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_22 (constantI S_ 32 256#32),
    StableHlo.binary main_v7_3 main_while0b_c_22 main_while0b_v42 (addi : (⟨S_, .i32⟩ : BufTy).Contents (Elt Ideal) → (⟨S_, .i32⟩ : BufTy).Contents (Elt Ideal) → (⟨S_, .i32⟩ : BufTy).Contents (Elt Ideal)),
    StableHlo.ternary main_while0b_v41 main_while0b_v42 main_v7_3 main_while0b_v43 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.unary main_while0b_v43 main_while0b_v44 (id : (⟨S_, .i32⟩ : BufTy).Contents (Elt Ideal) → (⟨S_, .i32⟩ : BufTy).Contents (Elt Ideal)),
    StableHlo.unary main_while0b_v44 main_while0b_v45 (broadcastInDim S1 ![] bcast_S_S1 : (⟨S_, .i32⟩ : BufTy).Contents (Elt Ideal) → (⟨S1, .i32⟩ : BufTy).Contents (Elt Ideal)),
    StableHlo.ternary main_v7_4 main_while0b_v45 main_while0b_v40 main_while0b_v46 ((fun x i u => Host.scatter scatter_S16x256_S1_S16_0_1_1_0 (fun _ b => b) x i u) : (⟨S16x256, .i32⟩ : BufTy).Contents (Elt Ideal) → (⟨S1, .i32⟩ : BufTy).Contents (Elt Ideal) → (⟨S16, .i32⟩ : BufTy).Contents (Elt Ideal) → (⟨S16x256, .i32⟩ : BufTy).Contents (Elt Ideal)),
    StableHlo.nullary main_while0b_c_23 (constantI S_ 32 1#32),
    StableHlo.binary main_v7_2 main_while0b_c_23 main_while0b_v47 (addi : (⟨S_, .i32⟩ : BufTy).Contents (Elt Ideal) → (⟨S_, .i32⟩ : BufTy).Contents (Elt Ideal) → (⟨S_, .i32⟩ : BufTy).Contents (Elt Ideal)),
    StableHlo.unary main_while0b_v47 main_v7_2 id,
    StableHlo.unary main_while0b_v9 main_v7_3 id,
    StableHlo.unary main_while0b_v46 main_v7_4 id,
    StableHlo.unary main_while0b_v39 main_v7_5 id ]

/-- One trip: the place of the last pick. -/
abbrev bodyOps1 : List (HloOp τ sig (Elt Ideal)) :=
  [ StableHlo.nullary main_while0b_c_7 (constantI S_ 32 1#32),
    StableHlo.binary main_v7_3 main_while0b_c_7 main_while0b_v9 (addi : (⟨S_, .i32⟩ : BufTy).Contents (Elt Ideal) → (⟨S_, .i32⟩ : BufTy).Contents (Elt Ideal) → (⟨S_, .i32⟩ : BufTy).Contents (Elt Ideal)),
    StableHlo.nullary main_while0b_c_8 (constantI S_ 32 1#32),
    StableHlo.binary main_v7_3 main_while0b_c_8 main_while0b_v10 (subi : (⟨S_, .i32⟩ : BufTy).Contents (Elt Ideal) → (⟨S_, .i32⟩ : BufTy).Contents (Elt Ideal) → (⟨S_, .i32⟩ : BufTy).Contents (Elt Ideal)),
    StableHlo.unary main_while0b_v10 main_while0b_v11 (id : (⟨S_, .i32⟩ : BufTy).Contents (Elt Ideal) → (⟨S_, .i32⟩ : BufTy).Contents (Elt Ideal)),
    StableHlo.nullary main_while0b_c_9 (constantI S_ 32 0#32),
    StableHlo.nullary main_while0b_c_10 (constantI S_ 32 0#32),
    StableHlo.binary main_while0b_c_9 main_while0b_c_10 main_while0b_v12 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_11 (constantI S_ 32 0#32),
    StableHlo.nullary main_while0b_c_12 (constantI S_ 32 16#32),
    StableHlo.binary main_while0b_c_11 main_while0b_c_12 main_while0b_v13 (addi : (⟨S_, .i32⟩ : BufTy).Contents (Elt Ideal) → (⟨S_, .i32⟩ : BufTy).Contents (Elt Ideal) → (⟨S_, .i32⟩ : BufTy).Contents (Elt Ideal)),
    StableHlo.nullary main_while0b_c_13 (constantI S_ 32 0#32),
    StableHlo.ternary main_while0b_v12 main_while0b_v13 main_while0b_c_13 main_while0b_v14 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.nullary main_while0b_c_14 (constantI S_ 32 0#32),
    StableHlo.binary main_while0b_v11 main_while0b_c_14 main_while0b_v15 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_15 (constantI S_ 32 256#32),
    StableHlo.binary main_while0b_v11 main_while0b_c_15 main_while0b_v16 (addi : (⟨S_, .i32⟩ : BufTy).Contents (Elt Ideal) → (⟨S_, .i32⟩ : BufTy).Contents (Elt Ideal) → (⟨S_, .i32⟩ : BufTy).Contents (Elt Ideal)),
    StableHlo.ternary main_while0b_v15 main_while0b_v16 main_while0b_v11 main_while0b_v17 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) ]
/-- What it writes. -/
abbrev bodyW1 : List (Ref sig .tc) := [main_while0b_c_7, main_while0b_v9, main_while0b_c_8, main_while0b_v10, main_while0b_v11, main_while0b_c_9, main_while0b_c_10, main_while0b_v12, main_while0b_c_11, main_while0b_c_12, main_while0b_v13, main_while0b_c_13, main_while0b_v14, main_while0b_c_14, main_while0b_v15, main_while0b_c_15, main_while0b_v16, main_while0b_v17]
/-- One trip: the last pick is read. -/
abbrev bodyOps2 : List (HloOp τ sig (Elt Ideal)) :=
  [ StableHlo.unaryIndexed main_v7_4 ![main_while0b_v14, main_while0b_v17] ⟨S_, .i32⟩ main_while0b_v18 ((fun x i => Host.dynamicSlice S16x1 x (fun k => (i k (Shape.Idx.first h_S_)).toInt) sliceFits_S16x256_S16x1) : (⟨S16x256, .i32⟩ : BufTy).Contents (Elt Ideal) → (Fin 2 → (⟨S_, .i32⟩ : BufTy).Contents (Elt Ideal)) → (⟨S16x1, .i32⟩ : BufTy).Contents (Elt Ideal)),
    StableHlo.reshape main_while0b_v18 main_while0b_v19 (rfl : (.i32 : EltTy) = .i32) shapeCasts_S16x1_S16 ]
/-- What it writes. -/
abbrev bodyW2 : List (Ref sig .tc) := [main_while0b_v18, main_while0b_v19]
/-- One trip: the distances are updated. -/
abbrev bodyOps3 : List (HloOp τ sig (Elt Ideal)) :=
  [ StableHlo.nullary main_while0b_c_16 (constantI S_ 32 0#32),
    StableHlo.unary main_while0b_c_16 main_while0b_v20 (broadcastInDim S16 ![] bcast_S_S16 : (⟨S_, .i32⟩ : BufTy).Contents (Elt Ideal) → (⟨S16, .i32⟩ : BufTy).Contents (Elt Ideal)),
    StableHlo.binary main_v7_0 main_while0b_v20 main_while0b_v21 (cmpi .slt : (⟨S16, .i32⟩ : BufTy).Contents (Elt Ideal) → (⟨S16, .i32⟩ : BufTy).Contents (Elt Ideal) → (⟨S16, .i1⟩ : BufTy).Contents (Elt Ideal)),
    StableHlo.nullary main_while0b_c_17 (constantI S_ 32 16#32),
    StableHlo.unary main_while0b_c_17 main_while0b_v22 (broadcastInDim S16 ![] bcast_S_S16 : (⟨S_, .i32⟩ : BufTy).Contents (Elt Ideal) → (⟨S16, .i32⟩ : BufTy).Contents (Elt Ideal)),
    StableHlo.binary main_v7_0 main_while0b_v22 main_while0b_v23 (addi : (⟨S16, .i32⟩ : BufTy).Contents (Elt Ideal) → (⟨S16, .i32⟩ : BufTy).Contents (Elt Ideal) → (⟨S16, .i32⟩ : BufTy).Contents (Elt Ideal)),
    StableHlo.ternary main_while0b_v21 main_while0b_v23 main_v7_0 main_while0b_v24 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.nullary main_while0b_c_18 (constantI S_ 32 0#32),
    StableHlo.unary main_while0b_c_18 main_while0b_v25 (broadcastInDim S16 ![] bcast_S_S16 : (⟨S_, .i32⟩ : BufTy).Contents (Elt Ideal) → (⟨S16, .i32⟩ : BufTy).Contents (Elt Ideal)),
    StableHlo.binary main_while0b_v19 main_while0b_v25 main_while0b_v26 (cmpi .slt : (⟨S16, .i32⟩ : BufTy).Contents (Elt Ideal) → (⟨S16, .i32⟩ : BufTy).Contents (Elt Ideal) → (⟨S16, .i1⟩ : BufTy).Contents (Elt Ideal)),
    StableHlo.nullary main_while0b_c_19 (constantI S_ 32 1024#32),
    StableHlo.unary main_while0b_c_19 main_while0b_v27 (broadcastInDim S16 ![] bcast_S_S16 : (⟨S_, .i32⟩ : BufTy).Contents (Elt Ideal) → (⟨S16, .i32⟩ : BufTy).Contents (Elt Ideal)),
    StableHlo.binary main_while0b_v19 main_while0b_v27 main_while0b_v28 (addi : (⟨S16, .i32⟩ : BufTy).Contents (Elt Ideal) → (⟨S16, .i32⟩ : BufTy).Contents (Elt Ideal) → (⟨S16, .i32⟩ : BufTy).Contents (Elt Ideal)),
    StableHlo.ternary main_while0b_v26 main_while0b_v28 main_while0b_v19 main_while0b_v29 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.unary main_while0b_v24 main_while0b_v30 (broadcastInDim S16x1 ![0] bcast_S16_S16x1_0 : (⟨S16, .i32⟩ : BufTy).Contents (Elt Ideal) → (⟨S16x1, .i32⟩ : BufTy).Contents (Elt Ideal)),
    StableHlo.unary main_while0b_v29 main_while0b_v31 (broadcastInDim S16x1 ![0] bcast_S16_S16x1_0 : (⟨S16, .i32⟩ : BufTy).Contents (Elt Ideal) → (⟨S16x1, .i32⟩ : BufTy).Contents (Elt Ideal)),
    StableHlo.binary main_while0b_v30 main_while0b_v31 main_while0b_v32 ((fun a b => concatenate S16x2 1 [⟨S16x1, a⟩, ⟨S16x1, b⟩] concatenates_S16x1_S16x1_S16x2_d1) : (⟨S16x1, .i32⟩ : BufTy).Contents (Elt Ideal) → (⟨S16x1, .i32⟩ : BufTy).Contents (Elt Ideal) → (⟨S16x2, .i32⟩ : BufTy).Contents (Elt Ideal)),
    StableHlo.binary main_v7_1 main_while0b_v32 main_while0b_v33 ((fun x i => Host.gather gather_S16x1024x3_S16x2_S16x3_1_01_n_n_01_1_113 x i) : (⟨S16x1024x3, .f32⟩ : BufTy).Contents (Elt Ideal) → (⟨S16x2, .i32⟩ : BufTy).Contents (Elt Ideal) → (⟨S16x3, .f32⟩ : BufTy).Contents (Elt Ideal)),
    StableHlo.unary main_while0b_v33 main_while0b_v34 (broadcastInDim S16x1x3 ![0, 2] bcast_S16x3_S16x1x3_0_2 : (⟨S16x3, .f32⟩ : BufTy).Contents (Elt Ideal) → (⟨S16x1x3, .f32⟩ : BufTy).Contents (Elt Ideal)),
    StableHlo.unary main_while0b_v34 main_while0b_v35 (broadcastInDim S16x1024x3 ![0, 1, 2] bcast_S16x1x3_S16x1024x3_0_1_2 : (⟨S16x1x3, .f32⟩ : BufTy).Contents (Elt Ideal) → (⟨S16x1024x3, .f32⟩ : BufTy).Contents (Elt Ideal)),
    StableHlo.binary main_v7_1 main_while0b_v35 main_while0b_v36 (subf (F := Ideal) (φ := .f32) : (⟨S16x1024x3, .f32⟩ : BufTy).Contents (Elt Ideal) → (⟨S16x1024x3, .f32⟩ : BufTy).Contents (Elt Ideal) → (⟨S16x1024x3, .f32⟩ : BufTy).Contents (Elt Ideal)),
    StableHlo.binary main_while0b_v36 main_while0b_v36 main_while0b_v37 (mulf (F := Ideal) (φ := .f32) : (⟨S16x1024x3, .f32⟩ : BufTy).Contents (Elt Ideal) → (⟨S16x1024x3, .f32⟩ : BufTy).Contents (Elt Ideal) → (⟨S16x1024x3, .f32⟩ : BufTy).Contents (Elt Ideal)),
    StableHlo.nullary main_while0b_cst_20 (constant (F := Ideal) S_ .f32 0x00000000#32),
    StableHlo.binary main_while0b_v37 main_while0b_cst_20 main_while0b_v38 ((fun x v => Host.reduceAdd (F := Ideal) (φ := .f32) x v reducesTo_S16x1024x3_S16x1024_d2 h_S_) : (⟨S16x1024x3, .f32⟩ : BufTy).Contents (Elt Ideal) → (⟨S_, .f32⟩ : BufTy).Contents (Elt Ideal) → (⟨S16x1024, .f32⟩ : BufTy).Contents (Elt Ideal)),
    StableHlo.binary main_v7_5 main_while0b_v38 main_while0b_v39 (minimumf (F := Ideal) (φ := .f32) : (⟨S16x1024, .f32⟩ : BufTy).Contents (Elt Ideal) → (⟨S16x1024, .f32⟩ : BufTy).Contents (Elt Ideal) → (⟨S16x1024, .f32⟩ : BufTy).Contents (Elt Ideal)) ]
/-- What it writes. -/
abbrev bodyW3 : List (Ref sig .tc) := [main_while0b_c_16, main_while0b_v20, main_while0b_v21, main_while0b_c_17, main_while0b_v22, main_while0b_v23, main_while0b_v24, main_while0b_c_18, main_while0b_v25, main_while0b_v26, main_while0b_c_19, main_while0b_v27, main_while0b_v28, main_while0b_v29, main_while0b_v30, main_while0b_v31, main_while0b_v32, main_while0b_v33, main_while0b_v34, main_while0b_v35, main_while0b_v36, main_while0b_v37, main_while0b_cst_20, main_while0b_v38, main_while0b_v39]
/-- One trip: the farthest point is found. -/
abbrev bodyOps4 : List (HloOp τ sig (Elt Ideal)) :=
  [ StableHlo.TRef.nullary main_while0b_call0.v0 (iotaInDim S16x1024 32 1),
    StableHlo.TRef.nullary main_while0b_call0.cst (constant (F := Ideal) S_ .f32 0xFF800000#32),
    StableHlo.TRef.nullary main_while0b_call0.c (constantI S_ 32 0#32),
    StableHlo.TRef.quaternary (.of main_while0b_v39 : StableHlo.TRef sig ⟨S16x1024, .f32⟩) main_while0b_call0.v0 main_while0b_call0.cst main_while0b_call0.c main_while0b_call0.v1_0 (fun x y u v j => (Host.argReduce (reducer_argmax_f32_i32 (F := Ideal)) x y u v reducesTo_S16x1024_S16_d1 h_S_ j).1),
    StableHlo.TRef.quaternary (.of main_while0b_v39 : StableHlo.TRef sig ⟨S16x1024, .f32⟩) main_while0b_call0.v0 main_while0b_call0.cst main_while0b_call0.c main_while0b_call0.v1_1 (fun x y u v j => (Host.argReduce (reducer_argmax_f32_i32 (F := Ideal)) x y u v reducesTo_S16x1024_S16_d1 h_S_ j).2) ]
/-- What it writes. -/
abbrev bodyW4 : List (Ref sig .tc) := [main_while0b_call0_v0, main_while0b_call0_cst, main_while0b_call0_c, main_while0b_call0_v1_0, main_while0b_v40]
/-- One trip: the place of the new pick. -/
abbrev bodyOps5 : List (HloOp τ sig (Elt Ideal)) :=
  [ StableHlo.nullary main_while0b_c_21 (constantI S_ 32 0#32),
    StableHlo.binary main_v7_3 main_while0b_c_21 main_while0b_v41 (cmpi .slt : (⟨S_, .i32⟩ : BufTy).Contents (Elt Ideal) → (⟨S_, .i32⟩ : BufTy).Contents (Elt Ideal) → (⟨S_, .i1⟩ : BufTy).Contents (Elt Ideal)),
    StableHlo.nullary main_while0b_c_22 (constantI S_ 32 256#32),
    StableHlo.binary main_v7_3 main_while0b_c_22 main_while0b_v42 (addi : (⟨S_, .i32⟩ : BufTy).Contents (Elt Ideal) → (⟨S_, .i32⟩ : BufTy).Contents (Elt Ideal) → (⟨S_, .i32⟩ : BufTy).Contents (Elt Ideal)),
    StableHlo.ternary main_while0b_v41 main_while0b_v42 main_v7_3 main_while0b_v43 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    StableHlo.unary main_while0b_v43 main_while0b_v44 (id : (⟨S_, .i32⟩ : BufTy).Contents (Elt Ideal) → (⟨S_, .i32⟩ : BufTy).Contents (Elt Ideal)),
    StableHlo.unary main_while0b_v44 main_while0b_v45 (broadcastInDim S1 ![] bcast_S_S1 : (⟨S_, .i32⟩ : BufTy).Contents (Elt Ideal) → (⟨S1, .i32⟩ : BufTy).Contents (Elt Ideal)) ]
/-- What it writes. -/
abbrev bodyW5 : List (Ref sig .tc) := [main_while0b_c_21, main_while0b_v41, main_while0b_c_22, main_while0b_v42, main_while0b_v43, main_while0b_v44, main_while0b_v45]
/-- One trip: the picks and the counters are written. -/
abbrev bodyOps6 : List (HloOp τ sig (Elt Ideal)) :=
  [ StableHlo.ternary main_v7_4 main_while0b_v45 main_while0b_v40 main_while0b_v46 ((fun x i u => Host.scatter scatter_S16x256_S1_S16_0_1_1_0 (fun _ b => b) x i u) : (⟨S16x256, .i32⟩ : BufTy).Contents (Elt Ideal) → (⟨S1, .i32⟩ : BufTy).Contents (Elt Ideal) → (⟨S16, .i32⟩ : BufTy).Contents (Elt Ideal) → (⟨S16x256, .i32⟩ : BufTy).Contents (Elt Ideal)),
    StableHlo.nullary main_while0b_c_23 (constantI S_ 32 1#32),
    StableHlo.binary main_v7_2 main_while0b_c_23 main_while0b_v47 (addi : (⟨S_, .i32⟩ : BufTy).Contents (Elt Ideal) → (⟨S_, .i32⟩ : BufTy).Contents (Elt Ideal) → (⟨S_, .i32⟩ : BufTy).Contents (Elt Ideal)),
    StableHlo.unary main_while0b_v47 main_v7_2 id,
    StableHlo.unary main_while0b_v9 main_v7_3 id,
    StableHlo.unary main_while0b_v46 main_v7_4 id,
    StableHlo.unary main_while0b_v39 main_v7_5 id ]
/-- What it writes. -/
abbrev bodyW6 : List (Ref sig .tc) := [main_while0b_v46, main_while0b_c_23, main_while0b_v47, main_v7_2, main_v7_3, main_v7_4, main_v7_5]
/-- The operation after the loop. -/
abbrev postOps : List (HloOp τ sig (Elt Ideal)) :=
  [ StableHlo.unary main_v7_4 main_v8 (broadcastInDim S16x1x256 ![0, 2] bcast_S16x256_S16x1x256_0_2 : (⟨S16x256, .i32⟩ : BufTy).Contents (Elt Ideal) → (⟨S16x1x256, .i32⟩ : BufTy).Contents (Elt Ideal)) ]

/-- What each list writes. -/
abbrev preW : List (Ref sig .tc) := [main_v0, main_v1, main_v2, main_v3, main_v4, main_cst, main_v5, main_c, main_v6, main_c_0, main_c_1, main_v7_0, main_v7_1, main_v7_2, main_v7_3, main_v7_4, main_v7_5]
abbrev condW : List (Ref sig .tc) := [main_while0c_c_7, main_while0c_v9]
abbrev bodyW : List (Ref sig .tc) := [main_while0b_c_7, main_while0b_v9, main_while0b_c_8, main_while0b_v10, main_while0b_v11, main_while0b_c_9, main_while0b_c_10, main_while0b_v12, main_while0b_c_11, main_while0b_c_12, main_while0b_v13, main_while0b_c_13, main_while0b_v14, main_while0b_c_14, main_while0b_v15, main_while0b_c_15, main_while0b_v16, main_while0b_v17, main_while0b_v18, main_while0b_v19, main_while0b_c_16, main_while0b_v20, main_while0b_v21, main_while0b_c_17, main_while0b_v22, main_while0b_v23, main_while0b_v24, main_while0b_c_18, main_while0b_v25, main_while0b_v26, main_while0b_c_19, main_while0b_v27, main_while0b_v28, main_while0b_v29, main_while0b_v30, main_while0b_v31, main_while0b_v32, main_while0b_v33, main_while0b_v34, main_while0b_v35, main_while0b_v36, main_while0b_v37, main_while0b_cst_20, main_while0b_v38, main_while0b_v39, main_while0b_call0_v0, main_while0b_call0_cst, main_while0b_call0_c, main_while0b_call0_v1_0, main_while0b_v40, main_while0b_c_21, main_while0b_v41, main_while0b_c_22, main_while0b_v42, main_while0b_v43, main_while0b_v44, main_while0b_v45, main_while0b_v46, main_while0b_c_23, main_while0b_v47, main_v7_2, main_v7_3, main_v7_4, main_v7_5]
abbrev postW : List (Ref sig .tc) := [main_v8]

theorem pre_writes : (preOps).Forall fun op => op.writes ⊆ (preW.map (Proc.devRef (τ := τ) .tc)).toFinset := forall_writes_sub_of_map rfl
theorem cond_writes : (condOps).Forall fun op => op.writes ⊆ (condW.map (Proc.devRef (τ := τ) .tc)).toFinset := forall_writes_sub_of_map rfl
theorem body_writes : (bodyOps).Forall fun op => op.writes ⊆ (bodyW.map (Proc.devRef (τ := τ) .tc)).toFinset := forall_writes_sub_of_map rfl
theorem post_writes : (postOps).Forall fun op => op.writes ⊆ (postW.map (Proc.devRef (τ := τ) .tc)).toFinset := forall_writes_sub_of_map rfl

theorem main_eq (c : Dev nD) : main (F := Ideal) c = Pipeline.chain ([preOps].map (fun ops => (seq ops : Prog _ PUnit))
    ++ HostLoop.enter 0 :: [postOps].map fun ops => (seq ops : Prog _ PUnit)) := by chain_rfl
theorem body_eq : main_while0_body (F := Ideal) = Pipeline.chain ([bodyOps].map fun ops => (seq ops : Prog _ PUnit)) := by chain_rfl

/-! ### What the lists make of the loop's buffers -/

section
variable (X : Valuation τ sig (Elt Ideal))

theorem step2 : after bodyOps X (Proc.devRef .tc main_v7_2) = addi (X (Proc.devRef .tc main_v7_2)) (constantI S_ 32 1#32) := by
  after_results
  rfl
theorem step3 : after bodyOps X (Proc.devRef .tc main_v7_3) = addi (X (Proc.devRef .tc main_v7_3)) (constantI S_ 32 1#32) := by
  after_results
  rfl
theorem body_split : bodyOps = bodyOps1 ++ (bodyOps2 ++ (bodyOps3 ++ (bodyOps4 ++ (bodyOps5 ++ bodyOps6)))) := rfl
theorem body_writes1 : (bodyOps1).Forall fun op => op.writes ⊆ (bodyW1.map (Proc.devRef (τ := τ) .tc)).toFinset := forall_writes_sub_of_map rfl
theorem body_writes2 : (bodyOps2).Forall fun op => op.writes ⊆ (bodyW2.map (Proc.devRef (τ := τ) .tc)).toFinset := forall_writes_sub_of_map rfl
theorem body_writes3 : (bodyOps3).Forall fun op => op.writes ⊆ (bodyW3.map (Proc.devRef (τ := τ) .tc)).toFinset := forall_writes_sub_of_map rfl
theorem body_writes4 : (bodyOps4).Forall fun op => op.writes ⊆ (bodyW4.map (Proc.devRef (τ := τ) .tc)).toFinset := forall_writes_sub_of_map rfl
theorem body_writes5 : (bodyOps5).Forall fun op => op.writes ⊆ (bodyW5.map (Proc.devRef (τ := τ) .tc)).toFinset := forall_writes_sub_of_map rfl
theorem body_writes6 : (bodyOps6).Forall fun op => op.writes ⊆ (bodyW6.map (Proc.devRef (τ := τ) .tc)).toFinset := forall_writes_sub_of_map rfl
theorem keep1 (b : Ref sig .tc) (h : b ∉ bodyW1) : after bodyOps1 X (Proc.devRef .tc b) = X (Proc.devRef .tc b) := after_of_writes_sub _ _ body_writes1 h
theorem keep2 (b : Ref sig .tc) (h : b ∉ bodyW2) : after bodyOps2 X (Proc.devRef .tc b) = X (Proc.devRef .tc b) := after_of_writes_sub _ _ body_writes2 h
theorem keep3 (b : Ref sig .tc) (h : b ∉ bodyW3) : after bodyOps3 X (Proc.devRef .tc b) = X (Proc.devRef .tc b) := after_of_writes_sub _ _ body_writes3 h
theorem keep4 (b : Ref sig .tc) (h : b ∉ bodyW4) : after bodyOps4 X (Proc.devRef .tc b) = X (Proc.devRef .tc b) := after_of_writes_sub _ _ body_writes4 h
theorem keep5 (b : Ref sig .tc) (h : b ∉ bodyW5) : after bodyOps5 X (Proc.devRef .tc b) = X (Proc.devRef .tc b) := after_of_writes_sub _ _ body_writes5 h
theorem part1 : after bodyOps1 X (Proc.devRef .tc main_while0b_v17) = from0 (subi (X (Proc.devRef .tc main_v7_3)) (constantI S_ 32 1#32)) := by
  after_results
  rfl
theorem part1' : after bodyOps1 X (Proc.devRef .tc main_while0b_v14) = constantI S_ 32 0#32 := by
  after_results
  rfl
theorem part2 (i : IVec S_ 32) (h0 : X (Proc.devRef .tc main_while0b_v14) = constantI S_ 32 0#32)
    (h1 : X (Proc.devRef .tc main_while0b_v17) = from0 i) : after bodyOps2 X (Proc.devRef .tc main_while0b_v19) = lastOf (X (Proc.devRef .tc main_v7_4)) i := by
  after_results
  refine congrArg (fun st => shapeCast S16 (Host.dynamicSlice S16x1 (X (Proc.devRef .tc main_v7_4)) st sliceFits_S16x256_S16x1) shapeCasts_S16x1_S16)
    (funext fun k => ?_)
  match k with
  | ⟨0, _⟩ => exact congrArg (fun v : IVec S_ 32 => (v (Shape.Idx.first h_S_)).toInt) h0
  | ⟨1, _⟩ => exact congrArg (fun v : IVec S_ 32 => (v (Shape.Idx.first h_S_)).toInt) h1
theorem part3 : after bodyOps3 X (Proc.devRef .tc main_while0b_v39) = minimumf (F := Ideal) (φ := .f32) (X (Proc.devRef .tc main_v7_5)) (toPoint (X (Proc.devRef .tc main_v7_1))
    (broadcastInDim S16x1x3 ![0, 2] bcast_S16x3_S16x1x3_0_2 (Host.gather gather_S16x1024x3_S16x2_S16x3_1_01_n_n_01_1_113 (X (Proc.devRef .tc main_v7_1))
      (pairs (X (Proc.devRef .tc main_v7_0)) (X (Proc.devRef .tc main_while0b_v19)))))) := by
  after_results
  rfl
theorem part4 : after bodyOps4 X (Proc.devRef .tc main_while0b_v40) = farthest (X (Proc.devRef .tc main_while0b_v39)) := by
  after_results
  simp only [StableHlo.TRef.ofBuf_toBuf]
  simp -implicitDefEqProofs only [StableHlo.TRef.ofBuf, StableHlo.TRef.toBuf, cast_eq]
  rfl
theorem part5 : after bodyOps5 X (Proc.devRef .tc main_while0b_v45) = broadcastInDim S1 ![] bcast_S_S1 (from0 (X (Proc.devRef .tc main_v7_3))) := by
  after_results
  rfl
theorem part6 (i : IVec S_ 32) (h : X (Proc.devRef .tc main_while0b_v45) = broadcastInDim S1 ![] bcast_S_S1 (from0 i)) :
    after bodyOps6 X (Proc.devRef .tc main_v7_4) = newSel (X (Proc.devRef .tc main_v7_4)) i (X (Proc.devRef .tc main_while0b_v40)) := by
  after_results
  exact congrArg (fun st => Host.scatter scatter_S16x256_S1_S16_0_1_1_0 (fun _ b => b) (X (Proc.devRef .tc main_v7_4)) st (X (Proc.devRef .tc main_while0b_v40))) h
theorem part6d : after bodyOps6 X (Proc.devRef .tc main_v7_5) = X (Proc.devRef .tc main_while0b_v39) := by
  after_results
  rfl
theorem upto2 : after bodyOps2 (after bodyOps1 X) (Proc.devRef .tc main_while0b_v19) = lastOf (X (Proc.devRef .tc main_v7_4))
    (subi (X (Proc.devRef .tc main_v7_3)) (constantI S_ 32 1#32)) := by
  rw [part2 _ _ (part1' X) (part1 X), keep1 _ main_v7_4 (by decide)]
theorem upto3 : after bodyOps3 (after bodyOps2 (after bodyOps1 X)) (Proc.devRef .tc main_while0b_v39) = newD (X (Proc.devRef .tc main_v7_0)) (X (Proc.devRef .tc main_v7_1))
    (X (Proc.devRef .tc main_v7_4)) (subi (X (Proc.devRef .tc main_v7_3)) (constantI S_ 32 1#32)) (X (Proc.devRef .tc main_v7_5)) := by
  rw [part3, upto2, keep2 _ main_v7_5 (by decide), keep2 _ main_v7_1 (by decide), keep2 _ main_v7_0 (by decide),
    keep1 _ main_v7_5 (by decide), keep1 _ main_v7_1 (by decide), keep1 _ main_v7_0 (by decide)]
  rfl
theorem step5 : after bodyOps X (Proc.devRef .tc main_v7_5) = newD (X (Proc.devRef .tc main_v7_0)) (X (Proc.devRef .tc main_v7_1))
    (X (Proc.devRef .tc main_v7_4)) (subi (X (Proc.devRef .tc main_v7_3)) (constantI S_ 32 1#32)) (X (Proc.devRef .tc main_v7_5)) := by
  rw [body_split, after_append, after_append, after_append, after_append, after_append]
  rw [part6d, keep5 _ main_while0b_v39 (by decide), keep4 _ main_while0b_v39 (by decide), upto3]
theorem step4 : after bodyOps X (Proc.devRef .tc main_v7_4) = newSel (X (Proc.devRef .tc main_v7_4)) (X (Proc.devRef .tc main_v7_3))
    (farthest (newD (X (Proc.devRef .tc main_v7_0)) (X (Proc.devRef .tc main_v7_1)) (X (Proc.devRef .tc main_v7_4))
      (subi (X (Proc.devRef .tc main_v7_3)) (constantI S_ 32 1#32)) (X (Proc.devRef .tc main_v7_5)))) := by
  rw [body_split, after_append, after_append, after_append, after_append, after_append]
  refine (part6 _ _ (part5 _)).trans ?_
  rw [keep5 _ main_while0b_v40 (by decide), part4, upto3, keep5 _ main_v7_4 (by decide), keep4 _ main_v7_4 (by decide), keep3 _ main_v7_4 (by decide), keep2 _ main_v7_4 (by decide),
    keep1 _ main_v7_4 (by decide), keep4 _ main_v7_3 (by decide), keep3 _ main_v7_3 (by decide), keep2 _ main_v7_3 (by decide), keep1 _ main_v7_3 (by decide)]
theorem step0 : after bodyOps X (Proc.devRef .tc main_v7_0) = X (Proc.devRef .tc main_v7_0) := after_of_writes_sub _ _ body_writes (by decide)
theorem step1 : after bodyOps X (Proc.devRef .tc main_v7_1) = X (Proc.devRef .tc main_v7_1) := after_of_writes_sub _ _ body_writes (by decide)
theorem stepA : after bodyOps X (Proc.devRef .tc main_arg0) = X (Proc.devRef .tc main_arg0) := after_of_writes_sub _ _ body_writes (by decide)
theorem condK (b : Ref sig .tc) (h : b ∉ condW) : after condOps X (Proc.devRef .tc b) = X (Proc.devRef .tc b) := after_of_writes_sub _ _ cond_writes h

/-- The points, cloud by cloud. -/
def pts : FVec Ideal S16x1024x3 .f32 := X (Proc.devRef .tc main_arg0)

theorem entry0 : after preOps X (Proc.devRef .tc main_v7_0) = iotaInDim S16 32 0 := by
  after_results
  rfl
theorem entry1 : after preOps X (Proc.devRef .tc main_v7_1) = pts X := by
  after_results
  rfl
theorem entry2 : after preOps X (Proc.devRef .tc main_v7_2) = constantI S_ 32 0#32 := by
  after_results
  rfl
theorem entry3 : after preOps X (Proc.devRef .tc main_v7_3) = constantI S_ 32 1#32 := by
  after_results
  rfl
theorem entry4 : after preOps X (Proc.devRef .tc main_v7_4) = broadcastInDim S16x256 ![] bcast_S_S16x256 (constantI S_ 32 0#32) := by
  after_results
  rfl
theorem entry5 : after preOps X (Proc.devRef .tc main_v7_5)
    = toPoint (pts X) (extractStridedSlice S16x1x3 ![0, 0, 0] (pts X) slices_S16x1024x3_S16x1x3_0_0_0) := by
  after_results
  rfl
theorem entryA : after preOps X (Proc.devRef .tc main_arg0) = X (Proc.devRef .tc main_arg0) := after_of_writes_sub _ _ pre_writes (by decide)
theorem post9 : after postOps X (Proc.devRef .tc main_v8) = broadcastInDim S16x1x256 ![0, 2] bcast_S16x256_S16x1x256_0_2 (X (Proc.devRef .tc main_v7_4)) := by
  after_results
theorem postA : after postOps X (Proc.devRef .tc main_arg0) = X (Proc.devRef .tc main_arg0) := after_of_writes_sub _ _ post_writes (by decide)
end

/-! ### The loop -/

variable (m : (ℓ : Loc nD τ sig) → Buf (Elt Ideal) ℓ)

/-- The buffers before the `k`-th run of the condition. -/
abbrev at' (k : ℕ) (c : Dev nD) : Valuation τ sig (Elt Ideal) := atTrip condOps [bodyOps] (entryContents [preOps] m) k c

theorem at_zero (c : Dev nD) : at' m 0 c = after preOps (launchContents m c) := rfl
theorem at_succ (k : ℕ) (c : Dev nD) : at' m (k + 1) c = after bodyOps (after condOps (at' m k c)) := rfl

theorem at2 (c : Dev nD) : ∀ k, at' m k c (Proc.devRef .tc main_v7_2) = fun _ => Scf.iv 0#32 1#32 k
  | 0 => by rw [at_zero, entry2, Scf.iv_zero]; rfl
  | k + 1 => by
    rw [at_succ, step2, condK _ _ (by decide), at2 c k, Scf.iv_succ]
    rfl

theorem body_sub : (bodyOps).Forall fun op => op.bufs ⊆ tcRefs τ sig := by
  refine ⟨nullary_bufs_sub .., binary_bufs_sub .., nullary_bufs_sub .., binary_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., unaryIndexed_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., binary_bufs_sub .., ternary_bufs_sub .., unary_bufs_sub .., unary_bufs_sub .., ternary_bufs_sub .., nullary_bufs_sub .., binary_bufs_sub .., unary_bufs_sub .., unary_bufs_sub .., unary_bufs_sub .., unary_bufs_sub ..⟩
theorem pre_sub : (preOps).Forall fun op => op.bufs ⊆ tcRefs τ sig := by
  refine ⟨nullary_bufs_sub .., unary_bufs_sub .., unary_bufs_sub .., binary_bufs_sub .., binary_bufs_sub .., nullary_bufs_sub .., binary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩
theorem post_sub : (postOps).Forall fun op => op.bufs ⊆ tcRefs τ sig := unary_bufs_sub ..

set_option backward.isDefEq.respectTransparency.types false in
/-- The condition holds for the first 255 trips and leaves the buffers as its operations do. -/
theorem cond_spec : CondSpec (nD := nD) (pcfgs (F := Ideal)) defs₀ loops (main_while0_cond (F := Ideal)) condOps [bodyOps] (entryContents [preOps] m) 255 := by
  intro k hk c bd
  have hctr := at2 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at' m k c) main_v7_2 HostLoop.idx0)
        (HloOp.result _ (at' m k c) main_while0c_c_7 HostLoop.idx0) = 1#1) (k < 255)
    rw [nullary_result_ne _ _ _ _ (by decide), nullary_result, hctr]
    exact Scf.cmpi_slt_iv_ub_iff (lb := 0#32) (ub := 255#32) (st := 1#32) (by decide) (show k ≤ Scf.trips 0#32 255#32 1#32 from hk)
  isplitl [Hb]; · iexact Hb
  rw [after_cons, after_cons, after_nil]; iexact Hh

/-- The run: the picks after the last trip, the points as they were. -/
theorem run_trips (ρ : Dev nD → PrngReg) : θ_run defs (onTc (τ := τ) (main (F := Ideal))) ⟨m, fun _ => 0, ρ⟩ (fun r => ∀ c : Dev nD,
    r.2.mem ((c.tc : Thread nD τ).loc main_v8)
        = broadcastInDim S16x1x256 ![0, 2] bcast_S16x256_S16x1x256_0_2 (at' m 255 c (Proc.devRef .tc main_v7_4))
      ∧ r.2.mem ((c.tc : Thread nD τ).loc main_arg0) = at' m 255 c (Proc.devRef .tc main_arg0)) := by
  refine (θ_run defs _ _).mono (fun r h c => ⟨?_, ?_⟩) (run_loop pcfgs defs₀ loops main 0 main_while0_cond main_while0_body rfl
    [preOps] [bodyOps] [postOps] condOps (Plain.cons pre_sub Plain.nil) (Plain.cons body_sub Plain.nil) (Plain.cons post_sub Plain.nil)
    main_eq body_eq 255 m ρ (cond_spec m))
  · refine (h c main_v8 (by decide)).trans ?_
    show after postOps (after condOps (at' m 255 c)) _ = _
    rw [post9, condK _ _ (by decide)]
  · refine (h c main_arg0 (by decide)).trans ?_
    show after postOps (after condOps (at' m 255 c)) _ = _
    rw [postA, condK _ _ (by decide)]

end Cert.Reference5Ideal.Gen

end
-- ==== Proof.SampRef5.lean ====
/-
  The second sampling's reference: one trip read at an index, and the picks after the last.
-/
module

public import proofs.«01_k».proof.Proof.SampArr5
public import proofs.«01_k».proof.Proof.SampRun5
public import Idealize.ShloMosaic.Lib.Tactic.CleanTypes

@[expose] public section

set_option maxRecDepth 16384

noncomputable section

namespace Cert.Reference5Ideal.Gen

open Idealize.ShloMosaic Idealize.ShloMosaic.TcCoe Idealize.ShloMosaic.Tactic
open Idealize.ShloMosaic.StableHlo Idealize.SL.Sem
open scoped BigOperators

/-- The picks of farthest point sampling, cloud by cloud. -/
def picks (p : FVec Ideal S16x1024x3 .f32) : IVec S16x1x256 32 := fun y =>
  BitVec.ofNat 32 (Samp.pick (Samp.dist fun j c => p (ix3 (y 0) j c)) (y 2).val).val

/-- The loop's buffers before the `k`-th trip. -/
structure At (p : FVec Ideal S16x1024x3 .f32) (k : ℕ) (X : Valuation τ sig (Elt Ideal)) : Prop where
  rows : X (Proc.devRef .tc main_v7_0) = iotaInDim S16 32 0
  pts : X (Proc.devRef .tc main_v7_1) = p
  iv : X (Proc.devRef .tc main_v7_3) = fun _ => BitVec.ofNat 32 (k + 1)
  sel : ∀ (b : Fin 16) (j : Fin 256), (X (Proc.devRef .tc main_v7_4) : IVec S16x256 32) (ix2 b j)
    = if j.val ≤ k then BitVec.ofNat 32 (Samp.pick (Samp.dist fun j c => p (ix3 b j c)) j.val).val else 0#32
  dst : ∀ (b : Fin 16) (j : Fin 1024), ((X (Proc.devRef .tc main_v7_5) : FVec Ideal S16x1024 .f32) (ix2 b j) : EReal)
    = Samp.far (Samp.dist fun j c => p (ix3 b j c)) k j

theorem first_apply (p : FVec Ideal S16x1024x3 .f32) (b : Fin 16) (c : Fin 3) :
    extractStridedSlice S16x1x3 ![0, 0, 0] p slices_S16x1024x3_S16x1x3_0_0_0 (ix3 b 0 c) = p (ix3 b 0 c) := by
  pointwise

theorem at_entry (X : Valuation τ sig (Elt Ideal)) : At (pts X) 0 (after preOps X) where
  rows := entry0 X
  pts := entry1 X
  iv := entry3 X
  sel b j := by
    rw [entry4]
    split
    · next h =>
      rw [show j.val = 0 by omega]
      rfl
    · rfl
  dst b j := by
    rw [entry5]
    exact toPoint_apply (pts X) _ b 0 j fun c => first_apply (pts X) b c

theorem at_cond {p : FVec Ideal S16x1024x3 .f32} {k : ℕ} {X : Valuation τ sig (Elt Ideal)} (h : At p k X) : At p k (after condOps X) where
  rows := (condK X _ (by decide)).trans h.rows
  pts := (condK X _ (by decide)).trans h.pts
  iv := (condK X _ (by decide)).trans h.iv
  sel b j := by rw [condK X _ (by decide)]; exact h.sel b j
  dst b j := by rw [condK X _ (by decide)]; exact h.dst b j

theorem at_body {p : FVec Ideal S16x1024x3 .f32} {k : ℕ} (hk : k < 255) {X : Valuation τ sig (Elt Ideal)} (h : At p k X) : At p (k + 1) (after bodyOps X) := by
  have hiv : subi (X (Proc.devRef .tc main_v7_3)) (constantI S_ 32 1#32) = fun _ => BitVec.ofNat 32 k := by
    rw [h.iv]
    funext _
    show BitVec.ofNat 32 (k + 1) - 1#32 = _
    rw [BitVec.ofNat_add]
    exact BitVec.add_sub_cancel _ _
  have hd : ∀ (b : Fin 16) (j : Fin 1024), (newD (X (Proc.devRef .tc main_v7_0)) (X (Proc.devRef .tc main_v7_1)) (X (Proc.devRef .tc main_v7_4))
      (subi (X (Proc.devRef .tc main_v7_3)) (constantI S_ 32 1#32)) (X (Proc.devRef .tc main_v7_5)) (ix2 b j) : EReal)
        = Samp.far (Samp.dist fun j c => p (ix3 b j c)) (k + 1) j := fun b j => by
    rw [hiv, h.rows, h.pts]
    refine (newD_apply p _ (BitVec.ofNat 32 k) _ ⟨k, by omega⟩ (Conv.toInt_ofNat (by omega)) b (Samp.pick (Samp.dist fun j c => p (ix3 b j c)) k)
      ((h.sel b ⟨k, by omega⟩).trans (if_pos le_rfl)) j).trans ?_
    rw [h.dst]
    exact Samp.far_succ _ k j
  refine ⟨(step0 X).trans h.rows, (step1 X).trans h.pts, ?_, fun b j => ?_, fun b j => ?_⟩
  · rw [step3, h.iv]
    funext _
    show BitVec.ofNat 32 (k + 1) + 1#32 = _
    rw [← BitVec.ofNat_add]
  · rw [step4, h.iv]
    refine (newSel_apply _ (w := BitVec.ofNat 32 (k + 1)) ⟨k + 1, by omega⟩ (Conv.toInt_ofNat (by omega)) _ b j).trans ?_
    have hs := h.sel b j
    by_cases e : j = ⟨k + 1, by omega⟩
    · rw [if_pos e, if_pos (by rw [e]), farthest_apply, e]
      refine congrArg (fun x : Fin 1024 → EReal => BitVec.ofNat 32 (Samp.top x).val) (funext fun i => ?_)
      have := hd b i
      rw [h.iv] at this
      exact this
    · rw [if_neg e, hs]
      exact if_congr (by rw [Fin.ext_iff] at e; have : j.val ≠ k + 1 := e; omega) rfl rfl
  · rw [step5]
    exact hd b j

variable (m : (ℓ : Loc nD τ sig) → Buf (Elt Ideal) ℓ)

theorem at_trip (c : Dev nD) : ∀ k ≤ 255, At (pts (launchContents m c)) k (at' m k c)
  | 0, _ => by rw [at_zero]; exact at_entry _
  | k + 1, h => by rw [at_succ]; exact at_body (by omega) (at_cond (at_trip c k (by omega)))

theorem arg_trip (c : Dev nD) : ∀ k, at' m k c (Proc.devRef .tc main_arg0) = launchContents m c (Proc.devRef .tc main_arg0)
  | 0 => by rw [at_zero, entryA]
  | k + 1 => by rw [at_succ, stepA, condK _ main_arg0 (by decide), arg_trip c k]

/-- The run of the reference: the picks, and the points as they were. -/
theorem run (ρ : Dev nD → PrngReg) : θ_run defs (onTc (τ := τ) (main (F := Ideal))) ⟨m, fun _ => 0, ρ⟩ (fun r => ∀ c : Dev nD,
    r.2.mem ((c.tc : Thread nD τ).loc main_v8) = picks (m ((c.tc : Thread nD τ).loc main_arg0))
      ∧ r.2.mem ((c.tc : Thread nD τ).loc main_arg0) = m ((c.tc : Thread nD τ).loc main_arg0)) := by
  refine (θ_run defs _ _).mono (fun r h c => ?_) (run_trips m ρ)
  have ha := arg_trip m c 255
  have ht := at_trip m c 255 le_rfl
  have hr := h c
  generalize at' m 255 c = X at ha ht hr
  refine ⟨hr.1.trans ?_, hr.2.trans ha⟩
  funext y
  have hy := ht.sel (y 0) (y 2)
  rw [if_pos (by have := (y 2).isLt; have : (y 2).val < 256 := this; omega)] at hy
  refine Eq.trans ?_ hy
  refine congrArg (X (Proc.devRef .tc main_v7_4) : IVec S16x256 32) (funext fun a => ?_)
  match a with
  | ⟨0, _⟩ => rfl
  | ⟨1, _⟩ => rfl

/-- The run leaves the argument and the semaphores as they were. -/
theorem frame (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (run m ρ)

end Cert.Reference5Ideal.Gen

end
-- ==== Proof.Claim5.lean ====
/-
  The second sampling: kernel and reference run to the same picks.
-/
module

public import proofs.«01_k».proof.Defs
public import proofs.«01_k».proof.Proof.SampVal5
public import proofs.«01_k».proof.Proof.SampRef5
public import Idealize.ShloMosaic.Lib.Claim

@[expose] public section

set_option maxRecDepth 16384

noncomputable section

namespace Cert.Proof

open Idealize.ShloMosaic Idealize.ShloMosaic.TcCoe Idealize.ShloMosaic.Tactic

theorem algebraic5 : algebraic_Kernel5Ideal_Reference5Ideal := by
  pair_intro
  · run_from Kernel5Ideal.Gen.run m g
  · refine (θ_run _ _ _).mono (fun r h c => ?_) (Reference5Ideal.Gen.run m' g')
    have e := h c
    have a0 := hagree c
    refine ⟨e.1.trans ?_, e.2⟩
    rw [a0]
    rfl

end Cert.Proof

end
-- ==== Proof.GatherVal6.lean ====
/-
  The first gather read at an index: the row each place names.
-/
module

public import proofs.«01_k».proof.Proof.Take
public import proofs.«01_k».proof.Proof.Gen.Kernel6Ideal.Frame
public import proofs.«01_k».proof.Proof.Gen.Kernel6Ideal.Value
public import Idealize.ShloMosaic.Lib.Pipeline.ValueKit
public import Idealize.ShloMosaic.Lib.Tactic.CleanTypes
public import Idealize.ShloMosaic.Lib.Claim

@[expose] public section

set_option maxRecDepth 16384

noncomputable section

namespace Cert.Kernel6Ideal.Gen

open Idealize.ShloMosaic Idealize.ShloMosaic.TcCoe Idealize.ShloMosaic.Tactic
open scoped BigOperators

theorem pay1_apply (v0 : Vec Ideal S1x1x1024 .i32) (hs : ∀ i : Fin 1024, Take.Inside 2048 (v0 (ix3 0 0 i))) (n : Fin 2048) (i : Fin 1024) :
    (k0_pay1 (F := Ideal) v0 (ix2 n i) : EReal) = if n = Take.place 2048 (v0 (ix3 0 0 i)) then 1 else 0 := by
  refine Eq.trans ?_ (Take.hot (N := 2048) (by decide) (hs i) n)
  unfold k0_pay1
  clean_types
  pointwise
  rfl

theorem pay2_apply (v0 : Vec Ideal S1x1x1024 .i32) (x : Vec Ideal S1x2048x64 .f32) (hs : ∀ i : Fin 1024, Take.Inside 2048 (v0 (ix3 0 0 i)))
    (i : Fin 1024) (f : Fin 64) : (k0_pay2 (F := Ideal) v0 x (ix3 0 i f) : EReal) = x (ix3 0 (Take.place 2048 (v0 (ix3 0 0 i))) f) := by
  refine Eq.trans ?_ (Conv.pick_sum (Take.place 2048 (v0 (ix3 0 0 i))) fun l => x (ix3 0 l f))
  have h := fun l => pay1_apply v0 hs l i
  unfold k0_pay2
  generalize k0_pay1 (F := Ideal) v0 = z at h
  simp only [← h]
  clean_types
  pointwise

theorem pay3_apply (v0 : Vec Ideal S1x1x1024 .i32) (x : Vec Ideal S1x2048x3 .f32) (hs : ∀ i : Fin 1024, Take.Inside 2048 (v0 (ix3 0 0 i)))
    (i : Fin 1024) (f : Fin 3) : (k0_pay3 (F := Ideal) v0 x (ix3 0 i f) : EReal) = x (ix3 0 (Take.place 2048 (v0 (ix3 0 0 i))) f) := by
  refine Eq.trans ?_ (Conv.pick_sum (Take.place 2048 (v0 (ix3 0 0 i))) fun l => x (ix3 0 l f))
  have h := fun l => pay1_apply v0 hs l i
  unfold k0_pay3
  generalize k0_pay1 (F := Ideal) v0 = z at h
  simp only [← h]
  clean_types
  pointwise

theorem pay4_apply (v0 : Vec Ideal S1x1x1024 .i32) (x : Vec Ideal S1x3x2048 .f32) (hs : ∀ i : Fin 1024, Take.Inside 2048 (v0 (ix3 0 0 i)))
    (i : Fin 1024) (f : Fin 3) : (k0_pay4 (F := Ideal) v0 x (ix3 0 f i) : EReal) = x (ix3 0 f (Take.place 2048 (v0 (ix3 0 0 i)))) := by
  refine Eq.trans ?_ (Conv.pick_sum (Take.place 2048 (v0 (ix3 0 0 i))) fun l => x (ix3 0 f l))
  have h := fun l => pay1_apply v0 hs l i
  unfold k0_pay4
  generalize k0_pay1 (F := Ideal) v0 = z at h
  simp only [← h]
  clean_types
  pointwise
  simp only [mul_comm]

/-- The blocks each grid point reads and writes. -/
theorem idx : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0]
    ∧ win0_4.index t = ![(grid0.coords t 0).val, 0, 0] ∧ win0_5.index t = ![(grid0.coords t 0).val, 0, 0]
    ∧ win0_6.index t = ![(grid0.coords t 0).val, 0, 0] := by
  decide +kernel

/-- The rows of `x` the places name. -/
def rowsX (s : Vec Ideal S16x1x1024 .i32) (x : Vec Ideal S16x2048x64 .f32) : Vec Ideal S16x1024x64 .f32 := fun y =>
  x (ix3 (y 0) (Take.place 2048 (s (ix3 (y 0) 0 (y 1)))) (y 2))

/-- The points the places name. -/
def rowsP (s : Vec Ideal S16x1x1024 .i32) (p : Vec Ideal S16x2048x3 .f32) : Vec Ideal S16x1024x3 .f32 := fun y =>
  p (ix3 (y 0) (Take.place 2048 (s (ix3 (y 0) 0 (y 1)))) (y 2))

/-- The points the places name, coordinates first. -/
def rowsT (s : Vec Ideal S16x1x1024 .i32) (p : Vec Ideal S16x2048x3 .f32) : Vec Ideal S16x3x1024 .f32 := fun y =>
  p (ix3 (y 0) (Take.place 2048 (s (ix3 (y 0) 0 (y 2)))) (y 1))

theorem out4_apply (x0 : Vec Ideal S1x1x1024 .i32) (x1 : Vec Ideal S1x2048x64 .f32) (x2 : Vec Ideal S1x2048x3 .f32) (x3 : Vec Ideal S1x3x2048 .f32)
    (hs : ∀ i : Fin 1024, Take.Inside 2048 (x0 (ix3 0 0 i))) (i : Fin 1024) (f : Fin 64) :
    (out0_4 (F := Ideal) x0 x1 x2 x3 (ix3 0 i f) : EReal) = x1 (ix3 0 (Take.place 2048 (x0 (ix3 0 0 i))) f) := by
  unfold out0_4
  rw [View.canon_cons_unit_lit _ _ [] (by decide), View.ld_unit_lit _ _ (by decide), View.ld_unit_lit _ _ (by decide)]
  exact pay2_apply x0 x1 hs i f
theorem out5_apply (x0 : Vec Ideal S1x1x1024 .i32) (x1 : Vec Ideal S1x2048x64 .f32) (x2 : Vec Ideal S1x2048x3 .f32) (x3 : Vec Ideal S1x3x2048 .f32)
    (hs : ∀ i : Fin 1024, Take.Inside 2048 (x0 (ix3 0 0 i))) (i : Fin 1024) (f : Fin 3) :
    (out0_5 (F := Ideal) x0 x1 x2 x3 (ix3 0 i f) : EReal) = x2 (ix3 0 (Take.place 2048 (x0 (ix3 0 0 i))) f) := by
  unfold out0_5
  rw [View.canon_cons_unit_lit _ _ [] (by decide), View.ld_unit_lit _ _ (by decide), View.ld_unit_lit _ _ (by decide)]
  exact pay3_apply x0 x2 hs i f
theorem out6_apply (x0 : Vec Ideal S1x1x1024 .i32) (x1 : Vec Ideal S1x2048x64 .f32) (x2 : Vec Ideal S1x2048x3 .f32) (x3 : Vec Ideal S1x3x2048 .f32)
    (hs : ∀ i : Fin 1024, Take.Inside 2048 (x0 (ix3 0 0 i))) (i : Fin 1024) (f : Fin 3) :
    (out0_6 (F := Ideal) x0 x1 x2 x3 (ix3 0 f i) : EReal) = x3 (ix3 0 f (Take.place 2048 (x0 (ix3 0 0 i)))) := by
  unfold out0_6
  rw [View.canon_cons_unit_lit _ _ [] (by decide), View.ld_unit_lit _ _ (by decide), View.ld_unit_lit _ _ (by decide)]
  exact pay4_apply x0 x3 hs i f

variable (m : (ℓ : Loc nD τ sig) → Buf (Elt Ideal) ℓ)

theorem read0 (c : Dev nD) (t : Fin cfg0.N) (i : Fin 1024) :
    iblk m c 0 t (ix3 0 0 i) = m ((c.tc : Thread nD τ).loc main_arg0) (ix3 (grid0.coords t 0) 0 i) := by
  blk_ext [iblk, V, idx t]
theorem read1 (c : Dev nD) (t : Fin cfg0.N) (j : Fin 2048) (f : Fin 64) :
    iblk m c 1 t (ix3 0 j f) = m ((c.tc : Thread nD τ).loc main_arg1) (ix3 (grid0.coords t 0) j f) := by
  blk_ext [iblk, V, idx t]
theorem read2 (c : Dev nD) (t : Fin cfg0.N) (j : Fin 2048) (f : Fin 3) :
    iblk m c 2 t (ix3 0 j f) = m ((c.tc : Thread nD τ).loc main_arg2) (ix3 (grid0.coords t 0) j f) := by
  blk_ext [iblk, V, idx t]
theorem read3 (c : Dev nD) (t : Fin cfg0.N) (j : Fin 2048) (f : Fin 3) :
    iblk m c 3 t (ix3 0 f j) = m ((c.tc : Thread nD τ).loc main_arg2) (ix3 (grid0.coords t 0) j f) := by
  blk_simp [iblk]; entry_read
  pointwise
  blk_ext [idx t]

variable (hs : ∀ (c : Dev nD) (b : Fin 16) (i : Fin 1024), Take.Inside 2048 (m ((c.tc : Thread nD τ).loc main_arg0) (ix3 b 0 i)))
include hs

theorem arr4_eq (c : Dev nD) : (dats m 0 c).arrAt 4 (cfgs 0).N
    = rowsX (m ((c.tc : Thread nD τ).loc main_arg0)) (m ((c.tc : Thread nD τ).loc main_arg1)) := by
  refine (dats m 0 c).arrAt_eq_of_covers 4 _ (by decide +kernel) fun t hf y => ?_
  blk_simp
  rw [after0_4]
  obtain ⟨i, f, rfl⟩ : ∃ (i : Fin 1024) (f : Fin 64), y = ix3 0 i f := ⟨y 1, y 2, by blk_ext⟩
  have he : (win0_4.blk t).view.emb (ix3 0 i f) = ix3 (grid0.coords t 0) i f := by
    blk_ext [idx t]
  refine (out4_apply _ _ _ _ (fun i => by rw [read0]; exact hs c _ i) i f).trans ?_
  rw [read1, read0, he]
  rfl
theorem arr5_eq (c : Dev nD) : (dats m 0 c).arrAt 5 (cfgs 0).N
    = rowsP (m ((c.tc : Thread nD τ).loc main_arg0)) (m ((c.tc : Thread nD τ).loc main_arg2)) := by
  refine (dats m 0 c).arrAt_eq_of_covers 5 _ (by decide +kernel) fun t hf y => ?_
  blk_simp
  rw [after0_5]
  obtain ⟨i, f, rfl⟩ : ∃ (i : Fin 1024) (f : Fin 3), y = ix3 0 i f := ⟨y 1, y 2, by blk_ext⟩
  have he : (win0_5.blk t).view.emb (ix3 0 i f) = ix3 (grid0.coords t 0) i f := by
    blk_ext [idx t]
  refine (out5_apply _ _ _ _ (fun i => by rw [read0]; exact hs c _ i) i f).trans ?_
  rw [read2, read0, he]
  rfl
theorem arr6_eq (c : Dev nD) : (dats m 0 c).arrAt 6 (cfgs 0).N
    = rowsT (m ((c.tc : Thread nD τ).loc main_arg0)) (m ((c.tc : Thread nD τ).loc main_arg2)) := by
  refine (dats m 0 c).arrAt_eq_of_covers 6 _ (by decide +kernel) fun t hf y => ?_
  blk_simp
  rw [after0_6]
  obtain ⟨i, f, rfl⟩ : ∃ (i : Fin 1024) (f : Fin 3), y = ix3 0 f i := ⟨y 2, y 1, by blk_ext⟩
  have he : (win0_6.blk t).view.emb (ix3 0 f i) = ix3 (grid0.coords t 0) f i := by
    blk_ext [idx t]
  refine (out6_apply _ _ _ _ (fun i => by rw [read0]; exact hs c _ i) i f).trans ?_
  rw [read3, read0, he]
  rfl

/-- The run of the program: the rows, and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v1_0) = rowsX (m ((c.tc : Thread nD τ).loc main_arg0)) (m ((c.tc : Thread nD τ).loc main_arg1))
      ∧ r.2.mem ((c.tc : Thread nD τ).loc main_v1_1) = rowsP (m ((c.tc : Thread nD τ).loc main_arg0)) (m ((c.tc : Thread nD τ).loc main_arg2))
      ∧ r.2.mem ((c.tc : Thread nD τ).loc main_v1_2) = rowsT (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr4_eq m hs c), (h c).2.1.trans (arr5_eq m hs c), (h c).2.2.1.trans (arr6_eq m hs c), (h c).2.2.2⟩)
    (Value.run_blocks m ρ)

end Cert.Kernel6Ideal.Gen

end
-- ==== Proof.Claim6.lean ====
/-
  The first gather: kernel and reference run to the same rows.
-/
module

public import proofs.«01_k».proof.Defs
public import proofs.«01_k».proof.Proof.GatherVal6
public import proofs.«01_k».proof.Proof.Gen.Reference6Ideal.Run
public import proofs.«01_k».proof.Proof.Gen.Pre_inside6
public import Idealize.ShloMosaic.Lib.Claim

@[expose] public section

set_option maxRecDepth 16384

noncomputable section

namespace Cert.Reference6Ideal.Gen

open Idealize.ShloMosaic Idealize.ShloMosaic.TcCoe Idealize.ShloMosaic.Tactic

/-- The places as the reference's gathers read them. -/
def places (s : IVec S16x1x1024 32) : IVec S16x1024x1 32 :=
  broadcastInDim S16x1024x1 ![0, 1] bcast_S16x1024_S16x1024x1_0_1 (select (cmpi .slt (shapeCast _ s shapeCasts_S16x1x1024_S16x1024)
    (broadcastInDim S16x1024 ![] bcast_S_S16x1024 (constantI S_ 32 0#32))) (addi (shapeCast _ s shapeCasts_S16x1x1024_S16x1024)
      (broadcastInDim S16x1024 ![] bcast_S_S16x1024 (constantI S_ 32 2048#32))) (shapeCast _ s shapeCasts_S16x1x1024_S16x1024))

theorem places_apply (s : IVec S16x1x1024 32) (b : Fin 16) (i : Fin 1024) (h : Take.Inside 2048 (s (ix3 b 0 i))) :
    places s (ix3 b i 0) = s (ix3 b 0 i) := by
  refine Eq.trans ?_ (Take.kept (k := 2048#32) h)
  unfold places
  clean_types
  pointwise
  rfl

theorem rowsX_eq (s : IVec S16x1x1024 32) (x : FVec Ideal S16x2048x64 .f32) (h : ∀ b i, Take.Inside 2048 (s (ix3 b 0 i))) :
    Host.gather gather_S16x2048x64_S16x1024x1_S16x1024x64_2_1_0_0_1_2_1164 x (places s) = Kernel6Ideal.Gen.rowsX s x := by
  funext y
  rw [eq_ix3 y]
  exact Take.takeRow_apply gather_S16x2048x64_S16x1024x1_S16x1024x64_2_1_0_0_1_2_1164.wf x (places s) (y 0) (y 1) (y 2)
    (Take.place 2048 (s (ix3 (y 0) 0 (y 1)))) ((congrArg BitVec.toInt (places_apply s (y 0) (y 1) (h _ _))).trans (Take.toInt_place (h _ _)))

theorem rowsP_eq (s : IVec S16x1x1024 32) (x : FVec Ideal S16x2048x3 .f32) (h : ∀ b i, Take.Inside 2048 (s (ix3 b 0 i))) :
    Host.gather gather_S16x2048x3_S16x1024x1_S16x1024x3_2_1_0_0_1_2_113 x (places s) = Kernel6Ideal.Gen.rowsP s x := by
  funext y
  rw [eq_ix3 y]
  exact Take.takeRow_apply gather_S16x2048x3_S16x1024x1_S16x1024x3_2_1_0_0_1_2_113.wf x (places s) (y 0) (y 1) (y 2)
    (Take.place 2048 (s (ix3 (y 0) 0 (y 1)))) ((congrArg BitVec.toInt (places_apply s (y 0) (y 1) (h _ _))).trans (Take.toInt_place (h _ _)))

theorem rowsT_eq (s : IVec S16x1x1024 32) (x : FVec Ideal S16x2048x3 .f32) (h : ∀ b i, Take.Inside 2048 (s (ix3 b 0 i))) :
    transpose S16x3x1024 [0, 2, 1] (Host.gather gather_S16x2048x3_S16x1024x1_S16x1024x3_2_1_0_0_1_2_113 x (places s))
      transposes_S16x1024x3_S16x3x1024_0_2_1 = Kernel6Ideal.Gen.rowsT s x := by
  rw [rowsP_eq s x h]
  funext y
  rw [eq_ix3 y]
  pointwise
  rfl

/-- The run leaves the arguments and the semaphores as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2, sem_eq_zero_of_no_sems (by decide) r.2⟩) (Value.run (F := Ideal) m ρ)

end Cert.Reference6Ideal.Gen

namespace Cert.Proof

open Idealize.ShloMosaic Idealize.ShloMosaic.TcCoe Idealize.ShloMosaic.Tactic

/-- What the precondition says: every place is one of the rows. -/
theorem inside6 (m : (ℓ : Loc Cert.Kernel6Ideal.nD Cert.Kernel6Ideal.τ Cert.Kernel6Ideal.sig) → Buf (Elt Ideal) ℓ) (h : Pre_Kernel6Ideal_inside6 m)
    (c : Dev Cert.Kernel6Ideal.nD) (b : Fin 16) (i : Fin 1024) :
    Take.Inside 2048 (m ((c.tc : Thread Cert.Kernel6Ideal.nD Cert.Kernel6Ideal.τ).loc Cert.Kernel6Ideal.main_arg0) (ix3 b 0 i)) := by
  have e := congrFun (h c) (ix3 b 0 i)
  revert e
  generalize m ((c.tc : Thread Cert.Kernel6Ideal.nD Cert.Kernel6Ideal.τ).loc Cert.Kernel6Ideal.main_arg0) = s
  intro e
  have e' : BitVec.ofBool ((0#32 : BitVec 32).sle (s (ix3 b 0 i))) &&& BitVec.ofBool ((s (ix3 b 0 i)).slt 2048#32) = 1#1 := e
  exact Take.inside_of (by decide) e'

theorem algebraic6 : algebraic_Kernel6Ideal_Reference6Ideal_pre_inside6 := by
  pair_intro
  · run_from Kernel6Ideal.Gen.run m (fun c b i => inside6 m hpre c b i) g
  · refine (θ_run _ _ _).mono (fun r h c => ?_) (Reference6Ideal.Value.run (F := Ideal) m' g')
    have e := h c
    obtain ⟨a0, a1, a2⟩ := hagree c
    have hs := inside6 m hpre c
    refine ⟨e.1.trans ?_, e.2.1.trans ?_, e.2.2.1.trans ?_, e.2.2.2⟩
    · rw [a0, a1]; exact Reference6Ideal.Gen.rowsX_eq _ _ hs
    · rw [a0, a2]; exact Reference6Ideal.Gen.rowsP_eq _ _ hs
    · rw [a0, a2]; exact Reference6Ideal.Gen.rowsT_eq _ _ hs

end Cert.Proof

end
-- ==== Proof.GatherVal7.lean ====
/-
  The second gather read at an index: the row each place names.
-/
module

public import proofs.«01_k».proof.Proof.Take
public import proofs.«01_k».proof.Proof.Gen.Kernel7Ideal.Frame
public import proofs.«01_k».proof.Proof.Gen.Kernel7Ideal.Value
public import Idealize.ShloMosaic.Lib.Pipeline.ValueKit
public import Idealize.ShloMosaic.Lib.Tactic.CleanTypes
public import Idealize.ShloMosaic.Lib.Claim

@[expose] public section

set_option maxRecDepth 16384

noncomputable section

namespace Cert.Kernel7Ideal.Gen

open Idealize.ShloMosaic Idealize.ShloMosaic.TcCoe Idealize.ShloMosaic.Tactic
open scoped BigOperators

theorem pay1_apply (v0 : Vec Ideal S1x1x256 .i32) (hs : ∀ i : Fin 256, Take.Inside 1024 (v0 (ix3 0 0 i))) (n : Fin 1024) (i : Fin 256) :
    (k0_pay1 (F := Ideal) v0 (ix2 n i) : EReal) = if n = Take.place 1024 (v0 (ix3 0 0 i)) then 1 else 0 := by
  refine Eq.trans ?_ (Take.hot (N := 1024) (by decide) (hs i) n)
  unfold k0_pay1
  clean_types
  pointwise
  rfl

theorem pay2_apply (v0 : Vec Ideal S1x1x256 .i32) (x : Vec Ideal S1x1024x128 .f32) (hs : ∀ i : Fin 256, Take.Inside 1024 (v0 (ix3 0 0 i)))
    (i : Fin 256) (f : Fin 128) : (k0_pay2 (F := Ideal) v0 x (ix3 0 i f) : EReal) = x (ix3 0 (Take.place 1024 (v0 (ix3 0 0 i))) f) := by
  refine Eq.trans ?_ (Conv.pick_sum (Take.place 1024 (v0 (ix3 0 0 i))) fun l => x (ix3 0 l f))
  have h := fun l => pay1_apply v0 hs l i
  unfold k0_pay2
  generalize k0_pay1 (F := Ideal) v0 = z at h
  simp only [← h]
  clean_types
  pointwise

theorem pay3_apply (v0 : Vec Ideal S1x1x256 .i32) (x : Vec Ideal S1x1024x3 .f32) (hs : ∀ i : Fin 256, Take.Inside 1024 (v0 (ix3 0 0 i)))
    (i : Fin 256) (f : Fin 3) : (k0_pay3 (F := Ideal) v0 x (ix3 0 i f) : EReal) = x (ix3 0 (Take.place 1024 (v0 (ix3 0 0 i))) f) := by
  refine Eq.trans ?_ (Conv.pick_sum (Take.place 1024 (v0 (ix3 0 0 i))) fun l => x (ix3 0 l f))
  have h := fun l => pay1_apply v0 hs l i
  unfold k0_pay3
  generalize k0_pay1 (F := Ideal) v0 = z at h
  simp only [← h]
  clean_types
  pointwise

theorem pay4_apply (v0 : Vec Ideal S1x1x256 .i32) (x : Vec Ideal S1x3x1024 .f32) (hs : ∀ i : Fin 256, Take.Inside 1024 (v0 (ix3 0 0 i)))
    (i : Fin 256) (f : Fin 3) : (k0_pay4 (F := Ideal) v0 x (ix3 0 f i) : EReal) = x (ix3 0 f (Take.place 1024 (v0 (ix3 0 0 i)))) := by
  refine Eq.trans ?_ (Conv.pick_sum (Take.place 1024 (v0 (ix3 0 0 i))) fun l => x (ix3 0 f l))
  have h := fun l => pay1_apply v0 hs l i
  unfold k0_pay4
  generalize k0_pay1 (F := Ideal) v0 = z at h
  simp only [← h]
  clean_types
  pointwise
  simp only [mul_comm]

/-- The blocks each grid point reads and writes. -/
theorem idx : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0]
    ∧ win0_4.index t = ![(grid0.coords t 0).val, 0, 0] ∧ win0_5.index t = ![(grid0.coords t 0).val, 0, 0]
    ∧ win0_6.index t = ![(grid0.coords t 0).val, 0, 0] := by
  decide +kernel

/-- The rows of `x` the places name. -/
def rowsX (s : Vec Ideal S16x1x256 .i32) (x : Vec Ideal S16x1024x128 .f32) : Vec Ideal S16x256x128 .f32 := fun y =>
  x (ix3 (y 0) (Take.place 1024 (s (ix3 (y 0) 0 (y 1)))) (y 2))

/-- The points the places name. -/
def rowsP (s : Vec Ideal S16x1x256 .i32) (p : Vec Ideal S16x1024x3 .f32) : Vec Ideal S16x256x3 .f32 := fun y =>
  p (ix3 (y 0) (Take.place 1024 (s (ix3 (y 0) 0 (y 1)))) (y 2))

/-- The points the places name, coordinates first. -/
def rowsT (s : Vec Ideal S16x1x256 .i32) (p : Vec Ideal S16x1024x3 .f32) : Vec Ideal S16x3x256 .f32 := fun y =>
  p (ix3 (y 0) (Take.place 1024 (s (ix3 (y 0) 0 (y 2)))) (y 1))

theorem out4_apply (x0 : Vec Ideal S1x1x256 .i32) (x1 : Vec Ideal S1x1024x128 .f32) (x2 : Vec Ideal S1x1024x3 .f32) (x3 : Vec Ideal S1x3x1024 .f32)
    (hs : ∀ i : Fin 256, Take.Inside 1024 (x0 (ix3 0 0 i))) (i : Fin 256) (f : Fin 128) :
    (out0_4 (F := Ideal) x0 x1 x2 x3 (ix3 0 i f) : EReal) = x1 (ix3 0 (Take.place 1024 (x0 (ix3 0 0 i))) f) := by
  unfold out0_4
  rw [View.canon_cons_unit_lit _ _ [] (by decide), View.ld_unit_lit _ _ (by decide), View.ld_unit_lit _ _ (by decide)]
  exact pay2_apply x0 x1 hs i f
theorem out5_apply (x0 : Vec Ideal S1x1x256 .i32) (x1 : Vec Ideal S1x1024x128 .f32) (x2 : Vec Ideal S1x1024x3 .f32) (x3 : Vec Ideal S1x3x1024 .f32)
    (hs : ∀ i : Fin 256, Take.Inside 1024 (x0 (ix3 0 0 i))) (i : Fin 256) (f : Fin 3) :
    (out0_5 (F := Ideal) x0 x1 x2 x3 (ix3 0 i f) : EReal) = x2 (ix3 0 (Take.place 1024 (x0 (ix3 0 0 i))) f) := by
  unfold out0_5
  rw [View.canon_cons_unit_lit _ _ [] (by decide), View.ld_unit_lit _ _ (by decide), View.ld_unit_lit _ _ (by decide)]
  exact pay3_apply x0 x2 hs i f
theorem out6_apply (x0 : Vec Ideal S1x1x256 .i32) (x1 : Vec Ideal S1x1024x128 .f32) (x2 : Vec Ideal S1x1024x3 .f32) (x3 : Vec Ideal S1x3x1024 .f32)
    (hs : ∀ i : Fin 256, Take.Inside 1024 (x0 (ix3 0 0 i))) (i : Fin 256) (f : Fin 3) :
    (out0_6 (F := Ideal) x0 x1 x2 x3 (ix3 0 f i) : EReal) = x3 (ix3 0 f (Take.place 1024 (x0 (ix3 0 0 i)))) := by
  unfold out0_6
  rw [View.canon_cons_unit_lit _ _ [] (by decide), View.ld_unit_lit _ _ (by decide), View.ld_unit_lit _ _ (by decide)]
  exact pay4_apply x0 x3 hs i f

variable (m : (ℓ : Loc nD τ sig) → Buf (Elt Ideal) ℓ)

theorem read0 (c : Dev nD) (t : Fin cfg0.N) (i : Fin 256) :
    iblk m c 0 t (ix3 0 0 i) = m ((c.tc : Thread nD τ).loc main_arg0) (ix3 (grid0.coords t 0) 0 i) := by
  blk_ext [iblk, V, idx t]
theorem read1 (c : Dev nD) (t : Fin cfg0.N) (j : Fin 1024) (f : Fin 128) :
    iblk m c 1 t (ix3 0 j f) = m ((c.tc : Thread nD τ).loc main_arg1) (ix3 (grid0.coords t 0) j f) := by
  blk_ext [iblk, V, idx t]
theorem read2 (c : Dev nD) (t : Fin cfg0.N) (j : Fin 1024) (f : Fin 3) :
    iblk m c 2 t (ix3 0 j f) = m ((c.tc : Thread nD τ).loc main_arg2) (ix3 (grid0.coords t 0) j f) := by
  blk_ext [iblk, V, idx t]
theorem read3 (c : Dev nD) (t : Fin cfg0.N) (j : Fin 1024) (f : Fin 3) :
    iblk m c 3 t (ix3 0 f j) = m ((c.tc : Thread nD τ).loc main_arg2) (ix3 (grid0.coords t 0) j f) := by
  blk_simp [iblk]; entry_read
  pointwise
  blk_ext [idx t]

variable (hs : ∀ (c : Dev nD) (b : Fin 16) (i : Fin 256), Take.Inside 1024 (m ((c.tc : Thread nD τ).loc main_arg0) (ix3 b 0 i)))
include hs

theorem arr4_eq (c : Dev nD) : (dats m 0 c).arrAt 4 (cfgs 0).N
    = rowsX (m ((c.tc : Thread nD τ).loc main_arg0)) (m ((c.tc : Thread nD τ).loc main_arg1)) := by
  refine (dats m 0 c).arrAt_eq_of_covers 4 _ (by decide +kernel) fun t hf y => ?_
  blk_simp
  rw [after0_4]
  obtain ⟨i, f, rfl⟩ : ∃ (i : Fin 256) (f : Fin 128), y = ix3 0 i f := ⟨y 1, y 2, by blk_ext⟩
  have he : (win0_4.blk t).view.emb (ix3 0 i f) = ix3 (grid0.coords t 0) i f := by
    blk_ext [idx t]
  refine (out4_apply _ _ _ _ (fun i => by rw [read0]; exact hs c _ i) i f).trans ?_
  rw [read1, read0, he]
  rfl
theorem arr5_eq (c : Dev nD) : (dats m 0 c).arrAt 5 (cfgs 0).N
    = rowsP (m ((c.tc : Thread nD τ).loc main_arg0)) (m ((c.tc : Thread nD τ).loc main_arg2)) := by
  refine (dats m 0 c).arrAt_eq_of_covers 5 _ (by decide +kernel) fun t hf y => ?_
  blk_simp
  rw [after0_5]
  obtain ⟨i, f, rfl⟩ : ∃ (i : Fin 256) (f : Fin 3), y = ix3 0 i f := ⟨y 1, y 2, by blk_ext⟩
  have he : (win0_5.blk t).view.emb (ix3 0 i f) = ix3 (grid0.coords t 0) i f := by
    blk_ext [idx t]
  refine (out5_apply _ _ _ _ (fun i => by rw [read0]; exact hs c _ i) i f).trans ?_
  rw [read2, read0, he]
  rfl
theorem arr6_eq (c : Dev nD) : (dats m 0 c).arrAt 6 (cfgs 0).N
    = rowsT (m ((c.tc : Thread nD τ).loc main_arg0)) (m ((c.tc : Thread nD τ).loc main_arg2)) := by
  refine (dats m 0 c).arrAt_eq_of_covers 6 _ (by decide +kernel) fun t hf y => ?_
  blk_simp
  rw [after0_6]
  obtain ⟨i, f, rfl⟩ : ∃ (i : Fin 256) (f : Fin 3), y = ix3 0 f i := ⟨y 2, y 1, by blk_ext⟩
  have he : (win0_6.blk t).view.emb (ix3 0 f i) = ix3 (grid0.coords t 0) f i := by
    blk_ext [idx t]
  refine (out6_apply _ _ _ _ (fun i => by rw [read0]; exact hs c _ i) i f).trans ?_
  rw [read3, read0, he]
  rfl

/-- The run of the program: the rows, and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v1_0) = rowsX (m ((c.tc : Thread nD τ).loc main_arg0)) (m ((c.tc : Thread nD τ).loc main_arg1))
      ∧ r.2.mem ((c.tc : Thread nD τ).loc main_v1_1) = rowsP (m ((c.tc : Thread nD τ).loc main_arg0)) (m ((c.tc : Thread nD τ).loc main_arg2))
      ∧ r.2.mem ((c.tc : Thread nD τ).loc main_v1_2) = rowsT (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr4_eq m hs c), (h c).2.1.trans (arr5_eq m hs c), (h c).2.2.1.trans (arr6_eq m hs c), (h c).2.2.2⟩)
    (Value.run_blocks m ρ)

end Cert.Kernel7Ideal.Gen

end
-- ==== Proof.Claim7.lean ====
/-
  The second gather: kernel and reference run to the same rows.
-/
module

public import proofs.«01_k».proof.Defs
public import proofs.«01_k».proof.Proof.GatherVal7
public import proofs.«01_k».proof.Proof.Gen.Reference7Ideal.Run
public import proofs.«01_k».proof.Proof.Gen.Pre_inside7
public import Idealize.ShloMosaic.Lib.Claim

@[expose] public section

set_option maxRecDepth 16384

noncomputable section

namespace Cert.Reference7Ideal.Gen

open Idealize.ShloMosaic Idealize.ShloMosaic.TcCoe Idealize.ShloMosaic.Tactic

/-- The places as the reference's gathers read them. -/
def places (s : IVec S16x1x256 32) : IVec S16x256x1 32 :=
  broadcastInDim S16x256x1 ![0, 1] bcast_S16x256_S16x256x1_0_1 (select (cmpi .slt (shapeCast _ s shapeCasts_S16x1x256_S16x256)
    (broadcastInDim S16x256 ![] bcast_S_S16x256 (constantI S_ 32 0#32))) (addi (shapeCast _ s shapeCasts_S16x1x256_S16x256)
      (broadcastInDim S16x256 ![] bcast_S_S16x256 (constantI S_ 32 1024#32))) (shapeCast _ s shapeCasts_S16x1x256_S16x256))

theorem places_apply (s : IVec S16x1x256 32) (b : Fin 16) (i : Fin 256) (h : Take.Inside 1024 (s (ix3 b 0 i))) :
    places s (ix3 b i 0) = s (ix3 b 0 i) := by
  refine Eq.trans ?_ (Take.kept (k := 1024#32) h)
  unfold places
  clean_types
  pointwise
  rfl

theorem rowsX_eq (s : IVec S16x1x256 32) (x : FVec Ideal S16x1024x128 .f32) (h : ∀ b i, Take.Inside 1024 (s (ix3 b 0 i))) :
    Host.gather gather_S16x1024x128_S16x256x1_S16x256x128_2_1_0_0_1_2_11128 x (places s) = Kernel7Ideal.Gen.rowsX s x := by
  funext y
  rw [eq_ix3 y]
  exact Take.takeRow_apply gather_S16x1024x128_S16x256x1_S16x256x128_2_1_0_0_1_2_11128.wf x (places s) (y 0) (y 1) (y 2)
    (Take.place 1024 (s (ix3 (y 0) 0 (y 1)))) ((congrArg BitVec.toInt (places_apply s (y 0) (y 1) (h _ _))).trans (Take.toInt_place (h _ _)))

theorem rowsP_eq (s : IVec S16x1x256 32) (x : FVec Ideal S16x1024x3 .f32) (h : ∀ b i, Take.Inside 1024 (s (ix3 b 0 i))) :
    Host.gather gather_S16x1024x3_S16x256x1_S16x256x3_2_1_0_0_1_2_113 x (places s) = Kernel7Ideal.Gen.rowsP s x := by
  funext y
  rw [eq_ix3 y]
  exact Take.takeRow_apply gather_S16x1024x3_S16x256x1_S16x256x3_2_1_0_0_1_2_113.wf x (places s) (y 0) (y 1) (y 2)
    (Take.place 1024 (s (ix3 (y 0) 0 (y 1)))) ((congrArg BitVec.toInt (places_apply s (y 0) (y 1) (h _ _))).trans (Take.toInt_place (h _ _)))

theorem rowsT_eq (s : IVec S16x1x256 32) (x : FVec Ideal S16x1024x3 .f32) (h : ∀ b i, Take.Inside 1024 (s (ix3 b 0 i))) :
    transpose S16x3x256 [0, 2, 1] (Host.gather gather_S16x1024x3_S16x256x1_S16x256x3_2_1_0_0_1_2_113 x (places s))
      transposes_S16x256x3_S16x3x256_0_2_1 = Kernel7Ideal.Gen.rowsT s x := by
  rw [rowsP_eq s x h]
  funext y
  rw [eq_ix3 y]
  pointwise
  rfl

/-- The run leaves the arguments and the semaphores as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2, sem_eq_zero_of_no_sems (by decide) r.2⟩) (Value.run (F := Ideal) m ρ)

end Cert.Reference7Ideal.Gen

namespace Cert.Proof

open Idealize.ShloMosaic Idealize.ShloMosaic.TcCoe Idealize.ShloMosaic.Tactic

/-- What the precondition says: every place is one of the rows. -/
theorem inside7 (m : (ℓ : Loc Cert.Kernel7Ideal.nD Cert.Kernel7Ideal.τ Cert.Kernel7Ideal.sig) → Buf (Elt Ideal) ℓ) (h : Pre_Kernel7Ideal_inside7 m)
    (c : Dev Cert.Kernel7Ideal.nD) (b : Fin 16) (i : Fin 256) :
    Take.Inside 1024 (m ((c.tc : Thread Cert.Kernel7Ideal.nD Cert.Kernel7Ideal.τ).loc Cert.Kernel7Ideal.main_arg0) (ix3 b 0 i)) := by
  have e := congrFun (h c) (ix3 b 0 i)
  revert e
  generalize m ((c.tc : Thread Cert.Kernel7Ideal.nD Cert.Kernel7Ideal.τ).loc Cert.Kernel7Ideal.main_arg0) = s
  intro e
  have e' : BitVec.ofBool ((0#32 : BitVec 32).sle (s (ix3 b 0 i))) &&& BitVec.ofBool ((s (ix3 b 0 i)).slt 1024#32) = 1#1 := e
  exact Take.inside_of (by decide) e'

theorem algebraic7 : algebraic_Kernel7Ideal_Reference7Ideal_pre_inside7 := by
  pair_intro
  · run_from Kernel7Ideal.Gen.run m (fun c b i => inside7 m hpre c b i) g
  · refine (θ_run _ _ _).mono (fun r h c => ?_) (Reference7Ideal.Value.run (F := Ideal) m' g')
    have e := h c
    obtain ⟨a0, a1, a2⟩ := hagree c
    have hs := inside7 m hpre c
    refine ⟨e.1.trans ?_, e.2.1.trans ?_, e.2.2.1.trans ?_, e.2.2.2⟩
    · rw [a0, a1]; exact Reference7Ideal.Gen.rowsX_eq _ _ hs
    · rw [a0, a2]; exact Reference7Ideal.Gen.rowsP_eq _ _ hs
    · rw [a0, a2]; exact Reference7Ideal.Gen.rowsT_eq _ _ hs

end Cert.Proof

end
-- ==== Proof.lean ====
/-
  The claims, assembled: the runs of the programs, and for each layer that kernel and reference run to the same result.
-/
module

public import proofs.«01_k».proof.Defs
public import proofs.«01_k».proof.Proof.Gen.Kernel.Frame
public import proofs.«01_k».proof.Proof.Gen.KernelIdeal.Frame
public import proofs.«01_k».proof.Proof.Gen.Kernel1.Frame
public import proofs.«01_k».proof.Proof.Gen.Kernel2.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.RefRun3
public import proofs.«01_k».proof.Proof.Claim1
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7

@[expose] public section

noncomputable section

namespace Cert.Proof

open Idealize.ShloMosaic

/-- Every claim the certificate makes. -/
theorem claim : Cert.Claim :=
  ⟨Kernel.Gen.facts, KernelIdeal.Gen.facts, ReferenceIdeal.Gen.facts, Kernel1.Gen.facts, Kernel1Ideal.Gen.facts,
    Reference1Ideal.Gen.facts, Kernel2.Gen.facts, Kernel2Ideal.Gen.facts, Reference2Ideal.Gen.facts, Kernel4.Gen.facts, Kernel4Ideal.Gen.facts,
    Reference4Ideal.Gen.facts, Kernel5.Gen.facts, Kernel5Ideal.Gen.facts, Reference5Ideal.Gen.facts, Kernel6.Gen.facts, Kernel6Ideal.Gen.facts,
    Reference6Ideal.Gen.facts, Kernel7.Gen.facts, Kernel7Ideal.Gen.facts, Reference7Ideal.Gen.facts, Pre_finite3.Gen.facts, Pre_finite1.Gen.facts,
    Pre_finite2.Gen.facts, Pre_inside6.Gen.facts, Pre_inside7.Gen.facts,
    fun m g _ => Kernel.Gen.frame m g,
    fun m g _ => KernelIdeal.Gen.frame m g,
    fun m g _ => KernelIdeal.Gen.frame m g,
    fun m g _ => ReferenceIdeal.Gen.frame m g,
    fun m g _ => ReferenceIdeal.Gen.frame m g,
    fun m g _ => Kernel1.Gen.frame m g,
    fun m g _ => Kernel1Ideal.Gen.frame m g,
    fun m g _ => Kernel1Ideal.Gen.frame m g,
    fun m g _ => Reference1Ideal.Gen.frame m g,
    fun m g _ => Reference1Ideal.Gen.frame m g,
    fun m g _ => Kernel2.Gen.frame m g,
    fun m g _ => Kernel2Ideal.Gen.frame m g,
    fun m g _ => Kernel2Ideal.Gen.frame m g,
    fun m g _ => Reference2Ideal.Gen.frame m g,
    fun m g _ => Reference2Ideal.Gen.frame m g,
    fun m g _ => Kernel4.Gen.frame m g,
    fun m g _ => Kernel4Ideal.Gen.frame m g,
    fun m g _ => Reference4Ideal.Gen.frame m g,
    fun m g _ => Kernel5.Gen.frame m g,
    fun m g _ => Kernel5Ideal.Gen.frame m g,
    fun m g _ => Reference5Ideal.Gen.frame m g,
    fun m g _ => Kernel6.Gen.frame m g,
    fun m g _ => Kernel6Ideal.Gen.frame m g,
    fun m g _ => Kernel6Ideal.Gen.frame m g,
    fun m g _ => Reference6Ideal.Gen.frame m g,
    fun m g _ => Reference6Ideal.Gen.frame m g,
    fun m g _ => Kernel7.Gen.frame m g,
    fun m g _ => Kernel7Ideal.Gen.frame m g,
    fun m g _ => Kernel7Ideal.Gen.frame m g,
    fun m g _ => Reference7Ideal.Gen.frame m g,
    fun m g _ => Reference7Ideal.Gen.frame m g,
    trivial, algebraic3, trivial, algebraic1, trivial, algebraic2, trivial, algebraic4, trivial, algebraic5, trivial, algebraic6, trivial, algebraic7⟩

end Cert.Proof

end
